-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4)
      ∧ r.2.mem ((c.tc : Thread Cert.PromptReferenceIdeal.nD Cert.PromptReferenceIdeal.τ).loc Cert.PromptReferenceIdeal.main_arg5) = m ((c.tc : Thread Cert.PromptReferenceIdeal.nD Cert.PromptReferenceIdeal.τ).loc Cert.PromptReferenceIdeal.main_arg5)
      ∧ r.2.mem ((c.tc : Thread Cert.PromptReferenceIdeal.nD Cert.PromptReferenceIdeal.τ).loc Cert.PromptReferenceIdeal.main_arg6) = m ((c.tc : Thread Cert.PromptReferenceIdeal.nD Cert.PromptReferenceIdeal.τ).loc Cert.PromptReferenceIdeal.main_arg6)
      ∧ r.2.mem ((c.tc : Thread Cert.PromptReferenceIdeal.nD Cert.PromptReferenceIdeal.τ).loc Cert.PromptReferenceIdeal.main_arg7) = m ((c.tc : Thread Cert.PromptReferenceIdeal.nD Cert.PromptReferenceIdeal.τ).loc Cert.PromptReferenceIdeal.main_arg7)
      ∧ r.2.mem ((c.tc : Thread Cert.PromptReferenceIdeal.nD Cert.PromptReferenceIdeal.τ).loc Cert.PromptReferenceIdeal.main_arg8) = m ((c.tc : Thread Cert.PromptReferenceIdeal.nD Cert.PromptReferenceIdeal.τ).loc Cert.PromptReferenceIdeal.main_arg8)
      ∧ r.2.mem ((c.tc : Thread Cert.PromptReferenceIdeal.nD Cert.PromptReferenceIdeal.τ).loc Cert.PromptReferenceIdeal.main_arg9) = m ((c.tc : Thread Cert.PromptReferenceIdeal.nD Cert.PromptReferenceIdeal.τ).loc Cert.PromptReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v106_0)) (v1 : (c : Dev Cert.KernelIdeal.nD) → Buf (Elt Ideal) ((c.tc : Thread Cert.KernelIdeal.nD Cert.KernelIdeal.τ).loc Cert.KernelIdeal.main_v106_1)) (v2 : (c : Dev Cert.KernelIdeal.nD) → Buf (Elt Ideal) ((c.tc : Thread Cert.KernelIdeal.nD Cert.KernelIdeal.τ).loc Cert.KernelIdeal.main_v106_2)) (v3 : (c : Dev Cert.KernelIdeal.nD) → Buf (Elt Ideal) ((c.tc : Thread Cert.KernelIdeal.nD Cert.KernelIdeal.τ).loc Cert.KernelIdeal.main_v106_3)) (v4 : (c : Dev Cert.KernelIdeal.nD) → Buf (Elt Ideal) ((c.tc : Thread Cert.KernelIdeal.nD Cert.KernelIdeal.τ).loc Cert.KernelIdeal.main_v106_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106_0) = v0 c
          ∧ r.2.mem ((c.tc : Thread Cert.KernelIdeal.nD Cert.KernelIdeal.τ).loc Cert.KernelIdeal.main_v106_1) = v1 c
          ∧ r.2.mem ((c.tc : Thread Cert.KernelIdeal.nD Cert.KernelIdeal.τ).loc Cert.KernelIdeal.main_v106_2) = v2 c
          ∧ r.2.mem ((c.tc : Thread Cert.KernelIdeal.nD Cert.KernelIdeal.τ).loc Cert.KernelIdeal.main_v106_3) = v3 c
          ∧ r.2.mem ((c.tc : Thread Cert.KernelIdeal.nD Cert.KernelIdeal.τ).loc Cert.KernelIdeal.main_v106_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_v248) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v249) = v3 c
          ∧ r.2.mem ((c.tc : Thread Cert.ReferenceIdeal.nD Cert.ReferenceIdeal.τ).loc Cert.ReferenceIdeal.main_v250) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v18_0)) (v1 : (c : Dev Cert.FfnIdeal.nD) → Buf (Elt Ideal) ((c.tc : Thread Cert.FfnIdeal.nD Cert.FfnIdeal.τ).loc Cert.FfnIdeal.main_v18_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18_0) = v0 c
          ∧ r.2.mem ((c.tc : Thread Cert.FfnIdeal.nD Cert.FfnIdeal.τ).loc Cert.FfnIdeal.main_v18_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v88) = v0 c
          ∧ r.2.mem ((c.tc : Thread Cert.FfnReferenceIdeal.nD Cert.FfnReferenceIdeal.τ).loc Cert.FfnReferenceIdeal.main_v90) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v14_0)) (v1 : (c : Dev Cert.PrepIdeal.nD) → Buf (Elt Ideal) ((c.tc : Thread Cert.PrepIdeal.nD Cert.PrepIdeal.τ).loc Cert.PrepIdeal.main_v14_1)) (v2 : (c : Dev Cert.PrepIdeal.nD) → Buf (Elt Ideal) ((c.tc : Thread Cert.PrepIdeal.nD Cert.PrepIdeal.τ).loc Cert.PrepIdeal.main_v14_2)) (v3 : (c : Dev Cert.PrepIdeal.nD) → Buf (Elt Ideal) ((c.tc : Thread Cert.PrepIdeal.nD Cert.PrepIdeal.τ).loc Cert.PrepIdeal.main_v14_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v14_0) = v0 c
          ∧ r.2.mem ((c.tc : Thread Cert.PrepIdeal.nD Cert.PrepIdeal.τ).loc Cert.PrepIdeal.main_v14_1) = v1 c
          ∧ r.2.mem ((c.tc : Thread Cert.PrepIdeal.nD Cert.PrepIdeal.τ).loc Cert.PrepIdeal.main_v14_2) = v2 c
          ∧ r.2.mem ((c.tc : Thread Cert.PrepIdeal.nD Cert.PrepIdeal.τ).loc Cert.PrepIdeal.main_v14_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v45) = v0 c
          ∧ r.2.mem ((c.tc : Thread Cert.PrepReferenceIdeal.nD Cert.PrepReferenceIdeal.τ).loc Cert.PrepReferenceIdeal.main_v46) = v1 c
          ∧ r.2.mem ((c.tc : Thread Cert.PrepReferenceIdeal.nD Cert.PrepReferenceIdeal.τ).loc Cert.PrepReferenceIdeal.main_v48) = v2 c
          ∧ r.2.mem ((c.tc : Thread Cert.PrepReferenceIdeal.nD Cert.PrepReferenceIdeal.τ).loc Cert.PrepReferenceIdeal.main_v50) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4))

def preserves_Prompt_PromptIdeal : Prop :=
  True

def algebraic_PromptIdeal_PromptReferenceIdeal [hPromptIdeal : Cert.PromptIdeal.Facts] [hPromptReferenceIdeal : Cert.PromptReferenceIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
      ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)
      ∧ m' ((c.tc : Thread Cert.PromptReferenceIdeal.nD Cert.PromptReferenceIdeal.τ).loc Cert.PromptReferenceIdeal.main_arg5) = m ((c.tc : Thread Cert.PromptIdeal.nD Cert.PromptIdeal.τ).loc Cert.PromptIdeal.main_arg5)
      ∧ m' ((c.tc : Thread Cert.PromptReferenceIdeal.nD Cert.PromptReferenceIdeal.τ).loc Cert.PromptReferenceIdeal.main_arg6) = m ((c.tc : Thread Cert.PromptIdeal.nD Cert.PromptIdeal.τ).loc Cert.PromptIdeal.main_arg6)
      ∧ m' ((c.tc : Thread Cert.PromptReferenceIdeal.nD Cert.PromptReferenceIdeal.τ).loc Cert.PromptReferenceIdeal.main_arg7) = m ((c.tc : Thread Cert.PromptIdeal.nD Cert.PromptIdeal.τ).loc Cert.PromptIdeal.main_arg7)
      ∧ m' ((c.tc : Thread Cert.PromptReferenceIdeal.nD Cert.PromptReferenceIdeal.τ).loc Cert.PromptReferenceIdeal.main_arg8) = m ((c.tc : Thread Cert.PromptIdeal.nD Cert.PromptIdeal.τ).loc Cert.PromptIdeal.main_arg8)
      ∧ m' ((c.tc : Thread Cert.PromptReferenceIdeal.nD Cert.PromptReferenceIdeal.τ).loc Cert.PromptReferenceIdeal.main_arg9) = m ((c.tc : Thread Cert.PromptIdeal.nD Cert.PromptIdeal.τ).loc Cert.PromptIdeal.main_arg9)) →
    ∃ (v0 : (c : Dev Cert.PromptIdeal.nD) → Buf (Elt Ideal) ((c.tc : Thread Cert.PromptIdeal.nD Cert.PromptIdeal.τ).loc Cert.PromptIdeal.main_v15_0)) (v1 : (c : Dev Cert.PromptIdeal.nD) → Buf (Elt Ideal) ((c.tc : Thread Cert.PromptIdeal.nD Cert.PromptIdeal.τ).loc Cert.PromptIdeal.main_v15_1)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v15_0) = v0 c
          ∧ r.2.mem ((c.tc : Thread Cert.PromptIdeal.nD Cert.PromptIdeal.τ).loc Cert.PromptIdeal.main_v15_1) = v1 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v89) = v0 c
          ∧ r.2.mem ((c.tc : Thread Cert.PromptReferenceIdeal.nD Cert.PromptReferenceIdeal.τ).loc Cert.PromptReferenceIdeal.main_v91) = v1 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4)
          ∧ r.2.mem ((c.tc : Thread Cert.PromptReferenceIdeal.nD Cert.PromptReferenceIdeal.τ).loc Cert.PromptReferenceIdeal.main_arg5) = m' ((c.tc : Thread Cert.PromptReferenceIdeal.nD Cert.PromptReferenceIdeal.τ).loc Cert.PromptReferenceIdeal.main_arg5)
          ∧ r.2.mem ((c.tc : Thread Cert.PromptReferenceIdeal.nD Cert.PromptReferenceIdeal.τ).loc Cert.PromptReferenceIdeal.main_arg6) = m' ((c.tc : Thread Cert.PromptReferenceIdeal.nD Cert.PromptReferenceIdeal.τ).loc Cert.PromptReferenceIdeal.main_arg6)
          ∧ r.2.mem ((c.tc : Thread Cert.PromptReferenceIdeal.nD Cert.PromptReferenceIdeal.τ).loc Cert.PromptReferenceIdeal.main_arg7) = m' ((c.tc : Thread Cert.PromptReferenceIdeal.nD Cert.PromptReferenceIdeal.τ).loc Cert.PromptReferenceIdeal.main_arg7)
          ∧ r.2.mem ((c.tc : Thread Cert.PromptReferenceIdeal.nD Cert.PromptReferenceIdeal.τ).loc Cert.PromptReferenceIdeal.main_arg8) = m' ((c.tc : Thread Cert.PromptReferenceIdeal.nD Cert.PromptReferenceIdeal.τ).loc Cert.PromptReferenceIdeal.main_arg8)
          ∧ r.2.mem ((c.tc : Thread Cert.PromptReferenceIdeal.nD Cert.PromptReferenceIdeal.τ).loc Cert.PromptReferenceIdeal.main_arg9) = m' ((c.tc : Thread Cert.PromptReferenceIdeal.nD Cert.PromptReferenceIdeal.τ).loc Cert.PromptReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPrep : Cert.Prep.Facts) (hPrepIdeal : Cert.PrepIdeal.Facts) (hPrepReferenceIdeal : Cert.PrepReferenceIdeal.Facts) (hPrompt : Cert.Prompt.Facts) (hPromptIdeal : Cert.PromptIdeal.Facts) (hPromptReferenceIdeal : Cert.PromptReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_Prompt (hPrompt := hPrompt)
    ∧ quiescent_PromptIdeal (hPromptIdeal := hPromptIdeal)
    ∧ quiescent_PromptReferenceIdeal (hPromptReferenceIdeal := hPromptReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Prep_PrepIdeal
    ∧ algebraic_PrepIdeal_PrepReferenceIdeal (hPrepIdeal := hPrepIdeal) (hPrepReferenceIdeal := hPrepReferenceIdeal)
    ∧ preserves_Prompt_PromptIdeal
    ∧ algebraic_PromptIdeal_PromptReferenceIdeal (hPromptIdeal := hPromptIdeal) (hPromptReferenceIdeal := hPromptReferenceIdeal)
-- ==== Kernel.lean ====
abbrev S128x1x1024 : Shape := ⟨3, ![128, 1, 1024]⟩
abbrev S1x128x3x1024 : Shape := ⟨4, ![1, 128, 3, 1024]⟩
abbrev S1x128x1024 : Shape := ⟨3, ![1, 128, 1024]⟩
abbrev S1x128x32x64 : Shape := ⟨4, ![1, 128, 32, 64]⟩
abbrev S1024 : Shape := ⟨1, ![1024]⟩
abbrev S1x1024x3584 : Shape := ⟨3, ![1, 1024, 3584]⟩
abbrev S1x3584 : Shape := ⟨2, ![1, 3584]⟩
abbrev S1x4x1024 : Shape := ⟨3, ![1, 4, 1024]⟩
abbrev S1x1024 : Shape := ⟨2, ![1, 1024]⟩
abbrev S1x8x128x128 : Shape := ⟨4, ![1, 8, 128, 128]⟩
abbrev S1x2048 : Shape := ⟨2, ![1, 2048]⟩
abbrev S16x2048 : Shape := ⟨2, ![16, 2048]⟩
abbrev S1x32x16x64 : Shape := ⟨4, ![1, 32, 16, 64]⟩
abbrev S1x512 : Shape := ⟨2, ![1, 512]⟩
abbrev S1x512x2048 : Shape := ⟨3, ![1, 512, 2048]⟩
abbrev S1x1024x1024 : Shape := ⟨3, ![1, 1024, 1024]⟩
abbrev S32x16x64 : Shape := ⟨3, ![32, 16, 64]⟩
abbrev S512 : Shape := ⟨1, ![512]⟩
abbrev S512x1 : Shape := ⟨2, ![512, 1]⟩
abbrev S_ : Shape := ⟨0, ![]⟩
abbrev S2048 : Shape := ⟨1, ![2048]⟩
abbrev S512x2048 : Shape := ⟨2, ![512, 2048]⟩
abbrev S1x16x1x2048 : Shape := ⟨4, ![1, 16, 1, 2048]⟩
abbrev S32x16x1x2048 : Shape := ⟨4, ![32, 16, 1, 2048]⟩
abbrev S256x1024 : Shape := ⟨2, ![256, 1024]⟩
abbrev S256x2048 : Shape := ⟨2, ![256, 2048]⟩
abbrev S1x256x2048 : Shape := ⟨3, ![1, 256, 2048]⟩
abbrev S2x256x2048 : Shape := ⟨3, ![2, 256, 2048]⟩
abbrev S2048x1 : Shape := ⟨2, ![2048, 1]⟩
abbrev S2048x512 : Shape := ⟨2, ![2048, 512]⟩
abbrev S32x64x16 : Shape := ⟨3, ![32, 64, 16]⟩
abbrev S2048x16 : Shape := ⟨2, ![2048, 16]⟩
abbrev S1x2048x1x16 : Shape := ⟨4, ![1, 2048, 1, 16]⟩
abbrev S1x2048x32x16 : Shape := ⟨4, ![1, 2048, 32, 16]⟩
abbrev S1024x256 : Shape := ⟨2, ![1024, 256]⟩
abbrev S1x1024x256 : Shape := ⟨3, ![1, 1024, 256]⟩
abbrev S2x1024x256 : Shape := ⟨3, ![2, 1024, 256]⟩
abbrev S8x128x128 : Shape := ⟨3, ![8, 128, 128]⟩
abbrev S8x128x256 : Shape := ⟨3, ![8, 128, 256]⟩
abbrev S1024x3584 : Shape := ⟨2, ![1024, 3584]⟩
abbrev S3584 : Shape := ⟨1, ![3584]⟩
abbrev S4x1024 : Shape := ⟨2, ![4, 1024]⟩
abbrev S1024x1024 : Shape := ⟨2, ![1024, 1024]⟩
abbrev S128x1024 : Shape := ⟨2, ![128, 1024]⟩
abbrev S128x3x1024 : Shape := ⟨3, ![128, 3, 1024]⟩
abbrev S3x128x1024 : Shape := ⟨3, ![3, 128, 1024]⟩
abbrev S384x1024 : Shape := ⟨2, ![384, 1024]⟩
abbrev S128x32x64 : Shape := ⟨3, ![128, 32, 64]⟩
abbrev S128x2048 : Shape := ⟨2, ![128, 2048]⟩
abbrev S512x1024 : Shape := ⟨2, ![512, 1024]⟩
abbrev S128x512 : Shape := ⟨2, ![128, 512]⟩
abbrev S128 : Shape := ⟨1, ![128]⟩
abbrev S128x1 : Shape := ⟨2, ![128, 1]⟩
abbrev S1024x512 : Shape := ⟨2, ![1024, 512]⟩
abbrev S128x256 : Shape := ⟨2, ![128, 256]⟩
abbrev S8x2048 : Shape := ⟨2, ![8, 2048]⟩
abbrev S128x128 : Shape := ⟨2, ![128, 128]⟩
abbrev S1x128x256 : Shape := ⟨3, ![1, 128, 256]⟩
abbrev S1x128 : Shape := ⟨2, ![1, 128]⟩
abbrev S64x1024 : Shape := ⟨2, ![64, 1024]⟩
abbrev S64 : Shape := ⟨1, ![64]⟩
abbrev S64x1 : Shape := ⟨2, ![64, 1]⟩

abbrev nBuf : Space → Nat
  | .hbm => 208
  | .vmem => 44
  | .smem => 0
  | _ => 0

abbrev hbmTy0_0 (i : Nat) : BufTy := match i % 128 with
  | 0 => ⟨S128x1x1024, .f32⟩
  | 1 => ⟨S1x128x3x1024, .f32⟩
  | 2 => ⟨S1x128x1024, .f32⟩
  | 3 => ⟨S1x128x32x64, .f32⟩
  | 4 => ⟨S1x128x32x64, .f32⟩
  | 5 => ⟨S1024, .f32⟩
  | 6 => ⟨S1024, .f32⟩
  | 7 => ⟨S1x1024x3584, .f32⟩
  | 8 => ⟨S1x3584, .f32⟩
  | 9 => ⟨S1x4x1024, .f32⟩
  | 10 => ⟨S1x1024, .f32⟩
  | 11 => ⟨S1x8x128x128, .f32⟩
  | 12 => ⟨S1x1024, .f32⟩
  | 13 => ⟨S1x8x128x128, .f32⟩
  | 14 => ⟨S1x1024, .f32⟩
  | 15 => ⟨S1x1024, .f32⟩
  | 16 => ⟨S1x2048, .f32⟩
  | 17 => ⟨S1x2048, .f32⟩
  | 18 => ⟨S16x2048, .f32⟩
  | 19 => ⟨S16x2048, .f32⟩
  | 20 => ⟨S1x32x16x64, .f32⟩
  | 21 => ⟨S1x32x16x64, .f32⟩
  | 22 => ⟨S1x512, .f32⟩
  | 23 => ⟨S1x512x2048, .f32⟩
  | 24 => ⟨S1x2048, .f32⟩
  | 25 => ⟨S1x1024x1024, .f32⟩
  | 26 => ⟨S1x1024, .f32⟩
  | 27 => ⟨S1x1024, .f32⟩
  | 28 => ⟨S1x1024, .f32⟩
  | 29 => ⟨S32x16x64, .f32⟩
  | 30 => ⟨S32x16x64, .f32⟩
  | 31 => ⟨S512, .i32⟩
  | 32 => ⟨S512x1, .i32⟩
  | 33 => ⟨S_, .i32⟩
  | 34 => ⟨S_, .i32⟩
  | 35 => ⟨S512x1, .i32⟩
  | 36 => ⟨S512x1, .i32⟩
  | 37 => ⟨S512x1, .i32⟩
  | 38 => ⟨S_, .i32⟩
  | 39 => ⟨S512x1, .i32⟩
  | 40 => ⟨S512x1, .i1⟩
  | 41 => ⟨S512x1, .i32⟩
  | 42 => ⟨S512x1, .i32⟩
  | 43 => ⟨S_, .i32⟩
  | 44 => ⟨S512x1, .i32⟩
  | 45 => ⟨S512x1, .i1⟩
  | 46 => ⟨S512x1, .i1⟩
  | 47 => ⟨S_, .i32⟩
  | 48 => ⟨S512x1, .i32⟩
  | 49 => ⟨S512x1, .i32⟩
  | 50 => ⟨S512x1, .i32⟩
  | 51 => ⟨S2048, .i32⟩
  | 52 => ⟨S1x2048, .i32⟩
  | 53 => ⟨S_, .i32⟩
  | 54 => ⟨S_, .i32⟩
  | 55 => ⟨S1x2048, .i32⟩
  | 56 => ⟨S1x2048, .i32⟩
  | 57 => ⟨S1x2048, .i32⟩
  | 58 => ⟨S_, .i32⟩
  | 59 => ⟨S1x2048, .i32⟩
  | 60 => ⟨S1x2048, .i1⟩
  | 61 => ⟨S1x2048, .i32⟩
  | 62 => ⟨S1x2048, .i32⟩
  | 63 => ⟨S_, .i32⟩
  | 64 => ⟨S1x2048, .i32⟩
  | 65 => ⟨S1x2048, .i1⟩
  | 66 => ⟨S1x2048, .i1⟩
  | 67 => ⟨S_, .i32⟩
  | 68 => ⟨S1x2048, .i32⟩
  | 69 => ⟨S1x2048, .i32⟩
  | 70 => ⟨S1x2048, .i32⟩
  | 71 => ⟨S512x2048, .i32⟩
  | 72 => ⟨S512x2048, .i32⟩
  | 73 => ⟨S512x2048, .i1⟩
  | 74 => ⟨S512x2048, .f32⟩
  | 75 => ⟨S1x16x1x2048, .f32⟩
  | 76 => ⟨S32x16x1x2048, .f32⟩
  | 77 => ⟨S512x2048, .f32⟩
  | 78 => ⟨S512x2048, .f32⟩
  | 79 => ⟨S1x16x1x2048, .f32⟩
  | 80 => ⟨S32x16x1x2048, .f32⟩
  | 81 => ⟨S512x2048, .f32⟩
  | 82 => ⟨S512x2048, .f32⟩
  | 83 => ⟨S256x1024, .f32⟩
  | 84 => ⟨S256x1024, .f32⟩
  | 85 => ⟨S256x2048, .f32⟩
  | 86 => ⟨S256x1024, .f32⟩
  | 87 => ⟨S256x1024, .f32⟩
  | 88 => ⟨S256x2048, .f32⟩
  | 89 => ⟨S1x256x2048, .f32⟩
  | 90 => ⟨S1x256x2048, .f32⟩
  | 91 => ⟨S2x256x2048, .f32⟩
  | 92 => ⟨S2x256x2048, .bf16⟩
  | 93 => ⟨S2048, .i32⟩
  | 94 => ⟨S2048x1, .i32⟩
  | 95 => ⟨S_, .i32⟩
  | 96 => ⟨S_, .i32⟩
  | 97 => ⟨S2048x1, .i32⟩
  | 98 => ⟨S2048x1, .i32⟩
  | 99 => ⟨S2048x1, .i32⟩
  | 100 => ⟨S_, .i32⟩
  | 101 => ⟨S2048x1, .i32⟩
  | 102 => ⟨S2048x1, .i1⟩
  | 103 => ⟨S2048x1, .i32⟩
  | 104 => ⟨S2048x1, .i32⟩
  | 105 => ⟨S_, .i32⟩
  | 106 => ⟨S2048x1, .i32⟩
  | 107 => ⟨S2048x1, .i1⟩
  | 108 => ⟨S2048x1, .i1⟩
  | 109 => ⟨S_, .i32⟩
  | 110 => ⟨S2048x1, .i32⟩
  | 111 => ⟨S2048x1, .i32⟩
  | 112 => ⟨S2048x1, .i32⟩
  | 113 => ⟨S512, .i32⟩
  | 114 => ⟨S1x512, .i32⟩
  | 115 => ⟨S_, .i32⟩
  | 116 => ⟨S_, .i32⟩
  | 117 => ⟨S1x512, .i32⟩
  | 118 => ⟨S1x512, .i32⟩
  | 119 => ⟨S1x512, .i32⟩
  | 120 => ⟨S_, .i32⟩
  | 121 => ⟨S1x512, .i32⟩
  | 122 => ⟨S1x512, .i1⟩
  | 123 => ⟨S1x512, .i32⟩
  | 124 => ⟨S1x512, .i32⟩
  | 125 => ⟨S_, .i32⟩
  | 126 => ⟨S1x512, .i32⟩
  | 127 => ⟨S1x512, .i1⟩
  | _ => ⟨S128x1x1024, .f32⟩

abbrev hbmTy0_1 (i : Nat) : BufTy := match i % 128 with
  | 0 => ⟨S1x512, .i1⟩
  | 1 => ⟨S_, .i32⟩
  | 2 => ⟨S1x512, .i32⟩
  | 3 => ⟨S1x512, .i32⟩
  | 4 => ⟨S1x512, .i32⟩
  | 5 => ⟨S2048x512, .i32⟩
  | 6 => ⟨S2048x512, .i32⟩
  | 7 => ⟨S2048x512, .i1⟩
  | 8 => ⟨S2048x512, .f32⟩
  | 9 => ⟨S32x64x16, .f32⟩
  | 10 => ⟨S2048x16, .f32⟩
  | 11 => ⟨S1x2048x1x16, .f32⟩
  | 12 => ⟨S1x2048x32x16, .f32⟩
  | 13 => ⟨S2048x512, .f32⟩
  | 14 => ⟨S2048x512, .f32⟩
  | 15 => ⟨S1024x256, .f32⟩
  | 16 => ⟨S1024x256, .f32⟩
  | 17 => ⟨S1x1024x256, .f32⟩
  | 18 => ⟨S1x1024x256, .f32⟩
  | 19 => ⟨S2x1024x256, .f32⟩
  | 20 => ⟨S2x1024x256, .bf16⟩
  | 21 => ⟨S32x64x16, .f32⟩
  | 22 => ⟨S2048x16, .f32⟩
  | 23 => ⟨S1x2048x1x16, .f32⟩
  | 24 => ⟨S1x2048x32x16, .f32⟩
  | 25 => ⟨S2048x512, .f32⟩
  | 26 => ⟨S2048x512, .f32⟩
  | 27 => ⟨S1024x256, .f32⟩
  | 28 => ⟨S1024x256, .f32⟩
  | 29 => ⟨S1x1024x256, .f32⟩
  | 30 => ⟨S1x1024x256, .f32⟩
  | 31 => ⟨S2x1024x256, .f32⟩
  | 32 => ⟨S2x1024x256, .bf16⟩
  | 33 => ⟨S8x128x128, .f32⟩
  | 34 => ⟨S8x128x128, .f32⟩
  | 35 => ⟨S8x128x256, .f32⟩
  | 36 => ⟨S8x128x256, .bf16⟩
  | 37 => ⟨S1x1024, .f32⟩
  | 38 => ⟨S1x1024, .f32⟩
  | 39 => ⟨S1024x3584, .f32⟩
  | 40 => ⟨S1024x3584, .bf16⟩
  | 41 => ⟨S3584, .f32⟩
  | 42 => ⟨S1x3584, .f32⟩
  | 43 => ⟨S4x1024, .f32⟩
  | 44 => ⟨S1024, .f32⟩
  | 45 => ⟨S1x1024, .f32⟩
  | 46 => ⟨S1024, .f32⟩
  | 47 => ⟨S1x1024, .f32⟩
  | 48 => ⟨S1024, .f32⟩
  | 49 => ⟨S1x1024, .f32⟩
  | 50 => ⟨S1024, .f32⟩
  | 51 => ⟨S1x1024, .f32⟩
  | 52 => ⟨S512, .f32⟩
  | 53 => ⟨S1x512, .f32⟩
  | 54 => ⟨S512x2048, .f32⟩
  | 55 => ⟨S512x2048, .bf16⟩
  | 56 => ⟨S2048, .f32⟩
  | 57 => ⟨S1x2048, .f32⟩
  | 58 => ⟨S1024x1024, .f32⟩
  | 59 => ⟨S1024x1024, .bf16⟩
  | 60 => ⟨S1024, .f32⟩
  | 61 => ⟨S1x1024, .f32⟩
  | 62 => ⟨S1024, .f32⟩
  | 63 => ⟨S1x1024, .f32⟩
  | 64 => ⟨S1024, .f32⟩
  | 65 => ⟨S1x1024, .f32⟩
  | 66 => ⟨S128x1024, .f32⟩
  | 67 => ⟨S128x3x1024, .f32⟩
  | 68 => ⟨S3x128x1024, .f32⟩
  | 69 => ⟨S384x1024, .f32⟩
  | 70 => ⟨S128x1024, .f32⟩
  | 71 => ⟨S128x32x64, .f32⟩
  | 72 => ⟨S128x2048, .f32⟩
  | 73 => ⟨S128x32x64, .f32⟩
  | 74 => ⟨S128x2048, .f32⟩
  | 75 => ⟨S128x1024, .f32⟩
  | 76 => ⟨S384x1024, .f32⟩
  | 77 => ⟨S128x1024, .f32⟩
  | 78 => ⟨S128x2048, .f32⟩
  | 79 => ⟨S128x2048, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S384x1024, .f32⟩
  | .local _ .vmem, ⟨2, _⟩ => ⟨S128x1024, .f32⟩
  | .local _ .vmem, ⟨3, _⟩ => ⟨S128x2048, .f32⟩
  | .local _ .vmem, ⟨4, _⟩ => ⟨S128x2048, .f32⟩
  | .local _ .vmem, ⟨5, _⟩ => ⟨S1x1024, .f32⟩
  | .local _ .vmem, ⟨6, _⟩ => ⟨S1x1024, .f32⟩
  | .local _ .vmem, ⟨7, _⟩ => ⟨S1024x3584, .bf16⟩
  | .local _ .vmem, ⟨8, _⟩ => ⟨S1x3584, .f32⟩
  | .local _ .vmem, ⟨9, _⟩ => ⟨S4x1024, .f32⟩
  | .local _ .vmem, ⟨10, _⟩ => ⟨S1x1024, .f32⟩
  | .local _ .vmem, ⟨11, _⟩ => ⟨S8x128x256, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x2048, .f32⟩
  | .local _ .vmem, ⟨16, _⟩ => ⟨S1x2048, .f32⟩
  | .local _ .vmem, ⟨17, _⟩ => ⟨S2x256x2048, .bf16⟩
  | .local _ .vmem, ⟨18, _⟩ => ⟨S2x1024x256, .bf16⟩
  | .local _ .vmem, ⟨19, _⟩ => ⟨S2x1024x256, .bf16⟩
  | .local _ .vmem, ⟨20, _⟩ => ⟨S1x512, .f32⟩
  | .local _ .vmem, ⟨21, _⟩ => ⟨S512x2048, .bf16⟩
  | .local _ .vmem, ⟨22, _⟩ => ⟨S1x2048, .f32⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S128x1024, .f32⟩
  | .local _ .vmem, ⟨28, _⟩ => ⟨S384x1024, .f32⟩
  | .local _ .vmem, ⟨29, _⟩ => ⟨S128x1024, .f32⟩
  | .local _ .vmem, ⟨30, _⟩ => ⟨S128x2048, .f32⟩
  | .local _ .vmem, ⟨31, _⟩ => ⟨S128x2048, .f32⟩
  | .local _ .vmem, ⟨32, _⟩ => ⟨S128x1024, .bf16⟩
  | .local _ .vmem, ⟨33, _⟩ => ⟨S512x1024, .f32⟩
  | .local _ .vmem, ⟨34, _⟩ => ⟨S128x512, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .bf16⟩
  | .local _ .vmem, ⟨39, _⟩ => ⟨S128x2048, .f32⟩
  | .local _ .vmem, ⟨40, _⟩ => ⟨S128x2048, .f32⟩
  | .local _ .vmem, ⟨41, _⟩ => ⟨S128x1024, .f32⟩
  | .local _ .vmem, ⟨42, _⟩ => ⟨S128x512, .f32⟩
  | .local _ .vmem, ⟨43, _⟩ => ⟨S128x512, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_c_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_c_1 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_c : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_0 : Ref sig .tc := ⟨.hbm, 109, rfl⟩
abbrev main_call2_v12 : Ref sig .tc := ⟨.hbm, 110, rfl⟩
abbrev main_call2_v13 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_c_2 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_c : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_0 : Ref sig .tc := ⟨.hbm, 129, rfl⟩
abbrev main_call3_v12 : Ref sig .tc := ⟨.hbm, 130, rfl⟩
abbrev main_call3_v13 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106_0 : Ref sig .tc := ⟨.hbm, 203, rfl⟩
abbrev main_v106_1 : Ref sig .tc := ⟨.hbm, 204, rfl⟩
abbrev main_v106_2 : Ref sig .tc := ⟨.hbm, 205, rfl⟩
abbrev main_v106_3 : Ref sig .tc := ⟨.hbm, 206, rfl⟩
abbrev main_v106_4 : Ref sig .tc := ⟨.hbm, 207, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_scratch8 : Ref sig .tc := ⟨.vmem, 40, rfl⟩
abbrev cc0_scratch9 : Ref sig .tc := ⟨.vmem, 41, rfl⟩
abbrev cc0_scratch10 : Ref sig .tc := ⟨.vmem, 42, rfl⟩
abbrev cc0_scratch11 : Ref sig .tc := ⟨.vmem, 43, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3584 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x256x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x1024x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x1024x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x2048 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![true]

abbrev stage0_28 : Fin 1 → Memref sig .tc .vmem S384x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128x2048 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S128x2048 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]
-- ==== ReferenceIdeal.lean ====
abbrev S128x1x1024 : Shape := ⟨3, ![128, 1, 1024]⟩
abbrev S1x128x3x1024 : Shape := ⟨4, ![1, 128, 3, 1024]⟩
abbrev S1x128x1024 : Shape := ⟨3, ![1, 128, 1024]⟩
abbrev S1x128x32x64 : Shape := ⟨4, ![1, 128, 32, 64]⟩
abbrev S1024 : Shape := ⟨1, ![1024]⟩
abbrev S1x1024x3584 : Shape := ⟨3, ![1, 1024, 3584]⟩
abbrev S1x3584 : Shape := ⟨2, ![1, 3584]⟩
abbrev S1x4x1024 : Shape := ⟨3, ![1, 4, 1024]⟩
abbrev S1x1024 : Shape := ⟨2, ![1, 1024]⟩
abbrev S1x8x128x128 : Shape := ⟨4, ![1, 8, 128, 128]⟩
abbrev S1x2048 : Shape := ⟨2, ![1, 2048]⟩
abbrev S16x2048 : Shape := ⟨2, ![16, 2048]⟩
abbrev S1x32x16x64 : Shape := ⟨4, ![1, 32, 16, 64]⟩
abbrev S1x512 : Shape := ⟨2, ![1, 512]⟩
abbrev S1x512x2048 : Shape := ⟨3, ![1, 512, 2048]⟩
abbrev S1x1024x1024 : Shape := ⟨3, ![1, 1024, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x3584 : Shape := ⟨2, ![1024, 3584]⟩
abbrev S128x1x3584 : Shape := ⟨3, ![128, 1, 3584]⟩
abbrev S3584 : Shape := ⟨1, ![3584]⟩
abbrev S1x1x3584 : Shape := ⟨3, ![1, 1, 3584]⟩
abbrev S128x1x512 : Shape := ⟨3, ![128, 1, 512]⟩
abbrev S128x3x1024 : Shape := ⟨3, ![128, 3, 1024]⟩
abbrev S4x1024 : Shape := ⟨2, ![4, 1024]⟩
abbrev S128x4x1024 : Shape := ⟨3, ![128, 4, 1024]⟩
abbrev S128x1024 : Shape := ⟨2, ![128, 1024]⟩
abbrev S8x128x128 : Shape := ⟨3, ![8, 128, 128]⟩
abbrev S128x1x8x128 : Shape := ⟨4, ![128, 1, 8, 128]⟩
abbrev S8x128x128x1 : Shape := ⟨4, ![8, 128, 128, 1]⟩
abbrev S32x64 : Shape := ⟨2, ![32, 64]⟩
abbrev S2048x16 : Shape := ⟨2, ![2048, 16]⟩
abbrev S32x64x16 : Shape := ⟨3, ![32, 64, 16]⟩
abbrev S128x32x64 : Shape := ⟨3, ![128, 32, 64]⟩
abbrev S32x16x64 : Shape := ⟨3, ![32, 16, 64]⟩
abbrev S512 : Shape := ⟨1, ![512]⟩
abbrev S128x1x32x16 : Shape := ⟨4, ![128, 1, 32, 16]⟩
abbrev S32x64x128x1 : Shape := ⟨4, ![32, 64, 128, 1]⟩
abbrev S128x1x32x64 : Shape := ⟨4, ![128, 1, 32, 64]⟩
abbrev S1x32x64 : Shape := ⟨3, ![1, 32, 64]⟩
abbrev S32x16x128x1 : Shape := ⟨4, ![32, 16, 128, 1]⟩
abbrev S1x1x512 : Shape := ⟨3, ![1, 1, 512]⟩
abbrev S512x2048 : Shape := ⟨2, ![512, 2048]⟩
abbrev S128x1x2048 : Shape := ⟨3, ![128, 1, 2048]⟩
abbrev S2048 : Shape := ⟨1, ![2048]⟩
abbrev S1x1x2048 : Shape := ⟨3, ![1, 1, 2048]⟩
abbrev S1024x1024 : Shape := ⟨2, ![1024, 1024]⟩
abbrev S3x128x1024 : Shape := ⟨3, ![3, 128, 1024]⟩
abbrev S384x1024 : Shape := ⟨2, ![384, 1024]⟩
abbrev S128x2048 : Shape := ⟨2, ![128, 2048]⟩

abbrev nBuf : Space → Nat
  | .hbm => 321
  | .vmem => 0
  | .smem => 0
  | _ => 0

abbrev hbmTy0_0 (i : Nat) : BufTy := match i % 128 with
  | 0 => ⟨S128x1x1024, .f32⟩
  | 1 => ⟨S1x128x3x1024, .f32⟩
  | 2 => ⟨S1x128x1024, .f32⟩
  | 3 => ⟨S1x128x32x64, .f32⟩
  | 4 => ⟨S1x128x32x64, .f32⟩
  | 5 => ⟨S1024, .f32⟩
  | 6 => ⟨S1024, .f32⟩
  | 7 => ⟨S1x1024x3584, .f32⟩
  | 8 => ⟨S1x3584, .f32⟩
  | 9 => ⟨S1x4x1024, .f32⟩
  | 10 => ⟨S1x1024, .f32⟩
  | 11 => ⟨S1x8x128x128, .f32⟩
  | 12 => ⟨S1x1024, .f32⟩
  | 13 => ⟨S1x8x128x128, .f32⟩
  | 14 => ⟨S1x1024, .f32⟩
  | 15 => ⟨S1x1024, .f32⟩
  | 16 => ⟨S1x2048, .f32⟩
  | 17 => ⟨S1x2048, .f32⟩
  | 18 => ⟨S16x2048, .f32⟩
  | 19 => ⟨S16x2048, .f32⟩
  | 20 => ⟨S1x32x16x64, .f32⟩
  | 21 => ⟨S1x32x16x64, .f32⟩
  | 22 => ⟨S1x512, .f32⟩
  | 23 => ⟨S1x512x2048, .f32⟩
  | 24 => ⟨S1x2048, .f32⟩
  | 25 => ⟨S1x1024x1024, .f32⟩
  | 26 => ⟨S1x1024, .f32⟩
  | 27 => ⟨S1x1024, .f32⟩
  | 28 => ⟨S1x1024, .f32⟩
  | 29 => ⟨S_, .f32⟩
  | 30 => ⟨S128x1, .f32⟩
  | 31 => ⟨S128x1x1, .f32⟩
  | 32 => ⟨S_, .f32⟩
  | 33 => ⟨S128x1x1, .f32⟩
  | 34 => ⟨S128x1x1, .f32⟩
  | 35 => ⟨S128x1x1024, .f32⟩
  | 36 => ⟨S128x1x1024, .f32⟩
  | 37 => ⟨S128x1x1024, .f32⟩
  | 38 => ⟨S_, .f32⟩
  | 39 => ⟨S128x1, .f32⟩
  | 40 => ⟨S128x1x1, .f32⟩
  | 41 => ⟨S_, .f32⟩
  | 42 => ⟨S128x1x1, .f32⟩
  | 43 => ⟨S128x1x1, .f32⟩
  | 44 => ⟨S128x1x1024, .f32⟩
  | 45 => ⟨S128x1x1024, .f32⟩
  | 46 => ⟨S_, .f32⟩
  | 47 => ⟨S128x1x1, .f32⟩
  | 48 => ⟨S128x1x1, .f32⟩
  | 49 => ⟨S128x1x1, .f32⟩
  | 50 => ⟨S128x1x1024, .f32⟩
  | 51 => ⟨S128x1x1024, .f32⟩
  | 52 => ⟨S1x1x1024, .f32⟩
  | 53 => ⟨S128x1x1024, .f32⟩
  | 54 => ⟨S128x1x1024, .f32⟩
  | 55 => ⟨S1x1x1024, .f32⟩
  | 56 => ⟨S128x1x1024, .f32⟩
  | 57 => ⟨S128x1x1024, .f32⟩
  | 58 => ⟨S1024x3584, .f32⟩
  | 59 => ⟨S128x1x3584, .f32⟩
  | 60 => ⟨S3584, .f32⟩
  | 61 => ⟨S1x1x3584, .f32⟩
  | 62 => ⟨S128x1x3584, .f32⟩
  | 63 => ⟨S128x1x3584, .f32⟩
  | 64 => ⟨S128x1x1024, .f32⟩
  | 65 => ⟨S128x1x512, .f32⟩
  | 66 => ⟨S128x1x1024, .f32⟩
  | 67 => ⟨S128x1x1024, .f32⟩
  | 68 => ⟨S128x3x1024, .f32⟩
  | 69 => ⟨S4x1024, .f32⟩
  | 70 => ⟨S1024, .f32⟩
  | 71 => ⟨S128x4x1024, .f32⟩
  | 72 => ⟨S128x1x1024, .f32⟩
  | 73 => ⟨S1x1024, .f32⟩
  | 74 => ⟨S1024, .f32⟩
  | 75 => ⟨S1x1x1024, .f32⟩
  | 76 => ⟨S128x1x1024, .f32⟩
  | 77 => ⟨S128x1x1024, .f32⟩
  | 78 => ⟨S_, .f32⟩
  | 79 => ⟨S128x1x1024, .f32⟩
  | 80 => ⟨S128x1x1024, .f32⟩
  | 81 => ⟨S128x1x1024, .f32⟩
  | 82 => ⟨S1x1024, .f32⟩
  | 83 => ⟨S1024, .f32⟩
  | 84 => ⟨S1x1x1024, .f32⟩
  | 85 => ⟨S128x1x1024, .f32⟩
  | 86 => ⟨S128x1x1024, .f32⟩
  | 87 => ⟨S128x1x1024, .f32⟩
  | 88 => ⟨S128x1x1024, .f32⟩
  | 89 => ⟨S1x1024, .f32⟩
  | 90 => ⟨S1024, .f32⟩
  | 91 => ⟨S1x1x1024, .f32⟩
  | 92 => ⟨S128x1x1024, .f32⟩
  | 93 => ⟨S128x1x1024, .f32⟩
  | 94 => ⟨S128x1x1024, .f32⟩
  | 95 => ⟨S128x1x1024, .f32⟩
  | 96 => ⟨S1x1024, .f32⟩
  | 97 => ⟨S1024, .f32⟩
  | 98 => ⟨S1x1x1024, .f32⟩
  | 99 => ⟨S128x1x1024, .f32⟩
  | 100 => ⟨S128x1x1024, .f32⟩
  | 101 => ⟨S128x1x1024, .f32⟩
  | 102 => ⟨S1x1x1024, .f32⟩
  | 103 => ⟨S128x1x1024, .f32⟩
  | 104 => ⟨S128x1x1024, .f32⟩
  | 105 => ⟨S128x3x1024, .f32⟩
  | 106 => ⟨S128x1024, .f32⟩
  | 107 => ⟨S8x128x128, .f32⟩
  | 108 => ⟨S1024, .f32⟩
  | 109 => ⟨S8x128x128, .f32⟩
  | 110 => ⟨S1024, .f32⟩
  | 111 => ⟨S1024, .f32⟩
  | 112 => ⟨S128x1x8x128, .f32⟩
  | 113 => ⟨S8x128x128x1, .f32⟩
  | 114 => ⟨S128x1x8x128, .f32⟩
  | 115 => ⟨S128x1x1024, .f32⟩
  | 116 => ⟨S1x1x1024, .f32⟩
  | 117 => ⟨S128x1x1024, .f32⟩
  | 118 => ⟨S128x1x1024, .f32⟩
  | 119 => ⟨S128x1x1024, .f32⟩
  | 120 => ⟨S128x1x1024, .f32⟩
  | 121 => ⟨S_, .f32⟩
  | 122 => ⟨S128x1x1024, .f32⟩
  | 123 => ⟨S128x1x1024, .f32⟩
  | 124 => ⟨S_, .f32⟩
  | 125 => ⟨S128x1x1024, .f32⟩
  | 126 => ⟨S128x1x1024, .f32⟩
  | 127 => ⟨S8x128x128x1, .f32⟩
  | _ => ⟨S128x1x1024, .f32⟩

abbrev hbmTy0_1 (i : Nat) : BufTy := match i % 128 with
  | 0 => ⟨S128x1x8x128, .f32⟩
  | 1 => ⟨S128x1x1024, .f32⟩
  | 2 => ⟨S1x1x1024, .f32⟩
  | 3 => ⟨S128x1x1024, .f32⟩
  | 4 => ⟨S128x1x1024, .f32⟩
  | 5 => ⟨S128x1x1024, .f32⟩
  | 6 => ⟨S128x1x1024, .f32⟩
  | 7 => ⟨S_, .f32⟩
  | 8 => ⟨S128x1x1024, .f32⟩
  | 9 => ⟨S128x1x1024, .f32⟩
  | 10 => ⟨S_, .f32⟩
  | 11 => ⟨S128x1x1024, .f32⟩
  | 12 => ⟨S128x1x1024, .f32⟩
  | 13 => ⟨S_, .f32⟩
  | 14 => ⟨S128x1x1024, .f32⟩
  | 15 => ⟨S128x1x1024, .f32⟩
  | 16 => ⟨S1024, .f32⟩
  | 17 => ⟨S_, .f32⟩
  | 18 => ⟨S1024, .f32⟩
  | 19 => ⟨S1024, .f32⟩
  | 20 => ⟨S1024, .f32⟩
  | 21 => ⟨S1024, .f32⟩
  | 22 => ⟨S1024, .i1⟩
  | 23 => ⟨S1024, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1x1x1024, .f32⟩
  | 32 => ⟨S128x1x1024, .f32⟩
  | 33 => ⟨S128x1x1024, .f32⟩
  | 34 => ⟨S128x1x1024, .f32⟩
  | 35 => ⟨S_, .f32⟩
  | 36 => ⟨S128x1x1024, .f32⟩
  | 37 => ⟨S128x1x1024, .f32⟩
  | 38 => ⟨S128x1x1024, .f32⟩
  | 39 => ⟨S128x1x1024, .f32⟩
  | 40 => ⟨S128x1x1024, .f32⟩
  | 41 => ⟨S128x1x1024, .f32⟩
  | 42 => ⟨S128x1x1024, .f32⟩
  | 43 => ⟨S128x1024, .f32⟩
  | 44 => ⟨S128x1024, .f32⟩
  | 45 => ⟨S128x1024, .f32⟩
  | 46 => ⟨S128x1024, .f32⟩
  | 47 => ⟨S128x1x1024, .f32⟩
  | 48 => ⟨S32x64, .f32⟩
  | 49 => ⟨S32x64, .f32⟩
  | 50 => ⟨S2048x16, .f32⟩
  | 51 => ⟨S32x64x16, .f32⟩
  | 52 => ⟨S2048x16, .f32⟩
  | 53 => ⟨S32x64x16, .f32⟩
  | 54 => ⟨S128x32x64, .f32⟩
  | 55 => ⟨S128x32x64, .f32⟩
  | 56 => ⟨S32x16x64, .f32⟩
  | 57 => ⟨S32x16x64, .f32⟩
  | 58 => ⟨S512, .f32⟩
  | 59 => ⟨S128x1x32x16, .f32⟩
  | 60 => ⟨S32x64x128x1, .f32⟩
  | 61 => ⟨S128x1x32x64, .f32⟩
  | 62 => ⟨S32x64x128x1, .f32⟩
  | 63 => ⟨S128x1x32x64, .f32⟩
  | 64 => ⟨S128x32x64, .f32⟩
  | 65 => ⟨S1x32x64, .f32⟩
  | 66 => ⟨S128x32x64, .f32⟩
  | 67 => ⟨S128x32x64, .f32⟩
  | 68 => ⟨S1x32x64, .f32⟩
  | 69 => ⟨S128x32x64, .f32⟩
  | 70 => ⟨S128x32x64, .f32⟩
  | 71 => ⟨S128x32x64, .f32⟩
  | 72 => ⟨S128x32x64, .f32⟩
  | 73 => ⟨S128x32x64, .f32⟩
  | 74 => ⟨S1x32x64, .f32⟩
  | 75 => ⟨S128x32x64, .f32⟩
  | 76 => ⟨S128x32x64, .f32⟩
  | 77 => ⟨S1x32x64, .f32⟩
  | 78 => ⟨S128x32x64, .f32⟩
  | 79 => ⟨S128x32x64, .f32⟩
  | 80 => ⟨S128x32x64, .f32⟩
  | 81 => ⟨S128x32x64, .f32⟩
  | 82 => ⟨S128x1x32x64, .f32⟩
  | 83 => ⟨S32x16x128x1, .f32⟩
  | 84 => ⟨S128x1x32x16, .f32⟩
  | 85 => ⟨S128x1x32x64, .f32⟩
  | 86 => ⟨S32x16x128x1, .f32⟩
  | 87 => ⟨S128x1x32x16, .f32⟩
  | 88 => ⟨S128x1x32x16, .f32⟩
  | 89 => ⟨S128x1x512, .f32⟩
  | 90 => ⟨S1x1x512, .f32⟩
  | 91 => ⟨S128x1x512, .f32⟩
  | 92 => ⟨S128x1x512, .f32⟩
  | 93 => ⟨S128x1x512, .f32⟩
  | 94 => ⟨S128x1x512, .f32⟩
  | 95 => ⟨S128x1x512, .f32⟩
  | 96 => ⟨S_, .f32⟩
  | 97 => ⟨S128x1x512, .f32⟩
  | 98 => ⟨S128x1x512, .f32⟩
  | 99 => ⟨S128x1x512, .f32⟩
  | 100 => ⟨S_, .f32⟩
  | 101 => ⟨S128x1x512, .f32⟩
  | 102 => ⟨S128x1x512, .f32⟩
  | 103 => ⟨S128x1x512, .f32⟩
  | 104 => ⟨S_, .f32⟩
  | 105 => ⟨S128x1x512, .f32⟩
  | 106 => ⟨S128x1x512, .f32⟩
  | 107 => ⟨S_, .f32⟩
  | 108 => ⟨S128x1x512, .f32⟩
  | 109 => ⟨S128x1x512, .f32⟩
  | 110 => ⟨S128x1x512, .f32⟩
  | 111 => ⟨S512x2048, .f32⟩
  | 112 => ⟨S128x1x2048, .f32⟩
  | 113 => ⟨S2048, .f32⟩
  | 114 => ⟨S1x1x2048, .f32⟩
  | 115 => ⟨S128x1x2048, .f32⟩
  | 116 => ⟨S128x1x2048, .f32⟩
  | 117 => ⟨S128x1x1024, .f32⟩
  | 118 => ⟨S128x1x1024, .f32⟩
  | 119 => ⟨S128x1x1024, .f32⟩
  | 120 => ⟨S128x1x1024, .f32⟩
  | 121 => ⟨S_, .f32⟩
  | 122 => ⟨S128x1x1024, .f32⟩
  | 123 => ⟨S128x1x1024, .f32⟩
  | 124 => ⟨S_, .f32⟩
  | 125 => ⟨S128x1x1024, .f32⟩
  | 126 => ⟨S128x1x1024, .f32⟩
  | 127 => ⟨S128x1x1024, .f32⟩
  | _ => ⟨S128x1x1024, .f32⟩

abbrev hbmTy0_2 (i : Nat) : BufTy := match i % 128 with
  | 0 => ⟨S128x1x1024, .f32⟩
  | 1 => ⟨S128x1x1024, .f32⟩
  | 2 => ⟨S_, .f32⟩
  | 3 => ⟨S128x1x1024, .f32⟩
  | 4 => ⟨S128x1x1024, .f32⟩
  | 5 => ⟨S_, .f32⟩
  | 6 => ⟨S128x1x1024, .f32⟩
  | 7 => ⟨S128x1x1024, .f32⟩
  | 8 => ⟨S128x1x1024, .f32⟩
  | 9 => ⟨S128x1x1024, .f32⟩
  | 10 => ⟨S128x1x1024, .f32⟩
  | 11 => ⟨S_, .f32⟩
  | 12 => ⟨S128x1x1024, .f32⟩
  | 13 => ⟨S128x1x1024, .f32⟩
  | 14 => ⟨S_, .f32⟩
  | 15 => ⟨S128x1x1024, .f32⟩
  | 16 => ⟨S128x1x1024, .f32⟩
  | 17 => ⟨S128x1x1024, .f32⟩
  | 18 => ⟨S128x1x1024, .f32⟩
  | 19 => ⟨S_, .f32⟩
  | 20 => ⟨S128x1x1024, .f32⟩
  | 21 => ⟨S128x1x1024, .f32⟩
  | 22 => ⟨S1024x1024, .f32⟩
  | 23 => ⟨S128x1x1024, .f32⟩
  | 24 => ⟨S1024, .f32⟩
  | 25 => ⟨S1x1x1024, .f32⟩
  | 26 => ⟨S128x1x1024, .f32⟩
  | 27 => ⟨S128x1x1024, .f32⟩
  | 28 => ⟨S128x1x1024, .f32⟩
  | 29 => ⟨S1024, .f32⟩
  | 30 => ⟨S1024, .f32⟩
  | 31 => ⟨S_, .f32⟩
  | 32 => ⟨S128x1, .f32⟩
  | 33 => ⟨S128x1x1, .f32⟩
  | 34 => ⟨S_, .f32⟩
  | 35 => ⟨S128x1x1, .f32⟩
  | 36 => ⟨S128x1x1, .f32⟩
  | 37 => ⟨S128x1x1024, .f32⟩
  | 38 => ⟨S128x1x1024, .f32⟩
  | 39 => ⟨S128x1x1024, .f32⟩
  | 40 => ⟨S_, .f32⟩
  | 41 => ⟨S128x1, .f32⟩
  | 42 => ⟨S128x1x1, .f32⟩
  | 43 => ⟨S_, .f32⟩
  | 44 => ⟨S128x1x1, .f32⟩
  | 45 => ⟨S128x1x1, .f32⟩
  | 46 => ⟨S128x1x1024, .f32⟩
  | 47 => ⟨S128x1x1024, .f32⟩
  | 48 => ⟨S_, .f32⟩
  | 49 => ⟨S128x1x1, .f32⟩
  | 50 => ⟨S128x1x1, .f32⟩
  | 51 => ⟨S128x1x1, .f32⟩
  | 52 => ⟨S128x1x1024, .f32⟩
  | 53 => ⟨S128x1x1024, .f32⟩
  | 54 => ⟨S1x1x1024, .f32⟩
  | 55 => ⟨S128x1x1024, .f32⟩
  | 56 => ⟨S128x1x1024, .f32⟩
  | 57 => ⟨S1x1x1024, .f32⟩
  | 58 => ⟨S128x1x1024, .f32⟩
  | 59 => ⟨S128x1x1024, .f32⟩
  | 60 => ⟨S128x1024, .f32⟩
  | 61 => ⟨S3x128x1024, .f32⟩
  | 62 => ⟨S384x1024, .f32⟩
  | 63 => ⟨S128x2048, .f32⟩
  | 64 => ⟨S128x2048, .f32⟩
  | _ => ⟨S128x1x1024, .f32⟩

abbrev hbmTy (i : Nat) : BufTy := match i / 128 with
  | 0 => hbmTy0_0 i
  | 1 => hbmTy0_1 i
  | 2 => hbmTy0_2 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_v1 : Ref sig .tc := ⟨.hbm, 31, rfl⟩
abbrev main_cst_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_cst_2 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_3 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_4 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_5 : Ref sig .tc := ⟨.hbm, 121, rfl⟩
abbrev main_v86 : Ref sig .tc := ⟨.hbm, 122, rfl⟩
abbrev main_v87 : Ref sig .tc := ⟨.hbm, 123, rfl⟩
abbrev main_cst_6 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_7 : Ref sig .tc := ⟨.hbm, 135, rfl⟩
abbrev main_v98 : Ref sig .tc := ⟨.hbm, 136, rfl⟩
abbrev main_v99 : Ref sig .tc := ⟨.hbm, 137, rfl⟩
abbrev main_cst_8 : Ref sig .tc := ⟨.hbm, 138, rfl⟩
abbrev main_v100 : Ref sig .tc := ⟨.hbm, 139, rfl⟩
abbrev main_v101 : Ref sig .tc := ⟨.hbm, 140, rfl⟩
abbrev main_cst_9 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call0_cst : Ref sig .tc := ⟨.hbm, 145, rfl⟩
abbrev main_call0_v0 : Ref sig .tc := ⟨.hbm, 146, rfl⟩
abbrev main_call0_v1 : Ref sig .tc := ⟨.hbm, 147, rfl⟩
abbrev main_call0_v2 : Ref sig .tc := ⟨.hbm, 148, rfl⟩
abbrev main_call0_v3 : Ref sig .tc := ⟨.hbm, 149, rfl⟩
abbrev main_call0_v4 : Ref sig .tc := ⟨.hbm, 150, rfl⟩
abbrev main_call0_v5 : Ref sig .tc := ⟨.hbm, 151, rfl⟩
abbrev main_call0_v6 : Ref sig .tc := ⟨.hbm, 152, rfl⟩
abbrev main_call0_v7 : Ref sig .tc := ⟨.hbm, 153, rfl⟩
abbrev main_call0_v8 : Ref sig .tc := ⟨.hbm, 154, rfl⟩
abbrev main_call0_v9 : Ref sig .tc := ⟨.hbm, 155, rfl⟩
abbrev main_call0_v10 : Ref sig .tc := ⟨.hbm, 156, rfl⟩
abbrev main_call0_v11 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_10 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_cst_11 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_12 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_13 : Ref sig .tc := ⟨.hbm, 232, rfl⟩
abbrev main_v176 : Ref sig .tc := ⟨.hbm, 233, rfl⟩
abbrev main_v177 : Ref sig .tc := ⟨.hbm, 234, rfl⟩
abbrev main_cst_14 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_cst_15 : Ref sig .tc := ⟨.hbm, 249, rfl⟩
abbrev main_v191 : Ref sig .tc := ⟨.hbm, 250, rfl⟩
abbrev main_v192 : Ref sig .tc := ⟨.hbm, 251, rfl⟩
abbrev main_cst_16 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_cst_17 : Ref sig .tc := ⟨.hbm, 258, rfl⟩
abbrev main_v198 : Ref sig .tc := ⟨.hbm, 259, rfl⟩
abbrev main_v199 : Ref sig .tc := ⟨.hbm, 260, rfl⟩
abbrev main_cst_18 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_cst_19 : Ref sig .tc := ⟨.hbm, 267, rfl⟩
abbrev main_v205 : Ref sig .tc := ⟨.hbm, 268, rfl⟩
abbrev main_v206 : Ref sig .tc := ⟨.hbm, 269, rfl⟩
abbrev main_cst_20 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_cst_21 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_cst_22 : Ref sig .tc := ⟨.hbm, 287, rfl⟩
abbrev main_v222 : Ref sig .tc := ⟨.hbm, 288, rfl⟩
abbrev main_v223 : Ref sig .tc := ⟨.hbm, 289, rfl⟩
abbrev main_cst_23 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_cst_24 : Ref sig .tc := ⟨.hbm, 296, rfl⟩
abbrev main_v229 : Ref sig .tc := ⟨.hbm, 297, rfl⟩
abbrev main_v230 : Ref sig .tc := ⟨.hbm, 298, rfl⟩
abbrev main_cst_25 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_cst_26 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩

abbrev nD : Nat := 1
abbrev τ : Topo := Topo.v7x

variable {F : FTy → Type} [FloatOps F]
-- ==== Ffn.lean ====
abbrev S128x1024 : Shape := ⟨2, ![128, 1024]⟩
abbrev S1x128x2x3072 : Shape := ⟨4, ![1, 128, 2, 3072]⟩
abbrev S1x1024x6144 : Shape := ⟨3, ![1, 1024, 6144]⟩
abbrev S1x6144 : Shape := ⟨2, ![1, 6144]⟩
abbrev S1x3x3072 : Shape := ⟨3, ![1, 3, 3072]⟩
abbrev S1x3072 : Shape := ⟨2, ![1, 3072]⟩
abbrev S1x3072x1024 : Shape := ⟨3, ![1, 3072, 1024]⟩
abbrev S1x1024 : Shape := ⟨2, ![1, 1024]⟩
abbrev S1024x6144 : Shape := ⟨2, ![1024, 6144]⟩
abbrev S6144 : Shape := ⟨1, ![6144]⟩
abbrev S3x3072 : Shape := ⟨2, ![3, 3072]⟩
abbrev S3072 : Shape := ⟨1, ![3072]⟩
abbrev S3072x1024 : Shape := ⟨2, ![3072, 1024]⟩
abbrev S1024 : Shape := ⟨1, ![1024]⟩
abbrev S128x2x3072 : Shape := ⟨3, ![128, 2, 3072]⟩
abbrev S2x128x3072 : Shape := ⟨3, ![2, 128, 3072]⟩
abbrev S256x3072 : Shape := ⟨2, ![256, 3072]⟩
abbrev S384x3072 : Shape := ⟨2, ![384, 3072]⟩
abbrev S128x3072 : Shape := ⟨2, ![128, 3072]⟩
abbrev S1024x1536 : Shape := ⟨2, ![1024, 1536]⟩
abbrev S128x1536 : Shape := ⟨2, ![128, 1536]⟩
abbrev S1x1536 : Shape := ⟨2, ![1, 1536]⟩
abbrev S1536x1024 : Shape := ⟨2, ![1536, 1024]⟩
abbrev S128 : Shape := ⟨1, ![128]⟩
abbrev S128x1 : Shape := ⟨2, ![128, 1]⟩

abbrev nBuf : Space → Nat
  | .hbm => 30
  | .vmem => 17
  | .smem => 0
  | _ => 0

abbrev bufTy : (tb : Table) → Fin (tcTables nBuf tb) → BufTy
  | .hbm, ⟨0, _⟩ => ⟨S128x1024, .f32⟩
  | .hbm, ⟨1, _⟩ => ⟨S1x128x2x3072, .f32⟩
  | .hbm, ⟨2, _⟩ => ⟨S1x1024x6144, .f32⟩
  | .hbm, ⟨3, _⟩ => ⟨S1x6144, .f32⟩
  | .hbm, ⟨4, _⟩ => ⟨S1x3x3072, .f32⟩
  | .hbm, ⟨5, _⟩ => ⟨S1x3072, .f32⟩
  | .hbm, ⟨6, _⟩ => ⟨S1x3072x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x6144, .f32⟩
  | .hbm, ⟨11, _⟩ => ⟨S1024x6144, .bf16⟩
  | .hbm, ⟨12, _⟩ => ⟨S6144, .f32⟩
  | .hbm, ⟨13, _⟩ => ⟨S1x6144, .f32⟩
  | .hbm, ⟨14, _⟩ => ⟨S3x3072, .f32⟩
  | .hbm, ⟨15, _⟩ => ⟨S3072, .f32⟩
  | .hbm, ⟨16, _⟩ => ⟨S1x3072, .f32⟩
  | .hbm, ⟨17, _⟩ => ⟨S3072x1024, .f32⟩
  | .hbm, ⟨18, _⟩ => ⟨S3072x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S128x2x3072, .f32⟩
  | .hbm, ⟨26, _⟩ => ⟨S2x128x3072, .f32⟩
  | .hbm, ⟨27, _⟩ => ⟨S256x3072, .f32⟩
  | .hbm, ⟨28, _⟩ => ⟨S128x1024, .f32⟩
  | .hbm, ⟨29, _⟩ => ⟨S256x3072, .f32⟩
  | .local _ .vmem, ⟨0, _⟩ => ⟨S128x1024, .f32⟩
  | .local _ .vmem, ⟨1, _⟩ => ⟨S256x3072, .f32⟩
  | .local _ .vmem, ⟨2, _⟩ => ⟨S1024x6144, .bf16⟩
  | .local _ .vmem, ⟨3, _⟩ => ⟨S1x6144, .f32⟩
  | .local _ .vmem, ⟨4, _⟩ => ⟨S3x3072, .f32⟩
  | .local _ .vmem, ⟨5, _⟩ => ⟨S1x3072, .f32⟩
  | .local _ .vmem, ⟨6, _⟩ => ⟨S3072x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | .local _ .vmem, ⟨11, _⟩ => ⟨S256x3072, .f32⟩
  | .local _ .vmem, ⟨12, _⟩ => ⟨S128x1024, .bf16⟩
  | .local _ .vmem, ⟨13, _⟩ => ⟨S384x3072, .f32⟩
  | .local _ .vmem, ⟨14, _⟩ => ⟨S128x3072, .f32⟩
  | .local _ .vmem, ⟨15, _⟩ => ⟨S128x3072, .bf16⟩
  | .local _ .vmem, ⟨16, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnReferenceIdeal.lean ====
abbrev S128x1024 : Shape := ⟨2, ![128, 1024]⟩
abbrev S1x128x2x3072 : Shape := ⟨4, ![1, 128, 2, 3072]⟩
abbrev S1x1024x6144 : Shape := ⟨3, ![1, 1024, 6144]⟩
abbrev S1x6144 : Shape := ⟨2, ![1, 6144]⟩
abbrev S1x3x3072 : Shape := ⟨3, ![1, 3, 3072]⟩
abbrev S1x3072 : Shape := ⟨2, ![1, 3072]⟩
abbrev S1x3072x1024 : Shape := ⟨3, ![1, 3072, 1024]⟩
abbrev S1x1024 : Shape := ⟨2, ![1, 1024]⟩
abbrev S128x1x1024 : Shape := ⟨3, ![128, 1, 1024]⟩
abbrev S1024x6144 : Shape := ⟨2, ![1024, 6144]⟩
abbrev S128x1x6144 : Shape := ⟨3, ![128, 1, 6144]⟩
abbrev S6144 : Shape := ⟨1, ![6144]⟩
abbrev S1x1x6144 : Shape := ⟨3, ![1, 1, 6144]⟩
abbrev S128x1x3072 : Shape := ⟨3, ![128, 1, 3072]⟩
abbrev S128x2x3072 : Shape := ⟨3, ![128, 2, 3072]⟩
abbrev S3x3072 : Shape := ⟨2, ![3, 3072]⟩
abbrev S3072 : Shape := ⟨1, ![3072]⟩
abbrev S128x3x3072 : Shape := ⟨3, ![128, 3, 3072]⟩
abbrev S1x1x3072 : Shape := ⟨3, ![1, 1, 3072]⟩
abbrev S_ : Shape := ⟨0, ![]⟩
abbrev S3072x1024 : Shape := ⟨2, ![3072, 1024]⟩
abbrev S1024 : Shape := ⟨1, ![1024]⟩
abbrev S1x1x1024 : Shape := ⟨3, ![1, 1, 1024]⟩
abbrev S128x1 : Shape := ⟨2, ![128, 1]⟩
abbrev S128x1x1 : Shape := ⟨3, ![128, 1, 1]⟩
abbrev S2x128x3072 : Shape := ⟨3, ![2, 128, 3072]⟩
abbrev S256x3072 : Shape := ⟨2, ![256, 3072]⟩

abbrev nBuf : Space → Nat
  | .hbm => 112
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x128x2x3072, .f32⟩
  | .hbm, ⟨2, _⟩ => ⟨S1x1024x6144, .f32⟩
  | .hbm, ⟨3, _⟩ => ⟨S1x6144, .f32⟩
  | .hbm, ⟨4, _⟩ => ⟨S1x3x3072, .f32⟩
  | .hbm, ⟨5, _⟩ => ⟨S1x3072, .f32⟩
  | .hbm, ⟨6, _⟩ => ⟨S1x3072x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S128x1x1024, .f32⟩
  | .hbm, ⟨11, _⟩ => ⟨S1024x6144, .f32⟩
  | .hbm, ⟨12, _⟩ => ⟨S128x1x6144, .f32⟩
  | .hbm, ⟨13, _⟩ => ⟨S6144, .f32⟩
  | .hbm, ⟨14, _⟩ => ⟨S1x1x6144, .f32⟩
  | .hbm, ⟨15, _⟩ => ⟨S128x1x6144, .f32⟩
  | .hbm, ⟨16, _⟩ => ⟨S128x1x6144, .f32⟩
  | .hbm, ⟨17, _⟩ => ⟨S128x1x3072, .f32⟩
  | .hbm, ⟨18, _⟩ => ⟨S128x1x3072, .f32⟩
  | .hbm, ⟨19, _⟩ => ⟨S128x2x3072, .f32⟩
  | .hbm, ⟨20, _⟩ => ⟨S3x3072, .f32⟩
  | .hbm, ⟨21, _⟩ => ⟨S3072, .f32⟩
  | .hbm, ⟨22, _⟩ => ⟨S128x3x3072, .f32⟩
  | .hbm, ⟨23, _⟩ => ⟨S128x1x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S128x1x3072, .f32⟩
  | .hbm, ⟨28, _⟩ => ⟨S128x1x3072, .f32⟩
  | .hbm, ⟨29, _⟩ => ⟨S_, .f32⟩
  | .hbm, ⟨30, _⟩ => ⟨S128x1x3072, .f32⟩
  | .hbm, ⟨31, _⟩ => ⟨S128x1x3072, .f32⟩
  | .hbm, ⟨32, _⟩ => ⟨S128x1x3072, .f32⟩
  | .hbm, ⟨33, _⟩ => ⟨S1x3072, .f32⟩
  | .hbm, ⟨34, _⟩ => ⟨S3072, .f32⟩
  | .hbm, ⟨35, _⟩ => ⟨S1x1x3072, .f32⟩
  | .hbm, ⟨36, _⟩ => ⟨S128x1x3072, .f32⟩
  | .hbm, ⟨37, _⟩ => ⟨S128x1x3072, .f32⟩
  | .hbm, ⟨38, _⟩ => ⟨S128x1x3072, .f32⟩
  | .hbm, ⟨39, _⟩ => ⟨S128x1x3072, .f32⟩
  | .hbm, ⟨40, _⟩ => ⟨S1x3072, .f32⟩
  | .hbm, ⟨41, _⟩ => ⟨S3072, .f32⟩
  | .hbm, ⟨42, _⟩ => ⟨S1x1x3072, .f32⟩
  | .hbm, ⟨43, _⟩ => ⟨S128x1x3072, .f32⟩
  | .hbm, ⟨44, _⟩ => ⟨S128x1x3072, .f32⟩
  | .hbm, ⟨45, _⟩ => ⟨S128x1x3072, .f32⟩
  | .hbm, ⟨46, _⟩ => ⟨S1x1x3072, .f32⟩
  | .hbm, ⟨47, _⟩ => ⟨S128x1x3072, .f32⟩
  | .hbm, ⟨48, _⟩ => ⟨S128x1x3072, .f32⟩
  | .hbm, ⟨49, _⟩ => ⟨S128x2x3072, .f32⟩
  | .hbm, ⟨50, _⟩ => ⟨S128x1x3072, .f32⟩
  | .hbm, ⟨51, _⟩ => ⟨S128x1x3072, .f32⟩
  | .hbm, ⟨52, _⟩ => ⟨S_, .f32⟩
  | .hbm, ⟨53, _⟩ => ⟨S128x1x3072, .f32⟩
  | .hbm, ⟨54, _⟩ => ⟨S128x1x3072, .f32⟩
  | .hbm, ⟨55, _⟩ => ⟨S128x1x3072, .f32⟩
  | .hbm, ⟨56, _⟩ => ⟨S_, .f32⟩
  | .hbm, ⟨57, _⟩ => ⟨S128x1x3072, .f32⟩
  | .hbm, ⟨58, _⟩ => ⟨S128x1x3072, .f32⟩
  | .hbm, ⟨59, _⟩ => ⟨S128x1x3072, .f32⟩
  | .hbm, ⟨60, _⟩ => ⟨S_, .f32⟩
  | .hbm, ⟨61, _⟩ => ⟨S128x1x3072, .f32⟩
  | .hbm, ⟨62, _⟩ => ⟨S128x1x3072, .f32⟩
  | .hbm, ⟨63, _⟩ => ⟨S_, .f32⟩
  | .hbm, ⟨64, _⟩ => ⟨S128x1x3072, .f32⟩
  | .hbm, ⟨65, _⟩ => ⟨S128x1x3072, .f32⟩
  | .hbm, ⟨66, _⟩ => ⟨S128x1x3072, .f32⟩
  | .hbm, ⟨67, _⟩ => ⟨S128x1x3072, .f32⟩
  | .hbm, ⟨68, _⟩ => ⟨S_, .f32⟩
  | .hbm, ⟨69, _⟩ => ⟨S128x1x1024, .f32⟩
  | .hbm, ⟨70, _⟩ => ⟨S128x1x1024, .f32⟩
  | .hbm, ⟨71, _⟩ => ⟨S3072x1024, .f32⟩
  | .hbm, ⟨72, _⟩ => ⟨S128x1x1024, .f32⟩
  | .hbm, ⟨73, _⟩ => ⟨S1024, .f32⟩
  | .hbm, ⟨74, _⟩ => ⟨S1x1x1024, .f32⟩
  | .hbm, ⟨75, _⟩ => ⟨S128x1x1024, .f32⟩
  | .hbm, ⟨76, _⟩ => ⟨S128x1x1024, .f32⟩
  | .hbm, ⟨77, _⟩ => ⟨S128x1x1024, .f32⟩
  | .hbm, ⟨78, _⟩ => ⟨S1024, .f32⟩
  | .hbm, ⟨79, _⟩ => ⟨S1024, .f32⟩
  | .hbm, ⟨80, _⟩ => ⟨S_, .f32⟩
  | .hbm, ⟨81, _⟩ => ⟨S128x1, .f32⟩
  | .hbm, ⟨82, _⟩ => ⟨S128x1x1, .f32⟩
  | .hbm, ⟨83, _⟩ => ⟨S_, .f32⟩
  | .hbm, ⟨84, _⟩ => ⟨S128x1x1, .f32⟩
  | .hbm, ⟨85, _⟩ => ⟨S128x1x1, .f32⟩
  | .hbm, ⟨86, _⟩ => ⟨S128x1x1024, .f32⟩
  | .hbm, ⟨87, _⟩ => ⟨S128x1x1024, .f32⟩
  | .hbm, ⟨88, _⟩ => ⟨S128x1x1024, .f32⟩
  | .hbm, ⟨89, _⟩ => ⟨S_, .f32⟩
  | .hbm, ⟨90, _⟩ => ⟨S128x1, .f32⟩
  | .hbm, ⟨91, _⟩ => ⟨S128x1x1, .f32⟩
  | .hbm, ⟨92, _⟩ => ⟨S_, .f32⟩
  | .hbm, ⟨93, _⟩ => ⟨S128x1x1, .f32⟩
  | .hbm, ⟨94, _⟩ => ⟨S128x1x1, .f32⟩
  | .hbm, ⟨95, _⟩ => ⟨S128x1x1024, .f32⟩
  | .hbm, ⟨96, _⟩ => ⟨S128x1x1024, .f32⟩
  | .hbm, ⟨97, _⟩ => ⟨S_, .f32⟩
  | .hbm, ⟨98, _⟩ => ⟨S128x1x1, .f32⟩
  | .hbm, ⟨99, _⟩ => ⟨S128x1x1, .f32⟩
  | .hbm, ⟨100, _⟩ => ⟨S128x1x1, .f32⟩
  | .hbm, ⟨101, _⟩ => ⟨S128x1x1024, .f32⟩
  | .hbm, ⟨102, _⟩ => ⟨S128x1x1024, .f32⟩
  | .hbm, ⟨103, _⟩ => ⟨S1x1x1024, .f32⟩
  | .hbm, ⟨104, _⟩ => ⟨S128x1x1024, .f32⟩
  | .hbm, ⟨105, _⟩ => ⟨S128x1x1024, .f32⟩
  | .hbm, ⟨106, _⟩ => ⟨S1x1x1024, .f32⟩
  | .hbm, ⟨107, _⟩ => ⟨S128x1x1024, .f32⟩
  | .hbm, ⟨108, _⟩ => ⟨S128x1x1024, .f32⟩
  | .hbm, ⟨109, _⟩ => ⟨S128x1024, .f32⟩
  | .hbm, ⟨110, _⟩ => ⟨S2x128x3072, .f32⟩
  | .hbm, ⟨111, _⟩ => ⟨S256x3072, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_2 : Ref sig .tc := ⟨.hbm, 60, rfl⟩
abbrev main_v47 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_5 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_7 : Ref sig .tc := ⟨.hbm, 89, rfl⟩
abbrev main_v71 : Ref sig .tc := ⟨.hbm, 90, rfl⟩
abbrev main_v72 : Ref sig .tc := ⟨.hbm, 91, rfl⟩
abbrev main_cst_8 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_9 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩

abbrev nD : Nat := 1
abbrev τ : Topo := Topo.v7x

variable {F : FTy → Type} [FloatOps F]
-- ==== Prep.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32 : Shape := ⟨1, ![32]⟩
abbrev S32x64x16 : Shape := ⟨3, ![32, 64, 16]⟩
abbrev S2048 : Shape := ⟨1, ![2048]⟩
abbrev S1x2048 : Shape := ⟨2, ![1, 2048]⟩
abbrev S16x32x64 : Shape := ⟨3, ![16, 32, 64]⟩
abbrev S16x2048 : Shape := ⟨2, ![16, 2048]⟩

abbrev nBuf : Space → Nat
  | .hbm => 23
  | .vmem => 9
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32, .f32⟩
  | .hbm, ⟨8, _⟩ => ⟨S32x64x16, .f32⟩
  | .hbm, ⟨9, _⟩ => ⟨S32x64x16, .f32⟩
  | .hbm, ⟨10, _⟩ => ⟨S32x64, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S16x32x64, .f32⟩
  | .hbm, ⟨16, _⟩ => ⟨S16x2048, .f32⟩
  | .hbm, ⟨17, _⟩ => ⟨S16x32x64, .f32⟩
  | .hbm, ⟨18, _⟩ => ⟨S16x2048, .f32⟩
  | .hbm, ⟨19, _⟩ => ⟨S1x2048, .f32⟩
  | .hbm, ⟨20, _⟩ => ⟨S1x2048, .f32⟩
  | .hbm, ⟨21, _⟩ => ⟨S16x2048, .f32⟩
  | .hbm, ⟨22, _⟩ => ⟨S16x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S1x2048, .f32⟩
  | .local _ .vmem, ⟨6, _⟩ => ⟨S1x2048, .f32⟩
  | .local _ .vmem, ⟨7, _⟩ => ⟨S16x2048, .f32⟩
  | .local _ .vmem, ⟨8, _⟩ => ⟨S16x2048, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== PrepReferenceIdeal.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32x64x16 : Shape := ⟨3, ![32, 64, 16]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S1x2048 : Shape := ⟨2, ![1, 2048]⟩
abbrev S2048x16 : Shape := ⟨2, ![2048, 16]⟩
abbrev S16x2048 : Shape := ⟨2, ![16, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32, .f32⟩
  | .hbm, ⟨10, _⟩ => ⟨S32, .f32⟩
  | .hbm, ⟨11, _⟩ => ⟨S32x1, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x64x1, .f32⟩
  | .hbm, ⟨38, _⟩ => ⟨S32x64x16, .f32⟩
  | .hbm, ⟨39, _⟩ => ⟨S32x64x16, .f32⟩
  | .hbm, ⟨40, _⟩ => ⟨S32x64x1, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x64x1, .f32⟩
  | .hbm, ⟨45, _⟩ => ⟨S32x64x16, .f32⟩
  | .hbm, ⟨46, _⟩ => ⟨S32x64x16, .f32⟩
  | .hbm, ⟨47, _⟩ => ⟨S32x64x1, .f32⟩
  | .hbm, ⟨48, _⟩ => ⟨S32x64x16, .f32⟩
  | .hbm, ⟨49, _⟩ => ⟨S32x64x16, .f32⟩
  | .hbm, ⟨50, _⟩ => ⟨S32x64x16, .f32⟩
  | .hbm, ⟨51, _⟩ => ⟨S1x2048, .f32⟩
  | .hbm, ⟨52, _⟩ => ⟨S1x2048, .f32⟩
  | .hbm, ⟨53, _⟩ => ⟨S2048x16, .f32⟩
  | .hbm, ⟨54, _⟩ => ⟨S16x2048, .f32⟩
  | .hbm, ⟨55, _⟩ => ⟨S2048x16, .f32⟩
  | .hbm, ⟨56, _⟩ => ⟨S16x2048, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩

abbrev nD : Nat := 1
abbrev τ : Topo := Topo.v7x

variable {F : FTy → Type} [FloatOps F]
-- ==== Prompt.lean ====
abbrev S16384x1024 : Shape := ⟨2, ![16384, 1024]⟩
abbrev S16x3072 : Shape := ⟨2, ![16, 3072]⟩
abbrev S1x1024x6144 : Shape := ⟨3, ![1, 1024, 6144]⟩
abbrev S1x6144 : Shape := ⟨2, ![1, 6144]⟩
abbrev S1x3x3072 : Shape := ⟨3, ![1, 3, 3072]⟩
abbrev S1x3072 : Shape := ⟨2, ![1, 3072]⟩
abbrev S1x3072x1024 : Shape := ⟨3, ![1, 3072, 1024]⟩
abbrev S1x1024 : Shape := ⟨2, ![1, 1024]⟩
abbrev S1024x6144 : Shape := ⟨2, ![1024, 6144]⟩
abbrev S6144 : Shape := ⟨1, ![6144]⟩
abbrev S3x3072 : Shape := ⟨2, ![3, 3072]⟩
abbrev S3072 : Shape := ⟨1, ![3072]⟩
abbrev S3072x1024 : Shape := ⟨2, ![3072, 1024]⟩
abbrev S1024 : Shape := ⟨1, ![1024]⟩
abbrev S8x2048x1024 : Shape := ⟨3, ![8, 2048, 1024]⟩
abbrev S512x1024 : Shape := ⟨2, ![512, 1024]⟩
abbrev S8x64x1024 : Shape := ⟨3, ![8, 64, 1024]⟩
abbrev S528x3072 : Shape := ⟨2, ![528, 3072]⟩
abbrev S512x3072 : Shape := ⟨2, ![512, 3072]⟩
abbrev S1024x1536 : Shape := ⟨2, ![1024, 1536]⟩
abbrev S512x1536 : Shape := ⟨2, ![512, 1536]⟩
abbrev S1x1536 : Shape := ⟨2, ![1, 1536]⟩
abbrev S1536x1024 : Shape := ⟨2, ![1536, 1024]⟩
abbrev S512 : Shape := ⟨1, ![512]⟩
abbrev S512x1 : Shape := ⟨2, ![512, 1]⟩
abbrev S8x1024 : Shape := ⟨2, ![8, 1024]⟩
abbrev S8x1x1024 : Shape := ⟨3, ![8, 1, 1024]⟩

abbrev nBuf : Space → Nat
  | .hbm => 27
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16x3072, .f32⟩
  | .hbm, ⟨2, _⟩ => ⟨S1x1024x6144, .f32⟩
  | .hbm, ⟨3, _⟩ => ⟨S1x6144, .f32⟩
  | .hbm, ⟨4, _⟩ => ⟨S1x3x3072, .f32⟩
  | .hbm, ⟨5, _⟩ => ⟨S1x3072, .f32⟩
  | .hbm, ⟨6, _⟩ => ⟨S1x3072x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x6144, .f32⟩
  | .hbm, ⟨11, _⟩ => ⟨S1024x6144, .bf16⟩
  | .hbm, ⟨12, _⟩ => ⟨S6144, .f32⟩
  | .hbm, ⟨13, _⟩ => ⟨S1x6144, .f32⟩
  | .hbm, ⟨14, _⟩ => ⟨S3x3072, .f32⟩
  | .hbm, ⟨15, _⟩ => ⟨S3072, .f32⟩
  | .hbm, ⟨16, _⟩ => ⟨S1x3072, .f32⟩
  | .hbm, ⟨17, _⟩ => ⟨S3072x1024, .f32⟩
  | .hbm, ⟨18, _⟩ => ⟨S3072x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S8x2048x1024, .f32⟩
  | .hbm, ⟨26, _⟩ => ⟨S16x3072, .f32⟩
  | .local _ .vmem, ⟨0, _⟩ => ⟨S512x1024, .f32⟩
  | .local _ .vmem, ⟨1, _⟩ => ⟨S512x1024, .f32⟩
  | .local _ .vmem, ⟨2, _⟩ => ⟨S16x3072, .f32⟩
  | .local _ .vmem, ⟨3, _⟩ => ⟨S1024x6144, .bf16⟩
  | .local _ .vmem, ⟨4, _⟩ => ⟨S1x6144, .f32⟩
  | .local _ .vmem, ⟨5, _⟩ => ⟨S3x3072, .f32⟩
  | .local _ .vmem, ⟨6, _⟩ => ⟨S1x3072, .f32⟩
  | .local _ .vmem, ⟨7, _⟩ => ⟨S3072x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S8x64x1024, .f32⟩
  | .local _ .vmem, ⟨12, _⟩ => ⟨S8x64x1024, .f32⟩
  | .local _ .vmem, ⟨13, _⟩ => ⟨S16x3072, .f32⟩
  | .local _ .vmem, ⟨14, _⟩ => ⟨S512x1024, .bf16⟩
  | .local _ .vmem, ⟨15, _⟩ => ⟨S528x3072, .f32⟩
  | .local _ .vmem, ⟨16, _⟩ => ⟨S512x3072, .f32⟩
  | .local _ .vmem, ⟨17, _⟩ => ⟨S512x3072, .bf16⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PromptReferenceIdeal.lean ====
abbrev S16384x1024 : Shape := ⟨2, ![16384, 1024]⟩
abbrev S16x3072 : Shape := ⟨2, ![16, 3072]⟩
abbrev S1x1024x6144 : Shape := ⟨3, ![1, 1024, 6144]⟩
abbrev S1x6144 : Shape := ⟨2, ![1, 6144]⟩
abbrev S1x3x3072 : Shape := ⟨3, ![1, 3, 3072]⟩
abbrev S1x3072 : Shape := ⟨2, ![1, 3072]⟩
abbrev S1x3072x1024 : Shape := ⟨3, ![1, 3072, 1024]⟩
abbrev S1x1024 : Shape := ⟨2, ![1, 1024]⟩
abbrev S2048x8x1024 : Shape := ⟨3, ![2048, 8, 1024]⟩
abbrev S8x2048x1024 : Shape := ⟨3, ![8, 2048, 1024]⟩
abbrev S2x8x3072 : Shape := ⟨3, ![2, 8, 3072]⟩
abbrev S8x2x3072 : Shape := ⟨3, ![8, 2, 3072]⟩
abbrev S1024x6144 : Shape := ⟨2, ![1024, 6144]⟩
abbrev S8x2048x6144 : Shape := ⟨3, ![8, 2048, 6144]⟩
abbrev S6144 : Shape := ⟨1, ![6144]⟩
abbrev S1x1x6144 : Shape := ⟨3, ![1, 1, 6144]⟩
abbrev S8x2048x3072 : Shape := ⟨3, ![8, 2048, 3072]⟩
abbrev S3x3072 : Shape := ⟨2, ![3, 3072]⟩
abbrev S3072 : Shape := ⟨1, ![3072]⟩
abbrev S8x2050x3072 : Shape := ⟨3, ![8, 2050, 3072]⟩
abbrev S1x1x3072 : Shape := ⟨3, ![1, 1, 3072]⟩
abbrev S_ : Shape := ⟨0, ![]⟩
abbrev S3072x1024 : Shape := ⟨2, ![3072, 1024]⟩
abbrev S1024 : Shape := ⟨1, ![1024]⟩
abbrev S1x1x1024 : Shape := ⟨3, ![1, 1, 1024]⟩
abbrev S8x2048 : Shape := ⟨2, ![8, 2048]⟩
abbrev S8x2048x1 : Shape := ⟨3, ![8, 2048, 1]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x3072, .f32⟩
  | .hbm, ⟨2, _⟩ => ⟨S1x1024x6144, .f32⟩
  | .hbm, ⟨3, _⟩ => ⟨S1x6144, .f32⟩
  | .hbm, ⟨4, _⟩ => ⟨S1x3x3072, .f32⟩
  | .hbm, ⟨5, _⟩ => ⟨S1x3072, .f32⟩
  | .hbm, ⟨6, _⟩ => ⟨S1x3072x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2048x8x1024, .f32⟩
  | .hbm, ⟨11, _⟩ => ⟨S8x2048x1024, .f32⟩
  | .hbm, ⟨12, _⟩ => ⟨S2x8x3072, .f32⟩
  | .hbm, ⟨13, _⟩ => ⟨S8x2x3072, .f32⟩
  | .hbm, ⟨14, _⟩ => ⟨S1024x6144, .f32⟩
  | .hbm, ⟨15, _⟩ => ⟨S8x2048x6144, .f32⟩
  | .hbm, ⟨16, _⟩ => ⟨S6144, .f32⟩
  | .hbm, ⟨17, _⟩ => ⟨S1x1x6144, .f32⟩
  | .hbm, ⟨18, _⟩ => ⟨S8x2048x6144, .f32⟩
  | .hbm, ⟨19, _⟩ => ⟨S8x2048x6144, .f32⟩
  | .hbm, ⟨20, _⟩ => ⟨S8x2048x3072, .f32⟩
  | .hbm, ⟨21, _⟩ => ⟨S8x2048x3072, .f32⟩
  | .hbm, ⟨22, _⟩ => ⟨S3x3072, .f32⟩
  | .hbm, ⟨23, _⟩ => ⟨S3072, .f32⟩
  | .hbm, ⟨24, _⟩ => ⟨S8x2050x3072, .f32⟩
  | .hbm, ⟨25, _⟩ => ⟨S8x2048x3072, .f32⟩
  | .hbm, ⟨26, _⟩ => ⟨S1x3072, .f32⟩
  | .hbm, ⟨27, _⟩ => ⟨S3072, .f32⟩
  | .hbm, ⟨28, _⟩ => ⟨S1x1x3072, .f32⟩
  | .hbm, ⟨29, _⟩ => ⟨S8x2048x3072, .f32⟩
  | .hbm, ⟨30, _⟩ => ⟨S8x2048x3072, .f32⟩
  | .hbm, ⟨31, _⟩ => ⟨S_, .f32⟩
  | .hbm, ⟨32, _⟩ => ⟨S8x2048x3072, .f32⟩
  | .hbm, ⟨33, _⟩ => ⟨S8x2048x3072, .f32⟩
  | .hbm, ⟨34, _⟩ => ⟨S8x2048x3072, .f32⟩
  | .hbm, ⟨35, _⟩ => ⟨S1x3072, .f32⟩
  | .hbm, ⟨36, _⟩ => ⟨S3072, .f32⟩
  | .hbm, ⟨37, _⟩ => ⟨S1x1x3072, .f32⟩
  | .hbm, ⟨38, _⟩ => ⟨S8x2048x3072, .f32⟩
  | .hbm, ⟨39, _⟩ => ⟨S8x2048x3072, .f32⟩
  | .hbm, ⟨40, _⟩ => ⟨S8x2048x3072, .f32⟩
  | .hbm, ⟨41, _⟩ => ⟨S8x2048x3072, .f32⟩
  | .hbm, ⟨42, _⟩ => ⟨S1x3072, .f32⟩
  | .hbm, ⟨43, _⟩ => ⟨S3072, .f32⟩
  | .hbm, ⟨44, _⟩ => ⟨S1x1x3072, .f32⟩
  | .hbm, ⟨45, _⟩ => ⟨S8x2048x3072, .f32⟩
  | .hbm, ⟨46, _⟩ => ⟨S8x2048x3072, .f32⟩
  | .hbm, ⟨47, _⟩ => ⟨S8x2048x3072, .f32⟩
  | .hbm, ⟨48, _⟩ => ⟨S1x1x3072, .f32⟩
  | .hbm, ⟨49, _⟩ => ⟨S8x2048x3072, .f32⟩
  | .hbm, ⟨50, _⟩ => ⟨S8x2048x3072, .f32⟩
  | .hbm, ⟨51, _⟩ => ⟨S8x2x3072, .f32⟩
  | .hbm, ⟨52, _⟩ => ⟨S8x2048x3072, .f32⟩
  | .hbm, ⟨53, _⟩ => ⟨S8x2048x3072, .f32⟩
  | .hbm, ⟨54, _⟩ => ⟨S_, .f32⟩
  | .hbm, ⟨55, _⟩ => ⟨S8x2048x3072, .f32⟩
  | .hbm, ⟨56, _⟩ => ⟨S8x2048x3072, .f32⟩
  | .hbm, ⟨57, _⟩ => ⟨S8x2048x3072, .f32⟩
  | .hbm, ⟨58, _⟩ => ⟨S_, .f32⟩
  | .hbm, ⟨59, _⟩ => ⟨S8x2048x3072, .f32⟩
  | .hbm, ⟨60, _⟩ => ⟨S8x2048x3072, .f32⟩
  | .hbm, ⟨61, _⟩ => ⟨S8x2048x3072, .f32⟩
  | .hbm, ⟨62, _⟩ => ⟨S_, .f32⟩
  | .hbm, ⟨63, _⟩ => ⟨S8x2048x3072, .f32⟩
  | .hbm, ⟨64, _⟩ => ⟨S8x2048x3072, .f32⟩
  | .hbm, ⟨65, _⟩ => ⟨S_, .f32⟩
  | .hbm, ⟨66, _⟩ => ⟨S8x2048x3072, .f32⟩
  | .hbm, ⟨67, _⟩ => ⟨S8x2048x3072, .f32⟩
  | .hbm, ⟨68, _⟩ => ⟨S8x2048x3072, .f32⟩
  | .hbm, ⟨69, _⟩ => ⟨S8x2048x3072, .f32⟩
  | .hbm, ⟨70, _⟩ => ⟨S_, .f32⟩
  | .hbm, ⟨71, _⟩ => ⟨S8x2048x1024, .f32⟩
  | .hbm, ⟨72, _⟩ => ⟨S8x2048x1024, .f32⟩
  | .hbm, ⟨73, _⟩ => ⟨S3072x1024, .f32⟩
  | .hbm, ⟨74, _⟩ => ⟨S8x2048x1024, .f32⟩
  | .hbm, ⟨75, _⟩ => ⟨S1024, .f32⟩
  | .hbm, ⟨76, _⟩ => ⟨S1x1x1024, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S1024, .f32⟩
  | .hbm, ⟨81, _⟩ => ⟨S1024, .f32⟩
  | .hbm, ⟨82, _⟩ => ⟨S_, .f32⟩
  | .hbm, ⟨83, _⟩ => ⟨S8x2048, .f32⟩
  | .hbm, ⟨84, _⟩ => ⟨S8x2048x1, .f32⟩
  | .hbm, ⟨85, _⟩ => ⟨S_, .f32⟩
  | .hbm, ⟨86, _⟩ => ⟨S8x2048x1, .f32⟩
  | .hbm, ⟨87, _⟩ => ⟨S8x2048x1, .f32⟩
  | .hbm, ⟨88, _⟩ => ⟨S8x2048x1024, .f32⟩
  | .hbm, ⟨89, _⟩ => ⟨S8x2048x1024, .f32⟩
  | .hbm, ⟨90, _⟩ => ⟨S8x2048x1024, .f32⟩
  | .hbm, ⟨91, _⟩ => ⟨S_, .f32⟩
  | .hbm, ⟨92, _⟩ => ⟨S8x2048, .f32⟩
  | .hbm, ⟨93, _⟩ => ⟨S8x2048x1, .f32⟩
  | .hbm, ⟨94, _⟩ => ⟨S_, .f32⟩
  | .hbm, ⟨95, _⟩ => ⟨S8x2048x1, .f32⟩
  | .hbm, ⟨96, _⟩ => ⟨S8x2048x1, .f32⟩
  | .hbm, ⟨97, _⟩ => ⟨S8x2048x1024, .f32⟩
  | .hbm, ⟨98, _⟩ => ⟨S8x2048x1024, .f32⟩
  | .hbm, ⟨99, _⟩ => ⟨S_, .f32⟩
  | .hbm, ⟨100, _⟩ => ⟨S8x2048x1, .f32⟩
  | .hbm, ⟨101, _⟩ => ⟨S8x2048x1, .f32⟩
  | .hbm, ⟨102, _⟩ => ⟨S8x2048x1, .f32⟩
  | .hbm, ⟨103, _⟩ => ⟨S8x2048x1024, .f32⟩
  | .hbm, ⟨104, _⟩ => ⟨S8x2048x1024, .f32⟩
  | .hbm, ⟨105, _⟩ => ⟨S1x1x1024, .f32⟩
  | .hbm, ⟨106, _⟩ => ⟨S8x2048x1024, .f32⟩
  | .hbm, ⟨107, _⟩ => ⟨S8x2048x1024, .f32⟩
  | .hbm, ⟨108, _⟩ => ⟨S1x1x1024, .f32⟩
  | .hbm, ⟨109, _⟩ => ⟨S8x2048x1024, .f32⟩
  | .hbm, ⟨110, _⟩ => ⟨S8x2048x1024, .f32⟩
  | .hbm, ⟨111, _⟩ => ⟨S2x8x3072, .f32⟩
  | .hbm, ⟨112, _⟩ => ⟨S16x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_2 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_4 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_5 : Ref sig .tc := ⟨.hbm, 82, rfl⟩
abbrev main_v66 : Ref sig .tc := ⟨.hbm, 83, rfl⟩
abbrev main_v67 : Ref sig .tc := ⟨.hbm, 84, rfl⟩
abbrev main_cst_6 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_7 : Ref sig .tc := ⟨.hbm, 91, rfl⟩
abbrev main_v73 : Ref sig .tc := ⟨.hbm, 92, rfl⟩
abbrev main_v74 : Ref sig .tc := ⟨.hbm, 93, rfl⟩
abbrev main_cst_8 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_9 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩

abbrev nD : Nat := 1
abbrev τ : Topo := Topo.v7x

variable {F : FTy → Type} [FloatOps F]
-- ==== Proof.Mat.lean ====
/- Matrices by their coordinates. `Mat X f` says that the rank-two array `X` holds `f i j` at row `i` and column `j`, with `f` a
   function of two natural numbers: what a load, a store, a matrix product, a broadcast or a row sum does to an array is then
   a statement about such functions, without index types. -/
module

public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Mat

open Idealize.ShloMosaic hiding ix1 ix2 ix3 ix4 eq_ix2
open Idealize.ShloMosaic.ValueIdx
open scoped BigOperators

variable {α : Type}

/-! ## Arrays as functions of their coordinates -/

/-- The rank-two array `X` holds `f i j` at `(i, j)`. -/
def Mat {m n : ℕ} (X : (⟨2, ![m, n]⟩ : Shape).Idx → α) (f : ℕ → ℕ → α) : Prop :=
  ∀ i, X i = f (i 0).val (i 1).val

/-- A vector's entry at a natural number (zero outside). -/
def at1 {a : ℕ} (X : (⟨1, ![a]⟩ : Shape).Idx → EReal) (i : ℕ) : EReal :=
  if h : i < a then X (ix1 ⟨i, h⟩) else 0

/-- A matrix's entry at two natural numbers (zero outside). -/
def at2 {a b : ℕ} (X : (⟨2, ![a, b]⟩ : Shape).Idx → EReal) (i j : ℕ) : EReal :=
  if h : i < a ∧ j < b then X (ix2 ⟨i, h.1⟩ ⟨j, h.2⟩) else 0

/-- A rank-three array's entry at three natural numbers (zero outside). -/
def at3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

/-- A rank-four array's entry at four natural numbers (zero outside). -/
def at4 {a b c d : ℕ} (X : (⟨4, ![a, b, c, d]⟩ : Shape).Idx → EReal) (i j k l : ℕ) : EReal :=
  if h : i < a ∧ j < b ∧ k < c ∧ l < d then X (ix4 ⟨i, h.1⟩ ⟨j, h.2.1⟩ ⟨k, h.2.2.1⟩ ⟨l, h.2.2.2⟩) else 0

/-- A vector at an index is its entry at the coordinate. -/
theorem at1_eq {a : ℕ} (X : (⟨1, ![a]⟩ : Shape).Idx → EReal) (i) : X i = at1 X (i 0).val := by
  rw [at1, dif_pos (show (i 0).val < a from (i 0).isLt)]
  exact congrArg X (funext fun x => by match x with | ⟨0, _⟩ => rfl)

/-- A matrix at an index is its entry at the two coordinates. -/
theorem at2_eq {a b : ℕ} (X : (⟨2, ![a, b]⟩ : Shape).Idx → EReal) (i) : X i = at2 X (i 0).val (i 1).val := by
  rw [at2, dif_pos (show (i 0).val < a ∧ (i 1).val < b from ⟨(i 0).isLt, (i 1).isLt⟩)]
  exact congrArg X (funext fun x => by match x with | ⟨0, _⟩ => rfl | ⟨1, _⟩ => rfl)

/-- A rank-three array at an index is its entry at the three coordinates. -/
theorem at3_eq {a b c : ℕ} (X : (⟨3, ![a, b, c]⟩ : Shape).Idx → EReal) (i) : X i = at3 X (i 0).val (i 1).val (i 2).val := by
  rw [at3, dif_pos (show (i 0).val < a ∧ (i 1).val < b ∧ (i 2).val < c from ⟨(i 0).isLt, (i 1).isLt, (i 2).isLt⟩)]
  exact congrArg X (funext fun x => by match x with | ⟨0, _⟩ => rfl | ⟨1, _⟩ => rfl | ⟨2, _⟩ => rfl)

/-- A rank-four array at an index is its entry at the four coordinates. -/
theorem at4_eq {a b c d : ℕ} (X : (⟨4, ![a, b, c, d]⟩ : Shape).Idx → EReal) (i) :
    X i = at4 X (i 0).val (i 1).val (i 2).val (i 3).val := by
  rw [at4, dif_pos (show (i 0).val < a ∧ (i 1).val < b ∧ (i 2).val < c ∧ (i 3).val < d from
    ⟨(i 0).isLt, (i 1).isLt, (i 2).isLt, (i 3).isLt⟩)]
  exact congrArg X (funext fun x => by match x with | ⟨0, _⟩ => rfl | ⟨1, _⟩ => rfl | ⟨2, _⟩ => rfl | ⟨3, _⟩ => rfl)

/-- Every matrix holds its own entries. -/
theorem mat_at2 {a b : ℕ} (X : (⟨2, ![a, b]⟩ : Shape).Idx → EReal) : Mat X (at2 X) := at2_eq X

/-- A `Mat` at an index given by its coordinates. -/
theorem Mat.at_ix2 {m n : ℕ} {X : (⟨2, ![m, n]⟩ : Shape).Idx → α} {f : ℕ → ℕ → α} (h : Mat X f) (i : Fin m) (j : Fin n) :
    X (ix2 i j) = f i.val j.val := h _

/-- Two functions that agree inside the shape describe the same array. -/
theorem Mat.congr {m n : ℕ} {X : (⟨2, ![m, n]⟩ : Shape).Idx → α} {f g : ℕ → ℕ → α} (h : Mat X f)
    (e : ∀ i j, i < m → j < n → f i j = g i j) : Mat X g :=
  fun i => (h i).trans (e _ _ (i 0).isLt (i 1).isLt)

/-- Two arrays described by the same function are equal. -/
theorem Mat.unique {m n : ℕ} {X Y : (⟨2, ![m, n]⟩ : Shape).Idx → α} {f : ℕ → ℕ → α} (h : Mat X f) (h' : Mat Y f) : X = Y :=
  funext fun i => (h i).trans (h' i).symm

/-! ## Loads and stores -/

variable {Val : EltTy → Type} {e : EltTy}

/-- The part of the contents left by a list of stores where `P` holds is described by `f`. -/
def OnMat [∀ e, Nonempty (Val e)] {m n : ℕ} (L : List (View.Piece Val ⟨2, ![m, n]⟩ e)) (f : ℕ → ℕ → Val e) (P : ℕ → ℕ → Prop) : Prop :=
  ∀ y, P (y 0).val (y 1).val → View.canon L y = f (y 0).val (y 1).val

/-- One more store of a rectangle: inside it the payload is read, outside it what was there before. -/
theorem OnMat.cons [∀ e, Nonempty (Val e)] {m n a b p q : ℕ} {L : List (View.Piece Val ⟨2, ![m, n]⟩ e)}
    {f g : ℕ → ℕ → Val e} {P Q : ℕ → ℕ → Prop}
    (inb : ∀ x, (![a, b] : Fin 2 → ℕ) x + (![p, q] : Fin 2 → ℕ) x ≤ (⟨2, ![m, n]⟩ : Shape).size x)
    {w : (⟨2, ![p, q]⟩ : Shape).Idx → Val e}
    (hL : OnMat L f Q) (hw : Mat w g)
    (hin : ∀ i j, i < p → j < q → P (a + i) (b + j) → g i j = f (a + i) (b + j))
    (hout : ∀ i j, P i j → ¬(a ≤ i ∧ i < a + p ∧ b ≤ j ∧ j < b + q) → Q i j) :
    OnMat (⟨Rect.unit ![a, b] ![p, q] inb, w⟩ :: L) f P := by
  intro y hy
  by_cases hm : a ≤ (y 0).val ∧ (y 0).val < a + p ∧ b ≤ (y 1).val ∧ (y 1).val < b + q
  · obtain ⟨h0, h1, h2, h3⟩ := hm
    have hy' : (Rect.unit (s := ⟨2, ![m, n]⟩) ![a, b] ![p, q] inb).emb
        (ix2 (⟨(y 0).val - a, by omega⟩ : Fin p) (⟨(y 1).val - b, by omega⟩ : Fin q)) = y := by
      funext x
      match x with
      | ⟨0, _⟩ => exact Fin.ext (show a + 1 * ((y 0).val - a) = (y 0).val by omega)
      | ⟨1, _⟩ => exact Fin.ext (show b + 1 * ((y 1).val - b) = (y 1).val by omega)
    have e0 : a + ((y 0).val - a) = (y 0).val := by omega
    have e1 : b + ((y 1).val - b) = (y 1).val := by omega
    have h := hin ((y 0).val - a) ((y 1).val - b) (by omega) (by omega) (by rw [e0, e1]; exact hy)
    rw [e0, e1] at h
    rw [← h]
    conv_lhs => rw [← hy']
    rw [View.canon_cons_emb]
    exact hw _
  · rw [View.canon_cons_of_not_mem _ _ fun h => hm ?_]
    · exact hL y (hout _ _ hy hm)
    · have h' := (Rect.mem_set_unit (inb := inb)).mp h
      exact ⟨(h' 0).1, (h' 0).2, (h' 1).1, (h' 1).2⟩

/-- Nothing is said of the contents where nothing is asked. -/
theorem OnMat.nil [∀ e, Nonempty (Val e)] {m n : ℕ} {L : List (View.Piece Val ⟨2, ![m, n]⟩ e)} {f : ℕ → ℕ → Val e} :
    OnMat L f (fun _ _ => False) := fun _ h => False.elim h

/-- A store of a rectangle that holds the whole of the part asked for. -/
theorem OnMat.fill [∀ e, Nonempty (Val e)] {m n a b p q : ℕ} {L : List (View.Piece Val ⟨2, ![m, n]⟩ e)}
    {f g : ℕ → ℕ → Val e} {P : ℕ → ℕ → Prop}
    (inb : ∀ x, (![a, b] : Fin 2 → ℕ) x + (![p, q] : Fin 2 → ℕ) x ≤ (⟨2, ![m, n]⟩ : Shape).size x)
    {w : (⟨2, ![p, q]⟩ : Shape).Idx → Val e} (hw : Mat w g)
    (hin : ∀ i j, i < p → j < q → P (a + i) (b + j) → g i j = f (a + i) (b + j))
    (hout : ∀ i j, P i j → a ≤ i ∧ i < a + p ∧ b ≤ j ∧ j < b + q) :
    OnMat (⟨Rect.unit ![a, b] ![p, q] inb, w⟩ :: L) f P :=
  OnMat.cons inb OnMat.nil hw hin fun i j h h' => h' (hout i j h)

/-- A smaller part. -/
theorem OnMat.mono [∀ e, Nonempty (Val e)] {m n : ℕ} {L : List (View.Piece Val ⟨2, ![m, n]⟩ e)} {f : ℕ → ℕ → Val e}
    {P Q : ℕ → ℕ → Prop} (h : OnMat L f Q) (hPQ : ∀ i j, P i j → Q i j) : OnMat L f P := fun y hy => h y (hPQ _ _ hy)

/-- A load of a rectangle out of what a list of stores left. -/
theorem OnMat.load [∀ e, Nonempty (Val e)] {sig : RefSig} {κ : Kind} {sp : Space} {m n a b p q : ℕ}
    {v : View sig κ sp ⟨2, ![m, n]⟩ e} {L : List (View.Piece Val ⟨2, ![m, n]⟩ e)} {f : ℕ → ℕ → Val e} {P : ℕ → ℕ → Prop}
    (inb : ∀ x, (![a, b] : Fin 2 → ℕ) x + (![p, q] : Fin 2 → ℕ) x ≤ (⟨2, ![m, n]⟩ : Shape).size x)
    (hL : OnMat L f P) (hP : ∀ i j, i < p → j < q → P (a + i) (b + j)) :
    Mat (m := p) (n := q) (v.readCov L (Rect.unit ![a, b] ![p, q] inb).toLoadRect) (fun i j => f (a + i) (b + j)) := by
  intro x
  rw [View.readCov_eq_canon']
  have e0 : (((Rect.unit (s := ⟨2, ![m, n]⟩) ![a, b] ![p, q] inb).toLoadRect.idx x) 0).val = a + (x 0).val := by
    show a + 1 * (x 0).val = _; omega
  have e1 : (((Rect.unit (s := ⟨2, ![m, n]⟩) ![a, b] ![p, q] inb).toLoadRect.idx x) 1).val = b + (x 1).val := by
    show b + 1 * (x 1).val = _; omega
  have := hL ((Rect.unit (s := ⟨2, ![m, n]⟩) ![a, b] ![p, q] inb).toLoadRect.idx x)
  rw [e0, e1] at this
  exact this (hP _ _ (x 0).isLt (x 1).isLt)

/-- A load of a rectangle out of an input block. -/
theorem Mat.load [∀ e, Nonempty (Val e)] {sig : RefSig} {κ : Kind} {sp : Space} {m n a b p q : ℕ}
    {mr : Memref sig κ sp ⟨2, ![m, n]⟩ e} (hw : mr.IsWhole) {X : (⟨2, ![m, n]⟩ : Shape).Idx → Val e} {f : ℕ → ℕ → Val e}
    (inb : ∀ x, (![a, b] : Fin 2 → ℕ) x + (![p, q] : Fin 2 → ℕ) x ≤ (⟨2, ![m, n]⟩ : Shape).size x)
    (hX : Mat X f) :
    Mat (m := p) (n := q) (View.readAt Val mr.view (Rect.unit ![a, b] ![p, q] inb).toLoadRect (hw.unread X))
      (fun i j => f (a + i) (b + j)) := by
  intro x
  have e0 : (((Rect.unit (s := ⟨2, ![m, n]⟩) ![a, b] ![p, q] inb).toLoadRect.idx x) 0).val = a + (x 0).val := by
    show a + 1 * (x 0).val = _; omega
  have e1 : (((Rect.unit (s := ⟨2, ![m, n]⟩) ![a, b] ![p, q] inb).toLoadRect.idx x) 1).val = b + (x 1).val := by
    show b + 1 * (x 1).val = _; omega
  have h := hX ((Rect.unit (s := ⟨2, ![m, n]⟩) ![a, b] ![p, q] inb).toLoadRect.idx x)
  rw [e0, e1] at h
  refine Eq.trans ?_ h
  rw [View.readAt_apply, Memref.IsWhole.read_unread]

/-! ## The operations -/

/-- A matrix product into a zero accumulator, at an index. -/
theorem matmul_at {M K N : ℕ} {φ₁ φ₂ : FTy} {d : DotDims ⟨2, ![M, K]⟩ ⟨2, ![K, N]⟩ ⟨2, ![M, N]⟩} (hd : d = DotDims.plain M K N)
    (lhs : FVec Ideal ⟨2, ![M, K]⟩ φ₁) (rhs : FVec Ideal ⟨2, ![K, N]⟩ φ₂) (i : (⟨2, ![M, N]⟩ : Shape).Idx) :
    matmul d none lhs rhs (constant (F := Ideal) ⟨2, ![M, N]⟩ .f32 0x00000000#32) i
      = ∑ k : Fin K, lhs (ix2 (i 0) k) * rhs (ix2 k (i 1)) := by
  subst hd
  rw [eq_ix2 i]
  refine (Ideal.matmul_plain_apply none lhs rhs _ (i 0) (i 1)).trans ?_
  have : (constant (F := Ideal) ⟨2, ![M, N]⟩ .f32 0x00000000#32) (ix2 (i 0) (i 1)) = (0 : EReal) := Ideal.ofBits_zero .f32
  rw [this, zero_add]
  rfl

/-- A matrix product into a zero accumulator, through the operands' entries. -/
theorem Mat.matmul {M K N : ℕ} {φ₁ φ₂ : FTy} {d : DotDims ⟨2, ![M, K]⟩ ⟨2, ![K, N]⟩ ⟨2, ![M, N]⟩} (hd : d = DotDims.plain M K N)
    {lhs : FVec Ideal ⟨2, ![M, K]⟩ φ₁} {rhs : FVec Ideal ⟨2, ![K, N]⟩ φ₂} {f g : ℕ → ℕ → EReal} (hl : Mat lhs f) (hr : Mat rhs g) :
    Mat (Idealize.ShloMosaic.matmul d none lhs rhs (constant (F := Ideal) ⟨2, ![M, N]⟩ .f32 0x00000000#32))
      (fun i j => ∑ k : Fin K, f i k.val * g k.val j) := by
  intro i
  rw [matmul_at hd]
  exact Finset.sum_congr rfl fun k _ => by rw [hl, hr]; rfl

/-- One row broadcast over many. -/
theorem row_at {m n : ℕ} (v : (⟨2, ![1, n]⟩ : Shape).Idx → α) (h : (⟨2, ![1, n]⟩ : Shape).Broadcasts ⟨2, ![m, n]⟩) (i) :
    broadcastTo ⟨2, ![m, n]⟩ v h i = v (ix2 (0 : Fin 1) (i 1)) := by
  conv_lhs => rw [eq_ix2 i]
  exact broadcastTo_1b_ab_apply v h (i 0) (i 1)

/-- One column broadcast over many. -/
theorem col_at {m n : ℕ} (v : (⟨2, ![m, 1]⟩ : Shape).Idx → α) (h : (⟨2, ![m, 1]⟩ : Shape).Broadcasts ⟨2, ![m, n]⟩) (i) :
    broadcastTo ⟨2, ![m, n]⟩ v h i = v (ix2 (i 0) (0 : Fin 1)) :=
  broadcastTo_apply v h i _ fun a => by
    match a with
    | ⟨0, _⟩ =>
      show (i 0).val = if m = 1 then 0 else (i 0).val
      have : (i 0).val < m := (i 0).isLt
      split <;> omega
    | ⟨1, _⟩ => rfl

/-- A vector reshaped to a column. -/
theorem column_at {m : ℕ} (v : (⟨1, ![m]⟩ : Shape).Idx → α) (h : (⟨1, ![m]⟩ : Shape).ShapeCasts ⟨2, ![m, 1]⟩) (i) :
    shapeCast ⟨2, ![m, 1]⟩ v h i = v (ix1 (i 0)) :=
  shapeCast_apply v h i _ (by
    rw [Shape.rowMajor_val_one, Shape.rowMajor_val_two]
    have : (i 1).val < 1 := (i 1).isLt
    show (i 0).val = (i 0).val * 1 + (i 1).val
    omega)

/-- A hyperbolic tangent at an index. -/
theorem tanh_at {s : Shape} {φ : FTy} (a : FVec Ideal s φ) (i) : tanh a i = Ideal.tanh (a i) := rfl

/-- A reciprocal square root at an index. -/
theorem rsqrt_at {s : Shape} {φ : FTy} (a : FVec Ideal s φ) (i) : rsqrt a i = Ideal.rsqrt (a i) := rfl

/-- A square root at an index. -/
theorem sqrt_at {s : Shape} {φ : FTy} (a : FVec Ideal s φ) (i) : sqrt a i = Ideal.sqrt (a i) := rfl

/-- An exponential at an index. -/
theorem exp_at {s : Shape} {φ : FTy} (a : FVec Ideal s φ) (i) : exp a i = Ideal.exp (a i) := rfl

/-- A sum along the rows. -/
theorem rowsum_at {m n : ℕ} {φ : FTy} (src : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ) (i) :
    multiReduction .add [1] ⟨1, ![m]⟩ src acc h hφ hacc i = ∑ k : Fin n, src (ix2 (i 0) k) := by
  refine (Ideal.multiReduction_add_single src acc h hφ hacc i).trans ?_
  refine Finset.sum_congr rfl fun k _ => congrArg src (funext fun a => ?_)
  match a with
  | ⟨0, _⟩ => exact Fin.ext rfl
  | ⟨1, _⟩ => exact Fin.ext rfl

end Cert.Mat
-- ==== Proof.FfnSpec.lean ====
/- The convolutional feed-forward block written as plain functions of row and column numbers, time-major: the rows are the (time, stream)
   pairs, `B` streams per time step, and the convolution looks one and two time steps back, that is `B` and `2 * B` rows. -/
module

public import Idealize.ShloMosaic.Lib.ValueIdx

@[expose] public section

noncomputable section

namespace Cert.FfnSpec

open Idealize.ShloMosaic
open scoped BigOperators

/-- The up projection with its bias. -/
def up (x w : ℕ → ℕ → EReal) (b : ℕ → EReal) (i j : ℕ) : EReal := (∑ k : Fin 1024, x i k.val * w k.val j) + b j

/-- The convolution's input: the two cached time steps, then the gate half of the up projection. -/
def gate (B : ℕ) (cache : ℕ → ℕ → EReal) (x w : ℕ → ℕ → EReal) (b : ℕ → EReal) (i j : ℕ) : EReal :=
  if i < 2 * B then cache i j else up x w b (i - 2 * B) j

/-- The depthwise causal convolution with three taps. -/
def conv (B : ℕ) (g : ℕ → ℕ → EReal) (cw : ℕ → ℕ → EReal) (cb : ℕ → EReal) (i j : ℕ) : EReal :=
  cb j + cw 0 j * g i j + cw 1 j * g (i + B) j + cw 2 j * g (i + 2 * B) j

/-- The tanh form of gelu. -/
def gelu (z : EReal) : EReal :=
  Ideal.ofBits .f32 0x3F000000#32 * z *
    (Ideal.ofBits .f32 0x3F800000#32 + Ideal.tanh (Ideal.ofBits .f32 0x3F4C422A#32 * (z + Ideal.ofBits .f32 0x3D372713#32 * (z * z * z))))

/-- The hidden activation: gelu of the convolution times the value half of the up projection. -/
def hid (B : ℕ) (cache : ℕ → ℕ → EReal) (x w : ℕ → ℕ → EReal) (b : ℕ → EReal) (cw : ℕ → ℕ → EReal) (cb : ℕ → EReal) (i j : ℕ) : EReal :=
  gelu (conv B (gate B cache x w b) cw cb i j) * up x w b i (3072 + j)

/-- The down projection with its bias. -/
def down (h wd : ℕ → ℕ → EReal) (bd : ℕ → EReal) (i j : ℕ) : EReal := (∑ k : Fin 3072, h i k.val * wd k.val j) + bd j

/-- The scaled residual sum. -/
def res (x d : ℕ → ℕ → EReal) (i j : ℕ) : EReal := Ideal.ofBits .f32 0x3F9837F0#32 * x i j + d i j

/-- A row's mean over its 1024 columns. -/
def mean (r : ℕ → ℕ → EReal) (i : ℕ) : EReal := Ideal.div (∑ k : Fin 1024, r i k.val) (Ideal.ofBits .f32 0x44800000#32)

/-- A row with its mean taken off. -/
def centred (r : ℕ → ℕ → EReal) (i j : ℕ) : EReal := r i j - mean r i

/-- The layer norm of a row. -/
def norm (r : ℕ → ℕ → EReal) (g b : ℕ → EReal) (i j : ℕ) : EReal :=
  centred r i j * Ideal.rsqrt (mean (fun i j => centred r i j * centred r i j) i + Ideal.ofBits .f32 0x3727C5AC#32) * g j + b j

/-- The block's output. -/
def out (B : ℕ) (x cache w : ℕ → ℕ → EReal) (b : ℕ → EReal) (cw : ℕ → ℕ → EReal) (cb : ℕ → EReal) (wd : ℕ → ℕ → EReal)
    (bd g be : ℕ → EReal) : ℕ → ℕ → EReal :=
  norm (res x (down (hid B cache x w b cw cb) wd bd)) g be

end Cert.FfnSpec
-- ==== Proof.FfnKernel.lean ====
/- What the feed-forward kernel's body leaves in its two output blocks at one grid point, as the functions of Proof/FfnSpec.lean: the
   payloads first, then the contents of each scratch buffer as the stores build it up, then the two outputs. -/
module

public import proofs.«01_k».proof.Proof.Gen.FfnIdeal.Frame
import all proofs.«01_k».proof.Proof.Gen.FfnIdeal.Frame
public import proofs.«01_k».proof.Proof.Mat
public import proofs.«01_k».proof.Proof.FfnSpec

@[expose] public section

set_option maxRecDepth 16384

noncomputable section

namespace Cert.FfnKernel

open Cert.FfnIdeal Cert.FfnIdeal.Gen Cert.Mat Idealize.ShloMosaic
open Idealize.ShloMosaic.ValueIdx (mulf_apply addf_apply subf_apply divf_apply constant_apply truncf_apply broadcast_apply)
open scoped BigOperators

/-! ## The payloads -/

/-- The up projection of a slab of columns. -/
theorem pay_up {a : Vec Ideal S128x1024 .bf16} {w : Vec Ideal S1024x1536 .bf16} {b : Vec Ideal S1x1536 .f32} {A W : ℕ → ℕ → EReal}
    {bb : ℕ → ℕ → EReal} (ha : Mat a A) (hw : Mat w W) (hb : Mat b bb) :
    Mat (k0_pay5 (F := Ideal) a w b) (fun i j => (∑ k : Fin 1024, A i k.val * W k.val j) + bb 0 j) := by
  intro i
  simp only [k0_pay5, shapeCast_self, addf_apply]
  refine congrArg₂ (· + ·) (Mat.matmul rfl ha hw i) ?_
  rw [row_at, hb]
  rfl

/-- The convolution, gelu and product with the value half, on a slab of columns. -/
theorem pay_hid {b t0 t1 t2 : Vec Ideal S1x1536 .f32} {g0 g1 g2 v : Vec Ideal S128x1536 .f32} {B T0 T1 T2 G0 G1 G2 V : ℕ → ℕ → EReal}
    (hb : Mat b B) (h0 : Mat t0 T0) (h1 : Mat t1 T1) (h2 : Mat t2 T2) (k0 : Mat g0 G0) (k1 : Mat g1 G1) (k2 : Mat g2 G2) (hv : Mat v V) :
    Mat (k0_pay7 (F := Ideal) b t0 g0 t1 g1 t2 g2 v)
      (fun i j => FfnSpec.gelu (B 0 j + T0 0 j * G0 i j + T1 0 j * G1 i j + T2 0 j * G2 i j) * V i j) := by
  intro i
  beta_reduce
  rw [← hv i, ← k0 i, ← k1 i, ← k2 i]
  simp only [k0_pay7, shapeCast_self, addf_apply, mulf_apply, truncf_apply, broadcast_apply, row_at, tanh_at, FfnSpec.gelu]
  rw [hb, h0, h1, h2]
  rfl

/-- The down projection of the first slab with the bias. -/
theorem pay_down {h : Vec Ideal S128x1536 .bf16} {w : Vec Ideal S1536x1024 .bf16} {b : Vec Ideal S1x1024 .f32} {H W : ℕ → ℕ → EReal}
    {bb : ℕ → ℕ → EReal} (hh : Mat h H) (hw : Mat w W) (hb : Mat b bb) :
    Mat (k0_pay9 (F := Ideal) h w b) (fun i j => (∑ k : Fin 1536, H i k.val * W k.val j) + bb 0 j) := by
  intro i
  simp only [k0_pay9, shapeCast_self, addf_apply]
  refine congrArg₂ (· + ·) (Mat.matmul rfl hh hw i) ?_
  rw [row_at, hb]
  rfl

/-- The down projection of the second slab added to what is there. -/
theorem pay_down_add {h : Vec Ideal S128x1536 .bf16} {w : Vec Ideal S1536x1024 .bf16} {t : Vec Ideal S128x1024 .f32} {H W T : ℕ → ℕ → EReal}
    (hh : Mat h H) (hw : Mat w W) (ht : Mat t T) :
    Mat (k0_pay15 (F := Ideal) h w t) (fun i j => T i j + ∑ k : Fin 1536, H i k.val * W k.val j) := by
  intro i
  simp only [k0_pay15, shapeCast_self, addf_apply]
  exact congrArg₂ (· + ·) (ht i) (Mat.matmul rfl hh hw i)

/-- The layer norm's gain row is read as it is. -/
theorem pay_keep_gain {a : Vec Ideal S1x1024 .f32} {A : ℕ → ℕ → EReal} (ha : Mat a A) : Mat (k0_pay16 (F := Ideal) a) A := by
  intro i; simp only [k0_pay16, shapeCast_self]; exact ha i

/-- The layer norm's shift row is read as it is. -/
theorem pay_keep_shift {a : Vec Ideal S1x1024 .f32} {A : ℕ → ℕ → EReal} (ha : Mat a A) : Mat (k0_pay17 (F := Ideal) a) A := by
  intro i; simp only [k0_pay17, shapeCast_self]; exact ha i

/-- The residual sum with its mean taken off. -/
theorem pay_centred {x t : Vec Ideal S128x1024 .f32} {X T : ℕ → ℕ → EReal} (hx : Mat x X) (ht : Mat t T) :
    Mat (k0_pay18 (F := Ideal) x t) (FfnSpec.centred (FfnSpec.res X T)) := by
  intro i
  simp only [k0_pay18, subf_apply, addf_apply, mulf_apply, divf_apply, broadcast_apply, col_at, column_at, FfnSpec.centred,
    FfnSpec.mean, FfnSpec.res]
  rw [hx i, ht i]
  refine congrArg (fun z => _ - Ideal.div z _) ((rowsum_at _ _ _ _ _ _).trans (Finset.sum_congr rfl fun k _ => ?_))
  simp only [addf_apply, mulf_apply, broadcast_apply]
  rw [hx, ht]
  rfl

/-- The mean of its square. -/
theorem pay_var {x t : Vec Ideal S128x1024 .f32} {X T : ℕ → ℕ → EReal} (hx : Mat x X) (ht : Mat t T) :
    Mat (k0_pay19 (F := Ideal) x t)
      (fun i _ => FfnSpec.mean (fun i j => FfnSpec.centred (FfnSpec.res X T) i j * FfnSpec.centred (FfnSpec.res X T) i j) i) := by
  intro i
  have h := pay_centred hx ht
  simp only [k0_pay19, divf_apply, broadcast_apply, column_at, FfnSpec.mean]
  refine congrArg (fun z => Ideal.div z _) ((rowsum_at _ _ _ _ _ _).trans (Finset.sum_congr rfl fun k _ => ?_))
  rw [mulf_apply, h]

/-- Payloads that only change the format keep the entries. -/
theorem pay_keep {a : Vec Ideal S128x1024 .f32} {A : ℕ → ℕ → EReal} (ha : Mat a A) : Mat (k0_pay4 (F := Ideal) a) A := by
  intro i; simp only [k0_pay4, shapeCast_self, truncf_apply]; exact ha i

/-- The cached rows are stored as they are. -/
theorem pay_cache {a : Vec Ideal S256x3072 .f32} {A : ℕ → ℕ → EReal} (ha : Mat a A) : Mat (k0_pay3 (F := Ideal) a) A := by
  intro i; simp only [k0_pay3, shapeCast_self]; exact ha i

/-- The up projection's block for the second slab of the value half. -/
theorem pay_up_high {a : Vec Ideal S128x1024 .bf16} {w : Vec Ideal S1024x1536 .bf16} {b : Vec Ideal S1x1536 .f32} {A W : ℕ → ℕ → EReal}
    {bb : ℕ → ℕ → EReal} (ha : Mat a A) (hw : Mat w W) (hb : Mat b bb) :
    Mat (k0_pay12 (k0_pay11 (F := Ideal) a w b)) (fun i j => (∑ k : Fin 1024, A i k.val * W k.val j) + bb 0 j) :=
  pay_up ha hw hb

/-- The hidden activation's block for the second slab of columns. -/
theorem pay_hid_high {b t0 t1 t2 : Vec Ideal S1x1536 .f32} {g0 g1 g2 v : Vec Ideal S128x1536 .f32} {B T0 T1 T2 G0 G1 G2 V : ℕ → ℕ → EReal}
    (hb : Mat b B) (h0 : Mat t0 T0) (h1 : Mat t1 T1) (h2 : Mat t2 T2) (k0 : Mat g0 G0) (k1 : Mat g1 G1) (k2 : Mat g2 G2) (hv : Mat v V) :
    Mat (k0_pay14 (k0_pay13 (F := Ideal) b t0 g0 t1 g1 t2 g2) v)
      (fun i j => FfnSpec.gelu (B 0 j + T0 0 j * G0 i j + T1 0 j * G1 i j + T2 0 j * G2 i j) * V i j) := by
  refine (show k0_pay14 (k0_pay13 (F := Ideal) b t0 g0 t1 g1 t2 g2) v = k0_pay7 b t0 g0 t1 g1 t2 g2 v from ?_) ▸ pay_hid hb h0 h1 h2 k0 k1 k2 hv
  simp only [k0_pay14, k0_pay13, k0_pay7, shapeCast_self]

/-- The first slab of the hidden activation is stored as it is. -/
theorem pay_keep_hid {a : Vec Ideal S128x1536 .bf16} {A : ℕ → ℕ → EReal} (ha : Mat a A) : Mat (k0_pay8 (F := Ideal) a) A := by
  intro i; simp only [k0_pay8, shapeCast_self]; exact ha i

/-- The layer norm's last part. -/
theorem pay_norm {g b : Vec Ideal S1x1024 .f32} {c : Vec Ideal S128x1024 .f32} {v : Vec Ideal S128x1 .f32} {G B C V : ℕ → ℕ → EReal}
    (hg : Mat g G) (hb : Mat b B) (hc : Mat c C) (hv : Mat v V) :
    Mat (k0_pay1 (F := Ideal) g b c v) (fun i j => C i j * Ideal.rsqrt (V i 0 + Ideal.ofBits .f32 0x3727C5AC#32) * G 0 j + B 0 j) := by
  intro i
  beta_reduce
  rw [← hc i]
  simp only [k0_pay1, mulf_apply, addf_apply, row_at, col_at]
  rw [hg, hb]
  rw [rsqrt_at, addf_apply, hv]
  rfl

/-- A sum over 3072 entries is the sum over its two halves. -/
theorem sum_slabs (F : ℕ → EReal) (b : EReal) :
    (∑ k : Fin 1536, F k.val) + b + ∑ k : Fin 1536, F (1536 + k.val) = (∑ k : Fin 3072, F k.val) + b := by
  rw [show (∑ k : Fin 3072, F k.val) = (∑ k : Fin 1536, F k.val) + ∑ k : Fin 1536, F (1536 + k.val) from
    (Fin.sum_univ_add (a := 1536) (b := 1536) fun k => F k.val)]
  exact add_right_comm _ _ _

/-! ## The scratch buffers -/

section
variable (c : Dev nD) (i : grid0.Coords) (arg1 : Memref sig .tc .vmem S128x1024 .f32) (harg1 : arg1.IsWhole)
  (arg2 : Memref sig .tc .vmem S256x3072 .f32) (harg2 : arg2.IsWhole) (arg3 : Memref sig .tc .vmem S1024x6144 .bf16) (harg3 : arg3.IsWhole)
  (arg4 : Memref sig .tc .vmem S1x6144 .f32) (harg4 : arg4.IsWhole) (arg5 : Memref sig .tc .vmem S3x3072 .f32) (harg5 : arg5.IsWhole)
  (arg6 : Memref sig .tc .vmem S1x3072 .f32) (harg6 : arg6.IsWhole) (arg7 : Memref sig .tc .vmem S3072x1024 .bf16) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S1x1024 .f32) (harg10 : arg10.IsWhole) (arg11 : Memref sig .tc .vmem S128x1024 .f32) (harg11 : arg11.IsWhole)
  (arg12 : Memref sig .tc .vmem S256x3072 .f32) (harg12 : arg12.IsWhole) (arg13 : Memref sig .tc .vmem S128x1024 .bf16) (harg13 : arg13.IsWhole)
  (arg14 : Memref sig .tc .vmem S384x3072 .f32) (harg14 : arg14.IsWhole) (arg15 : Memref sig .tc .vmem S128x3072 .f32) (harg15 : arg15.IsWhole)
  (arg16 : Memref sig .tc .vmem S128x3072 .bf16) (harg16 : arg16.IsWhole) (arg17 : Memref sig .tc .vmem S128x1024 .f32) (harg17 : arg17.IsWhole)
  (hc0 : cond0_0 i)
  {x0 : Vec Ideal S128x1024 .f32} {x1 : Vec Ideal S256x3072 .f32} {x2 : Vec Ideal S1024x6144 .bf16} {x3 : Vec Ideal S1x6144 .f32}
  {x4 : Vec Ideal S3x3072 .f32} {x5 : Vec Ideal S1x3072 .f32} {x6 : Vec Ideal S3072x1024 .bf16} {x7 x8 x9 : Vec Ideal S1x1024 .f32}
  {X C W CW WD : ℕ → ℕ → EReal} {b cb bd g be : ℕ → EReal}
  (h0 : Mat x0 X) (h1 : Mat x1 C) (h2 : Mat x2 W) (h3 : Mat x3 fun _ j => b j) (h4 : Mat x4 CW) (h5 : Mat x5 fun _ j => cb j)
  (h6 : Mat x6 WD) (h7 : Mat x7 fun _ j => bd j) (h8 : Mat x8 fun _ j => g j) (h9 : Mat x9 fun _ j => be j)
include h0

/-- The narrowed input block, read back. -/
theorem xb : Mat (kernelRun0_A.sl.v8 (F := Ideal) c arg1 harg1 arg13 x0) X := by
  refine Mat.congr (OnMat.load (P := fun i j => i < 128 ∧ j < 1024) (f := X) _ (OnMat.fill _ (pay_keep (Mat.load harg1 _ h0)) ?_ ?_) ?_) ?_
  all_goals grind

include h2 h3

/-- The first slab of the convolution's input, under the cached rows. -/
theorem gate_low (h1 : Mat x1 C) : OnMat (kernelRun0_A.sl.HS1_2 (F := Ideal) c arg1 harg1 arg2 harg2 arg3 harg3 arg4 harg4 arg13 x0 x1 x2 x3)
    (FfnSpec.gate 128 C X W b) (fun i j => i < 384 ∧ j < 3072 ∧ (j < 1536 ∨ i < 256)) := by
  refine OnMat.cons (Q := fun i j => i < 256 ∧ j < 3072) _ (OnMat.fill _ (pay_cache (Mat.load harg2 _ h1)) ?_ ?_)
    (pay_up (xb c arg1 harg1 arg13 h0) (Mat.load harg3 _ h2) (Mat.load harg4 _ h3)) ?_ ?_
  · intro i j hi hj h
    simp only [FfnSpec.gate, Nat.zero_add, if_pos (show i < 2 * 128 by omega)]
  · intro i j h; omega
  · intro i j hi hj h
    simp only [FfnSpec.gate, FfnSpec.up, Nat.zero_add, if_neg (show ¬256 + i < 2 * 128 by omega), show 256 + i - 2 * 128 = i by omega]
  · intro i j h h'; omega

/-- The whole of the convolution's input. -/
theorem gate_all (h1 : Mat x1 C) : OnMat (kernelRun0_A.sl.HS1_3 (F := Ideal) c arg1 harg1 arg2 harg2 arg3 harg3 arg4 harg4 arg13 x0 x1 x2 x3)
    (FfnSpec.gate 128 C X W b) (fun i j => i < 384 ∧ j < 3072) := by
  refine OnMat.cons _ (gate_low c arg1 harg1 arg2 harg2 arg3 harg3 arg4 harg4 arg13 h0 h2 h3 h1)
    (pay_up (xb c arg1 harg1 arg13 h0) (Mat.load harg3 _ h2) (Mat.load harg4 _ h3)) ?_ ?_
  · intro i j hi hj h
    simp only [FfnSpec.gate, FfnSpec.up, Nat.zero_add, if_neg (show ¬256 + i < 2 * 128 by omega), show 256 + i - 2 * 128 = i by omega]
  · intro i j h h'; omega

/-- The value half's first slab. -/
theorem value_low : OnMat (kernelRun0_A.sl.HS2_1 (F := Ideal) c arg1 harg1 arg3 harg3 arg4 harg4 arg13 x0 x2 x3)
    (fun i j => FfnSpec.up X W b i (3072 + j)) (fun i j => i < 128 ∧ j < 1536) := by
  refine OnMat.fill _ (pay_up (xb c arg1 harg1 arg13 h0) (Mat.load harg3 _ h2) (Mat.load harg4 _ h3)) ?_ ?_
  · intro i j hi hj h
    simp only [FfnSpec.up, Nat.zero_add]
  · intro i j h; omega

/-- The value half's second slab. -/
theorem value_high : OnMat (kernelRun0_A.sl.HS2_2 (F := Ideal) c arg1 harg1 arg3 harg3 arg4 harg4 arg13 x0 x2 x3)
    (fun i j => FfnSpec.up X W b i (3072 + j)) (fun i j => i < 128 ∧ 1536 ≤ j ∧ j < 3072) := by
  refine OnMat.fill _ (pay_up_high (xb c arg1 harg1 arg13 h0) (Mat.load harg3 _ h2) (Mat.load harg4 _ h3)) ?_ ?_
  · intro i j hi hj h
    simp only [FfnSpec.up, Nat.zero_add, ← Nat.add_assoc]
  · intro i j h; omega

include h4 h5

/-- The hidden activation's first slab. -/
theorem hid_low (h1 : Mat x1 C) : OnMat (kernelRun0_A.sl.HS3_1 (F := Ideal) c arg1 harg1 arg2 harg2 arg3 harg3 arg4 harg4 arg5 harg5 arg6 harg6
      arg13 arg14 arg15 x0 x1 x2 x3 x4 x5)
    (FfnSpec.hid 128 C X W b CW cb) (fun i j => i < 128 ∧ j < 1536) := by
  have hg := gate_low c arg1 harg1 arg2 harg2 arg3 harg3 arg4 harg4 arg13 h0 h2 h3 h1
  refine OnMat.fill _ (pay_keep_hid (pay_hid (Mat.load harg6 _ h5) (Mat.load harg5 _ h4) (Mat.load harg5 _ h4) (Mat.load harg5 _ h4)
    (OnMat.load _ hg ?_) (OnMat.load _ hg ?_) (OnMat.load _ hg ?_)
    (OnMat.load _ (value_low c arg1 harg1 arg3 harg3 arg4 harg4 arg13 h0 h2 h3) ?_))) ?_ ?_
  any_goals (intro i j; omega)
  · intro i j hi hj h
    simp only [FfnSpec.hid, FfnSpec.conv, Nat.zero_add, Nat.add_zero, Nat.add_comm 128 i, Nat.add_comm 256 i, Nat.reduceMul]

/-- The hidden activation's second slab. -/
theorem hid_high (h1 : Mat x1 C) : OnMat (kernelRun0_A.sl.HS3_2 (F := Ideal) c arg1 harg1 arg2 harg2 arg3 harg3 arg4 harg4 arg5 harg5 arg6 harg6
      arg13 arg14 arg15 x0 x1 x2 x3 x4 x5)
    (FfnSpec.hid 128 C X W b CW cb) (fun i j => i < 128 ∧ 1536 ≤ j ∧ j < 3072) := by
  have hg := gate_all c arg1 harg1 arg2 harg2 arg3 harg3 arg4 harg4 arg13 h0 h2 h3 h1
  refine OnMat.fill _ (pay_hid_high (Mat.load harg6 _ h5) (Mat.load harg5 _ h4) (Mat.load harg5 _ h4) (Mat.load harg5 _ h4)
    (OnMat.load _ hg ?_) (OnMat.load _ hg ?_) (OnMat.load _ hg ?_)
    (OnMat.load _ (value_high c arg1 harg1 arg3 harg3 arg4 harg4 arg13 h0 h2 h3) ?_)) ?_ ?_
  any_goals (intro i j; omega)
  · intro i j hi hj h
    simp only [FfnSpec.hid, FfnSpec.conv, Nat.zero_add, Nat.add_zero, Nat.add_comm 128 i, Nat.add_comm 256 i, Nat.reduceMul]

include h6 h7

/-- The down projection: the two slabs' products are the whole sum. -/
theorem down_all (h1 : Mat x1 C) : Mat (kernelRun0_A.sl.v155 (F := Ideal) c arg1 harg1 arg2 harg2 arg3 harg3 arg4 harg4 arg5 harg5 arg6 harg6
      arg7 harg7 arg8 harg8 arg13 arg14 arg15 arg16 arg17 x0 x1 x2 x3 x4 x5 x6 x7)
    (FfnSpec.down (FfnSpec.hid 128 C X W b CW cb) WD bd) := by
  have hl := hid_low c arg1 harg1 arg2 harg2 arg3 harg3 arg4 harg4 arg5 harg5 arg6 harg6 arg13 arg14 arg15 h0 h2 h3 h4 h5 h1
  have hh := hid_high c arg1 harg1 arg2 harg2 arg3 harg3 arg4 harg4 arg5 harg5 arg6 harg6 arg13 arg14 arg15 h0 h2 h3 h4 h5 h1
  refine Mat.congr (OnMat.load (P := fun i j => i < 128 ∧ j < 1024) (f := FfnSpec.down (FfnSpec.hid 128 C X W b CW cb) WD bd) _
    (OnMat.fill _ (pay_down_add (OnMat.load _ hh ?_) (Mat.load harg7 _ h6)
      (OnMat.load (P := fun i j => i < 128 ∧ j < 1024) _ (OnMat.fill _ (pay_down (OnMat.load _ hl ?_) (Mat.load harg7 _ h6) (Mat.load harg8 _ h7))
        (fun i j _ _ _ => by simp only [Nat.zero_add]; rfl) ?_) ?_)) ?_ ?_) ?_) ?_
  any_goals (intro i j; omega)
  · intro i j hi hj h
    simp only [FfnSpec.down, Nat.zero_add]
    exact sum_slabs (fun k => FfnSpec.hid 128 C X W b CW cb i k * WD k j) (bd j)
  · intro i j hi hj
    simp only [Nat.zero_add]

/-- The residual sum with its mean off, from the staged blocks. -/
theorem centred_all (h1 : Mat x1 C) : Mat (kernelRun0_A.sl.r_5 (F := Ideal) c arg1 harg1 arg2 harg2 arg3 harg3 arg4 harg4 arg5 harg5 arg6 harg6
      arg7 harg7 arg8 harg8 arg13 arg14 arg15 arg16 arg17 x0 x1 x2 x3 x4 x5 x6 x7)
    (FfnSpec.centred (FfnSpec.res X (FfnSpec.down (FfnSpec.hid 128 C X W b CW cb) WD bd))) := by
  refine pay_centred (Mat.congr (Mat.load harg1 _ h0) fun i j _ _ => ?_)
    (down_all c arg1 harg1 arg2 harg2 arg3 harg3 arg4 harg4 arg5 harg5 arg6 harg6 arg7 harg7 arg8 harg8 arg13 arg14 arg15 arg16 arg17
      h0 h2 h3 h4 h5 h6 h7 h1)
  simp only [Nat.zero_add]

/-- The mean of its square. -/
theorem var_all (h1 : Mat x1 C) : Mat (kernelRun0_A.sl.r_6 (F := Ideal) c arg1 harg1 arg2 harg2 arg3 harg3 arg4 harg4 arg5 harg5 arg6 harg6
      arg7 harg7 arg8 harg8 arg13 arg14 arg15 arg16 arg17 x0 x1 x2 x3 x4 x5 x6 x7)
    (fun i _ => FfnSpec.mean (fun i j =>
      FfnSpec.centred (FfnSpec.res X (FfnSpec.down (FfnSpec.hid 128 C X W b CW cb) WD bd)) i j *
        FfnSpec.centred (FfnSpec.res X (FfnSpec.down (FfnSpec.hid 128 C X W b CW cb) WD bd)) i j) i) := by
  refine pay_var (Mat.congr (Mat.load harg1 _ h0) fun i j _ _ => ?_)
    (down_all c arg1 harg1 arg2 harg2 arg3 harg3 arg4 harg4 arg5 harg5 arg6 harg6 arg7 harg7 arg8 harg8 arg13 arg14 arg15 arg16 arg17
      h0 h2 h3 h4 h5 h6 h7 h1)
  simp only [Nat.zero_add]

/-- What the body leaves in the first result's block. -/
theorem out_block (h1 : Mat x1 C) (h8 : Mat x8 fun _ j => g j) (h9 : Mat x9 fun _ j => be j) :
    Mat (out0_A_10 (F := Ideal) c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 hc0 x0 x1 x2 x3 x4 x5 x6 x7 x8 x9)
    (FfnSpec.out 128 X C W b CW cb WD bd g be) := by
  unfold out0_A_10 kernelRun0_A
  rw [View.read_writes_junk_eq_canon]
  dsimp only
  refine fun y => OnMat.fill (P := fun i j => i < 128 ∧ j < 1024) _ (pay_norm (pay_keep_gain (Mat.load harg9 _ h8)) (pay_keep_shift (Mat.load harg10 _ h9))
    (centred_all c arg1 harg1 arg2 harg2 arg3 harg3 arg4 harg4 arg5 harg5 arg6 harg6 arg7 harg7 arg8 harg8 arg13 arg14 arg15 arg16 arg17
      h0 h2 h3 h4 h5 h6 h7 h1)
    (var_all c arg1 harg1 arg2 harg2 arg3 harg3 arg4 harg4 arg5 harg5 arg6 harg6 arg7 harg7 arg8 harg8 arg13 arg14 arg15 arg16 arg17
      h0 h2 h3 h4 h5 h6 h7 h1)) ?_ ?_ y ⟨(y 0).isLt, (y 1).isLt⟩
  · intro i j hi hj h
    simp only [Nat.zero_add, FfnSpec.out, FfnSpec.norm]
  · intro i j h; omega

omit h4 h5 h6 h7 in
/-- What the body leaves in the second result's block: the last two time steps of the convolution's input. -/
theorem cache_block (h1 : Mat x1 C) :
    Mat (out0_A_11 (F := Ideal) c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 hc0 x0 x1 x2 x3 x4 x5 x6 x7 x8 x9)
    (fun i j => FfnSpec.gate 128 C X W b (128 + i) j) := by
  have hv : Mat (kernelRun0_A.sl.v182 (F := Ideal) c arg1 harg1 arg2 harg2 arg3 harg3 arg4 harg4 arg13 arg14 x0 x1 x2 x3)
      (fun i j => FfnSpec.gate 128 C X W b (128 + i) (0 + j)) :=
    OnMat.load _ (gate_all c arg1 harg1 arg2 harg2 arg3 harg3 arg4 harg4 arg13 h0 h2 h3 h1) fun i j _ _ => by omega
  unfold out0_A_11 kernelRun0_A
  rw [View.read_writes_junk_eq_canon]
  dsimp only
  refine fun y => OnMat.fill (P := fun i j => i < 256 ∧ j < 3072) (f := fun i j => FfnSpec.gate 128 C X W b (128 + i) j) _ hv ?_ ?_ y
    ⟨(y 0).isLt, (y 1).isLt⟩
  · intro i j hi hj h
    simp only [Nat.zero_add]
  · intro i j h; omega

end

end Cert.FfnKernel
-- ==== Proof.FfnReference.lean ====
/- What the feed-forward block's reference computes, one entry at a time, in terms of the plain functions of FfnSpec. -/
module

public import proofs.«01_k».proof.Proof.Gen.FfnReferenceIdeal.Read
public import proofs.«01_k».proof.Proof.Mat
public import proofs.«01_k».proof.Proof.FfnSpec

@[expose] public section

noncomputable section

namespace Cert.FfnReference

open Cert.FfnReferenceIdeal Cert.FfnReferenceIdeal.Gen Cert.FfnReferenceIdeal.Read Cert.Mat Idealize.ShloMosaic
open ValueIdx (mulf_apply addf_apply subf_apply divf_apply constant_apply truncf_apply broadcast_apply)

variable {x0 : (⟨S128x1024, .f32⟩ : BufTy).Contents (Elt Ideal)} {x1 : (⟨S1x128x2x3072, .f32⟩ : BufTy).Contents (Elt Ideal)}
  {x2 : (⟨S1x1024x6144, .f32⟩ : BufTy).Contents (Elt Ideal)} {x3 : (⟨S1x6144, .f32⟩ : BufTy).Contents (Elt Ideal)}
  {x4 : (⟨S1x3x3072, .f32⟩ : BufTy).Contents (Elt Ideal)} {x5 : (⟨S1x3072, .f32⟩ : BufTy).Contents (Elt Ideal)}
  {x6 : (⟨S1x3072x1024, .f32⟩ : BufTy).Contents (Elt Ideal)} {x7 x8 x9 : (⟨S1x1024, .f32⟩ : BufTy).Contents (Elt Ideal)}
  {X C W CW WD : ℕ → ℕ → EReal} {b cb bd g be : ℕ → EReal}
  (h0 : ∀ i, x0 i = X (i 0).val (i 1).val) (h1 : ∀ i, x1 i = C ((i 2).val * 128 + (i 1).val) (i 3).val)
  (h2 : ∀ i, x2 i = W (i 1).val (i 2).val) (h3 : ∀ i, x3 i = b (i 1).val) (h4 : ∀ i, x4 i = CW (i 1).val (i 2).val)
  (h5 : ∀ i, x5 i = cb (i 1).val) (h6 : ∀ i, x6 i = WD (i 1).val (i 2).val) (h7 : ∀ i, x7 i = bd (i 1).val)
  (h8 : ∀ i, x8 i = g (i 1).val) (h9 : ∀ i, x9 i = be (i 1).val)

include h0 in
/-- The input. -/
theorem input (i : S128x1x1024.Idx) : val_main_v0 (F := Ideal) x0 i = X (i 0).val (i 2).val := by
  have e0 := (i 0).isLt; have e1 : (i 1).val < 1 := (i 1).isLt; have e2 : (i 2).val < 1024 := (i 2).isLt
  rw [val_main_v0_apply, h0]
  exact congrArg₂ X (show (((i 0).val * 1 + (i 1).val) * 1024 + (i 2).val) / 1024 = _ by omega)
    (show (((i 0).val * 1 + (i 1).val) * 1024 + (i 2).val) % 1024 = _ by omega)

include h2 in
/-- The up projection's weight. -/
theorem up_weight (i : S1024x6144.Idx) : val_main_v1 (F := Ideal) x2 i = W (i 0).val (i 1).val := by
  have e0 : (i 0).val < 1024 := (i 0).isLt; have e1 : (i 1).val < 6144 := (i 1).isLt
  rw [val_main_v1_apply, h2]
  exact congrArg₂ W (show ((i 0).val * 6144 + (i 1).val) / 6144 % 1024 = _ by omega)
    (show ((i 0).val * 6144 + (i 1).val) % 6144 = _ by omega)

include h0 h2 h3 in
/-- The up projection with its bias. -/
theorem up_eq (i : S128x1x6144.Idx) : val_main_v6 (F := Ideal) x0 x2 x3 i = FfnSpec.up X W b (i 0).val (i 2).val := by
  have e2 : (i 2).val < 6144 := (i 2).isLt
  rw [val_main_v6_apply, val_main_v2_apply]
  refine congrArg₂ (· + ·) (Finset.sum_congr rfl fun k _ => ?_) ?_
  · rw [input h0, up_weight h2]
  · rw [val_main_v5_apply, val_main_v4_apply, val_main_v3_apply, h3]
    exact congrArg b (Nat.mod_eq_of_lt e2)

include h0 h1 h2 h3 in
/-- The convolution's window: two cached steps, then the gate half. -/
theorem window_eq (i : S128x3x3072.Idx) :
    val_main_v12 (F := Ideal) x0 x1 x2 x3 i = FfnSpec.gate 128 C X W b ((i 1).val * 128 + (i 0).val) (i 2).val := by
  have e0 : (i 0).val < 128 := (i 0).isLt; have e1 : (i 1).val < 3 := (i 1).isLt; have e2 : (i 2).val < 3072 := (i 2).isLt
  unfold val_main_v12 FfnSpec.gate
  by_cases hi : (i 1).val < 2
  · rw [if_pos (by omega)]
    refine (concatenate_pair_apply_left (s₁ := S128x2x3072) (s₂ := S128x1x3072) 1 _ _ _ i rfl
      (fun a => match a with | ⟨0, _⟩ => ⟨(i 0).val, e0⟩ | ⟨1, _⟩ => ⟨(i 1).val, hi⟩ | ⟨2, _⟩ => ⟨(i 2).val, e2⟩)
      (fun a => match a with | ⟨0, _⟩ => rfl | ⟨1, _⟩ => rfl | ⟨2, _⟩ => rfl)).trans ?_
    rw [val_main_v9_apply, h1]
    refine congrArg₂ C ?_ ?_
    · show (((i 0).val * 2 + (i 1).val) * 3072 + (i 2).val) / 3072 % 2 * 128
        + (((i 0).val * 2 + (i 1).val) * 3072 + (i 2).val) / 6144 % 128 = _
      omega
    · show (((i 0).val * 2 + (i 1).val) * 3072 + (i 2).val) % 3072 = _
      omega
  · rw [if_neg (by omega)]
    refine (concatenate_pair_apply_right (s₁ := S128x2x3072) (s₂ := S128x1x3072) 1 _ _ _ i rfl rfl
      (fun a => match a with | ⟨0, _⟩ => ⟨(i 0).val, e0⟩ | ⟨1, _⟩ => ⟨0, Nat.one_pos⟩ | ⟨2, _⟩ => ⟨(i 2).val, e2⟩)
      (fun a => match a with | ⟨0, _⟩ => fun _ => rfl | ⟨1, _⟩ => fun h => absurd rfl h | ⟨2, _⟩ => fun _ => rfl)
      (show 0 + 2 = (i 1).val by omega)).trans ?_
    rw [val_main_v7_apply, up_eq h0 h2 h3]
    exact congrArg₂ (FfnSpec.up X W b) (show (i 0).val = _ by omega) rfl

include h4 in
/-- The taps. -/
theorem taps (i : S3x3072.Idx) : val_main_v10 (F := Ideal) x4 i = CW (i 0).val (i 1).val := by
  have e0 : (i 0).val < 3 := (i 0).isLt; have e1 : (i 1).val < 3072 := (i 1).isLt
  rw [val_main_v10_apply, h4]
  exact congrArg₂ CW (show ((i 0).val * 3072 + (i 1).val) / 3072 % 3 = _ by omega) (show ((i 0).val * 3072 + (i 1).val) % 3072 = _ by omega)

include h0 h1 h2 h3 h4 h5 in
/-- The convolution. -/
theorem conv_eq (i : S128x1x3072.Idx) :
    val_main_v37 (F := Ideal) x0 x1 x2 x3 x4 x5 i = FfnSpec.conv 128 (FfnSpec.gate 128 C X W b) CW cb (i 0).val (i 2).val := by
  have e0 : (i 0).val < 128 := (i 0).isLt; have e1 : (i 1).val < 1 := (i 1).isLt; have e2 : (i 2).val < 3072 := (i 2).isLt
  have k0 : val_main_v18 (F := Ideal) x0 x1 x2 x3 x4 i = CW 0 (i 2).val * FfnSpec.gate 128 C X W b (i 0).val (i 2).val := by
    rw [val_main_v18_apply, val_main_v13_apply, window_eq h0 h1 h2 h3, val_main_v17_apply, val_main_v16_apply, val_main_v15_apply,
      val_main_v14_apply, taps h4]
    exact (mul_comm _ _).trans (congrArg₂ (· * ·) (congrArg (CW 0) (Nat.mod_eq_of_lt e2))
      (congrArg₂ (FfnSpec.gate 128 C X W b) (show (i 1).val * 128 + (i 0).val = _ by omega) rfl))
  have k1 : val_main_v26 (F := Ideal) x0 x1 x2 x3 x4 i = CW 1 (i 2).val * FfnSpec.gate 128 C X W b ((i 0).val + 128) (i 2).val := by
    rw [val_main_v26_apply, val_main_v21_apply, window_eq h0 h1 h2 h3, val_main_v25_apply, val_main_v24_apply, val_main_v23_apply,
      val_main_v22_apply, taps h4]
    exact (mul_comm _ _).trans (congrArg₂ (· * ·) (congrArg (CW 1) (Nat.mod_eq_of_lt e2))
      (congrArg₂ (FfnSpec.gate 128 C X W b) (show (1 + (i 1).val) * 128 + (i 0).val = _ by omega) rfl))
  have k2 : val_main_v33 (F := Ideal) x0 x1 x2 x3 x4 i = CW 2 (i 2).val * FfnSpec.gate 128 C X W b ((i 0).val + 2 * 128) (i 2).val := by
    rw [val_main_v33_apply, val_main_v28_apply, window_eq h0 h1 h2 h3, val_main_v32_apply, val_main_v31_apply, val_main_v30_apply,
      val_main_v29_apply, taps h4]
    exact (mul_comm _ _).trans (congrArg₂ (· * ·) (congrArg (CW 2) (Nat.mod_eq_of_lt e2))
      (congrArg₂ (FfnSpec.gate 128 C X W b) (show (2 + (i 1).val) * 128 + (i 0).val = _ by omega) rfl))
  have kb : val_main_v36 (F := Ideal) x5 i = cb (i 2).val := by
    rw [val_main_v36_apply, val_main_v35_apply, val_main_v11_apply, h5]
    exact congrArg cb (Nat.mod_eq_of_lt e2)
  have kz : val_main_v19 (F := Ideal) i = 0 := by
    rw [val_main_v19_apply, val_main_cst_apply]
    exact Ideal.ofBits_zero .f32
  rw [val_main_v37_apply, val_main_v34_apply, val_main_v27_apply, val_main_v20_apply, k0, k1, k2, kb, kz]
  show _ + (((0 + _) + _) + _) = _
  rw [zero_add, ← add_assoc, ← add_assoc]
  rfl

include h0 h1 h2 h3 h4 h5 in
/-- The hidden activation. -/
theorem hid_eq (i : S128x1x3072.Idx) :
    val_main_v52 (F := Ideal) x0 x1 x2 x3 x4 x5 i = FfnSpec.hid 128 C X W b CW cb (i 0).val (i 2).val := by
  rw [val_main_v52_apply, val_main_v51_apply, val_main_v50_apply, val_main_v49_apply, val_main_v48_apply, val_main_v47_apply,
    val_main_v46_apply, val_main_v45_apply, val_main_v44_apply, val_main_v43_apply, val_main_v42_apply, val_main_v41_apply,
    val_main_v40_apply, val_main_v39_apply, conv_eq h0 h1 h2 h3 h4 h5, val_main_v8_apply, up_eq h0 h2 h3,
    val_main_cst_0_apply, val_main_cst_1_apply, val_main_cst_2_apply, val_main_cst_3_apply]
  refine congrArg₂ (· * ·) ?_ rfl
  exact (mul_assoc _ _ _).symm.trans (congrArg (· * _) (mul_comm _ _))

include h0 h1 h2 h3 h4 h5 h6 h7 in
/-- The scaled residual sum. -/
theorem res_eq (i : S128x1x1024.Idx) :
    val_main_v61 (F := Ideal) x0 x1 x2 x3 x4 x5 x6 x7 i
      = FfnSpec.res X (FfnSpec.down (FfnSpec.hid 128 C X W b CW cb) WD bd) (i 0).val (i 2).val := by
  have e2 : (i 2).val < 1024 := (i 2).isLt
  rw [val_main_v61_apply, val_main_v54_apply, val_main_v53_apply, val_main_cst_4_apply, input h0, val_main_v60_apply, val_main_v56_apply]
  refine congrArg₂ (· + ·) rfl (congrArg₂ (· + ·) (Finset.sum_congr rfl fun k _ => ?_) ?_)
  · have ek : k.val < 3072 := k.isLt
    rw [hid_eq h0 h1 h2 h3 h4 h5, val_main_v55_apply, h6]
    exact congrArg₂ (· * ·) rfl (congrArg₂ WD (show (k.val * 1024 + (i 2).val) / 1024 % 3072 = _ by omega)
      (show (k.val * 1024 + (i 2).val) % 1024 = _ by omega))
  · rw [val_main_v59_apply, val_main_v58_apply, val_main_v57_apply, h7]
    exact congrArg bd (Nat.mod_eq_of_lt e2)

include h0 h1 h2 h3 h4 h5 h6 h7 in
/-- The residual sum with its mean taken off. -/
theorem centred_eq (i : S128x1x1024.Idx) :
    val_main_v69 (F := Ideal) x0 x1 x2 x3 x4 x5 x6 x7 i
      = FfnSpec.centred (FfnSpec.res X (FfnSpec.down (FfnSpec.hid 128 C X W b CW cb) WD bd)) (i 0).val (i 2).val := by
  rw [val_main_v69_apply, res_eq h0 h1 h2 h3 h4 h5 h6 h7, val_main_v68_apply, val_main_v67_apply, val_main_v66_apply, val_main_cst_6_apply,
    val_main_v65_apply, val_main_v64_apply, val_main_cst_5_apply]
  refine congrArg₂ (· - ·) rfl (congrArg₂ Ideal.div ?_ rfl)
  refine (congrArg (· + _) (Ideal.ofBits_zero .f32)).trans ((zero_add _).trans (Finset.sum_congr rfl fun k _ => ?_))
  exact res_eq h0 h1 h2 h3 h4 h5 h6 h7 _

include h0 h1 h2 h3 h4 h5 h6 h7 h8 h9 in
/-- The block's output. -/
theorem out_eq (i : S128x1024.Idx) :
    val_main_v88 (F := Ideal) x0 x1 x2 x3 x4 x5 x6 x7 x8 x9 i = FfnSpec.out 128 X C W b CW cb WD bd g be (i 0).val (i 1).val := by
  have e0 : (i 0).val < 128 := (i 0).isLt; have e1 : (i 1).val < 1024 := (i 1).isLt
  have d0 : ((i 0).val * 1024 + (i 1).val) / 1024 = (i 0).val := by omega
  have d1 : ((i 0).val * 1024 + (i 1).val) % 1024 = (i 1).val := by omega
  have hc (j : S128x1x1024.Idx) : val_main_v76 (F := Ideal) x0 x1 x2 x3 x4 x5 x6 x7 j = _ := centred_eq h0 h1 h2 h3 h4 h5 h6 h7 j
  rw [val_main_v88_apply, val_main_v87_apply, val_main_v84_apply, val_main_v81_apply, hc, val_main_v80_apply, val_main_v79_apply,
    val_main_v78_apply, val_main_v77_apply, val_main_cst_9_apply, val_main_v74_apply, val_main_v73_apply, val_main_cst_8_apply,
    val_main_v72_apply, val_main_v71_apply, val_main_cst_7_apply, val_main_v83_apply, val_main_v82_apply, val_main_v62_apply, h8,
    val_main_v86_apply, val_main_v85_apply, val_main_v63_apply, h9]
  refine congrArg₂ (· + ·) (congrArg₂ (· * ·) (congrArg₂ (· * ·) (congrArg₂ (FfnSpec.centred _) d0 d1) (congrArg Ideal.rsqrt
    (congrArg₂ (· + ·) (congrArg₂ Ideal.div ?_ rfl) rfl))) ?_) ?_
  · refine (congrArg (· + _) (Ideal.ofBits_zero .f32)).trans ((zero_add _).trans (Finset.sum_congr rfl fun k _ => ?_))
    rw [val_main_v70_apply, centred_eq h0 h1 h2 h3 h4 h5 h6 h7]
    exact congrArg (fun n => FfnSpec.centred _ n k.val * FfnSpec.centred _ n k.val) d0
  · exact congrArg g (show ((i 0).val * 1024 + (i 1).val) % 1024 % 1024 = _ by omega)
  · exact congrArg be (show ((i 0).val * 1024 + (i 1).val) % 1024 % 1024 = _ by omega)

include h0 h1 h2 h3 in
/-- The cache after the call. -/
theorem cache_eq (i : S256x3072.Idx) :
    val_main_v90 (F := Ideal) x0 x1 x2 x3 i = FfnSpec.gate 128 C X W b (128 + (i 0).val) (i 1).val := by
  have e0 : (i 0).val < 256 := (i 0).isLt; have e1 : (i 1).val < 3072 := (i 1).isLt
  rw [val_main_v90_apply, val_main_v89_apply, val_main_v38_apply, window_eq h0 h1 h2 h3]
  exact congrArg₂ (FfnSpec.gate 128 C X W b)
    (show (1 + ((i 0).val * 3072 + (i 1).val) / 393216) * 128 + ((i 0).val * 3072 + (i 1).val) / 3072 % 128 = _ by omega)
    (show ((i 0).val * 3072 + (i 1).val) % 3072 = _ by omega)

end Cert.FfnReference
-- ==== Proof.HostRead.lean ====
/- Re-shapings of host arrays read as functions of natural coordinates. -/
module

public import proofs.«01_k».proof.Proof.Mat

@[expose] public section

noncomputable section

namespace Cert.HostRead

open Cert.Mat
open Idealize.ShloMosaic hiding ix1 ix2 ix3 ix4 eq_ix2
open Idealize.ShloMosaic.ValueIdx (ix1 ix2 ix3 ix4)

/-- A rank-three array with a leading unit axis, that axis dropped. -/
theorem mat_drop {a b : ℕ} (x : (⟨3, ![1, a, b]⟩ : Shape).Idx → EReal) (h : (⟨3, ![1, a, b]⟩ : Shape).ShapeCasts ⟨2, ![a, b]⟩) :
    Mat (shapeCast ⟨2, ![a, b]⟩ x h) (at3 x 0) := by
  intro i
  refine (shapeCast_apply _ _ _ (ix3 (⟨0, Nat.one_pos⟩ : Fin 1) (i 0) (i 1)) ?_).trans (at3_eq _ _)
  refine (Shape.rowMajor_val_three _).trans (Eq.trans ?_ (Shape.rowMajor_val_two _).symm)
  show (0 * a + (i 0).val) * b + (i 1).val = (i 0).val * b + (i 1).val
  rw [Nat.zero_mul, Nat.zero_add]

/-- A row, its unit axis dropped and added again. -/
theorem mat_row {n : ℕ} (x : (⟨2, ![1, n]⟩ : Shape).Idx → EReal) (h : (⟨2, ![1, n]⟩ : Shape).ShapeCasts ⟨1, ![n]⟩)
    (h' : (⟨1, ![n]⟩ : Shape).ShapeCasts ⟨2, ![1, n]⟩) :
    Mat (shapeCast ⟨2, ![1, n]⟩ (shapeCast ⟨1, ![n]⟩ x h) h') (fun _ j => at2 x 0 j) := by
  intro i
  refine (shapeCast_apply _ _ _ (ix1 (i 1)) ?_).trans ((shapeCast_apply _ _ _ (ix2 (⟨0, Nat.one_pos⟩ : Fin 1) (i 1)) ?_).trans (at2_eq _ _))
  · refine (Shape.rowMajor_val_one _).trans (Eq.trans ?_ (Shape.rowMajor_val_two _).symm)
    show (i 1).val = (i 0).val * n + (i 1).val
    rw [show (i 0).val = 0 from Nat.lt_one_iff.mp (i 0).isLt, Nat.zero_mul, Nat.zero_add]
  · refine (Shape.rowMajor_val_two _).trans (Eq.trans ?_ (Shape.rowMajor_val_one _).symm)
    show 0 * n + (i 1).val = (i 1).val
    rw [Nat.zero_mul, Nat.zero_add]

/-- A rank-four array with a leading unit axis whose next two axes are exchanged and joined: row `r` is at `(r % b, r / b)`. -/
theorem mat_swap {b k n : ℕ} (x : (⟨4, ![1, b, k, n]⟩ : Shape).Idx → EReal)
    (h : (⟨4, ![1, b, k, n]⟩ : Shape).ShapeCasts ⟨3, ![b, k, n]⟩)
    (ht : (⟨3, ![b, k, n]⟩ : Shape).Transposes [1, 0, 2] ⟨3, ![k, b, n]⟩)
    (h' : (⟨3, ![k, b, n]⟩ : Shape).ShapeCasts ⟨2, ![k * b, n]⟩) (hb : 0 < b) :
    Mat (shapeCast ⟨2, ![k * b, n]⟩ (transpose ⟨3, ![k, b, n]⟩ [1, 0, 2] (shapeCast ⟨3, ![b, k, n]⟩ x h) ht) h')
      (fun r j => at4 x 0 (r % b) (r / b) j) := by
  intro i
  have hr : (i 0).val < k * b := (i 0).isLt
  have hq : (i 0).val / b < k := (Nat.div_lt_iff_lt_mul hb).mpr hr
  have hm : (i 0).val % b < b := Nat.mod_lt _ hb
  refine (shapeCast_apply _ _ _ (ix3 (⟨(i 0).val / b, hq⟩ : Fin k) (⟨(i 0).val % b, hm⟩ : Fin b) (i 1)) ?_).trans
    ((transpose_apply _ _ _ _ (ix3 (⟨(i 0).val % b, hm⟩ : Fin b) (⟨(i 0).val / b, hq⟩ : Fin k) (i 1)) ?_).trans
      ((shapeCast_apply _ _ _ (ix4 (⟨0, Nat.one_pos⟩ : Fin 1) (⟨(i 0).val % b, hm⟩ : Fin b) (⟨(i 0).val / b, hq⟩ : Fin k) (i 1)) ?_).trans
        (at4_eq _ _)))
  · refine (Shape.rowMajor_val_three _).trans (Eq.trans ?_ (Shape.rowMajor_val_two _).symm)
    show ((i 0).val / b * b + (i 0).val % b) * n + (i 1).val = (i 0).val * n + (i 1).val
    rw [Nat.div_add_mod']
  · intro a
    match a with
    | ⟨0, _⟩ => rfl
    | ⟨1, _⟩ => rfl
    | ⟨2, _⟩ => rfl
  · refine (Shape.rowMajor_val_four _).trans (Eq.trans ?_ (Shape.rowMajor_val_three _).symm)
    show ((0 * b + (i 0).val % b) * k + (i 0).val / b) * n + (i 1).val = ((i 0).val % b * k + (i 0).val / b) * n + (i 1).val
    rw [Nat.zero_mul, Nat.zero_add]

end Cert.HostRead

end
-- ==== Proof.FfnEq.lean ====
/- The feed-forward call's algebraic claim: the arrays the kernel's run leaves and the arrays the reference's run leaves are the same
   functions (Proof/FfnSpec.lean) of the argument arrays. -/
module

public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.FfnKernel
public import proofs.«01_k».proof.Proof.FfnReference
public import proofs.«01_k».proof.Proof.HostRead
public import proofs.«01_k».proof.Defs

@[expose] public section

set_option maxRecDepth 16384

noncomputable section

namespace Cert.FfnEq

open Cert.FfnIdeal Cert.FfnIdeal.Gen Cert.FfnIdeal.Value Cert.Mat Cert.HostRead
open Idealize.ShloMosaic hiding ix1 ix2 ix3 ix4 eq_ix2
open Idealize.ShloMosaic.ValueIdx (ix1 ix2 ix3 ix4)

variable (m : (ℓ : Loc nD τ sig) → Buf (Elt Ideal) ℓ) (c : Dev nD)

/-! ## The argument arrays as functions of natural coordinates -/

/-- The activations. -/
def X : ℕ → ℕ → EReal := at2 (a := 128) (b := 1024) (m (c.tc.loc main_arg0))
/-- The cached gate rows, time first: row `r` is time `r / 128` of batch row `r % 128`. -/
def C (r j : ℕ) : EReal := at4 (a := 1) (b := 128) (c := 2) (d := 3072) (m (c.tc.loc main_arg1)) 0 (r % 128) (r / 128) j
/-- The up projection's weights. -/
def W : ℕ → ℕ → EReal := at3 (a := 1) (b := 1024) (c := 6144) (m (c.tc.loc main_arg2)) 0
/-- Its bias. -/
def b : ℕ → EReal := at2 (a := 1) (b := 6144) (m (c.tc.loc main_arg3)) 0
/-- The convolution's taps. -/
def CW : ℕ → ℕ → EReal := at3 (a := 1) (b := 3) (c := 3072) (m (c.tc.loc main_arg4)) 0
/-- The convolution's bias. -/
def cb : ℕ → EReal := at2 (a := 1) (b := 3072) (m (c.tc.loc main_arg5)) 0
/-- The down projection's weights. -/
def WD : ℕ → ℕ → EReal := at3 (a := 1) (b := 3072) (c := 1024) (m (c.tc.loc main_arg6)) 0
/-- Its bias. -/
def bd : ℕ → EReal := at2 (a := 1) (b := 1024) (m (c.tc.loc main_arg7)) 0
/-- The norm's gain. -/
def g : ℕ → EReal := at2 (a := 1) (b := 1024) (m (c.tc.loc main_arg8)) 0
/-- The norm's shift. -/
def be : ℕ → EReal := at2 (a := 1) (b := 1024) (m (c.tc.loc main_arg9)) 0

/-! ## The blocks the body reads

Each window's one block is its whole array; the array is an argument, or an argument the host line has re-shaped. -/

/-- Window 0 holds the activations. -/
theorem blk0 : Mat (iblk m c 0 t0_0) (X m c) := by
  have e : iblk m c 0 t0_0 = V m c main_arg0 := by
    blk_ext! [iblk, (show win0_0.index t0_0 0 = 0 by decide), (show win0_0.index t0_0 1 = 0 by decide)]
  rw [e, V_main_arg0]
  exact mat_at2 _

/-- Window 1 holds the cached gate rows. -/
theorem blk1 : Mat (iblk m c 1 t0_0) (C m c) := by
  have e : iblk m c 1 t0_0 = V m c main_v17 := by
    blk_ext! [iblk, (show win0_1.index t0_0 0 = 0 by decide), (show win0_1.index t0_0 1 = 0 by decide)]
  rw [e]
  entry_read
  exact mat_swap (b := 128) (k := 2) (n := 3072) _ _ _ _ (by omega)

/-- Window 2 holds the up projection's weights. -/
theorem blk2 : Mat (iblk m c 2 t0_0) (W m c) := by
  have e : iblk m c 2 t0_0 = V m c main_v1 := by
    blk_ext! [iblk, (show win0_2.index t0_0 0 = 0 by decide), (show win0_2.index t0_0 1 = 0 by decide)]
  rw [e]
  entry_read
  exact mat_drop _ _

/-- Window 3 holds the up projection's bias. -/
theorem blk3 : Mat (iblk m c 3 t0_0) (fun _ j => b m c j) := by
  have e : iblk m c 3 t0_0 = V m c main_v3 := by
    blk_ext! [iblk, (show win0_3.index t0_0 0 = 0 by decide), (show win0_3.index t0_0 1 = 0 by decide)]
  rw [e]
  entry_read
  exact mat_row _ _ _

/-- Window 4 holds the convolution's taps. -/
theorem blk4 : Mat (iblk m c 4 t0_0) (CW m c) := by
  have e : iblk m c 4 t0_0 = V m c main_v4 := by
    blk_ext! [iblk, (show win0_4.index t0_0 0 = 0 by decide), (show win0_4.index t0_0 1 = 0 by decide)]
  rw [e]
  entry_read
  exact mat_drop _ _

/-- Window 5 holds the convolution's bias. -/
theorem blk5 : Mat (iblk m c 5 t0_0) (fun _ j => cb m c j) := by
  have e : iblk m c 5 t0_0 = V m c main_v6 := by
    blk_ext! [iblk, (show win0_5.index t0_0 0 = 0 by decide), (show win0_5.index t0_0 1 = 0 by decide)]
  rw [e]
  entry_read
  exact mat_row _ _ _

/-- Window 6 holds the down projection's weights. -/
theorem blk6 : Mat (iblk m c 6 t0_0) (WD m c) := by
  have e : iblk m c 6 t0_0 = V m c main_v8 := by
    blk_ext! [iblk, (show win0_6.index t0_0 0 = 0 by decide), (show win0_6.index t0_0 1 = 0 by decide)]
  rw [e]
  entry_read
  exact mat_drop _ _

/-- Window 7 holds the down projection's bias. -/
theorem blk7 : Mat (iblk m c 7 t0_0) (fun _ j => bd m c j) := by
  have e : iblk m c 7 t0_0 = V m c main_v10 := by
    blk_ext! [iblk, (show win0_7.index t0_0 0 = 0 by decide), (show win0_7.index t0_0 1 = 0 by decide)]
  rw [e]
  entry_read
  exact mat_row _ _ _

/-- Window 8 holds the norm's gain. -/
theorem blk8 : Mat (iblk m c 8 t0_0) (fun _ j => g m c j) := by
  have e : iblk m c 8 t0_0 = V m c main_v12 := by
    blk_ext! [iblk, (show win0_8.index t0_0 0 = 0 by decide), (show win0_8.index t0_0 1 = 0 by decide)]
  rw [e]
  entry_read
  exact mat_row _ _ _

/-- Window 9 holds the norm's shift. -/
theorem blk9 : Mat (iblk m c 9 t0_0) (fun _ j => be m c j) := by
  have e : iblk m c 9 t0_0 = V m c main_v14 := by
    blk_ext! [iblk, (show win0_9.index t0_0 0 = 0 by decide), (show win0_9.index t0_0 1 = 0 by decide)]
  rw [e]
  entry_read
  exact mat_row _ _ _

/-! ## The arrays after the run -/

/-- The kernel's first result array. -/
def G (i : S128x1024.Idx) : EReal :=
  FfnSpec.out 128 (X m c) (C m c) (W m c) (b m c) (CW m c) (cb m c) (WD m c) (bd m c) (g m c) (be m c) (i 0).val (i 1).val

/-- The kernel's second result array. -/
def H (i : S256x3072.Idx) : EReal :=
  FfnSpec.gate 128 (C m c) (X m c) (W m c) (b m c) (128 + (i 0).val) (i 1).val

theorem arr_out : (dats m 0 c).arrAt 10 cfg0.N = G m c := by
  refine (dats m 0 c).arrAt_eq_of_after_last 10 t0_0 (by decide +kernel) _ fun j => ?_
  blk_simp
  rw [after0_10]
  unfold outsAt0
  dsimp only
  have h := FfnKernel.out_block c (grid0.coords t0_0) (ms0_0 t0_0) (hs0_0 t0_0) (ms0_1 t0_0) (hs0_1 t0_0) (ms0_2 t0_0) (hs0_2 t0_0)
    (ms0_3 t0_0) (hs0_3 t0_0) (ms0_4 t0_0) (hs0_4 t0_0) (ms0_5 t0_0) (hs0_5 t0_0) (ms0_6 t0_0) (hs0_6 t0_0) (ms0_7 t0_0) (hs0_7 t0_0)
    (ms0_8 t0_0) (hs0_8 t0_0) (ms0_9 t0_0) (hs0_9 t0_0) (ms0_10 t0_0) (hs0_10 t0_0) (ms0_11 t0_0) (hs0_11 t0_0)
    scM0_0 (Memref.isWhole_whole _) scM0_1 (Memref.isWhole_whole _) scM0_2 (Memref.isWhole_whole _) scM0_3 (Memref.isWhole_whole _)
    scM0_4 (Memref.isWhole_whole _) (hcond0_0 t0_0)
    (blk0 m c) (blk2 m c) (blk3 m c) (blk4 m c) (blk5 m c) (blk6 m c) (blk7 m c) (blk1 m c) (blk8 m c) (blk9 m c)
  exact h j

theorem arr_cache : (dats m 0 c).arrAt 11 cfg0.N = H m c := by
  refine (dats m 0 c).arrAt_eq_of_after_last 11 t0_0 (by decide +kernel) _ fun j => ?_
  blk_simp
  rw [after0_11]
  unfold outsAt0
  dsimp only
  have h := FfnKernel.cache_block (x4 := iblk m c 4 t0_0) (x5 := iblk m c 5 t0_0) (x6 := iblk m c 6 t0_0) (x7 := iblk m c 7 t0_0)
    (x8 := iblk m c 8 t0_0) (x9 := iblk m c 9 t0_0) c (grid0.coords t0_0) (ms0_0 t0_0) (hs0_0 t0_0) (ms0_1 t0_0) (hs0_1 t0_0) (ms0_2 t0_0) (hs0_2 t0_0)
    (ms0_3 t0_0) (hs0_3 t0_0) (ms0_4 t0_0) (hs0_4 t0_0) (ms0_5 t0_0) (hs0_5 t0_0) (ms0_6 t0_0) (hs0_6 t0_0) (ms0_7 t0_0) (hs0_7 t0_0)
    (ms0_8 t0_0) (hs0_8 t0_0) (ms0_9 t0_0) (hs0_9 t0_0) (ms0_10 t0_0) (hs0_10 t0_0) (ms0_11 t0_0) (hs0_11 t0_0)
    scM0_0 (Memref.isWhole_whole _) scM0_1 (Memref.isWhole_whole _) scM0_2 (Memref.isWhole_whole _) scM0_3 (Memref.isWhole_whole _)
    scM0_4 (Memref.isWhole_whole _) (hcond0_0 t0_0)
    (blk0 m c) (blk2 m c) (blk3 m c) (blk1 m c)
  exact h j

/-! ## The claim -/

/-- A vector with a leading unit axis at an index. -/
theorem row_read {n : ℕ} (x : (⟨2, ![1, n]⟩ : Shape).Idx → EReal) (i) : x i = at2 x 0 (i 1).val :=
  (at2_eq x i).trans (by rw [show (i 0).val = 0 from Nat.lt_one_iff.mp (i 0).isLt])

/-- A matrix with a leading unit axis at an index. -/
theorem mat_read {k n : ℕ} (x : (⟨3, ![1, k, n]⟩ : Shape).Idx → EReal) (i) : x i = at3 x 0 (i 1).val (i 2).val :=
  (at3_eq x i).trans (by rw [show (i 0).val = 0 from Nat.lt_one_iff.mp (i 0).isLt])

/-- The cached rows at an index. -/
theorem cache_read (i : S1x128x2x3072.Idx) :
    (m (c.tc.loc main_arg1) : S1x128x2x3072.Idx → EReal) i = C m c ((i 2).val * 128 + (i 1).val) (i 3).val := by
  have h1 : (i 1).val < 128 := (i 1).isLt
  refine (at4_eq _ i).trans ?_
  unfold C
  rw [show (i 0).val = 0 from Nat.lt_one_iff.mp (i 0).isLt,
    show ((i 2).val * 128 + (i 1).val) % 128 = (i 1).val by omega, show ((i 2).val * 128 + (i 1).val) / 128 = (i 2).val by omega]

/-- The reference's first result term over the same argument arrays. -/
theorem ref_out : Cert.FfnReferenceIdeal.Read.val_main_v88 (F := Ideal) (m (c.tc.loc main_arg0)) (m (c.tc.loc main_arg1))
    (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)) = G m c :=
  funext fun i => FfnReference.out_eq (mat_at2 _) (cache_read m c) (mat_read _) (row_read _) (mat_read _) (row_read _) (mat_read _)
    (row_read _) (row_read _) (row_read _) i

/-- The reference's second result term over the same argument arrays. -/
theorem ref_cache : Cert.FfnReferenceIdeal.Read.val_main_v90 (F := Ideal) (m (c.tc.loc main_arg0)) (m (c.tc.loc main_arg1))
    (m (c.tc.loc main_arg2)) (m (c.tc.loc main_arg3)) = H m c :=
  funext fun i => FfnReference.cache_eq (mat_at2 _) (cache_read m c) (mat_read _) (row_read _) i

/-- The feed-forward call and its reference leave the same arrays. -/
theorem algebraic : Cert.algebraic_FfnIdeal_FfnReferenceIdeal (hFfnIdeal := Cert.FfnIdeal.Gen.facts)
    (hFfnReferenceIdeal := Cert.FfnReferenceIdeal.Gen.facts) := by
  intro m g m' g' _ hag
  refine ⟨fun c => G m c, fun c => H m c, ?_, ?_⟩
  · exact θ_run_mono (run_blocks m g) fun r h c => ⟨(h c).1.trans (arr_out m c), (h c).2.1.trans (arr_cache m c), (h c).2.2⟩
  · refine θ_run_mono (Cert.FfnReferenceIdeal.Value.run m' g') fun r h c => ?_
    obtain ⟨e0, e1, e2, e3, e4, e5, e6, e7, e8, e9⟩ := hag c
    refine ⟨(h c).1.trans ((Cert.FfnReferenceIdeal.Read.val_main_v88_eq _).trans ?_),
      (h c).2.1.trans ((Cert.FfnReferenceIdeal.Read.val_main_v90_eq _).trans ?_), (h c).2.2⟩
    · simp only [StableHlo.launchContents_devRef]
      refine Eq.trans ?_ (ref_out m c)
      congr 1
    · simp only [StableHlo.launchContents_devRef]
      refine Eq.trans ?_ (ref_cache m c)
      congr 1

end Cert.FfnEq

end
-- ==== Proof.MixerFrame.lean ====
/- The launch of the mixer call: its body obligation from the generated run of its body (Gen/KernelIdeal/Frame/RunA.lean), what each
   output's staging buffer holds after the one grid point, the run of the whole program and the frame. The statements follow the
   generated launch set-up; the body obligation is given more elaboration time than the generated one allows. Everything is stated at
   any float type. -/
module

public import proofs.«01_k».proof.Proof.Gen.KernelIdeal.Frame.RunA
public import Idealize.ShloMosaic.Lib.Claim

@[expose] public section

-- membership in a rectangle of production extents (`View.cover_of_tiled`): the elaborator's structural look
-- recurses once per coordinate of the long axes
set_option maxRecDepth 16384

noncomputable section

namespace Cert.MixerFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 27 are of SEVERAL sizes (3 stores of `S128x1024`, `S64x1024`): cut into blocks of `![64, 1024]` they tile its block (checked by the kernel's evaluation: Lib/Ring.lean `Piece.tiledBy`), so they cover it. -/
theorem cover0_A_27 (c : Dev nD) (i : grid0.Coords) (arg1 : Memref sig .tc .vmem S128x1024 .f32) (harg1 : arg1.IsWhole) (arg2 : Memref sig .tc .vmem S384x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3584 .bf16) (harg8 : arg8.IsWhole) (arg9 : Memref sig .tc .vmem S1x3584 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S8x128x256 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S2x256x2048 .bf16) (harg18 : arg18.IsWhole) (arg19 : Memref sig .tc .vmem S2x1024x256 .bf16) (harg19 : arg19.IsWhole) (arg20 : Memref sig .tc .vmem S2x1024x256 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S128x1024 .f32) (harg28 : arg28.IsWhole) (arg29 : Memref sig .tc .vmem S384x1024 .f32) (harg29 : arg29.IsWhole) (arg30 : Memref sig .tc .vmem S128x1024 .f32) (harg30 : arg30.IsWhole) (arg31 : Memref sig .tc .vmem S128x2048 .f32) (harg31 : arg31.IsWhole) (arg32 : Memref sig .tc .vmem S128x2048 .f32) (harg32 : arg32.IsWhole) (arg33 : Memref sig .tc .vmem S128x1024 .bf16) (harg33 : arg33.IsWhole) (arg34 : Memref sig .tc .vmem S512x1024 .f32) (harg34 : arg34.IsWhole) (arg35 : Memref sig .tc .vmem S128x512 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S128x1024 .bf16) (harg39 : arg39.IsWhole) (arg40 : Memref sig .tc .vmem S128x2048 .f32) (harg40 : arg40.IsWhole) (arg41 : Memref sig .tc .vmem S128x2048 .f32) (harg41 : arg41.IsWhole) (arg42 : Memref sig .tc .vmem S128x1024 .f32) (harg42 : arg42.IsWhole) (arg43 : Memref sig .tc .vmem S128x512 .f32) (harg43 : arg43.IsWhole) (arg44 : Memref sig .tc .vmem S128x512 .bf16) (harg44 : arg44.IsWhole) (hc0 : cond0_0 i)
    (x0 : Vec F S128x1024 .f32) (x1 : Vec F S384x1024 .f32) (x2 : Vec F S128x1024 .f32) (x3 : Vec F S128x2048 .f32) (x4 : Vec F S128x2048 .f32) (x5 : Vec F S1x1024 .f32) (x6 : Vec F S1x1024 .f32) (x7 : Vec F S1024x3584 .bf16) (x8 : Vec F S1x3584 .f32) (x9 : Vec F S4x1024 .f32) (x10 : Vec F S1x1024 .f32) (x11 : Vec F S8x128x256 .bf16) (x12 : Vec F S1x1024 .f32) (x13 : Vec F S1x1024 .f32) (x14 : Vec F S1x1024 .f32) (x15 : Vec F S1x2048 .f32) (x16 : Vec F S1x2048 .f32) (x17 : Vec F S2x256x2048 .bf16) (x18 : Vec F S2x1024x256 .bf16) (x19 : Vec F S2x1024x256 .bf16) (x20 : Vec F S1x512 .f32) (x21 : Vec F S512x2048 .bf16) (x22 : Vec F S1x2048 .f32) (x23 : Vec F S1024x1024 .bf16) (x24 : Vec F S1x1024 .f32) (x25 : Vec F S1x1024 .f32) (x26 : Vec F S1x1024 .f32) (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).1 ![64, 1024] (by sl_kernel_rfl) y

/-- What the run leaves in output 27's staging buffer: its pieces read back over junk. -/
def out0_A_27 (c : Dev nD) (i : grid0.Coords) (arg1 : Memref sig .tc .vmem S128x1024 .f32) (harg1 : arg1.IsWhole) (arg2 : Memref sig .tc .vmem S384x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3584 .bf16) (harg8 : arg8.IsWhole) (arg9 : Memref sig .tc .vmem S1x3584 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S8x128x256 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S2x256x2048 .bf16) (harg18 : arg18.IsWhole) (arg19 : Memref sig .tc .vmem S2x1024x256 .bf16) (harg19 : arg19.IsWhole) (arg20 : Memref sig .tc .vmem S2x1024x256 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S128x1024 .f32) (harg28 : arg28.IsWhole) (arg29 : Memref sig .tc .vmem S384x1024 .f32) (harg29 : arg29.IsWhole) (arg30 : Memref sig .tc .vmem S128x1024 .f32) (harg30 : arg30.IsWhole) (arg31 : Memref sig .tc .vmem S128x2048 .f32) (harg31 : arg31.IsWhole) (arg32 : Memref sig .tc .vmem S128x2048 .f32) (harg32 : arg32.IsWhole) (arg33 : Memref sig .tc .vmem S128x1024 .bf16) (harg33 : arg33.IsWhole) (arg34 : Memref sig .tc .vmem S512x1024 .f32) (harg34 : arg34.IsWhole) (arg35 : Memref sig .tc .vmem S128x512 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S128x1024 .bf16) (harg39 : arg39.IsWhole) (arg40 : Memref sig .tc .vmem S128x2048 .f32) (harg40 : arg40.IsWhole) (arg41 : Memref sig .tc .vmem S128x2048 .f32) (harg41 : arg41.IsWhole) (arg42 : Memref sig .tc .vmem S128x1024 .f32) (harg42 : arg42.IsWhole) (arg43 : Memref sig .tc .vmem S128x512 .f32) (harg43 : arg43.IsWhole) (arg44 : Memref sig .tc .vmem S128x512 .bf16) (harg44 : arg44.IsWhole) (hc0 : cond0_0 i)
    (x0 : Vec F S128x1024 .f32) (x1 : Vec F S384x1024 .f32) (x2 : Vec F S128x1024 .f32) (x3 : Vec F S128x2048 .f32) (x4 : Vec F S128x2048 .f32) (x5 : Vec F S1x1024 .f32) (x6 : Vec F S1x1024 .f32) (x7 : Vec F S1024x3584 .bf16) (x8 : Vec F S1x3584 .f32) (x9 : Vec F S4x1024 .f32) (x10 : Vec F S1x1024 .f32) (x11 : Vec F S8x128x256 .bf16) (x12 : Vec F S1x1024 .f32) (x13 : Vec F S1x1024 .f32) (x14 : Vec F S1x1024 .f32) (x15 : Vec F S1x2048 .f32) (x16 : Vec F S1x2048 .f32) (x17 : Vec F S2x256x2048 .bf16) (x18 : Vec F S2x1024x256 .bf16) (x19 : Vec F S2x1024x256 .bf16) (x20 : Vec F S1x512 .f32) (x21 : Vec F S512x2048 .bf16) (x22 : Vec F S1x2048 .f32) (x23 : Vec F S1024x1024 .bf16) (x24 : Vec F S1x1024 .f32) (x25 : Vec F S1x1024 .f32) (x26 : Vec F S1x1024 .f32) : Vec F S128x1024 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).1)

/-- The run's pieces for output 28 tile its block (1 store of `S384x1024`, checked by the kernel's evaluation: Lib/Ring.lean `Piece.tiledL`, linear in the pieces, through a loop's `@[irreducible]` trip theorem too), so they cover it. -/
theorem cover0_A_28 (c : Dev nD) (i : grid0.Coords) (arg1 : Memref sig .tc .vmem S128x1024 .f32) (harg1 : arg1.IsWhole) (arg2 : Memref sig .tc .vmem S384x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3584 .bf16) (harg8 : arg8.IsWhole) (arg9 : Memref sig .tc .vmem S1x3584 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S8x128x256 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S2x256x2048 .bf16) (harg18 : arg18.IsWhole) (arg19 : Memref sig .tc .vmem S2x1024x256 .bf16) (harg19 : arg19.IsWhole) (arg20 : Memref sig .tc .vmem S2x1024x256 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S128x1024 .f32) (harg28 : arg28.IsWhole) (arg29 : Memref sig .tc .vmem S384x1024 .f32) (harg29 : arg29.IsWhole) (arg30 : Memref sig .tc .vmem S128x1024 .f32) (harg30 : arg30.IsWhole) (arg31 : Memref sig .tc .vmem S128x2048 .f32) (harg31 : arg31.IsWhole) (arg32 : Memref sig .tc .vmem S128x2048 .f32) (harg32 : arg32.IsWhole) (arg33 : Memref sig .tc .vmem S128x1024 .bf16) (harg33 : arg33.IsWhole) (arg34 : Memref sig .tc .vmem S512x1024 .f32) (harg34 : arg34.IsWhole) (arg35 : Memref sig .tc .vmem S128x512 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S128x1024 .bf16) (harg39 : arg39.IsWhole) (arg40 : Memref sig .tc .vmem S128x2048 .f32) (harg40 : arg40.IsWhole) (arg41 : Memref sig .tc .vmem S128x2048 .f32) (harg41 : arg41.IsWhole) (arg42 : Memref sig .tc .vmem S128x1024 .f32) (harg42 : arg42.IsWhole) (arg43 : Memref sig .tc .vmem S128x512 .f32) (harg43 : arg43.IsWhole) (arg44 : Memref sig .tc .vmem S128x512 .bf16) (harg44 : arg44.IsWhole) (hc0 : cond0_0 i)
    (x0 : Vec F S128x1024 .f32) (x1 : Vec F S384x1024 .f32) (x2 : Vec F S128x1024 .f32) (x3 : Vec F S128x2048 .f32) (x4 : Vec F S128x2048 .f32) (x5 : Vec F S1x1024 .f32) (x6 : Vec F S1x1024 .f32) (x7 : Vec F S1024x3584 .bf16) (x8 : Vec F S1x3584 .f32) (x9 : Vec F S4x1024 .f32) (x10 : Vec F S1x1024 .f32) (x11 : Vec F S8x128x256 .bf16) (x12 : Vec F S1x1024 .f32) (x13 : Vec F S1x1024 .f32) (x14 : Vec F S1x1024 .f32) (x15 : Vec F S1x2048 .f32) (x16 : Vec F S1x2048 .f32) (x17 : Vec F S2x256x2048 .bf16) (x18 : Vec F S2x1024x256 .bf16) (x19 : Vec F S2x1024x256 .bf16) (x20 : Vec F S1x512 .f32) (x21 : Vec F S512x2048 .bf16) (x22 : Vec F S1x2048 .f32) (x23 : Vec F S1024x1024 .bf16) (x24 : Vec F S1x1024 .f32) (x25 : Vec F S1x1024 .f32) (x26 : Vec F S1x1024 .f32) (y : S384x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.1 S384x1024.size (by sl_kernel_rfl) y

/-- What the run leaves in output 28's staging buffer: its pieces read back over junk. -/
def out0_A_28 (c : Dev nD) (i : grid0.Coords) (arg1 : Memref sig .tc .vmem S128x1024 .f32) (harg1 : arg1.IsWhole) (arg2 : Memref sig .tc .vmem S384x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3584 .bf16) (harg8 : arg8.IsWhole) (arg9 : Memref sig .tc .vmem S1x3584 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S8x128x256 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S2x256x2048 .bf16) (harg18 : arg18.IsWhole) (arg19 : Memref sig .tc .vmem S2x1024x256 .bf16) (harg19 : arg19.IsWhole) (arg20 : Memref sig .tc .vmem S2x1024x256 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S128x1024 .f32) (harg28 : arg28.IsWhole) (arg29 : Memref sig .tc .vmem S384x1024 .f32) (harg29 : arg29.IsWhole) (arg30 : Memref sig .tc .vmem S128x1024 .f32) (harg30 : arg30.IsWhole) (arg31 : Memref sig .tc .vmem S128x2048 .f32) (harg31 : arg31.IsWhole) (arg32 : Memref sig .tc .vmem S128x2048 .f32) (harg32 : arg32.IsWhole) (arg33 : Memref sig .tc .vmem S128x1024 .bf16) (harg33 : arg33.IsWhole) (arg34 : Memref sig .tc .vmem S512x1024 .f32) (harg34 : arg34.IsWhole) (arg35 : Memref sig .tc .vmem S128x512 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S128x1024 .bf16) (harg39 : arg39.IsWhole) (arg40 : Memref sig .tc .vmem S128x2048 .f32) (harg40 : arg40.IsWhole) (arg41 : Memref sig .tc .vmem S128x2048 .f32) (harg41 : arg41.IsWhole) (arg42 : Memref sig .tc .vmem S128x1024 .f32) (harg42 : arg42.IsWhole) (arg43 : Memref sig .tc .vmem S128x512 .f32) (harg43 : arg43.IsWhole) (arg44 : Memref sig .tc .vmem S128x512 .bf16) (harg44 : arg44.IsWhole) (hc0 : cond0_0 i)
    (x0 : Vec F S128x1024 .f32) (x1 : Vec F S384x1024 .f32) (x2 : Vec F S128x1024 .f32) (x3 : Vec F S128x2048 .f32) (x4 : Vec F S128x2048 .f32) (x5 : Vec F S1x1024 .f32) (x6 : Vec F S1x1024 .f32) (x7 : Vec F S1024x3584 .bf16) (x8 : Vec F S1x3584 .f32) (x9 : Vec F S4x1024 .f32) (x10 : Vec F S1x1024 .f32) (x11 : Vec F S8x128x256 .bf16) (x12 : Vec F S1x1024 .f32) (x13 : Vec F S1x1024 .f32) (x14 : Vec F S1x1024 .f32) (x15 : Vec F S1x2048 .f32) (x16 : Vec F S1x2048 .f32) (x17 : Vec F S2x256x2048 .bf16) (x18 : Vec F S2x1024x256 .bf16) (x19 : Vec F S2x1024x256 .bf16) (x20 : Vec F S1x512 .f32) (x21 : Vec F S512x2048 .bf16) (x22 : Vec F S1x2048 .f32) (x23 : Vec F S1024x1024 .bf16) (x24 : Vec F S1x1024 .f32) (x25 : Vec F S1x1024 .f32) (x26 : Vec F S1x1024 .f32) : Vec F S384x1024 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.1)

/-- The run's pieces for output 29 are of SEVERAL sizes (9 stores of `S128x1024`, `S128x128`): cut into blocks of `![128, 128]` they tile its block (checked by the kernel's evaluation: Lib/Ring.lean `Piece.tiledBy`), so they cover it. -/
theorem cover0_A_29 (c : Dev nD) (i : grid0.Coords) (arg1 : Memref sig .tc .vmem S128x1024 .f32) (harg1 : arg1.IsWhole) (arg2 : Memref sig .tc .vmem S384x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3584 .bf16) (harg8 : arg8.IsWhole) (arg9 : Memref sig .tc .vmem S1x3584 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S8x128x256 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S2x256x2048 .bf16) (harg18 : arg18.IsWhole) (arg19 : Memref sig .tc .vmem S2x1024x256 .bf16) (harg19 : arg19.IsWhole) (arg20 : Memref sig .tc .vmem S2x1024x256 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S128x1024 .f32) (harg28 : arg28.IsWhole) (arg29 : Memref sig .tc .vmem S384x1024 .f32) (harg29 : arg29.IsWhole) (arg30 : Memref sig .tc .vmem S128x1024 .f32) (harg30 : arg30.IsWhole) (arg31 : Memref sig .tc .vmem S128x2048 .f32) (harg31 : arg31.IsWhole) (arg32 : Memref sig .tc .vmem S128x2048 .f32) (harg32 : arg32.IsWhole) (arg33 : Memref sig .tc .vmem S128x1024 .bf16) (harg33 : arg33.IsWhole) (arg34 : Memref sig .tc .vmem S512x1024 .f32) (harg34 : arg34.IsWhole) (arg35 : Memref sig .tc .vmem S128x512 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S128x1024 .bf16) (harg39 : arg39.IsWhole) (arg40 : Memref sig .tc .vmem S128x2048 .f32) (harg40 : arg40.IsWhole) (arg41 : Memref sig .tc .vmem S128x2048 .f32) (harg41 : arg41.IsWhole) (arg42 : Memref sig .tc .vmem S128x1024 .f32) (harg42 : arg42.IsWhole) (arg43 : Memref sig .tc .vmem S128x512 .f32) (harg43 : arg43.IsWhole) (arg44 : Memref sig .tc .vmem S128x512 .bf16) (harg44 : arg44.IsWhole) (hc0 : cond0_0 i)
    (x0 : Vec F S128x1024 .f32) (x1 : Vec F S384x1024 .f32) (x2 : Vec F S128x1024 .f32) (x3 : Vec F S128x2048 .f32) (x4 : Vec F S128x2048 .f32) (x5 : Vec F S1x1024 .f32) (x6 : Vec F S1x1024 .f32) (x7 : Vec F S1024x3584 .bf16) (x8 : Vec F S1x3584 .f32) (x9 : Vec F S4x1024 .f32) (x10 : Vec F S1x1024 .f32) (x11 : Vec F S8x128x256 .bf16) (x12 : Vec F S1x1024 .f32) (x13 : Vec F S1x1024 .f32) (x14 : Vec F S1x1024 .f32) (x15 : Vec F S1x2048 .f32) (x16 : Vec F S1x2048 .f32) (x17 : Vec F S2x256x2048 .bf16) (x18 : Vec F S2x1024x256 .bf16) (x19 : Vec F S2x1024x256 .bf16) (x20 : Vec F S1x512 .f32) (x21 : Vec F S512x2048 .bf16) (x22 : Vec F S1x2048 .f32) (x23 : Vec F S1024x1024 .bf16) (x24 : Vec F S1x1024 .f32) (x25 : Vec F S1x1024 .f32) (x26 : Vec F S1x1024 .f32) (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.2.1 ![128, 128] (by sl_kernel_rfl) y

/-- What the run leaves in output 29's staging buffer: its pieces read back over junk. -/
def out0_A_29 (c : Dev nD) (i : grid0.Coords) (arg1 : Memref sig .tc .vmem S128x1024 .f32) (harg1 : arg1.IsWhole) (arg2 : Memref sig .tc .vmem S384x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3584 .bf16) (harg8 : arg8.IsWhole) (arg9 : Memref sig .tc .vmem S1x3584 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S8x128x256 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S2x256x2048 .bf16) (harg18 : arg18.IsWhole) (arg19 : Memref sig .tc .vmem S2x1024x256 .bf16) (harg19 : arg19.IsWhole) (arg20 : Memref sig .tc .vmem S2x1024x256 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S128x1024 .f32) (harg28 : arg28.IsWhole) (arg29 : Memref sig .tc .vmem S384x1024 .f32) (harg29 : arg29.IsWhole) (arg30 : Memref sig .tc .vmem S128x1024 .f32) (harg30 : arg30.IsWhole) (arg31 : Memref sig .tc .vmem S128x2048 .f32) (harg31 : arg31.IsWhole) (arg32 : Memref sig .tc .vmem S128x2048 .f32) (harg32 : arg32.IsWhole) (arg33 : Memref sig .tc .vmem S128x1024 .bf16) (harg33 : arg33.IsWhole) (arg34 : Memref sig .tc .vmem S512x1024 .f32) (harg34 : arg34.IsWhole) (arg35 : Memref sig .tc .vmem S128x512 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S128x1024 .bf16) (harg39 : arg39.IsWhole) (arg40 : Memref sig .tc .vmem S128x2048 .f32) (harg40 : arg40.IsWhole) (arg41 : Memref sig .tc .vmem S128x2048 .f32) (harg41 : arg41.IsWhole) (arg42 : Memref sig .tc .vmem S128x1024 .f32) (harg42 : arg42.IsWhole) (arg43 : Memref sig .tc .vmem S128x512 .f32) (harg43 : arg43.IsWhole) (arg44 : Memref sig .tc .vmem S128x512 .bf16) (harg44 : arg44.IsWhole) (hc0 : cond0_0 i)
    (x0 : Vec F S128x1024 .f32) (x1 : Vec F S384x1024 .f32) (x2 : Vec F S128x1024 .f32) (x3 : Vec F S128x2048 .f32) (x4 : Vec F S128x2048 .f32) (x5 : Vec F S1x1024 .f32) (x6 : Vec F S1x1024 .f32) (x7 : Vec F S1024x3584 .bf16) (x8 : Vec F S1x3584 .f32) (x9 : Vec F S4x1024 .f32) (x10 : Vec F S1x1024 .f32) (x11 : Vec F S8x128x256 .bf16) (x12 : Vec F S1x1024 .f32) (x13 : Vec F S1x1024 .f32) (x14 : Vec F S1x1024 .f32) (x15 : Vec F S1x2048 .f32) (x16 : Vec F S1x2048 .f32) (x17 : Vec F S2x256x2048 .bf16) (x18 : Vec F S2x1024x256 .bf16) (x19 : Vec F S2x1024x256 .bf16) (x20 : Vec F S1x512 .f32) (x21 : Vec F S512x2048 .bf16) (x22 : Vec F S1x2048 .f32) (x23 : Vec F S1024x1024 .bf16) (x24 : Vec F S1x1024 .f32) (x25 : Vec F S1x1024 .f32) (x26 : Vec F S1x1024 .f32) : Vec F S128x1024 .f32 :=
  VO0_29.read (Elt F) (VO0_29.writes (Elt F) VO0_29.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.2.1)

/-- The run's pieces for output 30 are of SEVERAL sizes (17 stores of `S128x2048`, `S8x2048`): cut into blocks of `![8, 2048]` they tile its block (checked by the kernel's evaluation: Lib/Ring.lean `Piece.tiledBy`), so they cover it. -/
theorem cover0_A_30 (c : Dev nD) (i : grid0.Coords) (arg1 : Memref sig .tc .vmem S128x1024 .f32) (harg1 : arg1.IsWhole) (arg2 : Memref sig .tc .vmem S384x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3584 .bf16) (harg8 : arg8.IsWhole) (arg9 : Memref sig .tc .vmem S1x3584 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S8x128x256 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S2x256x2048 .bf16) (harg18 : arg18.IsWhole) (arg19 : Memref sig .tc .vmem S2x1024x256 .bf16) (harg19 : arg19.IsWhole) (arg20 : Memref sig .tc .vmem S2x1024x256 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S128x1024 .f32) (harg28 : arg28.IsWhole) (arg29 : Memref sig .tc .vmem S384x1024 .f32) (harg29 : arg29.IsWhole) (arg30 : Memref sig .tc .vmem S128x1024 .f32) (harg30 : arg30.IsWhole) (arg31 : Memref sig .tc .vmem S128x2048 .f32) (harg31 : arg31.IsWhole) (arg32 : Memref sig .tc .vmem S128x2048 .f32) (harg32 : arg32.IsWhole) (arg33 : Memref sig .tc .vmem S128x1024 .bf16) (harg33 : arg33.IsWhole) (arg34 : Memref sig .tc .vmem S512x1024 .f32) (harg34 : arg34.IsWhole) (arg35 : Memref sig .tc .vmem S128x512 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S128x1024 .bf16) (harg39 : arg39.IsWhole) (arg40 : Memref sig .tc .vmem S128x2048 .f32) (harg40 : arg40.IsWhole) (arg41 : Memref sig .tc .vmem S128x2048 .f32) (harg41 : arg41.IsWhole) (arg42 : Memref sig .tc .vmem S128x1024 .f32) (harg42 : arg42.IsWhole) (arg43 : Memref sig .tc .vmem S128x512 .f32) (harg43 : arg43.IsWhole) (arg44 : Memref sig .tc .vmem S128x512 .bf16) (harg44 : arg44.IsWhole) (hc0 : cond0_0 i)
    (x0 : Vec F S128x1024 .f32) (x1 : Vec F S384x1024 .f32) (x2 : Vec F S128x1024 .f32) (x3 : Vec F S128x2048 .f32) (x4 : Vec F S128x2048 .f32) (x5 : Vec F S1x1024 .f32) (x6 : Vec F S1x1024 .f32) (x7 : Vec F S1024x3584 .bf16) (x8 : Vec F S1x3584 .f32) (x9 : Vec F S4x1024 .f32) (x10 : Vec F S1x1024 .f32) (x11 : Vec F S8x128x256 .bf16) (x12 : Vec F S1x1024 .f32) (x13 : Vec F S1x1024 .f32) (x14 : Vec F S1x1024 .f32) (x15 : Vec F S1x2048 .f32) (x16 : Vec F S1x2048 .f32) (x17 : Vec F S2x256x2048 .bf16) (x18 : Vec F S2x1024x256 .bf16) (x19 : Vec F S2x1024x256 .bf16) (x20 : Vec F S1x512 .f32) (x21 : Vec F S512x2048 .bf16) (x22 : Vec F S1x2048 .f32) (x23 : Vec F S1024x1024 .bf16) (x24 : Vec F S1x1024 .f32) (x25 : Vec F S1x1024 .f32) (x26 : Vec F S1x1024 .f32) (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.2.2.1 ![8, 2048] (by sl_kernel_rfl) y

/-- What the run leaves in output 30's staging buffer: its pieces read back over junk. -/
def out0_A_30 (c : Dev nD) (i : grid0.Coords) (arg1 : Memref sig .tc .vmem S128x1024 .f32) (harg1 : arg1.IsWhole) (arg2 : Memref sig .tc .vmem S384x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3584 .bf16) (harg8 : arg8.IsWhole) (arg9 : Memref sig .tc .vmem S1x3584 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S8x128x256 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S2x256x2048 .bf16) (harg18 : arg18.IsWhole) (arg19 : Memref sig .tc .vmem S2x1024x256 .bf16) (harg19 : arg19.IsWhole) (arg20 : Memref sig .tc .vmem S2x1024x256 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S128x1024 .f32) (harg28 : arg28.IsWhole) (arg29 : Memref sig .tc .vmem S384x1024 .f32) (harg29 : arg29.IsWhole) (arg30 : Memref sig .tc .vmem S128x1024 .f32) (harg30 : arg30.IsWhole) (arg31 : Memref sig .tc .vmem S128x2048 .f32) (harg31 : arg31.IsWhole) (arg32 : Memref sig .tc .vmem S128x2048 .f32) (harg32 : arg32.IsWhole) (arg33 : Memref sig .tc .vmem S128x1024 .bf16) (harg33 : arg33.IsWhole) (arg34 : Memref sig .tc .vmem S512x1024 .f32) (harg34 : arg34.IsWhole) (arg35 : Memref sig .tc .vmem S128x512 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S128x1024 .bf16) (harg39 : arg39.IsWhole) (arg40 : Memref sig .tc .vmem S128x2048 .f32) (harg40 : arg40.IsWhole) (arg41 : Memref sig .tc .vmem S128x2048 .f32) (harg41 : arg41.IsWhole) (arg42 : Memref sig .tc .vmem S128x1024 .f32) (harg42 : arg42.IsWhole) (arg43 : Memref sig .tc .vmem S128x512 .f32) (harg43 : arg43.IsWhole) (arg44 : Memref sig .tc .vmem S128x512 .bf16) (harg44 : arg44.IsWhole) (hc0 : cond0_0 i)
    (x0 : Vec F S128x1024 .f32) (x1 : Vec F S384x1024 .f32) (x2 : Vec F S128x1024 .f32) (x3 : Vec F S128x2048 .f32) (x4 : Vec F S128x2048 .f32) (x5 : Vec F S1x1024 .f32) (x6 : Vec F S1x1024 .f32) (x7 : Vec F S1024x3584 .bf16) (x8 : Vec F S1x3584 .f32) (x9 : Vec F S4x1024 .f32) (x10 : Vec F S1x1024 .f32) (x11 : Vec F S8x128x256 .bf16) (x12 : Vec F S1x1024 .f32) (x13 : Vec F S1x1024 .f32) (x14 : Vec F S1x1024 .f32) (x15 : Vec F S1x2048 .f32) (x16 : Vec F S1x2048 .f32) (x17 : Vec F S2x256x2048 .bf16) (x18 : Vec F S2x1024x256 .bf16) (x19 : Vec F S2x1024x256 .bf16) (x20 : Vec F S1x512 .f32) (x21 : Vec F S512x2048 .bf16) (x22 : Vec F S1x2048 .f32) (x23 : Vec F S1024x1024 .bf16) (x24 : Vec F S1x1024 .f32) (x25 : Vec F S1x1024 .f32) (x26 : Vec F S1x1024 .f32) : Vec F S128x2048 .f32 :=
  VO0_30.read (Elt F) (VO0_30.writes (Elt F) VO0_30.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.2.2.1)

/-- The run's pieces for output 31 are of SEVERAL sizes (17 stores of `S128x2048`, `S8x2048`): cut into blocks of `![8, 2048]` they tile its block (checked by the kernel's evaluation: Lib/Ring.lean `Piece.tiledBy`), so they cover it. -/
theorem cover0_A_31 (c : Dev nD) (i : grid0.Coords) (arg1 : Memref sig .tc .vmem S128x1024 .f32) (harg1 : arg1.IsWhole) (arg2 : Memref sig .tc .vmem S384x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3584 .bf16) (harg8 : arg8.IsWhole) (arg9 : Memref sig .tc .vmem S1x3584 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S8x128x256 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S2x256x2048 .bf16) (harg18 : arg18.IsWhole) (arg19 : Memref sig .tc .vmem S2x1024x256 .bf16) (harg19 : arg19.IsWhole) (arg20 : Memref sig .tc .vmem S2x1024x256 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S128x1024 .f32) (harg28 : arg28.IsWhole) (arg29 : Memref sig .tc .vmem S384x1024 .f32) (harg29 : arg29.IsWhole) (arg30 : Memref sig .tc .vmem S128x1024 .f32) (harg30 : arg30.IsWhole) (arg31 : Memref sig .tc .vmem S128x2048 .f32) (harg31 : arg31.IsWhole) (arg32 : Memref sig .tc .vmem S128x2048 .f32) (harg32 : arg32.IsWhole) (arg33 : Memref sig .tc .vmem S128x1024 .bf16) (harg33 : arg33.IsWhole) (arg34 : Memref sig .tc .vmem S512x1024 .f32) (harg34 : arg34.IsWhole) (arg35 : Memref sig .tc .vmem S128x512 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S128x1024 .bf16) (harg39 : arg39.IsWhole) (arg40 : Memref sig .tc .vmem S128x2048 .f32) (harg40 : arg40.IsWhole) (arg41 : Memref sig .tc .vmem S128x2048 .f32) (harg41 : arg41.IsWhole) (arg42 : Memref sig .tc .vmem S128x1024 .f32) (harg42 : arg42.IsWhole) (arg43 : Memref sig .tc .vmem S128x512 .f32) (harg43 : arg43.IsWhole) (arg44 : Memref sig .tc .vmem S128x512 .bf16) (harg44 : arg44.IsWhole) (hc0 : cond0_0 i)
    (x0 : Vec F S128x1024 .f32) (x1 : Vec F S384x1024 .f32) (x2 : Vec F S128x1024 .f32) (x3 : Vec F S128x2048 .f32) (x4 : Vec F S128x2048 .f32) (x5 : Vec F S1x1024 .f32) (x6 : Vec F S1x1024 .f32) (x7 : Vec F S1024x3584 .bf16) (x8 : Vec F S1x3584 .f32) (x9 : Vec F S4x1024 .f32) (x10 : Vec F S1x1024 .f32) (x11 : Vec F S8x128x256 .bf16) (x12 : Vec F S1x1024 .f32) (x13 : Vec F S1x1024 .f32) (x14 : Vec F S1x1024 .f32) (x15 : Vec F S1x2048 .f32) (x16 : Vec F S1x2048 .f32) (x17 : Vec F S2x256x2048 .bf16) (x18 : Vec F S2x1024x256 .bf16) (x19 : Vec F S2x1024x256 .bf16) (x20 : Vec F S1x512 .f32) (x21 : Vec F S512x2048 .bf16) (x22 : Vec F S1x2048 .f32) (x23 : Vec F S1024x1024 .bf16) (x24 : Vec F S1x1024 .f32) (x25 : Vec F S1x1024 .f32) (x26 : Vec F S1x1024 .f32) (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.2.2.2.1 ![8, 2048] (by sl_kernel_rfl) y

/-- What the run leaves in output 31's staging buffer: its pieces read back over junk. -/
def out0_A_31 (c : Dev nD) (i : grid0.Coords) (arg1 : Memref sig .tc .vmem S128x1024 .f32) (harg1 : arg1.IsWhole) (arg2 : Memref sig .tc .vmem S384x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3584 .bf16) (harg8 : arg8.IsWhole) (arg9 : Memref sig .tc .vmem S1x3584 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S8x128x256 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S2x256x2048 .bf16) (harg18 : arg18.IsWhole) (arg19 : Memref sig .tc .vmem S2x1024x256 .bf16) (harg19 : arg19.IsWhole) (arg20 : Memref sig .tc .vmem S2x1024x256 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S128x1024 .f32) (harg28 : arg28.IsWhole) (arg29 : Memref sig .tc .vmem S384x1024 .f32) (harg29 : arg29.IsWhole) (arg30 : Memref sig .tc .vmem S128x1024 .f32) (harg30 : arg30.IsWhole) (arg31 : Memref sig .tc .vmem S128x2048 .f32) (harg31 : arg31.IsWhole) (arg32 : Memref sig .tc .vmem S128x2048 .f32) (harg32 : arg32.IsWhole) (arg33 : Memref sig .tc .vmem S128x1024 .bf16) (harg33 : arg33.IsWhole) (arg34 : Memref sig .tc .vmem S512x1024 .f32) (harg34 : arg34.IsWhole) (arg35 : Memref sig .tc .vmem S128x512 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S128x1024 .bf16) (harg39 : arg39.IsWhole) (arg40 : Memref sig .tc .vmem S128x2048 .f32) (harg40 : arg40.IsWhole) (arg41 : Memref sig .tc .vmem S128x2048 .f32) (harg41 : arg41.IsWhole) (arg42 : Memref sig .tc .vmem S128x1024 .f32) (harg42 : arg42.IsWhole) (arg43 : Memref sig .tc .vmem S128x512 .f32) (harg43 : arg43.IsWhole) (arg44 : Memref sig .tc .vmem S128x512 .bf16) (harg44 : arg44.IsWhole) (hc0 : cond0_0 i)
    (x0 : Vec F S128x1024 .f32) (x1 : Vec F S384x1024 .f32) (x2 : Vec F S128x1024 .f32) (x3 : Vec F S128x2048 .f32) (x4 : Vec F S128x2048 .f32) (x5 : Vec F S1x1024 .f32) (x6 : Vec F S1x1024 .f32) (x7 : Vec F S1024x3584 .bf16) (x8 : Vec F S1x3584 .f32) (x9 : Vec F S4x1024 .f32) (x10 : Vec F S1x1024 .f32) (x11 : Vec F S8x128x256 .bf16) (x12 : Vec F S1x1024 .f32) (x13 : Vec F S1x1024 .f32) (x14 : Vec F S1x1024 .f32) (x15 : Vec F S1x2048 .f32) (x16 : Vec F S1x2048 .f32) (x17 : Vec F S2x256x2048 .bf16) (x18 : Vec F S2x1024x256 .bf16) (x19 : Vec F S2x1024x256 .bf16) (x20 : Vec F S1x512 .f32) (x21 : Vec F S512x2048 .bf16) (x22 : Vec F S1x2048 .f32) (x23 : Vec F S1024x1024 .bf16) (x24 : Vec F S1x1024 .f32) (x25 : Vec F S1x1024 .f32) (x26 : Vec F S1x1024 .f32) : Vec F S128x2048 .f32 :=
  VO0_31.read (Elt F) (VO0_31.writes (Elt F) VO0_31.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 hc0 x0 x1 x2 x3 x4 x5 x6 x7 x8 x9 x10 x11 x12 x13 x14 x15 x16 x17 x18 x19 x20 x21 x22 x23 x24 x25 x26).2.2.2.2.1)

/-! ## What the outputs hold after each point -/

/-- What the outputs' staging buffers hold after the body at point `t` (as a tuple, in window order): the run's contents at
    the point's memrefs and input blocks. -/
def outsAt0 (c : Dev nD) (t : Fin cfg0.N) : Vec F S128x1024 .f32 × Vec F S384x1024 .f32 × Vec F S128x1024 .f32 × Vec F S128x2048 .f32 × Vec F S128x2048 .f32 :=
  (out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t), out0_A_30 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t), out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => (outsAt0 m c t).1
    | ⟨28, _⟩ => (outsAt0 m c t).2.1
    | ⟨29, _⟩ => (outsAt0 m c t).2.2.1
    | ⟨30, _⟩ => (outsAt0 m c t).2.2.2.1
    | ⟨31, _⟩ => (outsAt0 m c t).2.2.2.2
    | ⟨_ + 32, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = (outsAt0 m c t).1 := by dsimp only [dats]
theorem after0_28 (c : Dev nD) (t : Fin cfg0.N) : (dats m 0 c).after 28 t = (outsAt0 m c t).2.1 := by dsimp only [dats]
theorem after0_29 (c : Dev nD) (t : Fin cfg0.N) : (dats m 0 c).after 29 t = (outsAt0 m c t).2.2.1 := by dsimp only [dats]
theorem after0_30 (c : Dev nD) (t : Fin cfg0.N) : (dats m 0 c).after 30 t = (outsAt0 m c t).2.2.2.1 := by dsimp only [dats]
theorem after0_31 (c : Dev nD) (t : Fin cfg0.N) : (dats m 0 c).after 31 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t))

set_option maxHeartbeats 4400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  rw [show (dats m 0 c).Φ t.castSucc = Pipeline.ΦA spec0 c from rfl, PhiA0_eq]
  unfold outsAt0
  unfold out0_A_27 out0_A_28 out0_A_29 out0_A_30 out0_A_31; (try dsimp only)
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)).2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  isplitl [H29]; · iexists _; iexact H29
  isplitl [H30]; · iexists _; iexact H30
  isplitl [H31]; · iexists _; iexact H31
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, H6, H7, H8, H9, H10, H11, H12, H13, H14, H15, H16, H17, H18, H19, H20, H21, H22, H23, H24, H25, H26, ⟨%e27, H27⟩, ⟨%e28, H28⟩, ⟨%e29, H29⟩, ⟨%e30, H30⟩, ⟨%e31, H31⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      iexists _; unfold owns; iexists _; isplitr
      swap; · iexact HS11
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H30]
  · unfold owns; iexists _; isplitr
    swap; · iexact H30
    ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H31
  ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_of m ρ (dats m) (A_eq m) (run_main m ρ)

/-- The frame: the arguments end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  θ_run_and (unchanged m ρ) ((θ_run defs _ _).mono (fun _ h => h.2) (run_main_quiescent m ρ))

/-- The five output arrays after the run. -/
theorem outputs : θ_run defs (onTc (τ := τ) (main (F := F))) ⟨m, fun _ => 0, ρ⟩ (fun r => ∀ c : Dev nD,
      r.2.mem ((c.tc : Thread nD τ).loc main_v106_0) = (dats m 0 c).arrAt 27 cfg0.N
      ∧ r.2.mem ((c.tc : Thread nD τ).loc main_v106_1) = (dats m 0 c).arrAt 28 cfg0.N
      ∧ r.2.mem ((c.tc : Thread nD τ).loc main_v106_2) = (dats m 0 c).arrAt 29 cfg0.N
      ∧ r.2.mem ((c.tc : Thread nD τ).loc main_v106_3) = (dats m 0 c).arrAt 30 cfg0.N
      ∧ r.2.mem ((c.tc : Thread nD τ).loc main_v106_4) = (dats m 0 c).arrAt 31 cfg0.N) :=
  (θ_run defs _ _).mono (fun _ h c => ⟨(h c).1 27, (h c).1 28, (h c).1 29, (h c).1 30, (h c).1 31⟩) (run_main m ρ)

end Cert.MixerFrame

end
-- ==== Proof.MixerSpec.lean ====
/- One decoding step of the token-mixing block written as plain functions of row and column numbers: the rows are the 128 streams (for
   the convolution's cache, three earlier time steps of 128 streams each), and the weights are laid out as the call receives them, the
   two state-space products in two slabs and the gate product in eight blocks. -/
module

public import proofs.«01_k».proof.Proof.FfnSpec

@[expose] public section

noncomputable section

namespace Cert.MixerSpec

open Idealize.ShloMosaic
open scoped BigOperators

/-- The arrays of one step, by their coordinates: the rows and the cached states, then the weights. -/
structure Arrays where
  x : ℕ → ℕ → EReal
  cache : ℕ → ℕ → EReal
  h0 : ℕ → ℕ → EReal
  sre : ℕ → ℕ → EReal
  sim : ℕ → ℕ → EReal
  embg : ℕ → EReal
  embb : ℕ → EReal
  win : ℕ → ℕ → EReal
  bin : ℕ → EReal
  cw : ℕ → ℕ → EReal
  cb : ℕ → EReal
  wri : ℕ → ℕ → ℕ → EReal
  br : ℕ → EReal
  bi : ℕ → EReal
  lam : ℕ → EReal
  are : ℕ → EReal
  aim : ℕ → EReal
  wb : ℕ → ℕ → ℕ → EReal
  wcre : ℕ → ℕ → ℕ → EReal
  wcim : ℕ → ℕ → ℕ → EReal
  d : ℕ → EReal
  wglu : ℕ → ℕ → EReal
  bglu : ℕ → EReal
  wout : ℕ → ℕ → EReal
  bout : ℕ → EReal
  lng : ℕ → EReal
  lnb : ℕ → EReal

variable (p : Arrays)

/-- The logistic function through the hyperbolic tangent. -/
def sig (z : EReal) : EReal :=
  Ideal.ofBits .f32 0x3F000000#32 * Ideal.tanh (Ideal.ofBits .f32 0x3F000000#32 * z) + Ideal.ofBits .f32 0x3F000000#32

/-- The embedding's layer norm. -/
def z : ℕ → ℕ → EReal := FfnSpec.norm p.x p.embg p.embb

/-- The input projection. -/
def proj (i j : ℕ) : EReal := (∑ k : Fin 1024, z p i k.val * p.win k.val j) + p.bin j

/-- The state-space branch's input. -/
def us (i j : ℕ) : EReal := proj p i (1024 + j)

/-- The input product of the real states. -/
def ure (i j : ℕ) : EReal := ∑ k : Fin 256, us p i (256 * (j / 1024) + k.val) * p.wb (j / 1024) k.val (j % 1024)

/-- The input product of the imaginary states. -/
def uim (i j : ℕ) : EReal := ∑ k : Fin 256, us p i (256 * (j / 1024) + k.val) * p.wb (j / 1024) k.val (1024 + j % 1024)

/-- The real states after the step. -/
def nre (i j : ℕ) : EReal := p.are j * p.sre i j - p.aim j * p.sim i j + ure p i j

/-- The imaginary states after the step. -/
def nim (i j : ℕ) : EReal := p.are j * p.sim i j + p.aim j * p.sre i j + uim p i j

/-- The convolution's input: three cached time steps, then the step's own rows. -/
def xa (i j : ℕ) : EReal := if i < 384 then p.cache i j else proj p (i - 384) j

/-- The depthwise causal convolution with four taps. -/
def conv (i j : ℕ) : EReal :=
  p.cb j + p.cw 0 j * xa p i j + p.cw 1 j * xa p (128 + i) j + p.cw 2 j * xa p (256 + i) j + p.cw 3 j * xa p (384 + i) j

/-- The state-space branch's output product. -/
def y (i j : ℕ) : EReal :=
  (∑ k : Fin 1024, nre p i (1024 * (j / 256) + k.val) * p.wcre (j / 256) k.val (j % 256))
    - ∑ k : Fin 1024, nim p i (1024 * (j / 256) + k.val) * p.wcim (j / 256) k.val (j % 256)

/-- The state-space branch's activation. -/
def yg (i j : ℕ) : EReal := FfnSpec.gelu (y p i j + p.d j * us p i j)

/-- The recurrence's gates before their biases: of each block of 256 columns the first half gates the decay, the second the input. -/
def gates (i j : ℕ) : EReal := ∑ k : Fin 128, conv p i (128 * (j / 256) + k.val) * p.wri (j / 256) k.val (j % 256)

/-- The gated product of the state-space branch. -/
def glu (i j : ℕ) : EReal := (∑ k : Fin 512, yg p i k.val * p.wglu k.val j) + p.bglu j

/-- Softplus of the negated decay parameter. -/
def sp (j : ℕ) : EReal :=
  max (Ideal.ofBits .f32 0x00000000#32 - p.lam j) (Ideal.ofBits .f32 0x00000000#32)
    + Ideal.log1p (Ideal.exp (Ideal.ofBits .f32 0x00000000#32
        - max (Ideal.ofBits .f32 0x00000000#32 - p.lam j) (-(Ideal.ofBits .f32 0x00000000#32 - p.lam j))))

/-- One step of the gated recurrence, from the two gates' sums, the softplus, the old state and the convolved input. -/
def lru (r i s h c : EReal) : EReal :=
  Ideal.exp (Ideal.ofBits .f32 0xC1000000#32 * sig r * s) * h
    + Ideal.sqrt ((Ideal.ofBits .f32 0x00000000#32 - Ideal.tanh (Ideal.ofBits .f32 0xC1000000#32 * sig r * s))
        * (Ideal.exp (Ideal.ofBits .f32 0xC1000000#32 * sig r * s) * Ideal.exp (Ideal.ofBits .f32 0xC1000000#32 * sig r * s)
            + Ideal.ofBits .f32 0x3F800000#32)) * (sig i * c)

/-- The recurrence's state after the step. -/
def hn (i j : ℕ) : EReal :=
  lru (gates p i (256 * (j / 128) + j % 128) + p.br j) (gates p i (256 * (j / 128) + 128 + j % 128) + p.bi j) (sp p j) (p.h0 i j)
    (conv p i j)

/-- The two branches, gated and added. -/
def mix (i j : ℕ) : EReal :=
  sig (proj p i (1536 + j)) * hn p i j + sig (proj p i (2560 + j)) * (glu p i j * sig (glu p i (1024 + j)))

/-- The output projection. -/
def t (i j : ℕ) : EReal := (∑ k : Fin 1024, mix p i k.val * p.wout k.val j) + p.bout j

/-- The step's output rows. -/
def out : ℕ → ℕ → EReal := FfnSpec.norm (FfnSpec.res (z p) (t p)) p.lng p.lnb

end Cert.MixerSpec
-- ==== Proof.MixerOps.lean ====
/- What the arrays' operations do to a matrix given by its coordinates, and from them the blocks the mixer's body is made of: the layer
   norm of a row, an affine product, a slab of a stacked weight, the state update of eight rows, one block of the gated recurrence. -/
module

public import proofs.«01_k».proof.Proof.Mat
public import proofs.«01_k».proof.Proof.MixerSpec

@[expose] public section

set_option maxRecDepth 16384

noncomputable section

namespace Cert.Mat

open Idealize.ShloMosaic hiding ix1 ix2 ix3 ix4 eq_ix2
open Idealize.ShloMosaic.ValueIdx (ix1 ix2 ix3 eq_ix2)
open scoped BigOperators

/-- The rank-three array `X` holds `f i j k` at `(i, j, k)`. -/
def Mat3 {α : Type} {l m n : ℕ} (X : (⟨3, ![l, m, n]⟩ : Shape).Idx → α) (f : ℕ → ℕ → ℕ → α) : Prop :=
  ∀ i, X i = f (i 0).val (i 1).val (i 2).val

section
variable {m n : ℕ} {φ : FTy} {X Y : FVec Ideal ⟨2, ![m, n]⟩ φ} {f g : ℕ → ℕ → EReal}

/-- An entrywise sum. -/
theorem Mat.addf (hX : Mat X f) (hY : Mat Y g) : Mat (addf X Y) (fun i j => f i j + g i j) := fun i => congrArg₂ (· + ·) (hX i) (hY i)

/-- An entrywise difference. -/
theorem Mat.subf (hX : Mat X f) (hY : Mat Y g) : Mat (subf X Y) (fun i j => f i j - g i j) := fun i => congrArg₂ (· - ·) (hX i) (hY i)

/-- An entrywise product. -/
theorem Mat.mulf (hX : Mat X f) (hY : Mat Y g) : Mat (mulf X Y) (fun i j => f i j * g i j) := fun i => congrArg₂ (· * ·) (hX i) (hY i)

/-- An entrywise quotient. -/
theorem Mat.divf (hX : Mat X f) (hY : Mat Y g) : Mat (divf X Y) (fun i j => Ideal.div (f i j) (g i j)) :=
  fun i => congrArg₂ Ideal.div (hX i) (hY i)

/-- An entrywise maximum. -/
theorem Mat.maximumf (hX : Mat X f) (hY : Mat Y g) : Mat (maximumf X Y) (fun i j => max (f i j) (g i j)) :=
  fun i => congrArg₂ max (hX i) (hY i)

/-- An entrywise absolute value. -/
theorem Mat.absf (hX : Mat X f) : Mat (absf X) (fun i j => max (f i j) (-f i j)) := fun i => congrArg (fun z : EReal => max z (-z)) (hX i)

/-- An entrywise hyperbolic tangent. -/
theorem Mat.tanh (hX : Mat X f) : Mat (tanh X) (fun i j => Ideal.tanh (f i j)) := fun i => congrArg Ideal.tanh (hX i)

/-- An entrywise exponential. -/
theorem Mat.exp (hX : Mat X f) : Mat (exp X) (fun i j => Ideal.exp (f i j)) := fun i => congrArg Ideal.exp (hX i)

/-- An entrywise logarithm of one more. -/
theorem Mat.log1p (hX : Mat X f) : Mat (log1p X) (fun i j => Ideal.log1p (f i j)) := fun i => congrArg Ideal.log1p (hX i)

/-- An entrywise square root. -/
theorem Mat.sqrt (hX : Mat X f) : Mat (sqrt X) (fun i j => Ideal.sqrt (f i j)) := fun i => congrArg Ideal.sqrt (hX i)

/-- An entrywise reciprocal square root. -/
theorem Mat.rsqrt (hX : Mat X f) : Mat (rsqrt X) (fun i j => Ideal.rsqrt (f i j)) := fun i => congrArg Ideal.rsqrt (hX i)

/-- A change of format. -/
theorem Mat.truncf {ψ : FTy} {h : ψ.bits < φ.bits} (hX : Mat X f) : Mat (truncf ψ X h) f := hX

/-- One number everywhere. -/
theorem Mat.const (c : EReal) : Mat (broadcast (⟨2, ![m, n]⟩ : Shape) c) (fun _ _ => c) := fun _ => rfl

end

section
variable {α : Type} {m n : ℕ} {f : ℕ → ℕ → α}

/-- A cast to the same shape. -/
theorem Mat.cast {X : (⟨2, ![m, n]⟩ : Shape).Idx → α} {h : (⟨2, ![m, n]⟩ : Shape).ShapeCasts ⟨2, ![m, n]⟩} (hX : Mat X f) :
    Mat (shapeCast ⟨2, ![m, n]⟩ X h) f := by
  rw [shapeCast_self]; exact hX

/-- One row repeated. -/
theorem Mat.row {X : (⟨2, ![1, n]⟩ : Shape).Idx → α} {h : (⟨2, ![1, n]⟩ : Shape).Broadcasts ⟨2, ![m, n]⟩} (hX : Mat X f) :
    Mat (broadcastTo ⟨2, ![m, n]⟩ X h) (fun _ j => f 0 j) := fun i => (row_at X h i).trans (hX _)

/-- One column repeated. -/
theorem Mat.col {X : (⟨2, ![m, 1]⟩ : Shape).Idx → α} {h : (⟨2, ![m, 1]⟩ : Shape).Broadcasts ⟨2, ![m, n]⟩} (hX : Mat X f) :
    Mat (broadcastTo ⟨2, ![m, n]⟩ X h) (fun i _ => f i 0) := fun i => (col_at X h i).trans (hX _)

/-- A block of columns. -/
theorem Mat.cols {o k : ℕ} {X : (⟨2, ![m, n]⟩ : Shape).Idx → α} {h : (⟨2, ![m, n]⟩ : Shape).Slices ![0, o] ⟨2, ![m, k]⟩} (hX : Mat X f) :
    Mat (extractStridedSlice ⟨2, ![m, k]⟩ ![0, o] X h) (fun i j => f i (o + j)) := by
  intro i
  have h1 := h.2 1
  have hb : o + (i 1).val < n := Nat.lt_of_lt_of_le (Nat.add_lt_add_left (i 1).isLt o) h1
  refine (extractStridedSlice_apply _ X h i (ix2 ⟨(i 0).val, (i 0).isLt⟩ ⟨o + (i 1).val, hb⟩) fun a => ?_).trans (hX _)
  match a with
  | ⟨0, _⟩ => exact (Nat.zero_add _).symm
  | ⟨1, _⟩ => rfl

/-- One matrix of a stack, its unit axis dropped. -/
theorem Mat.slab {X : (⟨3, ![1, m, n]⟩ : Shape).Idx → α} {h : (⟨3, ![1, m, n]⟩ : Shape).ShapeCasts ⟨2, ![m, n]⟩} {f : ℕ → ℕ → ℕ → α}
    (hX : Mat3 X f) : Mat (shapeCast ⟨2, ![m, n]⟩ X h) (fun i j => f 0 i j) := by
  intro i
  conv_lhs => rw [eq_ix2 i]
  exact (ValueIdx.shapeCast_1ab_ab_apply X h (i 0) (i 1)).trans (hX _)

end

/-- A load of one matrix out of a stacked input block. -/
theorem Mat3.load {Val : EltTy → Type} {e : EltTy} [∀ e, Nonempty (Val e)] {sig : RefSig} {κ : Kind} {sp : Space} {l m n s : ℕ}
    {mr : Memref sig κ sp ⟨3, ![l, m, n]⟩ e} (hw : mr.IsWhole) {X : (⟨3, ![l, m, n]⟩ : Shape).Idx → Val e} {f : ℕ → ℕ → ℕ → Val e}
    (inb : ∀ x, (![s, 0, 0] : Fin 3 → ℕ) x + (![1, m, n] : Fin 3 → ℕ) x ≤ (⟨3, ![l, m, n]⟩ : Shape).size x) (hX : Mat3 X f) :
    Mat3 (l := 1) (m := m) (n := n) (View.readAt Val mr.view (Rect.unit ![s, 0, 0] ![1, m, n] inb).toLoadRect (hw.unread X))
      (fun i j k => f (s + i) j k) := by
  intro x
  have e0 : (((Rect.unit (s := ⟨3, ![l, m, n]⟩) ![s, 0, 0] ![1, m, n] inb).toLoadRect.idx x) 0).val = s + (x 0).val := by
    show s + 1 * (x 0).val = _; omega
  have e1 : (((Rect.unit (s := ⟨3, ![l, m, n]⟩) ![s, 0, 0] ![1, m, n] inb).toLoadRect.idx x) 1).val = (x 1).val := by
    show 0 + 1 * (x 1).val = _; omega
  have e2 : (((Rect.unit (s := ⟨3, ![l, m, n]⟩) ![s, 0, 0] ![1, m, n] inb).toLoadRect.idx x) 2).val = (x 2).val := by
    show 0 + 1 * (x 2).val = _; omega
  have h := hX ((Rect.unit (s := ⟨3, ![l, m, n]⟩) ![s, 0, 0] ![1, m, n] inb).toLoadRect.idx x)
  rw [e0, e1, e2] at h
  refine Eq.trans ?_ h
  rw [View.readAt_apply, Memref.IsWhole.read_unread]

/-- A row's mean, in a column. -/
theorem Mat.mean {m : ℕ} {X : FVec Ideal ⟨2, ![m, 1024]⟩ .f32} {f : ℕ → ℕ → EReal} (hX : Mat X f)
    {hr : (⟨2, ![m, 1024]⟩ : Shape).Reduces [1] ⟨1, ![m]⟩} {hφ : FKind.Formats .f32} {ha : (0x00000000#32 : BitVec 32) = FKind.add.neutral .f32 hφ}
    {hs : (⟨1, ![m]⟩ : Shape).ShapeCasts ⟨2, ![m, 1]⟩} :
    Mat (Idealize.ShloMosaic.divf (shapeCast ⟨2, ![m, 1]⟩ (multiReduction .add [1] ⟨1, ![m]⟩ X 0x00000000#32 hr hφ ha) hs)
        (broadcast ⟨2, ![m, 1]⟩ (Scalar.ofBits (F := Ideal) .f32 0x44800000#32)))
      (fun i _ => FfnSpec.mean f i) := by
  intro i
  rw [ValueIdx.divf_apply, column_at]
  exact congrArg (fun z => Ideal.div z _) ((rowsum_at X _ _ _ _ _).trans (Finset.sum_congr rfl fun k _ => hX _))

/-- The layer norm of the rows. -/
theorem Mat.norm {m : ℕ} {R : FVec Ideal ⟨2, ![m, 1024]⟩ .f32} {g b : FVec Ideal ⟨2, ![1, 1024]⟩ .f32} {f : ℕ → ℕ → EReal}
    {G B : ℕ → EReal} (hR : Mat R f) (hg : Mat g fun _ j => G j) (hb : Mat b fun _ j => B j)
    {hr hr' : (⟨2, ![m, 1024]⟩ : Shape).Reduces [1] ⟨1, ![m]⟩} {hφ hφ' : FKind.Formats .f32}
    {ha : (0x00000000#32 : BitVec 32) = FKind.add.neutral .f32 hφ} {ha' : (0x00000000#32 : BitVec 32) = FKind.add.neutral .f32 hφ'}
    {hs hs' : (⟨1, ![m]⟩ : Shape).ShapeCasts ⟨2, ![m, 1]⟩} {hc hc'' : (⟨2, ![m, 1]⟩ : Shape).Broadcasts ⟨2, ![m, 1024]⟩}
    {hw hw' : (⟨2, ![1, 1024]⟩ : Shape).Broadcasts ⟨2, ![m, 1024]⟩} :
    Mat (Idealize.ShloMosaic.addf (Idealize.ShloMosaic.mulf (Idealize.ShloMosaic.mulf
        (Idealize.ShloMosaic.subf R (broadcastTo ⟨2, ![m, 1024]⟩ (Idealize.ShloMosaic.divf
          (shapeCast ⟨2, ![m, 1]⟩ (multiReduction .add [1] ⟨1, ![m]⟩ R 0x00000000#32 hr hφ ha) hs)
          (broadcast ⟨2, ![m, 1]⟩ (Scalar.ofBits (F := Ideal) .f32 0x44800000#32))) hc))
        (broadcastTo ⟨2, ![m, 1024]⟩ (Idealize.ShloMosaic.rsqrt (Idealize.ShloMosaic.addf (Idealize.ShloMosaic.divf
          (shapeCast ⟨2, ![m, 1]⟩ (multiReduction .add [1] ⟨1, ![m]⟩
            (Idealize.ShloMosaic.mulf
              (Idealize.ShloMosaic.subf R (broadcastTo ⟨2, ![m, 1024]⟩ (Idealize.ShloMosaic.divf
                (shapeCast ⟨2, ![m, 1]⟩ (multiReduction .add [1] ⟨1, ![m]⟩ R 0x00000000#32 hr hφ ha) hs)
                (broadcast ⟨2, ![m, 1]⟩ (Scalar.ofBits (F := Ideal) .f32 0x44800000#32))) hc))
              (Idealize.ShloMosaic.subf R (broadcastTo ⟨2, ![m, 1024]⟩ (Idealize.ShloMosaic.divf
                (shapeCast ⟨2, ![m, 1]⟩ (multiReduction .add [1] ⟨1, ![m]⟩ R 0x00000000#32 hr hφ ha) hs)
                (broadcast ⟨2, ![m, 1]⟩ (Scalar.ofBits (F := Ideal) .f32 0x44800000#32))) hc)))
            0x00000000#32 hr' hφ' ha') hs')
          (broadcast ⟨2, ![m, 1]⟩ (Scalar.ofBits (F := Ideal) .f32 0x44800000#32)))
          (broadcast ⟨2, ![m, 1]⟩ (Scalar.ofBits (F := Ideal) .f32 0x3727C5AC#32)))) hc''))
        (broadcastTo ⟨2, ![m, 1024]⟩ g hw)) (broadcastTo ⟨2, ![m, 1024]⟩ b hw'))
      (FfnSpec.norm f G B) :=
  have hC := Mat.subf hR (Mat.col (h := hc) (Mat.mean hR (hr := hr) (hφ := hφ) (ha := ha) (hs := hs)))
  Mat.addf (Mat.mulf (Mat.mulf hC (Mat.col (Mat.rsqrt (Mat.addf (Mat.mean (Mat.mulf hC hC)) (Mat.const _))))) (Mat.row hg)) (Mat.row hb)

/-- An affine product. -/
theorem Mat.affine {M K N : ℕ} {φ₁ φ₂ : FTy} {d : DotDims ⟨2, ![M, K]⟩ ⟨2, ![K, N]⟩ ⟨2, ![M, N]⟩} (hd : d = DotDims.plain M K N)
    {a : FVec Ideal ⟨2, ![M, K]⟩ φ₁} {w : FVec Ideal ⟨2, ![K, N]⟩ φ₂} {b : FVec Ideal ⟨2, ![1, N]⟩ .f32} {A W : ℕ → ℕ → EReal} {B : ℕ → ℕ → EReal}
    (ha : Mat a A) (hw : Mat w W) (hb : Mat b B) {hs : (⟨2, ![M, N]⟩ : Shape).ShapeCasts ⟨2, ![M, N]⟩}
    {hs' : (⟨2, ![K, N]⟩ : Shape).ShapeCasts ⟨2, ![K, N]⟩} {hs'' : (⟨2, ![1, N]⟩ : Shape).ShapeCasts ⟨2, ![1, N]⟩}
    {hb' : (⟨2, ![1, N]⟩ : Shape).Broadcasts ⟨2, ![M, N]⟩} :
    Mat (shapeCast ⟨2, ![M, N]⟩ (Idealize.ShloMosaic.addf (Idealize.ShloMosaic.matmul d none a (shapeCast ⟨2, ![K, N]⟩ w hs')
        (constant (F := Ideal) ⟨2, ![M, N]⟩ .f32 0x00000000#32)) (broadcastTo ⟨2, ![M, N]⟩ (shapeCast ⟨2, ![1, N]⟩ b hs'') hb')) hs)
      (fun i j => (∑ k : Fin K, A i k.val * W k.val j) + B 0 j) :=
  Mat.cast (Mat.addf (Mat.matmul hd ha (Mat.cast hw)) (Mat.row (Mat.cast hb)))

/-- The logistic function of a sum, entrywise. -/
theorem Mat.sig {m n : ℕ} {X : FVec Ideal ⟨2, ![m, n]⟩ .f32} {f : ℕ → ℕ → EReal} (hX : Mat X f) :
    Mat (Idealize.ShloMosaic.addf (Idealize.ShloMosaic.mulf (broadcast ⟨2, ![m, n]⟩ (Scalar.ofBits (F := Ideal) .f32 0x3F000000#32))
        (Idealize.ShloMosaic.tanh (Idealize.ShloMosaic.mulf (broadcast ⟨2, ![m, n]⟩ (Scalar.ofBits (F := Ideal) .f32 0x3F000000#32)) X)))
        (broadcast ⟨2, ![m, n]⟩ (Scalar.ofBits (F := Ideal) .f32 0x3F000000#32)))
      (fun i j => MixerSpec.sig (f i j)) :=
  Mat.addf (Mat.mulf (Mat.const _) (Mat.tanh (Mat.mulf (Mat.const _) hX))) (Mat.const _)

/-- Two functions that agree on a part describe it equally. -/
theorem OnMat.congr {Val : EltTy → Type} {e : EltTy} [∀ e, Nonempty (Val e)] {m n : ℕ} {L : List (View.Piece Val ⟨2, ![m, n]⟩ e)}
    {f g : ℕ → ℕ → Val e} {P Q : ℕ → ℕ → Prop} (h : OnMat L f P) (hPQ : ∀ i j, Q i j → P i j) (hfg : ∀ i j, Q i j → f i j = g i j) :
    OnMat L g Q := fun y hy => (h y (hPQ _ _ hy)).trans (hfg _ _ hy)

/-! ## Stores of one block after another -/

/-- Eight more rows of a state: `U` is the decayed old state, the rows read back hold the input product. -/
theorem step_rows {sig : RefSig} {κ : Kind} {sp : Space} {n : ℕ} {N P u : ℕ → ℕ → EReal} {U : FVec Ideal ⟨2, ![8, 2048]⟩ .f32}
    {L : List (View.Piece (Elt Ideal) ⟨2, ![128, 2048]⟩ .f32)} {v : View sig κ sp ⟨2, ![128, 2048]⟩ .f32}
    {inb inb' : ∀ x, (![n, 0] : Fin 2 → ℕ) x + (![8, 2048] : Fin 2 → ℕ) x ≤ (⟨2, ![128, 2048]⟩ : Shape).size x}
    {hs : (⟨2, ![8, 2048]⟩ : Shape).ShapeCasts ⟨2, ![8, 2048]⟩}
    (hn : n + 8 ≤ 128) (hU : Mat U u) (hu : ∀ i j, u i j + P (n + i) j = N (n + i) j)
    (h : OnMat L (fun i j => if i < n then N i j else P i j) (fun i j => i < 128 ∧ j < 2048)) :
    OnMat (⟨Rect.unit ![n, 0] ![8, 2048] inb, shapeCast ⟨2, ![8, 2048]⟩
        (Idealize.ShloMosaic.addf U (v.readCov L (Rect.unit (s := ⟨2, ![128, 2048]⟩) ![n, 0] ![8, 2048] inb').toLoadRect)) hs⟩ :: L)
      (fun i j => if i < n + 8 then N i j else P i j) (fun i j => i < 128 ∧ j < 2048) := by
  have hw := Mat.congr (Mat.addf hU (OnMat.load (v := v) inb' h fun i j hi hj => by omega)) (g := fun i j => N (n + i) j) fun i j hi hj => by
    simp only [Nat.zero_add, if_neg (show ¬n + i < n by omega), hu]
  refine OnMat.cons inb (Q := fun i j => (i < 128 ∧ j < 2048) ∧ ¬(n ≤ i ∧ i < n + 8)) (h.congr ?_ ?_) (Mat.cast hw) ?_ ?_
  · intro i j h; omega
  · intro i j h
    by_cases hi : i < n
    · simp only [if_pos hi, if_pos (show i < n + 8 by omega)]
    · simp only [if_neg hi, if_neg (show ¬i < n + 8 by omega)]
  · intro i j hi hj _
    simp only [if_pos (show n + i < n + 8 by omega), Nat.zero_add]
  · intro i j h h'; omega

/-- The same with a second list, the result's, which is stored without being read. -/
theorem step_both {sig : RefSig} {κ : Kind} {sp : Space} {n : ℕ} {N P u : ℕ → ℕ → EReal} {U : FVec Ideal ⟨2, ![8, 2048]⟩ .f32}
    {L L' : List (View.Piece (Elt Ideal) ⟨2, ![128, 2048]⟩ .f32)} {v : View sig κ sp ⟨2, ![128, 2048]⟩ .f32}
    {inb inb' inb'' : ∀ x, (![n, 0] : Fin 2 → ℕ) x + (![8, 2048] : Fin 2 → ℕ) x ≤ (⟨2, ![128, 2048]⟩ : Shape).size x}
    {hs : (⟨2, ![8, 2048]⟩ : Shape).ShapeCasts ⟨2, ![8, 2048]⟩}
    (hn : n + 8 ≤ 128) (hU : Mat U u) (hu : ∀ i j, u i j + P (n + i) j = N (n + i) j)
    (h : OnMat L (fun i j => if i < n then N i j else P i j) (fun i j => i < 128 ∧ j < 2048) ∧ OnMat L' N (fun i j => i < n ∧ j < 2048)) :
    OnMat (⟨Rect.unit ![n, 0] ![8, 2048] inb, shapeCast ⟨2, ![8, 2048]⟩
        (Idealize.ShloMosaic.addf U (v.readCov L (Rect.unit (s := ⟨2, ![128, 2048]⟩) ![n, 0] ![8, 2048] inb').toLoadRect)) hs⟩ :: L)
      (fun i j => if i < n + 8 then N i j else P i j) (fun i j => i < 128 ∧ j < 2048) ∧
    OnMat (⟨Rect.unit ![n, 0] ![8, 2048] inb'', Idealize.ShloMosaic.addf U (v.readCov L (Rect.unit (s := ⟨2, ![128, 2048]⟩) ![n, 0] ![8, 2048] inb').toLoadRect)⟩ :: L')
      N (fun i j => i < n + 8 ∧ j < 2048) := by
  have hw := Mat.congr (Mat.addf hU (OnMat.load (v := v) inb' h.1 fun i j hi hj => by omega)) (g := fun i j => N (n + i) j) fun i j hi hj => by
    simp only [Nat.zero_add, if_neg (show ¬n + i < n by omega), hu]
  refine ⟨step_rows hn hU hu h.1, OnMat.cons inb'' h.2 hw ?_ ?_⟩
  · intro i j hi hj _
    simp only [Nat.zero_add]
  · intro i j h h'; omega

/-- One more block of the gates' product. -/
theorem step_gates {a b s : ℕ} {C : ℕ → ℕ → EReal} {WRI : ℕ → ℕ → ℕ → EReal} {L : List (View.Piece (Elt Ideal) ⟨2, ![128, 2048]⟩ .f32)}
    {v : FVec Ideal ⟨2, ![128, 128]⟩ .bf16} {w : FVec Ideal ⟨2, ![128, 256]⟩ .bf16}
    {d : DotDims ⟨2, ![128, 128]⟩ ⟨2, ![128, 256]⟩ ⟨2, ![128, 256]⟩} (hd : d = DotDims.plain 128 128 256)
    {inb : ∀ x, (![0, b] : Fin 2 → ℕ) x + (![128, 256] : Fin 2 → ℕ) x ≤ (⟨2, ![128, 2048]⟩ : Shape).size x}
    {hs : (⟨2, ![128, 256]⟩ : Shape).ShapeCasts ⟨2, ![128, 256]⟩}
    (ha : a = 128 * s) (hb : b = 256 * s) (hv : Mat v fun i j => C (0 + i) (a + j)) (hw : Mat w fun i j => WRI (s + 0) i j)
    (h : OnMat L (fun i j => ∑ k : Fin 128, C i (128 * (j / 256) + k.val) * WRI (j / 256) k.val (j % 256)) (fun i j => i < 128 ∧ j < b)) :
    OnMat (⟨Rect.unit ![0, b] ![128, 256] inb, shapeCast ⟨2, ![128, 256]⟩
        (Idealize.ShloMosaic.matmul d none v w (constant (F := Ideal) ⟨2, ![128, 256]⟩ .f32 0x00000000#32)) hs⟩ :: L)
      (fun i j => ∑ k : Fin 128, C i (128 * (j / 256) + k.val) * WRI (j / 256) k.val (j % 256)) (fun i j => i < 128 ∧ j < b + 256) := by
  refine OnMat.cons inb h (Mat.cast (Mat.matmul hd hv hw)) ?_ ?_
  · intro i j hi hj _
    simp only [show (b + j) / 256 = s by omega, show (b + j) % 256 = j by omega, Nat.add_zero, ha]
  · intro i j h h'; omega

/-- A block of 128 columns of the recurrence. -/
theorem lru_block {a : ℕ} {G C H f : ℕ → ℕ → EReal} {br bi S : ℕ → EReal} {E I c h0 : FVec Ideal ⟨2, ![128, 128]⟩ .f32}
    {hs : (⟨2, ![128, 128]⟩ : Shape).ShapeCasts ⟨2, ![128, 128]⟩} (ha : a % 128 = 0)
    (hE : Mat E fun i j => Ideal.ofBits .f32 0xC1000000#32 * MixerSpec.sig (G (0 + i) (2 * a + j) + br (a + j)) * S (a + j))
    (hI : Mat I fun i j => MixerSpec.sig (G (0 + i) (2 * a + 128 + j) + bi (a + j)))
    (hc : Mat c fun i j => C (0 + i) (a + j)) (hh : Mat h0 fun i j => H (0 + i) (a + j))
    (hf : ∀ i j, f i j = MixerSpec.lru (G i (256 * (j / 128) + j % 128) + br j) (G i (256 * (j / 128) + 128 + j % 128) + bi j) (S j) (H i j) (C i j)) :
    Mat (Idealize.ShloMosaic.addf (Idealize.ShloMosaic.mulf (Idealize.ShloMosaic.exp E) (shapeCast ⟨2, ![128, 128]⟩ h0 hs))
      (Idealize.ShloMosaic.mulf (Idealize.ShloMosaic.sqrt (Idealize.ShloMosaic.mulf
        (Idealize.ShloMosaic.subf (broadcast ⟨2, ![128, 128]⟩ (Scalar.ofBits (F := Ideal) .f32 0x00000000#32)) (Idealize.ShloMosaic.tanh E))
        (Idealize.ShloMosaic.addf (Idealize.ShloMosaic.mulf (Idealize.ShloMosaic.exp E) (Idealize.ShloMosaic.exp E))
          (broadcast ⟨2, ![128, 128]⟩ (Scalar.ofBits (F := Ideal) .f32 0x3F800000#32))))) (Idealize.ShloMosaic.mulf I c)))
      (fun i j => f (0 + i) (a + j)) := by
  refine (Mat.addf (Mat.mulf (Mat.exp hE) (Mat.cast (h := hs) hh)) (Mat.mulf (Mat.sqrt (Mat.mulf
    (Mat.subf (Mat.const (Ideal.ofBits .f32 0x00000000#32)) (Mat.tanh hE))
    (Mat.addf (Mat.mulf (Mat.exp hE) (Mat.exp hE)) (Mat.const (Ideal.ofBits .f32 0x3F800000#32))))) (Mat.mulf hI hc))).congr ?_
  intro i j hi hj
  rw [hf, show 256 * ((a + j) / 128) + (a + j) % 128 = 2 * a + j by omega,
    show 256 * ((a + j) / 128) + 128 + (a + j) % 128 = 2 * a + 128 + j by omega]
  rfl

/-- One more block of 128 columns. -/
theorem step_cols {a : ℕ} {f : ℕ → ℕ → EReal} {L : List (View.Piece (Elt Ideal) ⟨2, ![128, 1024]⟩ .f32)}
    {w : FVec Ideal ⟨2, ![128, 128]⟩ .f32}
    {inb : ∀ x, (![0, a] : Fin 2 → ℕ) x + (![128, 128] : Fin 2 → ℕ) x ≤ (⟨2, ![128, 1024]⟩ : Shape).size x}
    (hw : Mat w fun i j => f (0 + i) (a + j)) (h : OnMat L f (fun i j => i < 128 ∧ j < a)) :
    OnMat (⟨Rect.unit ![0, a] ![128, 128] inb, w⟩ :: L) f (fun i j => i < 128 ∧ j < a + 128) :=
  OnMat.cons inb h hw (fun _ _ _ _ _ => rfl) fun i j h h' => by omega

end Cert.Mat
-- ==== Proof.MixerTiles.lean ====
/- The block-diagonal weights of the state-space products, as the host line builds them: the rows or columns of a small matrix repeated,
   then multiplied by a mask that compares two whole-number quotients. -/
module

public import proofs.«01_k».proof.Proof.HostRead
public import proofs.«01_k».proof.Proof.MixerOps

@[expose] public section

noncomputable section

namespace Cert.MixerTiles

open Cert.Mat
open Idealize.ShloMosaic hiding ix1 ix2 ix3 ix4 eq_ix2
open Idealize.ShloMosaic.ValueIdx (ix1 ix2 ix3 ix4)

/-! ## The mask -/

/-- The sign of a word: `0`, `-1` or `1`. -/
def sgn (x : BitVec 32) : BitVec 32 := if x = 0 then 0 else if x.msb then -1 else 1

/-- The quotient of two words rounded down: one less than the quotient rounded toward zero when the signs differ and the division is not
    exact. -/
def quot (x c : BitVec 32) : BitVec 32 :=
  Scalar.select (IntOp.andi (IntOp.cmpi .ne (sgn x) (sgn c)) (IntOp.cmpi .ne (IntOp.remsi .host x c) 0#32))
    (IntOp.subi (IntOp.divsi .host x c) 1#32) (IntOp.divsi .host x c)

theorem quot_16 : ∀ n : Fin 512, quot (BitVec.ofNat 32 n.val) 16#32 = BitVec.ofNat 32 (n.val / 16) := by decide +kernel

theorem quot_64 : ∀ n : Fin 2048, quot (BitVec.ofNat 32 n.val) 64#32 = BitVec.ofNat 32 (n.val / 64) := by decide +kernel

/-- Two small numbers compared for equality, the answer converted: one or zero. -/
theorem mask_at {a b : ℕ} (ha : a < 2048) (hb : b < 2048) :
    (FloatOps.uitofp .f32 (IntOp.cmpi .eq (BitVec.ofNat 32 a) (BitVec.ofNat 32 b)) : Ideal .f32) = if a = b then (1 : EReal) else 0 := by
  have key : (BitVec.ofNat 32 a == BitVec.ofNat 32 b) = decide (a = b) := by
    rw [Bool.eq_iff_iff, beq_iff_eq, decide_eq_true_iff]
    constructor
    · intro e
      have := congrArg BitVec.toNat e
      rwa [BitVec.toNat_ofNat, BitVec.toNat_ofNat, Nat.mod_eq_of_lt (show a < 2 ^ 32 by omega), Nat.mod_eq_of_lt (show b < 2 ^ 32 by omega)] at this
    · rintro rfl; rfl
  show (((BitVec.ofBool (BitVec.ofNat 32 a == BitVec.ofNat 32 b)).toNat : ℝ) : EReal) = _
  rw [key]
  by_cases h : a = b
  · rw [if_pos h, decide_eq_true h]; simp
  · rw [if_neg h, decide_eq_false h]; simp

/-- A matrix of numbers multiplied by the mask of two quotients keeps the entries where they agree and is zero elsewhere. -/
theorem masked {m n : ℕ} {X : FVec Ideal ⟨2, ![m, n]⟩ .f32} {P Q : IVec ⟨2, ![m, n]⟩ 32} {f : ℕ → ℕ → EReal} {p q : ℕ → ℕ}
    (hX : Mat X f) (hP : Mat P fun i _ => BitVec.ofNat 32 (p i)) (hQ : Mat Q fun _ j => BitVec.ofNat 32 (q j))
    (hp : ∀ i, i < m → p i < 2048) (hq : ∀ j, j < n → q j < 2048) :
    Mat (mulf X (uitofp .f32 (cmpi .eq P Q))) (fun i j => if p i = q j then f i j else 0) := by
  intro i
  show X i * (FloatOps.uitofp .f32 (IntOp.cmpi .eq (P i) (Q i)) : Ideal .f32) = _
  rw [hX i, hP i, hQ i, mask_at (hp _ (i 0).isLt) (hq _ (i 1).isLt)]
  by_cases h : p (i 0).val = q (i 1).val
  · rw [if_pos h, mul_one]; exact (if_pos h).symm
  · rw [if_neg h, mul_zero]; exact (if_neg h).symm

/-- A column of words repeated along the rows. -/
theorem words_col {m n : ℕ} {X : IVec ⟨2, ![m, 1]⟩ 32} {h : (⟨2, ![m, 1]⟩ : Shape).BroadcastsInDim ⟨2, ![m, n]⟩ ![0, 1]} {f : ℕ → BitVec 32}
    (hX : Mat X fun i _ => f i) (hm : m ≠ 1) : Mat (broadcastInDim ⟨2, ![m, n]⟩ ![0, 1] h X) (fun i _ => f i) := by
  intro i
  refine (broadcastInDim_apply _ h X i (ix2 (i 0) (⟨0, Nat.one_pos⟩ : Fin 1)) fun a => ?_).trans (hX _)
  match a with
  | ⟨0, _⟩ => exact (if_neg hm).symm
  | ⟨1, _⟩ => rfl

/-- A row of words repeated along the columns. -/
theorem words_row {m n : ℕ} {X : IVec ⟨2, ![1, n]⟩ 32} {h : (⟨2, ![1, n]⟩ : Shape).BroadcastsInDim ⟨2, ![m, n]⟩ ![0, 1]} {f : ℕ → BitVec 32}
    (hX : Mat X fun _ j => f j) (hn : n ≠ 1) : Mat (broadcastInDim ⟨2, ![m, n]⟩ ![0, 1] h X) (fun _ j => f j) := by
  intro i
  refine (broadcastInDim_apply _ h X i (ix2 (⟨0, Nat.one_pos⟩ : Fin 1) (i 1)) fun a => ?_).trans (hX _)
  match a with
  | ⟨0, _⟩ => rfl
  | ⟨1, _⟩ => exact (if_neg hn).symm

/-! ## The repeated matrices -/

/-- A matrix of 16 rows repeated 32 times down the rows. -/
theorem tile_rows (x : (⟨2, ![16, 2048]⟩ : Shape).Idx → EReal) (h : (⟨2, ![16, 2048]⟩ : Shape).ShapeCasts ⟨4, ![1, 16, 1, 2048]⟩)
    (hb : (⟨4, ![1, 16, 1, 2048]⟩ : Shape).BroadcastsInDim ⟨4, ![32, 16, 1, 2048]⟩ ![0, 1, 2, 3])
    (h' : (⟨4, ![32, 16, 1, 2048]⟩ : Shape).ShapeCasts ⟨2, ![512, 2048]⟩) :
    Mat (shapeCast ⟨2, ![512, 2048]⟩ (broadcastInDim ⟨4, ![32, 16, 1, 2048]⟩ ![0, 1, 2, 3] hb (shapeCast ⟨4, ![1, 16, 1, 2048]⟩ x h)) h')
      (fun k j => at2 x (k % 16) j) := by
  intro i
  have hk : (i 0).val < 512 := (i 0).isLt
  have hq : (i 0).val / 16 < 32 := by omega
  have hr : (i 0).val % 16 < 16 := by omega
  refine (shapeCast_apply _ _ _ (ix4 (⟨(i 0).val / 16, hq⟩ : Fin 32) (⟨(i 0).val % 16, hr⟩ : Fin 16) (⟨0, Nat.one_pos⟩ : Fin 1) (i 1)) ?_).trans
    ((broadcastInDim_apply _ hb _ _ (ix4 (⟨0, Nat.one_pos⟩ : Fin 1) (⟨(i 0).val % 16, hr⟩ : Fin 16) (⟨0, Nat.one_pos⟩ : Fin 1) (i 1)) fun a => ?_).trans
      ((shapeCast_apply _ _ _ (ix2 (⟨(i 0).val % 16, hr⟩ : Fin 16) (i 1)) ?_).trans (at2_eq _ _)))
  · refine (Shape.rowMajor_val_four _).trans (Eq.trans ?_ (Shape.rowMajor_val_two _).symm)
    show (((i 0).val / 16 * 16 + (i 0).val % 16) * 1 + 0) * 2048 + (i 1).val = (i 0).val * 2048 + (i 1).val
    omega
  · match a with
    | ⟨0, _⟩ => rfl
    | ⟨1, _⟩ => rfl
    | ⟨2, _⟩ => rfl
    | ⟨3, _⟩ => rfl
  · refine (Shape.rowMajor_val_two _).trans (Eq.trans ?_ (Shape.rowMajor_val_four _).symm)
    show (i 0).val % 16 * 2048 + (i 1).val = ((0 * 16 + (i 0).val % 16) * 1 + 0) * 2048 + (i 1).val
    omega

/-- A matrix of 16 columns repeated 32 times along the columns. -/
theorem tile_cols {x : (⟨2, ![2048, 16]⟩ : Shape).Idx → EReal} {f : ℕ → ℕ → EReal} (hx : Mat x f)
    (h : (⟨2, ![2048, 16]⟩ : Shape).ShapeCasts ⟨4, ![1, 2048, 1, 16]⟩)
    (hb : (⟨4, ![1, 2048, 1, 16]⟩ : Shape).BroadcastsInDim ⟨4, ![1, 2048, 32, 16]⟩ ![0, 1, 2, 3])
    (h' : (⟨4, ![1, 2048, 32, 16]⟩ : Shape).ShapeCasts ⟨2, ![2048, 512]⟩) :
    Mat (shapeCast ⟨2, ![2048, 512]⟩ (broadcastInDim ⟨4, ![1, 2048, 32, 16]⟩ ![0, 1, 2, 3] hb (shapeCast ⟨4, ![1, 2048, 1, 16]⟩ x h)) h')
      (fun k j => f k (j % 16)) := by
  intro i
  have hk : (i 1).val < 512 := (i 1).isLt
  have hq : (i 1).val / 16 < 32 := by omega
  have hr : (i 1).val % 16 < 16 := by omega
  refine (shapeCast_apply _ _ _ (ix4 (⟨0, Nat.one_pos⟩ : Fin 1) (i 0) (⟨(i 1).val / 16, hq⟩ : Fin 32) (⟨(i 1).val % 16, hr⟩ : Fin 16)) ?_).trans
    ((broadcastInDim_apply _ hb _ _ (ix4 (⟨0, Nat.one_pos⟩ : Fin 1) (i 0) (⟨0, Nat.one_pos⟩ : Fin 1) (⟨(i 1).val % 16, hr⟩ : Fin 16)) fun a => ?_).trans
      ((shapeCast_apply _ _ _ (ix2 (i 0) (⟨(i 1).val % 16, hr⟩ : Fin 16)) ?_).trans (hx _)))
  · refine (Shape.rowMajor_val_four _).trans (Eq.trans ?_ (Shape.rowMajor_val_two _).symm)
    show ((0 * 2048 + (i 0).val) * 32 + (i 1).val / 16) * 16 + (i 1).val % 16 = (i 0).val * 512 + (i 1).val
    omega
  · match a with
    | ⟨0, _⟩ => rfl
    | ⟨1, _⟩ => rfl
    | ⟨2, _⟩ => rfl
    | ⟨3, _⟩ => rfl
  · refine (Shape.rowMajor_val_two _).trans (Eq.trans ?_ (Shape.rowMajor_val_four _).symm)
    show (i 0).val * 16 + (i 1).val % 16 = ((0 * 2048 + (i 0).val) * 1 + 0) * 16 + (i 1).val % 16
    omega

/-- A stack of 32 matrices of 16 rows and 64 columns, each transposed, the stack joined into one matrix of 2048 rows. -/
theorem turned (x : (⟨4, ![1, 32, 16, 64]⟩ : Shape).Idx → EReal) (h : (⟨4, ![1, 32, 16, 64]⟩ : Shape).ShapeCasts ⟨3, ![32, 16, 64]⟩)
    (ht : (⟨3, ![32, 16, 64]⟩ : Shape).Transposes [0, 2, 1] ⟨3, ![32, 64, 16]⟩)
    (h' : (⟨3, ![32, 64, 16]⟩ : Shape).ShapeCasts ⟨2, ![2048, 16]⟩) :
    Mat (shapeCast ⟨2, ![2048, 16]⟩ (transpose ⟨3, ![32, 64, 16]⟩ [0, 2, 1] (shapeCast ⟨3, ![32, 16, 64]⟩ x h) ht) h')
      (fun k j => at4 x 0 (k / 64) j (k % 64)) := by
  intro i
  have hk : (i 0).val < 2048 := (i 0).isLt
  have hq : (i 0).val / 64 < 32 := by omega
  have hr : (i 0).val % 64 < 64 := by omega
  refine (shapeCast_apply _ _ _ (ix3 (⟨(i 0).val / 64, hq⟩ : Fin 32) (⟨(i 0).val % 64, hr⟩ : Fin 64) (i 1)) ?_).trans
    ((transpose_apply _ _ _ _ (ix3 (⟨(i 0).val / 64, hq⟩ : Fin 32) (i 1) (⟨(i 0).val % 64, hr⟩ : Fin 64)) ?_).trans
      ((shapeCast_apply _ _ _ (ix4 (⟨0, Nat.one_pos⟩ : Fin 1) (⟨(i 0).val / 64, hq⟩ : Fin 32) (i 1) (⟨(i 0).val % 64, hr⟩ : Fin 64)) ?_).trans
        (at4_eq _ _)))
  · refine (Shape.rowMajor_val_three _).trans (Eq.trans ?_ (Shape.rowMajor_val_two _).symm)
    show ((i 0).val / 64 * 64 + (i 0).val % 64) * 16 + (i 1).val = (i 0).val * 16 + (i 1).val
    omega
  · intro a
    match a with
    | ⟨0, _⟩ => rfl
    | ⟨1, _⟩ => rfl
    | ⟨2, _⟩ => rfl
  · refine (Shape.rowMajor_val_four _).trans (Eq.trans ?_ (Shape.rowMajor_val_three _).symm)
    show ((0 * 32 + (i 0).val / 64) * 16 + (i 1).val) * 64 + (i 0).val % 64 = ((i 0).val / 64 * 16 + (i 1).val) * 64 + (i 0).val % 64
    omega

/-! ## Blocks cut out and joined -/

/-- A block cut out of a matrix. -/
theorem block {m n a b o p : ℕ} {X : (⟨2, ![m, n]⟩ : Shape).Idx → EReal} {h : (⟨2, ![m, n]⟩ : Shape).Slices ![o, p] ⟨2, ![a, b]⟩}
    {f : ℕ → ℕ → EReal} (hX : Mat X f) : Mat (extractStridedSlice ⟨2, ![a, b]⟩ ![o, p] X h) (fun i j => f (o + i) (p + j)) := by
  intro i
  have h0 : o + (i 0).val < m := Nat.lt_of_lt_of_le (Nat.add_lt_add_left (i 0).isLt o) (h.2 0)
  have h1 : p + (i 1).val < n := Nat.lt_of_lt_of_le (Nat.add_lt_add_left (i 1).isLt p) (h.2 1)
  refine (extractStridedSlice_apply _ X h i (ix2 ⟨o + (i 0).val, h0⟩ ⟨p + (i 1).val, h1⟩) fun a => ?_).trans (hX _)
  match a with
  | ⟨0, _⟩ => rfl
  | ⟨1, _⟩ => rfl

/-- Two matrices side by side. -/
theorem beside {m n k : ℕ} {X Y : (⟨2, ![m, n]⟩ : Shape).Idx → EReal}
    {h : Shape.Concatenates [⟨2, ![m, n]⟩, ⟨2, ![m, n]⟩] ⟨2, ![m, k]⟩ 1} {f g : ℕ → ℕ → EReal} (hk : k = n + n) (hX : Mat X f) (hY : Mat Y g) :
    Mat (concatenate ⟨2, ![m, k]⟩ 1 [⟨⟨2, ![m, n]⟩, X⟩, ⟨⟨2, ![m, n]⟩, Y⟩] h) (fun i j => if j < n then f i j else g i (j - n)) := by
  intro i
  have hi : (i 1).val < k := (i 1).isLt
  by_cases hl : (i 1).val < n
  · refine Eq.trans ?_ (if_pos hl).symm
    refine (concatenate_pair_apply_left (1 : Fin 2) X Y h i rfl (ix2 (i 0) ⟨(i 1).val, hl⟩) fun b => ?_).trans (hX _)
    match b with
    | ⟨0, _⟩ => rfl
    | ⟨1, _⟩ => rfl
  · refine Eq.trans ?_ (if_neg hl).symm
    refine (concatenate_pair_apply_right (1 : Fin 2) X Y h i rfl rfl (ix2 (i 0) ⟨(i 1).val - n, by omega⟩) (fun b hb => ?_) ?_).trans (hY _)
    · match b with
      | ⟨0, _⟩ => rfl
      | ⟨1, _⟩ => exact absurd rfl hb
    · show (i 1).val - n + n = (i 1).val
      omega

/-- Two matrices stacked. -/
theorem stacked {m n : ℕ} {X Y : (⟨2, ![m, n]⟩ : Shape).Idx → EReal} {hx : (⟨2, ![m, n]⟩ : Shape).BroadcastsInDim ⟨3, ![1, m, n]⟩ ![1, 2]}
    {A B : (⟨3, ![1, m, n]⟩ : Shape).Idx → EReal} (hA : A = broadcastInDim ⟨3, ![1, m, n]⟩ ![1, 2] hx X)
    (hB : B = broadcastInDim ⟨3, ![1, m, n]⟩ ![1, 2] hx Y)
    {h : Shape.Concatenates [⟨3, ![1, m, n]⟩, ⟨3, ![1, m, n]⟩] ⟨3, ![2, m, n]⟩ 0} {f : ℕ → ℕ → ℕ → EReal}
    (hm : m ≠ 1) (hn : n ≠ 1) (hX : Mat X (f 0)) (hY : Mat Y (f 1)) :
    Mat3 (concatenate ⟨3, ![2, m, n]⟩ 0 [⟨⟨3, ![1, m, n]⟩, A⟩, ⟨⟨3, ![1, m, n]⟩, B⟩] h) f := by
  intro i
  have hi : (i 0).val < 2 := (i 0).isLt
  have key : ∀ Z : (⟨2, ![m, n]⟩ : Shape).Idx → EReal,
      broadcastInDim ⟨3, ![1, m, n]⟩ ![1, 2] hx Z (ix3 (⟨0, Nat.one_pos⟩ : Fin 1) (i 1) (i 2)) = Z (ix2 (i 1) (i 2)) := fun Z => by
    refine broadcastInDim_apply _ hx Z _ (ix2 (i 1) (i 2)) fun a => ?_
    match a with
    | ⟨0, _⟩ => exact (if_neg hm).symm
    | ⟨1, _⟩ => exact (if_neg hn).symm
  by_cases hl : (i 0).val = 0
  · rw [hl]
    refine (concatenate_pair_apply_left (0 : Fin 3) A B h i rfl (ix3 (⟨0, Nat.one_pos⟩ : Fin 1) (i 1) (i 2)) fun b => ?_).trans ?_
    · match b with
      | ⟨0, _⟩ => exact hl.symm
      | ⟨1, _⟩ => rfl
      | ⟨2, _⟩ => rfl
    · rw [hA, key]
      exact hX _
  · rw [show (i 0).val = 1 by omega]
    refine (concatenate_pair_apply_right (0 : Fin 3) A B h i rfl rfl (ix3 (⟨0, Nat.one_pos⟩ : Fin 1) (i 1) (i 2)) (fun b hb => ?_) ?_).trans ?_
    · match b with
      | ⟨0, _⟩ => exact absurd rfl hb
      | ⟨1, _⟩ => rfl
      | ⟨2, _⟩ => rfl
    · show 0 + 1 = (i 0).val
      omega
    · rw [hB, key]
      exact hY _

/-- Two stacks of matrices joined side by side, each with its leading unit axis dropped. -/
theorem beside3 {l m n k : ℕ} (x y : (⟨4, ![1, l, m, n]⟩ : Shape).Idx → EReal) {A B : (⟨3, ![l, m, n]⟩ : Shape).Idx → EReal}
    {hx : (⟨4, ![1, l, m, n]⟩ : Shape).ShapeCasts ⟨3, ![l, m, n]⟩}
    (hA : A = shapeCast ⟨3, ![l, m, n]⟩ x hx) (hB : B = shapeCast ⟨3, ![l, m, n]⟩ y hx)
    {h : Shape.Concatenates [⟨3, ![l, m, n]⟩, ⟨3, ![l, m, n]⟩] ⟨3, ![l, m, k]⟩ 2} (hk : k = n + n) :
    Mat3 (concatenate ⟨3, ![l, m, k]⟩ 2 [⟨⟨3, ![l, m, n]⟩, A⟩, ⟨⟨3, ![l, m, n]⟩, B⟩] h)
      (fun s i j => if j < n then at4 x 0 s i j else at4 y 0 s i (j - n)) := by
  intro i
  have hi : (i 2).val < k := (i 2).isLt
  have key : ∀ (z : (⟨4, ![1, l, m, n]⟩ : Shape).Idx → EReal) (t : Fin n),
      shapeCast ⟨3, ![l, m, n]⟩ z hx (ix3 (i 0) (i 1) t) = at4 z 0 (i 0).val (i 1).val t.val := fun z t => by
    refine (shapeCast_apply _ _ _ (ix4 (⟨0, Nat.one_pos⟩ : Fin 1) (i 0) (i 1) t) ?_).trans (at4_eq _ _)
    refine (Shape.rowMajor_val_four _).trans (Eq.trans ?_ (Shape.rowMajor_val_three _).symm)
    show ((0 * l + (i 0).val) * m + (i 1).val) * n + t.val = ((i 0).val * m + (i 1).val) * n + t.val
    rw [Nat.zero_mul, Nat.zero_add]
  by_cases hl : (i 2).val < n
  · refine Eq.trans ?_ (if_pos hl).symm
    refine (concatenate_pair_apply_left (2 : Fin 3) A B h i rfl (ix3 (i 0) (i 1) ⟨(i 2).val, hl⟩) fun b => ?_).trans ?_
    · match b with
      | ⟨0, _⟩ => rfl
      | ⟨1, _⟩ => rfl
      | ⟨2, _⟩ => rfl
    · rw [hA]; exact key x _
  · refine Eq.trans ?_ (if_neg hl).symm
    refine (concatenate_pair_apply_right (2 : Fin 3) A B h i rfl rfl (ix3 (i 0) (i 1) ⟨(i 2).val - n, by omega⟩) (fun b hb => ?_) ?_).trans ?_
    · match b with
      | ⟨0, _⟩ => rfl
      | ⟨1, _⟩ => rfl
      | ⟨2, _⟩ => exact absurd rfl hb
    · show (i 2).val - n + n = (i 2).val
      omega
    · rw [hB]; exact key y _

/-! ## Plain re-shapings -/

/-- A middle unit axis dropped. -/
theorem drop_mid {a b : ℕ} (x : (⟨3, ![a, 1, b]⟩ : Shape).Idx → EReal) (h : (⟨3, ![a, 1, b]⟩ : Shape).ShapeCasts ⟨2, ![a, b]⟩) :
    Mat (shapeCast ⟨2, ![a, b]⟩ x h) (fun i j => at3 x i 0 j) := by
  intro i
  refine (shapeCast_apply _ _ _ (ix3 (i 0) (⟨0, Nat.one_pos⟩ : Fin 1) (i 1)) ?_).trans (at3_eq _ _)
  refine (Shape.rowMajor_val_three _).trans (Eq.trans ?_ (Shape.rowMajor_val_two _).symm)
  show ((i 0).val * 1 + 0) * b + (i 1).val = (i 0).val * b + (i 1).val
  rw [Nat.mul_one, Nat.add_zero]

/-- A vector as one row. -/
theorem as_row {n : ℕ} (x : (⟨1, ![n]⟩ : Shape).Idx → EReal) (h : (⟨1, ![n]⟩ : Shape).ShapeCasts ⟨2, ![1, n]⟩) :
    Mat (shapeCast ⟨2, ![1, n]⟩ x h) (fun _ j => at1 x j) := by
  intro i
  refine (shapeCast_apply _ _ _ (ix1 (i 1)) ?_).trans (at1_eq _ _)
  refine (Shape.rowMajor_val_one _).trans (Eq.trans ?_ (Shape.rowMajor_val_two _).symm)
  show (i 1).val = (i 0).val * n + (i 1).val
  rw [show (i 0).val = 0 from Nat.lt_one_iff.mp (i 0).isLt, Nat.zero_mul, Nat.zero_add]

/-- The two last axes of a rank-four array with a leading unit axis joined. -/
theorem joined (x : (⟨4, ![1, 128, 32, 64]⟩ : Shape).Idx → EReal) (h : (⟨4, ![1, 128, 32, 64]⟩ : Shape).ShapeCasts ⟨3, ![128, 32, 64]⟩)
    (h' : (⟨3, ![128, 32, 64]⟩ : Shape).ShapeCasts ⟨2, ![128, 2048]⟩) :
    Mat (shapeCast ⟨2, ![128, 2048]⟩ (shapeCast ⟨3, ![128, 32, 64]⟩ x h) h') (fun i j => at4 x 0 i (j / 64) (j % 64)) := by
  intro i
  have hk : (i 1).val < 2048 := (i 1).isLt
  have hq : (i 1).val / 64 < 32 := by omega
  have hr : (i 1).val % 64 < 64 := by omega
  refine (shapeCast_apply _ _ _ (ix3 (i 0) (⟨(i 1).val / 64, hq⟩ : Fin 32) (⟨(i 1).val % 64, hr⟩ : Fin 64)) ?_).trans
    ((shapeCast_apply _ _ _ (ix4 (⟨0, Nat.one_pos⟩ : Fin 1) (i 0) (⟨(i 1).val / 64, hq⟩ : Fin 32) (⟨(i 1).val % 64, hr⟩ : Fin 64)) ?_).trans (at4_eq _ _))
  · refine (Shape.rowMajor_val_three _).trans (Eq.trans ?_ (Shape.rowMajor_val_two _).symm)
    show ((i 0).val * 32 + (i 1).val / 64) * 64 + (i 1).val % 64 = (i 0).val * 2048 + (i 1).val
    omega
  · refine (Shape.rowMajor_val_four _).trans (Eq.trans ?_ (Shape.rowMajor_val_three _).symm)
    show ((0 * 128 + (i 0).val) * 32 + (i 1).val / 64) * 64 + (i 1).val % 64 = ((i 0).val * 32 + (i 1).val / 64) * 64 + (i 1).val % 64
    omega

end Cert.MixerTiles

end
-- ==== Proof.MixerEntry.lean ====
/- What the host line leaves in the block-diagonal weights and the joined gate weights when the mixing call starts. -/
module

public import Idealize.ShloMosaic.Lib.StableHlo.RunRead
public import proofs.«01_k».proof.Proof.Gen.KernelIdeal.Frame.Runs
public import proofs.«01_k».proof.Proof.MixerTiles
public import proofs.«01_k».proof.Proof.MixerSpec

@[expose] public section

set_option maxRecDepth 16384

noncomputable section

namespace Cert.MixerEq

open Cert.KernelIdeal Cert.KernelIdeal.Gen Cert.Mat Cert.HostRead Cert.MixerTiles
open Idealize.ShloMosaic hiding ix1 ix2 ix3 ix4 eq_ix2
open Idealize.ShloMosaic.ValueIdx (ix1 ix2 ix3 ix4)

variable (m : (ℓ : Loc nD τ sig) → Buf (Elt Ideal) ℓ) (c : Dev nD)

/-! ## The argument arrays as functions of natural coordinates -/

/-- The real input matrix of the state-space branch: 16 inputs of each group, then the channels. -/
def bre : ℕ → ℕ → EReal := at2 (a := 16) (b := 2048) (m (c.tc.loc main_arg18))
/-- Its imaginary part. -/
def bim : ℕ → ℕ → EReal := at2 (a := 16) (b := 2048) (m (c.tc.loc main_arg19))
/-- The real output matrix: group, output, channel. -/
def cre : ℕ → ℕ → ℕ → EReal := at4 (a := 1) (b := 32) (c := 16) (d := 64) (m (c.tc.loc main_arg20)) 0
/-- Its imaginary part. -/
def cim : ℕ → ℕ → ℕ → EReal := at4 (a := 1) (b := 32) (c := 16) (d := 64) (m (c.tc.loc main_arg21)) 0

/-- The arrays of the step: arguments, or arguments laid out as the call receives them. -/
def p : MixerSpec.Arrays where
  x i j := at3 (a := 128) (b := 1) (c := 1024) (m (c.tc.loc main_arg0)) i 0 j
  cache r j := at4 (a := 1) (b := 128) (c := 3) (d := 1024) (m (c.tc.loc main_arg1)) 0 (r % 128) (r / 128) j
  h0 := at3 (a := 1) (b := 128) (c := 1024) (m (c.tc.loc main_arg2)) 0
  sre i j := at4 (a := 1) (b := 128) (c := 32) (d := 64) (m (c.tc.loc main_arg3)) 0 i (j / 64) (j % 64)
  sim i j := at4 (a := 1) (b := 128) (c := 32) (d := 64) (m (c.tc.loc main_arg4)) 0 i (j / 64) (j % 64)
  embg := at1 (a := 1024) (m (c.tc.loc main_arg5))
  embb := at1 (a := 1024) (m (c.tc.loc main_arg6))
  win := at3 (a := 1) (b := 1024) (c := 3584) (m (c.tc.loc main_arg7)) 0
  bin := at2 (a := 1) (b := 3584) (m (c.tc.loc main_arg8)) 0
  cw := at3 (a := 1) (b := 4) (c := 1024) (m (c.tc.loc main_arg9)) 0
  cb := at2 (a := 1) (b := 1024) (m (c.tc.loc main_arg10)) 0
  wri s i j := if j < 128 then at4 (a := 1) (b := 8) (c := 128) (d := 128) (m (c.tc.loc main_arg11)) 0 s i j
    else at4 (a := 1) (b := 8) (c := 128) (d := 128) (m (c.tc.loc main_arg13)) 0 s i (j - 128)
  br := at2 (a := 1) (b := 1024) (m (c.tc.loc main_arg12)) 0
  bi := at2 (a := 1) (b := 1024) (m (c.tc.loc main_arg14)) 0
  lam := at2 (a := 1) (b := 1024) (m (c.tc.loc main_arg15)) 0
  are := at2 (a := 1) (b := 2048) (m (c.tc.loc main_arg16)) 0
  aim := at2 (a := 1) (b := 2048) (m (c.tc.loc main_arg17)) 0
  wb s k j := if j < 1024 then (if (256 * s + k) / 16 = (1024 * s + j) / 64 then bre m c ((256 * s + k) % 16) (1024 * s + j) else 0)
    else if (256 * s + k) / 16 = (1024 * s + (j - 1024)) / 64 then bim m c ((256 * s + k) % 16) (1024 * s + (j - 1024)) else 0
  wcre s k j := if (1024 * s + k) / 64 = (256 * s + j) / 16 then cre m c ((1024 * s + k) / 64) ((256 * s + j) % 16) ((1024 * s + k) % 64) else 0
  wcim s k j := if (1024 * s + k) / 64 = (256 * s + j) / 16 then cim m c ((1024 * s + k) / 64) ((256 * s + j) % 16) ((1024 * s + k) % 64) else 0
  d := at2 (a := 1) (b := 512) (m (c.tc.loc main_arg22)) 0
  wglu := at3 (a := 1) (b := 512) (c := 2048) (m (c.tc.loc main_arg23)) 0
  bglu := at2 (a := 1) (b := 2048) (m (c.tc.loc main_arg24)) 0
  wout := at3 (a := 1) (b := 1024) (c := 1024) (m (c.tc.loc main_arg25)) 0
  bout := at2 (a := 1) (b := 1024) (m (c.tc.loc main_arg26)) 0
  lng := at2 (a := 1) (b := 1024) (m (c.tc.loc main_arg27)) 0
  lnb := at2 (a := 1) (b := 1024) (m (c.tc.loc main_arg28)) 0

/-! ## The buffers on the way

Each is named so that its own operations are opened only where it is computed. -/

/-- The row quotients of the input mask. -/
def W4 : S512x1.Idx → BitVec 32 := V m c main_v4
/-- Its column quotients. -/
def W7 : S1x2048.Idx → BitVec 32 := V m c main_v7
/-- The row quotients of the output mask. -/
def W32 : S2048x1.Idx → BitVec 32 := V m c main_v32
/-- Its column quotients. -/
def W35 : S1x512.Idx → BitVec 32 := V m c main_v35
/-- The masked real input matrix. -/
def B15 : S512x2048.Idx → EReal := V m c main_v15
/-- The masked imaginary input matrix. -/
def B19 : S512x2048.Idx → EReal := V m c main_v19
/-- The masked real output matrix. -/
def B45 : S2048x512.Idx → EReal := V m c main_v45
/-- The masked imaginary output matrix. -/
def B57 : S2048x512.Idx → EReal := V m c main_v57
/-- The first slab of the input products' weights. -/
def B22 : S256x2048.Idx → EReal := V m c main_v22
/-- The second slab. -/
def B25 : S256x2048.Idx → EReal := V m c main_v25

attribute [irreducible] W4 W7 W32 W35 B15 B19 B45 B57 B22 B25

/-! ## The whole-number quotients of the masks -/

theorem words_v4 : Mat (W4 m c) fun i _ => BitVec.ofNat 32 (i / 16) := by
  intro i
  refine Eq.trans ?_ (quot_16 (i 0))
  unfold W4
  after_reads_simp
  simp -implicitDefEqProofs only [StableHlo.TRef.toBuf, StableHlo.TRef.ofBuf, cast_cast, cast_eq]
  rfl

theorem words_v7 : Mat (W7 m c) fun _ j => BitVec.ofNat 32 (j / 64) := by
  intro i
  refine Eq.trans ?_ (quot_64 (i 1))
  unfold W7
  after_reads_simp
  simp -implicitDefEqProofs only [StableHlo.TRef.toBuf, StableHlo.TRef.ofBuf, cast_cast, cast_eq]
  rfl

theorem words_v32 : Mat (W32 m c) fun i _ => BitVec.ofNat 32 (i / 64) := by
  intro i
  refine Eq.trans ?_ (quot_64 (i 0))
  unfold W32
  after_reads_simp
  simp -implicitDefEqProofs only [StableHlo.TRef.toBuf, StableHlo.TRef.ofBuf, cast_cast, cast_eq]
  rfl

theorem words_v35 : Mat (W35 m c) fun _ j => BitVec.ofNat 32 (j / 16) := by
  intro i
  refine Eq.trans ?_ (quot_16 (i 1))
  unfold W35
  after_reads_simp
  simp -implicitDefEqProofs only [StableHlo.TRef.toBuf, StableHlo.TRef.ofBuf, cast_cast, cast_eq]
  rfl

/-- An array equal to one that holds `f` holds `f`. -/
theorem mat_of_eq {α : Type} {a b : ℕ} {X Y : (⟨2, ![a, b]⟩ : Shape).Idx → α} {f : ℕ → ℕ → α} (h : X = Y) (hY : Mat Y f) : Mat X f :=
  h ▸ hY

/-! ## The masked matrices before they are cut -/

theorem masked_v15 : Mat (B15 m c) fun k j => if k / 16 = j / 64 then bre m c (k % 16) j else (0 : EReal) := by
  refine mat_of_eq ?_ (masked (f := fun k j => bre m c (k % 16) j) (p := fun k => k / 16) (q := fun j => j / 64)
    (tile_rows (m (c.tc.loc main_arg18) : S16x2048.Idx → EReal) shapeCasts_S16x2048_S1x16x1x2048 bcast_S1x16x1x2048_S32x16x1x2048_0_1_2_3
      shapeCasts_S32x16x1x2048_S512x2048)
    (words_col (h := bcast_S512x1_S512x2048_0_1) (words_v4 m c) (by omega))
    (words_row (h := bcast_S1x2048_S512x2048_0_1) (words_v7 m c) (by omega)) (fun i hi => by omega) (fun j hj => by omega))
  unfold B15 W4 W7
  after_reads_simp
  rfl

theorem masked_v19 : Mat (B19 m c) fun k j => if k / 16 = j / 64 then bim m c (k % 16) j else (0 : EReal) := by
  refine mat_of_eq ?_ (masked (f := fun k j => bim m c (k % 16) j) (p := fun k => k / 16) (q := fun j => j / 64)
    (tile_rows (m (c.tc.loc main_arg19) : S16x2048.Idx → EReal) shapeCasts_S16x2048_S1x16x1x2048 bcast_S1x16x1x2048_S32x16x1x2048_0_1_2_3
      shapeCasts_S32x16x1x2048_S512x2048)
    (words_col (h := bcast_S512x1_S512x2048_0_1) (words_v4 m c) (by omega))
    (words_row (h := bcast_S1x2048_S512x2048_0_1) (words_v7 m c) (by omega)) (fun i hi => by omega) (fun j hj => by omega))
  unfold B19 W4 W7
  after_reads_simp
  rfl

theorem masked_v45 : Mat (B45 m c) fun k j => if k / 64 = j / 16 then cre m c (k / 64) (j % 16) (k % 64) else (0 : EReal) := by
  refine mat_of_eq ?_ (masked (f := fun k j => cre m c (k / 64) (j % 16) (k % 64)) (p := fun k => k / 64) (q := fun j => j / 16)
    (tile_cols (f := fun k j => cre m c (k / 64) j (k % 64)) (turned (m (c.tc.loc main_arg20) : S1x32x16x64.Idx → EReal)
        shapeCasts_S1x32x16x64_S32x16x64 transposes_S32x16x64_S32x64x16_0_2_1 shapeCasts_S32x64x16_S2048x16)
      shapeCasts_S2048x16_S1x2048x1x16 bcast_S1x2048x1x16_S1x2048x32x16_0_1_2_3 shapeCasts_S1x2048x32x16_S2048x512)
    (words_col (h := bcast_S2048x1_S2048x512_0_1) (words_v32 m c) (by omega))
    (words_row (h := bcast_S1x512_S2048x512_0_1) (words_v35 m c) (by omega)) (fun i hi => by omega) (fun j hj => by omega))
  unfold B45 W32 W35
  after_reads_simp
  rfl

theorem masked_v57 : Mat (B57 m c) fun k j => if k / 64 = j / 16 then cim m c (k / 64) (j % 16) (k % 64) else (0 : EReal) := by
  refine mat_of_eq ?_ (masked (f := fun k j => cim m c (k / 64) (j % 16) (k % 64)) (p := fun k => k / 64) (q := fun j => j / 16)
    (tile_cols (f := fun k j => cim m c (k / 64) j (k % 64)) (turned (m (c.tc.loc main_arg21) : S1x32x16x64.Idx → EReal)
        shapeCasts_S1x32x16x64_S32x16x64 transposes_S32x16x64_S32x64x16_0_2_1 shapeCasts_S32x64x16_S2048x16)
      shapeCasts_S2048x16_S1x2048x1x16 bcast_S1x2048x1x16_S1x2048x32x16_0_1_2_3 shapeCasts_S1x2048x32x16_S2048x512)
    (words_col (h := bcast_S2048x1_S2048x512_0_1) (words_v32 m c) (by omega))
    (words_row (h := bcast_S1x512_S2048x512_0_1) (words_v35 m c) (by omega)) (fun i hi => by omega) (fun j hj => by omega))
  unfold B57 W32 W35
  after_reads_simp
  rfl

/-! ## The weights as the call receives them -/

/-- A conversion of float types keeps the numbers. -/
theorem mat3_trunc {a b k : ℕ} {φ ψ : FTy} {X : FVec Ideal ⟨3, ![a, b, k]⟩ φ} {h : ψ.bits < φ.bits} {f : ℕ → ℕ → ℕ → EReal} (hX : Mat3 X f) :
    Mat3 (truncf ψ X h) f := hX

theorem beside_v22 : Mat (B22 m c) ((p m c).wb 0) := by
  unfold B22
  after_reads_simp
  refine Mat.congr (beside (k := 2048) rfl
    (mat_of_eq (Y := extractStridedSlice S256x1024 ![0, 0] (B15 m c) slices_S512x2048_S256x1024_0_0) ?_ (block (masked_v15 m c)))
    (mat_of_eq (Y := extractStridedSlice S256x1024 ![0, 0] (B19 m c) slices_S512x2048_S256x1024_0_0) ?_ (block (masked_v19 m c))))
    (fun i j _ _ => ?_)
  · unfold B15
    after_reads_simp
  · unfold B19
    after_reads_simp
  · simp only [p, Nat.mul_zero]

theorem beside_v25 : Mat (B25 m c) ((p m c).wb 1) := by
  unfold B25
  after_reads_simp
  refine Mat.congr (beside (k := 2048) rfl
    (mat_of_eq (Y := extractStridedSlice S256x1024 ![256, 1024] (B15 m c) slices_S512x2048_S256x1024_256_1024) ?_ (block (masked_v15 m c)))
    (mat_of_eq (Y := extractStridedSlice S256x1024 ![256, 1024] (B19 m c) slices_S512x2048_S256x1024_256_1024) ?_ (block (masked_v19 m c))))
    (fun i j _ _ => ?_)
  · unfold B15
    after_reads_simp
  · unfold B19
    after_reads_simp
  · simp only [p, Nat.mul_one]

/-- The input products' weights. -/
theorem entry_wb : Mat3 (V m c main_v29 : S2x256x2048.Idx → EReal) (p m c).wb := by
  after_reads_simp
  refine mat3_trunc (stacked (X := B22 m c) (Y := B25 m c) (hx := bcast_S256x2048_S1x256x2048_1_2) ?_ ?_ (by omega) (by omega)
    (beside_v22 m c) (beside_v25 m c))
  · unfold B22
    after_reads_simp
  · unfold B25
    after_reads_simp

/-- The real output product's weights. -/
theorem entry_wcre : Mat3 (V m c main_v51 : S2x1024x256.Idx → EReal) (p m c).wcre := by
  after_reads_simp
  refine mat3_trunc (stacked (X := extractStridedSlice S1024x256 ![0, 0] (B45 m c) slices_S2048x512_S1024x256_0_0)
    (Y := extractStridedSlice S1024x256 ![1024, 256] (B45 m c) slices_S2048x512_S1024x256_1024_256)
    (hx := bcast_S1024x256_S1x1024x256_1_2) ?_ ?_ (by omega) (by omega)
    (Mat.congr (block (masked_v45 m c)) fun i j _ _ => ?_) (Mat.congr (block (masked_v45 m c)) fun i j _ _ => ?_))
  · unfold B45
    after_reads_simp
  · unfold B45
    after_reads_simp
  · simp only [p, Nat.mul_zero]
  · simp only [p, Nat.mul_one]

/-- The imaginary output product's weights. -/
theorem entry_wcim : Mat3 (V m c main_v63 : S2x1024x256.Idx → EReal) (p m c).wcim := by
  after_reads_simp
  refine mat3_trunc (stacked (X := extractStridedSlice S1024x256 ![0, 0] (B57 m c) slices_S2048x512_S1024x256_0_0)
    (Y := extractStridedSlice S1024x256 ![1024, 256] (B57 m c) slices_S2048x512_S1024x256_1024_256)
    (hx := bcast_S1024x256_S1x1024x256_1_2) ?_ ?_ (by omega) (by omega)
    (Mat.congr (block (masked_v57 m c)) fun i j _ _ => ?_) (Mat.congr (block (masked_v57 m c)) fun i j _ _ => ?_))
  · unfold B57
    after_reads_simp
  · unfold B57
    after_reads_simp
  · simp only [p, Nat.mul_zero]
  · simp only [p, Nat.mul_one]

/-- The gates' weights. -/
theorem entry_wri : Mat3 (V m c main_v67 : S8x128x256.Idx → EReal) (p m c).wri := by
  after_reads_simp
  refine mat3_trunc (beside3 (m (c.tc.loc main_arg11) : S1x8x128x128.Idx → EReal) (m (c.tc.loc main_arg13) : S1x8x128x128.Idx → EReal)
    (hx := shapeCasts_S1x8x128x128_S8x128x128) ?_ ?_ rfl)
  · after_reads_simp
    rfl
  · after_reads_simp
    rfl

end Cert.MixerEq

end
-- ==== Proof.MixerKernel.lean ====
/- What the mixer's body leaves in its scratch buffers and its five output blocks at the one grid point, as the functions of
   Proof/MixerSpec.lean. -/
module

public import proofs.«01_k».proof.Proof.MixerFrame
import all proofs.«01_k».proof.Proof.Gen.KernelIdeal.Frame.RunA
import all proofs.«01_k».proof.Proof.MixerFrame
public import proofs.«01_k».proof.Proof.MixerOps

@[expose] public section

set_option maxRecDepth 16384

noncomputable section

namespace Cert.MixerKernel

open Cert.KernelIdeal Cert.KernelIdeal.Gen Cert.MixerFrame Cert.Mat Cert.MixerSpec Idealize.ShloMosaic
open scoped BigOperators

/-- The input blocks hold the arrays `p`. -/
structure Blocks
  (x0 : Vec Ideal S128x1024 .f32) (x1 : Vec Ideal S384x1024 .f32) (x2 : Vec Ideal S128x1024 .f32) (x3 : Vec Ideal S128x2048 .f32) (x4 : Vec Ideal
  S128x2048 .f32) (x5 : Vec Ideal S1x1024 .f32) (x6 : Vec Ideal S1x1024 .f32) (x7 : Vec Ideal S1024x3584 .bf16) (x8 : Vec Ideal S1x3584 .f32) (x9 :
  Vec Ideal S4x1024 .f32) (x10 : Vec Ideal S1x1024 .f32) (x11 : Vec Ideal S8x128x256 .bf16) (x12 : Vec Ideal S1x1024 .f32) (x13 : Vec Ideal S1x1024
  .f32) (x14 : Vec Ideal S1x1024 .f32) (x15 : Vec Ideal S1x2048 .f32) (x16 : Vec Ideal S1x2048 .f32) (x17 : Vec Ideal S2x256x2048 .bf16) (x18 : Vec
  Ideal S2x1024x256 .bf16) (x19 : Vec Ideal S2x1024x256 .bf16) (x20 : Vec Ideal S1x512 .f32) (x21 : Vec Ideal S512x2048 .bf16) (x22 : Vec Ideal
  S1x2048 .f32) (x23 : Vec Ideal S1024x1024 .bf16) (x24 : Vec Ideal S1x1024 .f32) (x25 : Vec Ideal S1x1024 .f32) (x26 : Vec Ideal S1x1024 .f32)
  (p : Arrays) : Prop where
  x : Mat x0 p.x
  cache : Mat x1 p.cache
  h0 : Mat x2 p.h0
  sre : Mat x3 p.sre
  sim : Mat x4 p.sim
  embg : Mat x5 fun _ j => p.embg j
  embb : Mat x6 fun _ j => p.embb j
  win : Mat x7 p.win
  bin : Mat x8 fun _ j => p.bin j
  cw : Mat x9 p.cw
  cb : Mat x10 fun _ j => p.cb j
  wri : Mat3 x11 p.wri
  br : Mat x12 fun _ j => p.br j
  bi : Mat x13 fun _ j => p.bi j
  lam : Mat x14 fun _ j => p.lam j
  are : Mat x15 fun _ j => p.are j
  aim : Mat x16 fun _ j => p.aim j
  wb : Mat3 x17 p.wb
  wcre : Mat3 x18 p.wcre
  wcim : Mat3 x19 p.wcim
  d : Mat x20 fun _ j => p.d j
  wglu : Mat x21 p.wglu
  bglu : Mat x22 fun _ j => p.bglu j
  wout : Mat x23 p.wout
  bout : Mat x24 fun _ j => p.bout j
  lng : Mat x25 fun _ j => p.lng j
  lnb : Mat x26 fun _ j => p.lnb j

variable {c : Dev nD} {i : grid0.Coords}
  {arg1 : Memref sig .tc .vmem S128x1024 .f32} {harg1 : arg1.IsWhole} {arg2 : Memref sig .tc .vmem S384x1024 .f32} {harg2 : arg2.IsWhole} {arg3 :
  Memref sig .tc .vmem S128x1024 .f32} {harg3 : arg3.IsWhole} {arg4 : Memref sig .tc .vmem S128x2048 .f32} {harg4 : arg4.IsWhole} {arg5 : Memref sig
  .tc .vmem S128x2048 .f32} {harg5 : arg5.IsWhole} {arg6 : Memref sig .tc .vmem S1x1024 .f32} {harg6 : arg6.IsWhole} {arg7 : Memref sig .tc .vmem
  S1x1024 .f32} {harg7 : arg7.IsWhole} {arg8 : Memref sig .tc .vmem S1024x3584 .bf16} {harg8 : arg8.IsWhole} {arg9 : Memref sig .tc .vmem S1x3584
  .f32} {harg9 : arg9.IsWhole} {arg10 : Memref sig .tc .vmem S4x1024 .f32} {harg10 : arg10.IsWhole} {arg11 : Memref sig .tc .vmem S1x1024 .f32}
  {harg11 : arg11.IsWhole} {arg12 : Memref sig .tc .vmem S8x128x256 .bf16} {harg12 : arg12.IsWhole} {arg13 : Memref sig .tc .vmem S1x1024 .f32}
  {harg13 : arg13.IsWhole} {arg14 : Memref sig .tc .vmem S1x1024 .f32} {harg14 : arg14.IsWhole} {arg15 : Memref sig .tc .vmem S1x1024 .f32} {harg15 :
  arg15.IsWhole} {arg16 : Memref sig .tc .vmem S1x2048 .f32} {harg16 : arg16.IsWhole} {arg17 : Memref sig .tc .vmem S1x2048 .f32} {harg17 :
  arg17.IsWhole} {arg18 : Memref sig .tc .vmem S2x256x2048 .bf16} {harg18 : arg18.IsWhole} {arg19 : Memref sig .tc .vmem S2x1024x256 .bf16} {harg19 :
  arg19.IsWhole} {arg20 : Memref sig .tc .vmem S2x1024x256 .bf16} {harg20 : arg20.IsWhole} {arg21 : Memref sig .tc .vmem S1x512 .f32} {harg21 :
  arg21.IsWhole} {arg22 : Memref sig .tc .vmem S512x2048 .bf16} {harg22 : arg22.IsWhole} {arg23 : Memref sig .tc .vmem S1x2048 .f32} {harg23 :
  arg23.IsWhole} {arg24 : Memref sig .tc .vmem S1024x1024 .bf16} {harg24 : arg24.IsWhole} {arg25 : Memref sig .tc .vmem S1x1024 .f32} {harg25 :
  arg25.IsWhole} {arg26 : Memref sig .tc .vmem S1x1024 .f32} {harg26 : arg26.IsWhole} {arg27 : Memref sig .tc .vmem S1x1024 .f32} {harg27 :
  arg27.IsWhole} {arg28 : Memref sig .tc .vmem S128x1024 .f32} {harg28 : arg28.IsWhole} {arg29 : Memref sig .tc .vmem S384x1024 .f32} {harg29 :
  arg29.IsWhole} {arg30 : Memref sig .tc .vmem S128x1024 .f32} {harg30 : arg30.IsWhole} {arg31 : Memref sig .tc .vmem S128x2048 .f32} {harg31 :
  arg31.IsWhole} {arg32 : Memref sig .tc .vmem S128x2048 .f32} {harg32 : arg32.IsWhole} {arg33 : Memref sig .tc .vmem S128x1024 .bf16} {harg33 :
  arg33.IsWhole} {arg34 : Memref sig .tc .vmem S512x1024 .f32} {harg34 : arg34.IsWhole} {arg35 : Memref sig .tc .vmem S128x512 .f32} {harg35 :
  arg35.IsWhole} {arg36 : Memref sig .tc .vmem S128x1024 .f32} {harg36 : arg36.IsWhole} {arg37 : Memref sig .tc .vmem S128x1024 .f32} {harg37 :
  arg37.IsWhole} {arg38 : Memref sig .tc .vmem S128x1024 .f32} {harg38 : arg38.IsWhole} {arg39 : Memref sig .tc .vmem S128x1024 .bf16} {harg39 :
  arg39.IsWhole} {arg40 : Memref sig .tc .vmem S128x2048 .f32} {harg40 : arg40.IsWhole} {arg41 : Memref sig .tc .vmem S128x2048 .f32} {harg41 :
  arg41.IsWhole} {arg42 : Memref sig .tc .vmem S128x1024 .f32} {harg42 : arg42.IsWhole} {arg43 : Memref sig .tc .vmem S128x512 .f32} {harg43 :
  arg43.IsWhole} {arg44 : Memref sig .tc .vmem S128x512 .bf16} {harg44 : arg44.IsWhole}
  {hc0 : cond0_0 i}
  {x0 : Vec Ideal S128x1024 .f32} {x1 : Vec Ideal S384x1024 .f32} {x2 : Vec Ideal S128x1024 .f32} {x3 : Vec Ideal S128x2048 .f32} {x4 : Vec Ideal
  S128x2048 .f32} {x5 : Vec Ideal S1x1024 .f32} {x6 : Vec Ideal S1x1024 .f32} {x7 : Vec Ideal S1024x3584 .bf16} {x8 : Vec Ideal S1x3584 .f32} {x9 :
  Vec Ideal S4x1024 .f32} {x10 : Vec Ideal S1x1024 .f32} {x11 : Vec Ideal S8x128x256 .bf16} {x12 : Vec Ideal S1x1024 .f32} {x13 : Vec Ideal S1x1024
  .f32} {x14 : Vec Ideal S1x1024 .f32} {x15 : Vec Ideal S1x2048 .f32} {x16 : Vec Ideal S1x2048 .f32} {x17 : Vec Ideal S2x256x2048 .bf16} {x18 : Vec
  Ideal S2x1024x256 .bf16} {x19 : Vec Ideal S2x1024x256 .bf16} {x20 : Vec Ideal S1x512 .f32} {x21 : Vec Ideal S512x2048 .bf16} {x22 : Vec Ideal
  S1x2048 .f32} {x23 : Vec Ideal S1024x1024 .bf16} {x24 : Vec Ideal S1x1024 .f32} {x25 : Vec Ideal S1x1024 .f32} {x26 : Vec Ideal S1x1024 .f32}
  {p : Arrays} (hb : Blocks x0 x1 x2 x3 x4 x5 x6 x7 x8 x9 x10 x11 x12 x13 x14 x15 x16 x17 x18 x19 x20 x21 x22 x23 x24 x25 x26 p)
include hb

/-- The embedding's layer norm, narrowed and read back. -/
theorem z_rows : Mat (kernelRun0_A.sl.v34 (F := Ideal) c arg1 harg1 arg6 harg6 arg7 harg7 arg33 x0 x5 x6) (z p) := by
  refine Mat.congr (OnMat.load (P := fun i j => i < 128 ∧ j < 1024) (f := z p) _ (OnMat.fill _ (Mat.cast (Mat.truncf
    (Mat.norm (Mat.cast (Mat.load harg1 _ hb.x)) (Mat.cast (Mat.load harg6 _ hb.embg)) (Mat.cast (Mat.load harg7 _ hb.embb))))) ?_ ?_) ?_) ?_
  · intro i j hi hj _; simp only [Nat.zero_add]; rfl
  all_goals grind

/-- The same, kept unnarrowed for the residual sum. -/
theorem z_kept : OnMat (kernelRun0_A.sl.H27_1 (F := Ideal) c arg1 harg1 arg6 harg6 arg7 harg7 x0 x5 x6) (z p) (fun i j => i < 128 ∧ j < 1024) := by
  unfold kernelRun0_A.sl.H27_1
  dsimp only [k0_pay7]
  refine OnMat.fill _ (Mat.norm (Mat.cast (Mat.load harg1 _ hb.x)) (Mat.cast (Mat.load harg6 _ hb.embg)) (Mat.cast (Mat.load harg7 _ hb.embb))) ?_ ?_
  · intro i j hi hj _; simp only [Nat.zero_add]; rfl
  · intro i j h; omega

/-- The state-space branch's input. -/
theorem us_all : OnMat (kernelRun0_A.sl.HS2_1 (F := Ideal) c arg1 harg1 arg6 harg6 arg7 harg7 arg8 harg8 arg9 harg9 arg33 x0 x5 x6 x7 x8) (us p) (fun
    i j => i < 128 ∧ j < 512) := by
  refine OnMat.fill _ (Mat.affine rfl (z_rows hb) (Mat.load harg8 _ hb.win) (Mat.load harg9 _ hb.bin)) ?_ ?_
  · intro i j hi hj _; simp only [Nat.zero_add, us, proj]
  · intro i j h; omega

/-- The input product of the real states. -/
theorem ure_all : OnMat (kernelRun0_A.sl.HS7_2 (F := Ideal) c arg1 harg1 arg6 harg6 arg7 harg7 arg8 harg8 arg9 harg9 arg18 harg18 arg33 arg35 x0 x5 x6
    x7 x8 x17) (ure p) (fun i j => i < 128 ∧ j < 2048) := by
  refine OnMat.cons (Q := fun i j => i < 128 ∧ j < 1024) _
    (OnMat.fill _ (Mat.cast (Mat.cols (Mat.matmul rfl (Mat.truncf (OnMat.load _ (us_all hb) ?_)) (Mat.slab (Mat3.load harg18 _ hb.wb))))) ?_ ?_)
    (Mat.cast (Mat.cols (Mat.matmul rfl (Mat.truncf (OnMat.load _ (us_all hb) ?_)) (Mat.slab (Mat3.load harg18 _ hb.wb))))) ?_ ?_
  any_goals (intro i j; omega)
  · intro i j hi hj _
    simp only [Nat.zero_add, Nat.add_zero, ure, show j / 1024 = 0 by omega, show j % 1024 = j by omega, Nat.mul_zero]
  · intro i j hi hj _
    simp only [Nat.zero_add, Nat.add_zero, ure, show (1024 + j) / 1024 = 1 by omega, show (1024 + j) % 1024 = j by omega, Nat.mul_one]

/-- The input product of the imaginary states. -/
theorem uim_all : OnMat (kernelRun0_A.sl.HS8_2 (F := Ideal) c arg1 harg1 arg6 harg6 arg7 harg7 arg8 harg8 arg9 harg9 arg18 harg18 arg33 arg35 x0 x5 x6
    x7 x8 x17) (uim p) (fun i j => i < 128 ∧ j < 2048) := by
  unfold kernelRun0_A.sl.HS8_2 kernelRun0_A.sl.r
  dsimp only [k0_pay15]
  refine OnMat.cons (Q := fun i j => i < 128 ∧ j < 1024) _
    (OnMat.fill _ (Mat.cast (Mat.cols (Mat.matmul rfl (Mat.truncf (OnMat.load _ (us_all hb) ?_)) (Mat.slab (Mat3.load harg18 _ hb.wb))))) ?_ ?_)
    (Mat.cast (Mat.cols (Mat.matmul rfl (Mat.truncf (OnMat.load _ (us_all hb) ?_)) (Mat.slab (Mat3.load harg18 _ hb.wb))))) ?_ ?_
  any_goals (intro i j; omega)
  · intro i j hi hj _
    simp only [Nat.zero_add, Nat.add_zero, uim, show j / 1024 = 0 by omega, show j % 1024 = j by omega, Nat.mul_zero]
  · intro i j hi hj _
    simp only [Nat.zero_add, Nat.add_zero, uim, show (1024 + j) / 1024 = 1 by omega, show (1024 + j) % 1024 = j by omega, Nat.mul_one]

/-- The convolution's input: the cached rows, then the step's own. -/
theorem xa_all : OnMat (kernelRun0_A.sl.HS1_2 (F := Ideal) c arg1 harg1 arg2 harg2 arg6 harg6 arg7 harg7 arg8 harg8 arg9 harg9 arg33 x0 x1 x5 x6 x7
    x8) (xa p) (fun i j => i < 512 ∧ j < 1024) := by
  refine OnMat.cons (Q := fun i j => i < 384 ∧ j < 1024) _ (OnMat.fill _ (Mat.cast (Mat.cast (Mat.load harg2 _ hb.cache))) ?_ ?_)
    (Mat.affine rfl (z_rows hb) (Mat.load harg8 _ hb.win) (Mat.load harg9 _ hb.bin)) ?_ ?_
  any_goals (intro i j; omega)
  · intro i j hi hj _
    simp only [Nat.zero_add, xa, if_pos hi]
  · intro i j hi hj _
    simp only [Nat.zero_add, xa, proj, if_neg (show ¬384 + i < 384 by omega), show 384 + i - 384 = i by omega]

/-- The real states after the step, in the scratch buffer. -/
theorem nre_rows : OnMat (kernelRun0_A.sl.HS7_18 (F := Ideal) c arg1 harg1 arg4 harg4 arg5 harg5 arg6 harg6 arg7 harg7 arg8 harg8 arg9 harg9 arg16
    harg16 arg17 harg17 arg18 harg18 arg33 arg35 arg40 x0 x3 x4 x5 x6 x7 x8 x15 x16 x17) (nre p) (fun i j => i < 128 ∧ j < 2048) := by
  refine OnMat.congr (f := fun i j => if i < 128 then nre p i j else ure p i j) (P := fun i j => i < 128 ∧ j < 2048) ?_ (fun _ _ h => h)
    fun i j h => if_pos h.1
  iterate 16 (
    refine step_rows (P := ure p) (u := ?_) (by omega) ?_ ?_ ?_
    rotate_left
    · try dsimp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_14,
        kernelRun0_A.sl.r_20, kernelRun0_A.sl.r_21, kernelRun0_A.sl.r_22, kernelRun0_A.sl.r_23, kernelRun0_A.sl.r_24, kernelRun0_A.sl.r_25, kernelRun0_A.sl.r_27,
        k0_pay48, k0_pay54, k0_pay55, k0_pay56, k0_pay64, k0_pay98, k0_pay99, k0_pay100, k0_pay101, k0_pay106, k0_pay107, k0_pay109]
      exact Mat.subf (Mat.mulf (Mat.row (Mat.load harg16 _ hb.are)) (Mat.cast (Mat.load harg4 _ hb.sre)))
        (Mat.mulf (Mat.row (Mat.load harg17 _ hb.aim)) (Mat.cast (Mat.load harg5 _ hb.sim)))
    · intro i j; simp only [Nat.zero_add, nre])
  exact (ure_all hb).congr (fun i j h => h) fun i j h => (if_neg (Nat.not_lt_zero i)).symm

/-- The real states after the step: in the scratch buffer, and in the result's block. -/
theorem nre_all : OnMat (kernelRun0_A.sl.HS7_18 (F := Ideal) c arg1 harg1 arg4 harg4 arg5 harg5 arg6 harg6 arg7 harg7 arg8 harg8 arg9 harg9 arg16
    harg16 arg17 harg17 arg18 harg18 arg33 arg35 arg40 x0 x3 x4 x5 x6 x7 x8 x15 x16 x17) (fun i j => if i < 128 then nre p i j else ure p i j) (fun i
    j => i < 128 ∧ j < 2048) ∧
    OnMat (kernelRun0_A (F := Ideal) c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19 harg19 arg20 harg20 arg21
      harg21 arg22 harg22 arg23 harg23 arg24 harg24 arg25 harg25 arg26 harg26 arg27 harg27 arg28 harg28 arg29 harg29 arg30 harg30 arg31 harg31 arg32
      harg32 arg33 harg33 arg34 harg34 arg35 harg35 arg36 harg36 arg37 harg37 arg38 harg38 arg39 harg39 arg40 harg40 arg41 harg41 arg42 harg42 arg43
      harg43 arg44 harg44 hc0 x0 x1 x2 x3 x4 x5 x6 x7 x8 x9 x10 x11 x12 x13 x14 x15 x16 x17 x18 x19 x20 x21 x22 x23 x24 x25 x26).2.2.2.1 (nre p) (fun
      i j => i < 128 ∧ j < 2048) := by
  iterate 16 (
    refine step_both (P := ure p) (u := ?_) (by omega) ?_ ?_ ?_
    rotate_left
    · try dsimp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_14,
        kernelRun0_A.sl.r_20, kernelRun0_A.sl.r_21, kernelRun0_A.sl.r_22, kernelRun0_A.sl.r_23, kernelRun0_A.sl.r_24, kernelRun0_A.sl.r_25, kernelRun0_A.sl.r_27,
        k0_pay48, k0_pay54, k0_pay55, k0_pay56, k0_pay64, k0_pay98, k0_pay99, k0_pay100, k0_pay101, k0_pay106, k0_pay107, k0_pay109]
      exact Mat.subf (Mat.mulf (Mat.row (Mat.load harg16 _ hb.are)) (Mat.cast (Mat.load harg4 _ hb.sre)))
        (Mat.mulf (Mat.row (Mat.load harg17 _ hb.aim)) (Mat.cast (Mat.load harg5 _ hb.sim)))
    · intro i j; simp only [Nat.zero_add, nre])
  exact ⟨(ure_all hb).congr (fun i j h => h) fun i j h => (if_neg (Nat.not_lt_zero i)).symm, OnMat.mono OnMat.nil fun i j h => by omega⟩

/-- The imaginary states after the step, in the scratch buffer. -/
theorem nim_rows : OnMat (kernelRun0_A.sl.HS8_18 (F := Ideal) c arg1 harg1 arg4 harg4 arg5 harg5 arg6 harg6 arg7 harg7 arg8 harg8 arg9 harg9 arg16
    harg16 arg17 harg17 arg18 harg18 arg33 arg35 arg41 x0 x3 x4 x5 x6 x7 x8 x15 x16 x17) (nim p) (fun i j => i < 128 ∧ j < 2048) := by
  refine OnMat.congr (f := fun i j => if i < 128 then nim p i j else uim p i j) (P := fun i j => i < 128 ∧ j < 2048) ?_ (fun _ _ h => h)
    fun i j h => if_pos h.1
  iterate 16 (
    refine step_rows (P := uim p) (u := ?_) (by omega) ?_ ?_ ?_
    rotate_left
    · try dsimp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_14,
        kernelRun0_A.sl.r_20, kernelRun0_A.sl.r_21, kernelRun0_A.sl.r_22, kernelRun0_A.sl.r_23, kernelRun0_A.sl.r_24, kernelRun0_A.sl.r_25, kernelRun0_A.sl.r_27,
        k0_pay48, k0_pay54, k0_pay55, k0_pay56, k0_pay64, k0_pay98, k0_pay99, k0_pay100, k0_pay101, k0_pay106, k0_pay107, k0_pay109]
      exact Mat.addf (Mat.mulf (Mat.row (Mat.load harg16 _ hb.are)) (Mat.cast (Mat.load harg5 _ hb.sim)))
        (Mat.mulf (Mat.row (Mat.load harg17 _ hb.aim)) (Mat.cast (Mat.load harg4 _ hb.sre)))
    · intro i j; simp only [Nat.zero_add, nim])
  exact (uim_all hb).congr (fun i j h => h) fun i j h => (if_neg (Nat.not_lt_zero i)).symm

/-- The imaginary states after the step: in the scratch buffer, and in the result's block. -/
theorem nim_all : OnMat (kernelRun0_A.sl.HS8_18 (F := Ideal) c arg1 harg1 arg4 harg4 arg5 harg5 arg6 harg6 arg7 harg7 arg8 harg8 arg9 harg9 arg16
    harg16 arg17 harg17 arg18 harg18 arg33 arg35 arg41 x0 x3 x4 x5 x6 x7 x8 x15 x16 x17) (fun i j => if i < 128 then nim p i j else uim p i j) (fun i
    j => i < 128 ∧ j < 2048) ∧
    OnMat (kernelRun0_A (F := Ideal) c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19 harg19 arg20 harg20 arg21
      harg21 arg22 harg22 arg23 harg23 arg24 harg24 arg25 harg25 arg26 harg26 arg27 harg27 arg28 harg28 arg29 harg29 arg30 harg30 arg31 harg31 arg32
      harg32 arg33 harg33 arg34 harg34 arg35 harg35 arg36 harg36 arg37 harg37 arg38 harg38 arg39 harg39 arg40 harg40 arg41 harg41 arg42 harg42 arg43
      harg43 arg44 harg44 hc0 x0 x1 x2 x3 x4 x5 x6 x7 x8 x9 x10 x11 x12 x13 x14 x15 x16 x17 x18 x19 x20 x21 x22 x23 x24 x25 x26).2.2.2.2.1 (nim p)
      (fun i j => i < 128 ∧ j < 2048) := by
  iterate 16 (
    refine step_both (P := uim p) (u := ?_) (by omega) ?_ ?_ ?_
    rotate_left
    · try dsimp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_14,
        kernelRun0_A.sl.r_20, kernelRun0_A.sl.r_21, kernelRun0_A.sl.r_22, kernelRun0_A.sl.r_23, kernelRun0_A.sl.r_24, kernelRun0_A.sl.r_25, kernelRun0_A.sl.r_27,
        k0_pay48, k0_pay54, k0_pay55, k0_pay56, k0_pay64, k0_pay98, k0_pay99, k0_pay100, k0_pay101, k0_pay106, k0_pay107, k0_pay109]
      exact Mat.addf (Mat.mulf (Mat.row (Mat.load harg16 _ hb.are)) (Mat.cast (Mat.load harg5 _ hb.sim)))
        (Mat.mulf (Mat.row (Mat.load harg17 _ hb.aim)) (Mat.cast (Mat.load harg4 _ hb.sre)))
    · intro i j; simp only [Nat.zero_add, nim])
  exact ⟨(uim_all hb).congr (fun i j h => h) fun i j h => (if_neg (Nat.not_lt_zero i)).symm, OnMat.mono OnMat.nil fun i j h => by omega⟩

/-- The convolved rows. -/
theorem conv_all : OnMat (kernelRun0_A.sl.HS5_1 (F := Ideal) c arg1 harg1 arg2 harg2 arg6 harg6 arg7 harg7 arg8 harg8 arg9 harg9 arg10 harg10 arg11
    harg11 arg33 arg34 x0 x1 x5 x6 x7 x8 x9 x10) (conv p) (fun i j => i < 128 ∧ j < 1024) := by
  unfold kernelRun0_A.sl.HS5_1 kernelRun0_A.sl.r_30 kernelRun0_A.sl.r_31
  dsimp only [k0_pay122, k0_pay121, k0_pay120, k0_pay119]
  refine OnMat.fill _ (Mat.cast (Mat.addf (Mat.addf (Mat.addf (Mat.addf (Mat.row (Mat.cast (Mat.load harg11 _ hb.cb)))
    (Mat.mulf (Mat.row (Mat.cast (Mat.load harg10 _ hb.cw))) (OnMat.load _ (xa_all hb) ?_)))
    (Mat.mulf (Mat.row (Mat.cast (Mat.load harg10 _ hb.cw))) (OnMat.load _ (xa_all hb) ?_)))
    (Mat.mulf (Mat.row (Mat.cast (Mat.load harg10 _ hb.cw))) (OnMat.load _ (xa_all hb) ?_)))
    (Mat.mulf (Mat.row (Mat.cast (Mat.load harg10 _ hb.cw))) (OnMat.load _ (xa_all hb) ?_)))) ?_ ?_
  any_goals (intro i j; omega)
  intro i j hi hj _
  simp only [Nat.zero_add, Nat.add_zero, conv]

/-- The convolved rows, narrowed. -/
theorem conv_narrow : OnMat (kernelRun0_A.sl.HS6_1 (F := Ideal) c arg1 harg1 arg2 harg2 arg6 harg6 arg7 harg7 arg8 harg8 arg9 harg9 arg10 harg10 arg11
    harg11 arg33 arg34 x0 x1 x5 x6 x7 x8 x9 x10) (conv p) (fun i j => i < 128 ∧ j < 1024) := by
  unfold kernelRun0_A.sl.HS6_1 kernelRun0_A.sl.r_30 kernelRun0_A.sl.r_31
  dsimp only [k0_pay123, k0_pay121, k0_pay120, k0_pay119]
  refine OnMat.fill _ (Mat.cast (Mat.truncf (Mat.addf (Mat.addf (Mat.addf (Mat.addf (Mat.row (Mat.cast (Mat.load harg11 _ hb.cb)))
    (Mat.mulf (Mat.row (Mat.cast (Mat.load harg10 _ hb.cw))) (OnMat.load _ (xa_all hb) ?_)))
    (Mat.mulf (Mat.row (Mat.cast (Mat.load harg10 _ hb.cw))) (OnMat.load _ (xa_all hb) ?_)))
    (Mat.mulf (Mat.row (Mat.cast (Mat.load harg10 _ hb.cw))) (OnMat.load _ (xa_all hb) ?_)))
    (Mat.mulf (Mat.row (Mat.cast (Mat.load harg10 _ hb.cw))) (OnMat.load _ (xa_all hb) ?_))))) ?_ ?_
  any_goals (intro i j; omega)
  intro i j hi hj _
  simp only [Nat.zero_add, Nat.add_zero, conv]

/-- The state-space branch's output product. -/
theorem y_all : OnMat (kernelRun0_A.sl.HS10_2 (F := Ideal) c arg1 harg1 arg4 harg4 arg5 harg5 arg6 harg6 arg7 harg7 arg8 harg8 arg9 harg9 arg16 harg16
    arg17 harg17 arg18 harg18 arg19 harg19 arg20 harg20 arg33 arg35 arg40 arg41 x0 x3 x4 x5 x6 x7 x8 x15 x16 x17 x18 x19) (y p) (fun i j => i < 128 ∧
    j < 512) := by
  unfold kernelRun0_A.sl.HS10_2 kernelRun0_A.sl.r_32
  dsimp only [k0_pay124, k0_pay125, k0_pay126]
  refine OnMat.cons (Q := fun i j => i < 128 ∧ j < 256) _ (OnMat.fill _ (Mat.cast (Mat.subf
    (Mat.matmul rfl (Mat.truncf (OnMat.load _ (nre_rows hb) ?_)) (Mat.slab (Mat3.load harg19 _ hb.wcre)))
    (Mat.matmul rfl (Mat.truncf (OnMat.load _ (nim_rows hb) ?_)) (Mat.slab (Mat3.load harg20 _ hb.wcim))))) ?_ ?_)
    (Mat.cast (Mat.subf
    (Mat.matmul rfl (Mat.truncf (OnMat.load _ (nre_rows hb) ?_)) (Mat.slab (Mat3.load harg19 _ hb.wcre)))
    (Mat.matmul rfl (Mat.truncf (OnMat.load _ (nim_rows hb) ?_)) (Mat.slab (Mat3.load harg20 _ hb.wcim))))) ?_ ?_
  any_goals (intro i j; omega)
  · intro i j hi hj _
    simp only [Nat.zero_add, Nat.add_zero, y, show j / 256 = 0 by omega, show j % 256 = j by omega, Nat.mul_zero]
  · intro i j hi hj _
    simp only [Nat.zero_add, Nat.add_zero, y, show (256 + j) / 256 = 1 by omega, show (256 + j) % 256 = j by omega, Nat.mul_one]

/-- The state-space branch's activation. -/
theorem yg_all : OnMat (kernelRun0_A.sl.HS11_1 (F := Ideal) c arg1 harg1 arg4 harg4 arg5 harg5 arg6 harg6 arg7 harg7 arg8 harg8 arg9 harg9 arg16
    harg16 arg17 harg17 arg18 harg18 arg19 harg19 arg20 harg20 arg21 harg21 arg33 arg35 arg40 arg41 arg43 x0 x3 x4 x5 x6 x7 x8 x15 x16 x17 x18 x19
    x20) (yg p) (fun i j => i < 128 ∧ j < 512) := by
  unfold kernelRun0_A.sl.HS11_1
  dsimp only [k0_pay127]
  have hy : Mat (kernelRun0_A.sl.v592 (F := Ideal) c arg1 harg1 arg4 harg4 arg5 harg5 arg6 harg6 arg7 harg7 arg8 harg8 arg9 harg9 arg16 harg16 arg17
    harg17 arg18 harg18 arg19 harg19 arg20 harg20 arg33 arg35 arg40 arg41 arg43 x0 x3 x4 x5 x6 x7 x8 x15 x16 x17 x18 x19) (fun i j => y p (0 + i) (0 +
    j)) := OnMat.load _ (y_all hb) fun i j hi hj => by omega
  have hu : Mat (kernelRun0_A.sl.v595 (F := Ideal) c arg1 harg1 arg6 harg6 arg7 harg7 arg8 harg8 arg9 harg9 arg33 arg35 x0 x5 x6 x7 x8) (fun i j => us
    p (0 + i) (0 + j)) := OnMat.load _ (us_all hb) fun i j hi hj => by omega
  have hx := Mat.addf (φ := .f32) hy (Mat.mulf (φ := .f32) (Mat.row (h := broadcasts_S1x512_S128x512) (Mat.cast (h := shapeCasts_S1x512_S1x512)
    (Mat.load harg21 inb_S1x512_S1x512_0_0 hb.d))) hu)
  refine OnMat.fill _ (Mat.cast (Mat.truncf (Mat.mulf (Mat.mulf (Mat.const _) hx)
    (Mat.addf (Mat.const _) (Mat.tanh (Mat.mulf (Mat.const _) (Mat.addf hx (Mat.mulf (Mat.const _) (Mat.mulf (Mat.mulf hx hx) hx))))))))) ?_ ?_
  · intro i j hi hj _
    simp only [Nat.zero_add]
    rfl
  · intro i j; omega

/-- The gates' product. -/
theorem gates_all : OnMat (kernelRun0_A.sl.HS8_26 (F := Ideal) c arg1 harg1 arg2 harg2 arg4 harg4 arg5 harg5 arg6 harg6 arg7 harg7 arg8 harg8 arg9
    harg9 arg10 harg10 arg11 harg11 arg12 harg12 arg16 harg16 arg17 harg17 arg18 harg18 arg33 arg34 arg35 arg39 arg41 x0 x1 x3 x4 x5 x6 x7 x8 x9 x10
    x11 x15 x16 x17) (gates p) (fun i j => i < 128 ∧ j < 2048) := by
  unfold kernelRun0_A.sl.HS8_26 kernelRun0_A.sl.r_33
  dsimp only [k0_pay128]
  refine step_gates (s := 7) rfl rfl rfl (OnMat.load _ (conv_narrow hb) ?_) (Mat.slab (Mat3.load harg12 _ hb.wri)) ?_
  · intro i j; omega
  refine step_gates (s := 6) rfl rfl rfl (OnMat.load _ (conv_narrow hb) ?_) (Mat.slab (Mat3.load harg12 _ hb.wri)) ?_
  · intro i j; omega
  refine step_gates (s := 5) rfl rfl rfl (OnMat.load _ (conv_narrow hb) ?_) (Mat.slab (Mat3.load harg12 _ hb.wri)) ?_
  · intro i j; omega
  refine step_gates (s := 4) rfl rfl rfl (OnMat.load _ (conv_narrow hb) ?_) (Mat.slab (Mat3.load harg12 _ hb.wri)) ?_
  · intro i j; omega
  refine step_gates (s := 3) rfl rfl rfl (OnMat.load _ (conv_narrow hb) ?_) (Mat.slab (Mat3.load harg12 _ hb.wri)) ?_
  · intro i j; omega
  refine step_gates (s := 2) rfl rfl rfl (OnMat.load _ (conv_narrow hb) ?_) (Mat.slab (Mat3.load harg12 _ hb.wri)) ?_
  · intro i j; omega
  refine step_gates (s := 1) rfl rfl rfl (OnMat.load _ (conv_narrow hb) ?_) (Mat.slab (Mat3.load harg12 _ hb.wri)) ?_
  · intro i j; omega
  refine step_gates (s := 0) rfl rfl rfl (OnMat.load _ (conv_narrow hb) ?_) (Mat.slab (f := fun i j k => p.wri (0 + i) j k) (Mat3.load harg12 _ hb.wri)) ?_
  · intro i j; omega
  exact OnMat.mono OnMat.nil fun i j h => by omega

/-- The recurrence's gate of the output, before the logistic function. -/
theorem ga_all : OnMat (kernelRun0_A.sl.HS3_1 (F := Ideal) c arg1 harg1 arg6 harg6 arg7 harg7 arg8 harg8 arg9 harg9 arg33 x0 x5 x6 x7 x8) (fun i j =>
    proj p i (1536 + j)) (fun i j => i < 128 ∧ j < 1024) := by
  refine OnMat.fill _ (Mat.affine rfl (z_rows hb) (Mat.load harg8 _ hb.win) (Mat.load harg9 _ hb.bin)) ?_ ?_
  · intro i j hi hj _; simp only [Nat.zero_add, proj]
  · intro i j h; omega

/-- The state-space branch's gate of the output, before the logistic function. -/
theorem gb_all : OnMat (kernelRun0_A.sl.HS4_1 (F := Ideal) c arg1 harg1 arg6 harg6 arg7 harg7 arg8 harg8 arg9 harg9 arg33 x0 x5 x6 x7 x8) (fun i j =>
    proj p i (2560 + j)) (fun i j => i < 128 ∧ j < 1024) := by
  unfold kernelRun0_A.sl.HS4_1 kernelRun0_A.sl.r_34
  dsimp only [k0_pay139, k0_pay140]
  refine OnMat.fill _ (Mat.affine rfl (z_rows hb) (Mat.load harg8 _ hb.win) (Mat.load harg9 _ hb.bin)) ?_ ?_
  · intro i j hi hj _; simp only [Nat.zero_add, proj]
  · intro i j h; omega

/-- The gated product of the state-space branch. -/
theorem glu_all : OnMat (kernelRun0_A.sl.HS7_19 (F := Ideal) c arg1 harg1 arg4 harg4 arg5 harg5 arg6 harg6 arg7 harg7 arg8 harg8 arg9 harg9 arg16
    harg16 arg17 harg17 arg18 harg18 arg19 harg19 arg20 harg20 arg21 harg21 arg22 harg22 arg23 harg23 arg33 arg35 arg40 arg41 arg43 arg44 x0 x3 x4 x5
    x6 x7 x8 x15 x16 x17 x18 x19 x20 x21 x22) (glu p) (fun i j => i < 128 ∧ j < 2048) := by
  unfold kernelRun0_A.sl.HS7_19
  dsimp only [k0_pay138]
  refine OnMat.fill _ (Mat.affine rfl (OnMat.load _ (yg_all hb) ?_) (Mat.load harg22 _ hb.wglu) (Mat.load harg23 _ hb.bglu)) ?_ ?_
  any_goals (intro i j; omega)
  intro i j hi hj _; simp only [Nat.zero_add, glu]

/-- Softplus of the negated decay parameter. -/
theorem sp_row : Mat (kernelRun0_A.sl.r_36 (F := Ideal) c arg15 harg15 x14) (fun _ j => sp p j) := by
  have hd := Mat.subf (φ := .f32) (Mat.const (Ideal.ofBits .f32 0x00000000#32)) (Mat.cast (h := shapeCasts_S1x1024_S1x1024) (Mat.load harg15 inb_S1x1024_S1x1024_0_0 hb.lam))
  refine (Mat.addf (Mat.maximumf hd (Mat.const _)) (Mat.log1p (Mat.exp (Mat.subf (Mat.const _) (Mat.absf hd))))).congr ?_
  intro i j hi hj; simp only [Nat.zero_add, sp]; rfl

/-- The decay's exponent of a block of columns, from the gate's product, the bias and the softplus. -/
theorem decay_block {a b : ℕ} {q : FVec Ideal S128x128 .f32} {B : FVec Ideal S1x128 .f32} {sl : S1x1024.Slices ![0, a] S1x128} (hab : b = 2 * a)
    (hq : Mat q fun i j => gates p (0 + i) (b + j)) (hB : Mat B fun i j => p.br (a + j)) :
    Mat (Idealize.ShloMosaic.mulf (Idealize.ShloMosaic.mulf (broadcast S128x128 (Scalar.ofBits (F := Ideal) .f32 0xC1000000#32))
      (Idealize.ShloMosaic.addf (Idealize.ShloMosaic.mulf (broadcast S128x128 (Scalar.ofBits (F := Ideal) .f32 0x3F000000#32))
        (Idealize.ShloMosaic.tanh (Idealize.ShloMosaic.mulf (broadcast S128x128 (Scalar.ofBits (F := Ideal) .f32 0x3F000000#32))
          (Idealize.ShloMosaic.addf q (broadcastTo S128x128 (shapeCast S1x128 B shapeCasts_S1x128_S1x128) broadcasts_S1x128_S128x128)))))
        (broadcast S128x128 (Scalar.ofBits (F := Ideal) .f32 0x3F000000#32))))
      (broadcastTo S128x128 (extractStridedSlice S1x128 ![0, a] (kernelRun0_A.sl.r_36 (F := Ideal) c arg15 harg15 x14) sl)
        broadcasts_S1x128_S128x128))
      (fun i j => Ideal.ofBits .f32 0xC1000000#32 * MixerSpec.sig (gates p (0 + i) (2 * a + j) + p.br (a + j)) * sp p (a + j)) := by
  subst hab
  exact Mat.mulf (Mat.mulf (Mat.const _) (Mat.sig (Mat.addf hq (Mat.row (Mat.cast hB))))) (Mat.row (Mat.cols (sp_row hb)))

/-- The recurrence's state after the step, in the scratch buffer. -/
theorem hn_all : OnMat (kernelRun0_A.sl.HS9_8 (F := Ideal) c arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg33 arg34 arg35
    arg38 arg39 arg41 x0 x1 x2 x3 x4 x5 x6 x7 x8 x9 x10 x11 x12 x13 x14 x15 x16 x17) (hn p) (fun i j => i < 128 ∧ j < 1024) := by
  unfold kernelRun0_A.sl.HS9_8
  iterate 8 (
    refine step_cols ?_ ?_
    · try dsimp only [kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45,
        kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.cst_608,
        k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161,
        k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180]
      refine Mat.cast (h := shapeCasts_S128x128_S128x128) (lru_block (hs := shapeCasts_S128x128_S128x128) (G := gates p) (C := conv p) (H := p.h0) (f := hn p) (br := p.br)
        (bi := p.bi) (S := sp p) (by decide) ?_ ?_ ?_ ?_ fun _ _ => rfl)
      · exact decay_block hb (by decide) (OnMat.load _ (gates_all hb) fun i j hi hj => by omega) (Mat.load harg13 _ hb.br)
      · exact Mat.sig (Mat.addf (OnMat.load _ (gates_all hb) fun i j hi hj => by omega) (Mat.row (Mat.cast (Mat.load harg14 _ hb.bi))))
      · exact OnMat.load _ (conv_all hb) fun i j hi hj => by omega
      · exact Mat.load harg3 _ hb.h0)
  exact OnMat.mono OnMat.nil fun i j h => by omega

/-- The same, in the result's block. -/
theorem hn_out : OnMat (kernelRun0_A (F := Ideal) c i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29 arg30 harg30 arg31
    harg31 arg32 harg32 arg33 harg33 arg34 harg34 arg35 harg35 arg36 harg36 arg37 harg37 arg38 harg38 arg39 harg39 arg40 harg40 arg41 harg41 arg42
    harg42 arg43 harg43 arg44 harg44 hc0 x0 x1 x2 x3 x4 x5 x6 x7 x8 x9 x10 x11 x12 x13 x14 x15 x16 x17 x18 x19 x20 x21 x22 x23 x24 x25 x26).2.2.1 (hn
    p) (fun i j => i < 128 ∧ j < 1024) := by
  iterate 8 (
    refine step_cols ?_ ?_
    · try dsimp only [kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45,
        kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.cst_608,
        k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161,
        k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180]
      refine lru_block (hs := shapeCasts_S128x128_S128x128) (G := gates p) (C := conv p) (H := p.h0) (f := hn p) (br := p.br)
        (bi := p.bi) (S := sp p) (by decide) ?_ ?_ ?_ ?_ fun _ _ => rfl
      · exact decay_block hb (by decide) (OnMat.load _ (gates_all hb) fun i j hi hj => by omega) (Mat.load harg13 _ hb.br)
      · exact Mat.sig (Mat.addf (OnMat.load _ (gates_all hb) fun i j hi hj => by omega) (Mat.row (Mat.cast (Mat.load harg14 _ hb.bi))))
      · exact OnMat.load _ (conv_all hb) fun i j hi hj => by omega
      · exact Mat.load harg3 _ hb.h0)
  exact OnMat.mono OnMat.nil fun i j h => by omega

/-- The two branches, gated, added and narrowed. -/
theorem mix_all : OnMat (kernelRun0_A.sl.HS6_2 (F := Ideal) c arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19 harg19 arg20
    harg20 arg21 harg21 arg22 harg22 arg23 harg23 arg33 arg34 arg35 arg36 arg37 arg38 arg39 arg40 arg41 arg42 arg43 arg44 x0 x1 x2 x3 x4 x5 x6 x7 x8
    x9 x10 x11 x12 x13 x14 x15 x16 x17 x18 x19 x20 x21 x22) (mix p) (fun i j => i < 128 ∧ j < 1024) := by
  unfold kernelRun0_A.sl.HS6_2 kernelRun0_A.sl.r_55 kernelRun0_A.sl.r_56
  dsimp only [k0_pay181, k0_pay182, k0_pay183]
  refine OnMat.fill _ (Mat.cast (Mat.truncf (Mat.addf (Mat.mulf (Mat.sig (OnMat.load _ (ga_all hb) ?_)) (OnMat.load _ (hn_all hb) ?_))
    (Mat.mulf (Mat.sig (OnMat.load _ (gb_all hb) ?_)) (Mat.mulf (OnMat.load _ (glu_all hb) ?_) (Mat.sig (OnMat.load _ (glu_all hb) ?_))))))) ?_ ?_
  any_goals (intro i j; omega)
  intro i j hi hj _
  simp only [Nat.zero_add, mix]

/-- The first half of the rows of the output projection. -/
theorem t_top : OnMat (kernelRun0_A.sl.HS5_2 (F := Ideal) c arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg33 arg34 arg35 arg36 arg37 arg38 arg39 arg40 arg41 arg42 arg43 arg44 x0
    x1 x2 x3 x4 x5 x6 x7 x8 x9 x10 x11 x12 x13 x14 x15 x16 x17 x18 x19 x20 x21 x22 x23 x24) (t p) (fun i j => i < 64 ∧ j < 1024) := by
  unfold kernelRun0_A.sl.HS5_2
  dsimp only [k0_pay184]
  refine OnMat.fill _ (Mat.affine rfl (OnMat.load _ (mix_all hb) ?_) (Mat.load harg24 _ hb.wout) (Mat.load harg25 _ hb.bout)) ?_ ?_
  any_goals (intro i j; omega)
  intro i j hi hj _
  simp only [Nat.zero_add, t]

/-- The second half of the rows of the output projection. -/
theorem t_bottom : OnMat (kernelRun0_A.sl.HS5_3 (F := Ideal) c arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg33 arg34 arg35 arg36 arg37 arg38 arg39 arg40 arg41 arg42 arg43 arg44 x0
    x1 x2 x3 x4 x5 x6 x7 x8 x9 x10 x11 x12 x13 x14 x15 x16 x17 x18 x19 x20 x21 x22 x23 x24) (t p) (fun i j => 64 ≤ i ∧ i < 128 ∧ j < 1024) := by
  unfold kernelRun0_A.sl.HS5_3
  dsimp only [k0_pay188]
  refine OnMat.fill _ (Mat.affine rfl (OnMat.load _ (mix_all hb) ?_) (Mat.load harg24 _ hb.wout) (Mat.load harg25 _ hb.bout)) ?_ ?_
  any_goals (intro i j; omega)
  intro i j hi hj _
  simp only [Nat.zero_add, t]

/-- The first half of the rows of the output, over the layer norm kept there. -/
theorem out_top : OnMat (kernelRun0_A.sl.H27_2 (F := Ideal) c arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 arg33 arg34 arg35 arg36 arg37 arg38 arg39
    arg40 arg41 arg42 arg43 arg44 x0 x1 x2 x3 x4 x5 x6 x7 x8 x9 x10 x11 x12 x13 x14 x15 x16 x17 x18 x19 x20 x21 x22 x23 x24 x25 x26) (fun i j => if i
    < 64 then out p i j else z p i j) (fun i j => i < 128 ∧ j < 1024) := by
  unfold kernelRun0_A.sl.H27_2 kernelRun0_A.sl.r_57 kernelRun0_A.sl.r_58
  dsimp only [k0_pay185, k0_pay186, k0_pay187]
  refine OnMat.cons (Q := fun i j => (i < 128 ∧ j < 1024) ∧ 64 ≤ i) _ ((z_kept hb).congr ?_ ?_)
    (Mat.norm (Mat.addf (Mat.mulf (Mat.const _) (Mat.cast (OnMat.load _ (z_kept hb) ?_))) (OnMat.load _ (t_top hb) ?_))
      (Mat.cast (Mat.load harg26 _ hb.lng)) (Mat.cast (Mat.load harg27 _ hb.lnb))) ?_ ?_
  any_goals (intro i j; omega)
  · intro i j h
    exact (if_neg (by omega)).symm
  · intro i j hi hj _
    simp only [Nat.zero_add, if_pos hi]
    rfl

/-- The output rows in the result's block. -/
theorem out_all : OnMat (kernelRun0_A (F := Ideal) c i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29 arg30 harg30 arg31
    harg31 arg32 harg32 arg33 harg33 arg34 harg34 arg35 harg35 arg36 harg36 arg37 harg37 arg38 harg38 arg39 harg39 arg40 harg40 arg41 harg41 arg42
    harg42 arg43 harg43 arg44 harg44 hc0 x0 x1 x2 x3 x4 x5 x6 x7 x8 x9 x10 x11 x12 x13 x14 x15 x16 x17 x18 x19 x20 x21 x22 x23 x24 x25 x26).1 (out p)
    (fun i j => i < 128 ∧ j < 1024) := by
  have hz : Mat (kernelRun0_A.sl.v1196 (F := Ideal) c arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 arg33 arg34 arg35 arg36 arg37 arg38 arg39
    arg40 arg41 arg42 arg43 arg44 x0 x1 x2 x3 x4 x5 x6 x7 x8 x9 x10 x11 x12 x13 x14 x15 x16 x17 x18 x19 x20 x21 x22 x23 x24 x25 x26) (fun i j => z p
    (64 + i) (0 + j)) :=
    Mat.congr (OnMat.load _ (out_top hb) fun i j hi hj => by omega) fun i j hi hj => if_neg (by omega)
  have ht : Mat (kernelRun0_A.sl.v1200 (F := Ideal) c arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg33 arg34 arg35 arg36 arg37 arg38 arg39 arg40 arg41 arg42 arg43 arg44 x0
    x1 x2 x3 x4 x5 x6 x7 x8 x9 x10 x11 x12 x13 x14 x15 x16 x17 x18 x19 x20 x21 x22 x23 x24) (fun i j => t p (64 + i) (0 + j)) := OnMat.load _
    (t_bottom hb) fun i j hi hj => by omega
  have hw : Mat (k0_pay1 (F := Ideal) (kernelRun0_A.sl.r_60 (F := Ideal) c arg26 harg26 x25) (kernelRun0_A.sl.r_61 (F := Ideal) c arg27 harg27 x26)
    (kernelRun0_A.sl.r_62 (F := Ideal) c arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19 harg19 arg20 harg20 arg21
    harg21 arg22 harg22 arg23 harg23 arg24 harg24 arg25 harg25 arg26 harg26 arg27 harg27 arg28 arg33 arg34 arg35 arg36 arg37 arg38 arg39 arg40 arg41
    arg42 arg43 arg44 x0 x1 x2 x3 x4 x5 x6 x7 x8 x9 x10 x11 x12 x13 x14 x15 x16 x17 x18 x19 x20 x21 x22 x23 x24 x25 x26) (kernelRun0_A.sl.r_63 (F :=
    Ideal) c arg1 harg1 arg2 harg2 arg3 harg3 arg4 harg4 arg5 harg5 arg6 harg6 arg7 harg7 arg8 harg8 arg9 harg9 arg10 harg10 arg11 harg11 arg12 harg12
    arg13 harg13 arg14 harg14 arg15 harg15 arg16 harg16 arg17 harg17 arg18 harg18 arg19 harg19 arg20 harg20 arg21 harg21 arg22 harg22 arg23 harg23
    arg24 harg24 arg25 harg25 arg26 harg26 arg27 harg27 arg28 arg33 arg34 arg35 arg36 arg37 arg38 arg39 arg40 arg41 arg42 arg43 arg44 x0 x1 x2 x3 x4
    x5 x6 x7 x8 x9 x10 x11 x12 x13 x14 x15 x16 x17 x18 x19 x20 x21 x22 x23 x24 x25 x26)) (fun i j => out p (64 + i) (0 + j)) := by
    unfold kernelRun0_A.sl.r_60 kernelRun0_A.sl.r_61 kernelRun0_A.sl.r_62 kernelRun0_A.sl.r_63 kernelRun0_A.sl.r_59
    dsimp only [k0_pay1, k0_pay189, k0_pay190, k0_pay191, k0_pay192, k0_pay193, k0_pay194]
    refine Mat.congr (Mat.norm (hc := broadcasts_S64x1_S64x1024) (hc'' := broadcasts_S64x1_S64x1024) (Mat.addf (Mat.mulf (Mat.const _) (Mat.cast hz)) ht) (Mat.cast (Mat.load harg26 _ hb.lng))
      (Mat.cast (Mat.load harg27 _ hb.lnb))) ?_
    intro i j hi hj
    simp only [Nat.zero_add]
    rfl
  refine OnMat.cons (Q := fun i j => i < 64 ∧ j < 1024) _ ((out_top hb).congr ?_ ?_) hw ?_ ?_
  any_goals (intro i j; omega)
  · intro i j h; exact if_pos h.1
  · intro i j hi hj _; rfl

/-- The block of the output rows. -/
theorem out_block : ∀ y, (out0_A_27 (F := Ideal) c i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29 arg30 harg30 arg31
    harg31 arg32 harg32 arg33 harg33 arg34 harg34 arg35 harg35 arg36 harg36 arg37 harg37 arg38 harg38 arg39 harg39 arg40 harg40 arg41 harg41 arg42
    harg42 arg43 harg43 arg44 harg44 hc0 x0 x1 x2 x3 x4 x5 x6 x7 x8 x9 x10 x11 x12 x13 x14 x15 x16 x17 x18 x19 x20 x21 x22 x23 x24 x25 x26) y = out p
    (y 0).val (y 1).val := by
  unfold out0_A_27
  rw [View.read_writes_junk_eq_canon]
  exact fun y => out_all hb y ⟨(y 0).isLt, (y 1).isLt⟩

/-- The block of the convolution's new cache. -/
theorem cache_block : ∀ y, (out0_A_28 (F := Ideal) c i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29 arg30 harg30 arg31
    harg31 arg32 harg32 arg33 harg33 arg34 harg34 arg35 harg35 arg36 harg36 arg37 harg37 arg38 harg38 arg39 harg39 arg40 harg40 arg41 harg41 arg42
    harg42 arg43 harg43 arg44 harg44 hc0 x0 x1 x2 x3 x4 x5 x6 x7 x8 x9 x10 x11 x12 x13 x14 x15 x16 x17 x18 x19 x20 x21 x22 x23 x24 x25 x26) y = xa p
    (128 + (y 0).val) (y 1).val := by
  unfold out0_A_28
  rw [View.read_writes_junk_eq_canon]
  have hw : Mat (kernelRun0_A.sl.v1227 (F := Ideal) c arg1 harg1 arg2 harg2 arg6 harg6 arg7 harg7 arg8 harg8 arg9 harg9 arg33 arg34 x0 x1 x5 x6 x7 x8)
    (fun i j => xa p (128 + i) (0 + j)) := OnMat.load _ (xa_all hb) fun i j hi hj => by omega
  have h : OnMat (kernelRun0_A (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19 arg20 harg20
    arg21 harg21 arg22 harg22 arg23 harg23 arg24 harg24 arg25 harg25 arg26 harg26 arg27 harg27 arg28 harg28 arg29 harg29 arg30 harg30 arg31 harg31
    arg32 harg32 arg33 harg33 arg34 harg34 arg35 harg35 arg36 harg36 arg37 harg37 arg38 harg38 arg39 harg39 arg40 harg40 arg41 harg41 arg42 harg42
    arg43 harg43 arg44 harg44 hc0 x0 x1 x2 x3 x4 x5 x6 x7 x8 x9 x10 x11 x12 x13 x14 x15 x16 x17 x18 x19 x20 x21 x22 x23 x24 x25 x26).2.1 (fun i j =>
    xa p (128 + i) j) (fun i j => i < 384 ∧ j < 1024) := by
    refine OnMat.fill _ hw ?_ ?_
    · intro i j hi hj _; simp only [Nat.zero_add]
    · intro i j; omega
  exact fun y => h y ⟨(y 0).isLt, (y 1).isLt⟩

/-- The block of the recurrence's state. -/
theorem hn_block : ∀ y, (out0_A_29 (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19 arg20 harg20
    arg21 harg21 arg22 harg22 arg23 harg23 arg24 harg24 arg25 harg25 arg26 harg26 arg27 harg27 arg28 harg28 arg29 harg29 arg30 harg30 arg31 harg31
    arg32 harg32 arg33 harg33 arg34 harg34 arg35 harg35 arg36 harg36 arg37 harg37 arg38 harg38 arg39 harg39 arg40 harg40 arg41 harg41 arg42 harg42
    arg43 harg43 arg44 harg44 hc0 x0 x1 x2 x3 x4 x5 x6 x7 x8 x9 x10 x11 x12 x13 x14 x15 x16 x17 x18 x19 x20 x21 x22 x23 x24 x25 x26) y = hn p (y
    0).val (y 1).val := by
  unfold out0_A_29
  rw [View.read_writes_junk_eq_canon]
  exact fun y => hn_out hb y ⟨(y 0).isLt, (y 1).isLt⟩

/-- The block of the real states. -/
theorem nre_block : ∀ y, (out0_A_30 (F := Ideal) c i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29 arg30 harg30 arg31
    harg31 arg32 harg32 arg33 harg33 arg34 harg34 arg35 harg35 arg36 harg36 arg37 harg37 arg38 harg38 arg39 harg39 arg40 harg40 arg41 harg41 arg42
    harg42 arg43 harg43 arg44 harg44 hc0 x0 x1 x2 x3 x4 x5 x6 x7 x8 x9 x10 x11 x12 x13 x14 x15 x16 x17 x18 x19 x20 x21 x22 x23 x24 x25 x26) y = nre p
    (y 0).val (y 1).val := by
  unfold out0_A_30
  rw [View.read_writes_junk_eq_canon]
  exact fun y => (nre_all hb).2 y ⟨(y 0).isLt, (y 1).isLt⟩

/-- The block of the imaginary states. -/
theorem nim_block : ∀ y, (out0_A_31 (F := Ideal) c i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29 arg30 harg30 arg31
    harg31 arg32 harg32 arg33 harg33 arg34 harg34 arg35 harg35 arg36 harg36 arg37 harg37 arg38 harg38 arg39 harg39 arg40 harg40 arg41 harg41 arg42
    harg42 arg43 harg43 arg44 harg44 hc0 x0 x1 x2 x3 x4 x5 x6 x7 x8 x9 x10 x11 x12 x13 x14 x15 x16 x17 x18 x19 x20 x21 x22 x23 x24 x25 x26) y = nim p
    (y 0).val (y 1).val := by
  unfold out0_A_31
  rw [View.read_writes_junk_eq_canon]
  exact fun y => (nim_all hb).2 y ⟨(y 0).isLt, (y 1).isLt⟩

end Cert.MixerKernel
-- ==== Proof.MixerBlocks.lean ====
/- The blocks the mixing call's body reads: each window's one block is its whole array, and the array is an argument, or an argument the host
   line has re-shaped. -/
module

public import proofs.«01_k».proof.Proof.MixerEntry
public import proofs.«01_k».proof.Proof.MixerKernel
public import proofs.«01_k».proof.Proof.MixerFrame
public import proofs.«01_k».proof.Proof.FfnEq

@[expose] public section

set_option maxRecDepth 16384
set_option maxHeartbeats 4000000

noncomputable section

namespace Cert.MixerEq

open Cert.KernelIdeal Cert.KernelIdeal.Gen Cert.Mat Cert.HostRead Cert.MixerTiles
open Cert.FfnEq (row_read mat_read)
open Idealize.ShloMosaic hiding ix1 ix2 ix3 ix4 eq_ix2
open Idealize.ShloMosaic.ValueIdx (ix1 ix2 ix3 ix4)

variable (m : (ℓ : Loc nD τ sig) → Buf (Elt Ideal) ℓ) (c : Dev nD)

/-- Window 0 holds the activations. -/
theorem blk0 : Mat (iblk m c 0 t0_0) (p m c).x := by
  have e : iblk m c 0 t0_0 = V m c main_v97 := by
    blk_ext! [iblk, (show win0_0.index t0_0 0 = 0 by decide), (show win0_0.index t0_0 1 = 0 by decide)]
  rw [e]
  after_reads_simp
  exact drop_mid _ _

/-- Window 1 holds the convolution's cache, time first. -/
theorem blk1 : Mat (iblk m c 1 t0_0) (p m c).cache := by
  have e : iblk m c 1 t0_0 = V m c main_v100 := by
    blk_ext! [iblk, (show win0_1.index t0_0 0 = 0 by decide), (show win0_1.index t0_0 1 = 0 by decide)]
  rw [e]
  after_reads_simp
  exact mat_swap (b := 128) (k := 3) (n := 1024) _ _ _ _ (by omega)

/-- Window 2 holds the recurrence's state. -/
theorem blk2 : Mat (iblk m c 2 t0_0) (p m c).h0 := by
  have e : iblk m c 2 t0_0 = V m c main_v101 := by
    blk_ext! [iblk, (show win0_2.index t0_0 0 = 0 by decide), (show win0_2.index t0_0 1 = 0 by decide)]
  rw [e]
  after_reads_simp
  exact mat_drop _ _

/-- Window 3 holds the real state of the state-space branch. -/
theorem blk3 : Mat (iblk m c 3 t0_0) (p m c).sre := by
  have e : iblk m c 3 t0_0 = V m c main_v103 := by
    blk_ext! [iblk, (show win0_3.index t0_0 0 = 0 by decide), (show win0_3.index t0_0 1 = 0 by decide)]
  rw [e]
  after_reads_simp
  exact joined _ _ _

/-- Window 4 holds its imaginary state. -/
theorem blk4 : Mat (iblk m c 4 t0_0) (p m c).sim := by
  have e : iblk m c 4 t0_0 = V m c main_v105 := by
    blk_ext! [iblk, (show win0_4.index t0_0 0 = 0 by decide), (show win0_4.index t0_0 1 = 0 by decide)]
  rw [e]
  after_reads_simp
  exact joined _ _ _

/-- Window 5 holds the embedding norm's gain. -/
theorem blk5 : Mat (iblk m c 5 t0_0) (fun _ j => (p m c).embg j) := by
  have e : iblk m c 5 t0_0 = V m c main_v68 := by
    blk_ext! [iblk, (show win0_5.index t0_0 0 = 0 by decide), (show win0_5.index t0_0 1 = 0 by decide)]
  rw [e]
  after_reads_simp
  exact as_row _ _

/-- Window 6 holds its shift. -/
theorem blk6 : Mat (iblk m c 6 t0_0) (fun _ j => (p m c).embb j) := by
  have e : iblk m c 6 t0_0 = V m c main_v69 := by
    blk_ext! [iblk, (show win0_6.index t0_0 0 = 0 by decide), (show win0_6.index t0_0 1 = 0 by decide)]
  rw [e]
  after_reads_simp
  exact as_row _ _

/-- Window 7 holds the input projection's weights. -/
theorem blk7 : Mat (iblk m c 7 t0_0) (p m c).win := by
  have e : iblk m c 7 t0_0 = V m c main_v71 := by
    blk_ext! [iblk, (show win0_7.index t0_0 0 = 0 by decide), (show win0_7.index t0_0 1 = 0 by decide)]
  rw [e]
  after_reads_simp
  exact mat_drop _ _

/-- Window 8 holds its bias. -/
theorem blk8 : Mat (iblk m c 8 t0_0) (fun _ j => (p m c).bin j) := by
  have e : iblk m c 8 t0_0 = V m c main_v73 := by
    blk_ext! [iblk, (show win0_8.index t0_0 0 = 0 by decide), (show win0_8.index t0_0 1 = 0 by decide)]
  rw [e]
  after_reads_simp
  exact mat_row _ _ _

/-- Window 9 holds the convolution's taps. -/
theorem blk9 : Mat (iblk m c 9 t0_0) (p m c).cw := by
  have e : iblk m c 9 t0_0 = V m c main_v74 := by
    blk_ext! [iblk, (show win0_9.index t0_0 0 = 0 by decide), (show win0_9.index t0_0 1 = 0 by decide)]
  rw [e]
  after_reads_simp
  exact mat_drop _ _

/-- Window 10 holds the convolution's bias. -/
theorem blk10 : Mat (iblk m c 10 t0_0) (fun _ j => (p m c).cb j) := by
  have e : iblk m c 10 t0_0 = V m c main_v76 := by
    blk_ext! [iblk, (show win0_10.index t0_0 0 = 0 by decide), (show win0_10.index t0_0 1 = 0 by decide)]
  rw [e]
  after_reads_simp
  exact mat_row _ _ _

/-- Window 11 holds the joined gates' weights. -/
theorem blk11 : Mat3 (iblk m c 11 t0_0) (p m c).wri := by
  have e : iblk m c 11 t0_0 = V m c main_v67 := by
    blk_ext! [iblk, (show win0_11.index t0_0 0 = 0 by decide), (show win0_11.index t0_0 1 = 0 by decide), (show win0_11.index t0_0 2 = 0 by decide)]
  rw [e]
  exact entry_wri m c

/-- Window 12 holds the recurrence gate's bias. -/
theorem blk12 : Mat (iblk m c 12 t0_0) (fun _ j => (p m c).br j) := by
  have e : iblk m c 12 t0_0 = V m c main_v78 := by
    blk_ext! [iblk, (show win0_12.index t0_0 0 = 0 by decide), (show win0_12.index t0_0 1 = 0 by decide)]
  rw [e]
  after_reads_simp
  exact mat_row _ _ _

/-- Window 13 holds the input gate's bias. -/
theorem blk13 : Mat (iblk m c 13 t0_0) (fun _ j => (p m c).bi j) := by
  have e : iblk m c 13 t0_0 = V m c main_v80 := by
    blk_ext! [iblk, (show win0_13.index t0_0 0 = 0 by decide), (show win0_13.index t0_0 1 = 0 by decide)]
  rw [e]
  after_reads_simp
  exact mat_row _ _ _

/-- Window 14 holds the recurrence's decay. -/
theorem blk14 : Mat (iblk m c 14 t0_0) (fun _ j => (p m c).lam j) := by
  have e : iblk m c 14 t0_0 = V m c main_v82 := by
    blk_ext! [iblk, (show win0_14.index t0_0 0 = 0 by decide), (show win0_14.index t0_0 1 = 0 by decide)]
  rw [e]
  after_reads_simp
  exact mat_row _ _ _

/-- Window 15 holds the real transition. -/
theorem blk15 : Mat (iblk m c 15 t0_0) (fun _ j => (p m c).are j) := by
  have e : iblk m c 15 t0_0 = V m c main_arg16 := by
    blk_ext! [iblk, (show win0_15.index t0_0 0 = 0 by decide), (show win0_15.index t0_0 1 = 0 by decide)]
  rw [e, V_main_arg16]
  exact row_read _

/-- Window 16 holds the imaginary transition. -/
theorem blk16 : Mat (iblk m c 16 t0_0) (fun _ j => (p m c).aim j) := by
  have e : iblk m c 16 t0_0 = V m c main_arg17 := by
    blk_ext! [iblk, (show win0_16.index t0_0 0 = 0 by decide), (show win0_16.index t0_0 1 = 0 by decide)]
  rw [e, V_main_arg17]
  exact row_read _

/-- Window 17 holds the input products' weights. -/
theorem blk17 : Mat3 (iblk m c 17 t0_0) (p m c).wb := by
  have e : iblk m c 17 t0_0 = V m c main_v29 := by
    blk_ext! [iblk, (show win0_17.index t0_0 0 = 0 by decide), (show win0_17.index t0_0 1 = 0 by decide), (show win0_17.index t0_0 2 = 0 by decide)]
  rw [e]
  exact entry_wb m c

/-- Window 18 holds the real output product's weights. -/
theorem blk18 : Mat3 (iblk m c 18 t0_0) (p m c).wcre := by
  have e : iblk m c 18 t0_0 = V m c main_v51 := by
    blk_ext! [iblk, (show win0_18.index t0_0 0 = 0 by decide), (show win0_18.index t0_0 1 = 0 by decide), (show win0_18.index t0_0 2 = 0 by decide)]
  rw [e]
  exact entry_wcre m c

/-- Window 19 holds the imaginary output product's weights. -/
theorem blk19 : Mat3 (iblk m c 19 t0_0) (p m c).wcim := by
  have e : iblk m c 19 t0_0 = V m c main_v63 := by
    blk_ext! [iblk, (show win0_19.index t0_0 0 = 0 by decide), (show win0_19.index t0_0 1 = 0 by decide), (show win0_19.index t0_0 2 = 0 by decide)]
  rw [e]
  exact entry_wcim m c

/-- Window 20 holds the skip gain. -/
theorem blk20 : Mat (iblk m c 20 t0_0) (fun _ j => (p m c).d j) := by
  have e : iblk m c 20 t0_0 = V m c main_v84 := by
    blk_ext! [iblk, (show win0_20.index t0_0 0 = 0 by decide), (show win0_20.index t0_0 1 = 0 by decide)]
  rw [e]
  after_reads_simp
  exact mat_row _ _ _

/-- Window 21 holds the gated unit's weights. -/
theorem blk21 : Mat (iblk m c 21 t0_0) (p m c).wglu := by
  have e : iblk m c 21 t0_0 = V m c main_v86 := by
    blk_ext! [iblk, (show win0_21.index t0_0 0 = 0 by decide), (show win0_21.index t0_0 1 = 0 by decide)]
  rw [e]
  after_reads_simp
  exact mat_drop _ _

/-- Window 22 holds its bias. -/
theorem blk22 : Mat (iblk m c 22 t0_0) (fun _ j => (p m c).bglu j) := by
  have e : iblk m c 22 t0_0 = V m c main_v88 := by
    blk_ext! [iblk, (show win0_22.index t0_0 0 = 0 by decide), (show win0_22.index t0_0 1 = 0 by decide)]
  rw [e]
  after_reads_simp
  exact mat_row _ _ _

/-- Window 23 holds the output projection's weights. -/
theorem blk23 : Mat (iblk m c 23 t0_0) (p m c).wout := by
  have e : iblk m c 23 t0_0 = V m c main_v90 := by
    blk_ext! [iblk, (show win0_23.index t0_0 0 = 0 by decide), (show win0_23.index t0_0 1 = 0 by decide)]
  rw [e]
  after_reads_simp
  exact mat_drop _ _

/-- Window 24 holds its bias. -/
theorem blk24 : Mat (iblk m c 24 t0_0) (fun _ j => (p m c).bout j) := by
  have e : iblk m c 24 t0_0 = V m c main_v92 := by
    blk_ext! [iblk, (show win0_24.index t0_0 0 = 0 by decide), (show win0_24.index t0_0 1 = 0 by decide)]
  rw [e]
  after_reads_simp
  exact mat_row _ _ _

/-- Window 25 holds the norm's gain. -/
theorem blk25 : Mat (iblk m c 25 t0_0) (fun _ j => (p m c).lng j) := by
  have e : iblk m c 25 t0_0 = V m c main_v94 := by
    blk_ext! [iblk, (show win0_25.index t0_0 0 = 0 by decide), (show win0_25.index t0_0 1 = 0 by decide)]
  rw [e]
  after_reads_simp
  exact mat_row _ _ _

/-- Window 26 holds the norm's shift. -/
theorem blk26 : Mat (iblk m c 26 t0_0) (fun _ j => (p m c).lnb j) := by
  have e : iblk m c 26 t0_0 = V m c main_v96 := by
    blk_ext! [iblk, (show win0_26.index t0_0 0 = 0 by decide), (show win0_26.index t0_0 1 = 0 by decide)]
  rw [e]
  after_reads_simp
  exact mat_row _ _ _

/-- All blocks of the one grid point. -/
theorem blocks : MixerKernel.Blocks (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)
    (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0)
    (iblk m c 18 t0_0) (iblk m c 19 t0_0) (iblk m c 20 t0_0) (iblk m c 21 t0_0) (iblk m c 22 t0_0) (iblk m c 23 t0_0) (iblk m c 24 t0_0) (iblk m c 25 t0_0) (iblk m c 26 t0_0)
    (p m c) :=
  ⟨blk0 m c, blk1 m c, blk2 m c, blk3 m c, blk4 m c, blk5 m c, blk6 m c, blk7 m c, blk8 m c,
    blk9 m c, blk10 m c, blk11 m c, blk12 m c, blk13 m c, blk14 m c, blk15 m c, blk16 m c, blk17 m c,
    blk18 m c, blk19 m c, blk20 m c, blk21 m c, blk22 m c, blk23 m c, blk24 m c, blk25 m c, blk26 m c⟩

end Cert.MixerEq

end
-- ==== Proof.Scalars.lean ====
/- The scalar identities on the extended reals that relate the kernel's arithmetic to the reference's: the sigmoid through the hyperbolic
   tangent, the square root of one minus a squared decay, softplus, the two ways of writing gelu, and the literals they use. -/
module

public import Idealize.ShloMosaic.PureOps.Ideal.Laws
public import Idealize.ShloMosaic.Lib.ValueIdx

@[expose] public section

noncomputable section

namespace Cert.Scalars

open Idealize.ShloMosaic

/-- The word of one half denotes one half. -/
theorem half_word : Ideal.ofBits .f32 0x3F000000#32 = ((1 / 2 : ℝ) : EReal) := by
  simp [Ideal.ofBits, Ideal.ieee, -EReal.coe_mul]; norm_num

/-- The word of one denotes one. -/
theorem one_word : Ideal.ofBits .f32 0x3F800000#32 = (1 : EReal) := by
  have h : Ideal.ofBits .f32 0x3F800000#32 = ((1 : ℝ) : EReal) := by
    simp [Ideal.ofBits, Ideal.ieee, -EReal.coe_mul]; norm_num
  simpa using h

/-- The word of two denotes two. -/
theorem two_word : Ideal.ofBits .f32 0x40000000#32 = ((2 : ℝ) : EReal) := by
  simp [Ideal.ofBits, Ideal.ieee, -EReal.coe_mul]; norm_num

theorem tanh_bot : Ideal.tanh ⊥ = -1 := rfl
theorem tanh_top : Ideal.tanh ⊤ = 1 := rfl
theorem tanh_coe (r : ℝ) : Ideal.tanh (r : EReal) = (Real.tanh r : EReal) := rfl
theorem exp_bot : Ideal.exp ⊥ = 0 := rfl
theorem exp_top : Ideal.exp ⊤ = ⊤ := rfl
theorem exp_coe (r : ℝ) : Ideal.exp (r : EReal) = (Real.exp r : EReal) := rfl

/-- A quotient by a positive real is the product with its inverse. -/
theorem div_pos (x : EReal) {r : ℝ} (h : 0 < r) : Ideal.div x (r : EReal) = x * ((r⁻¹ : ℝ) : EReal) := by
  have h0 : (r : EReal) ≠ 0 := by exact_mod_cast h.ne'
  rw [Ideal.div, if_neg h0, EReal.coe_inv]

/-- One half of the hyperbolic tangent of half the argument, plus one half, is the logistic function. -/
theorem sigmoid_eq (x : EReal) :
    ((1 / 2 : ℝ) : EReal) * Ideal.tanh (((1 / 2 : ℝ) : EReal) * x) + ((1 / 2 : ℝ) : EReal) = Ideal.div 1 (1 + Ideal.exp (-x)) := by
  induction x with
  | bot =>
    rw [EReal.coe_mul_bot_of_pos (by norm_num), EReal.neg_bot]
    simp only [tanh_bot, tanh_top, tanh_coe, exp_bot, exp_top, exp_coe]
    have h : (1 : EReal) + ⊤ = ⊤ := rfl
    rw [h, Ideal.div, if_neg (by simp), EReal.inv_top, mul_zero]
    have : (-1 : EReal) = ((-1 : ℝ) : EReal) := by simp
    rw [this, ← EReal.coe_mul, ← EReal.coe_add]
    norm_num
  | top =>
    rw [EReal.coe_mul_top_of_pos (by norm_num), EReal.neg_top]
    simp only [tanh_bot, tanh_top, tanh_coe, exp_bot, exp_top, exp_coe]
    rw [add_zero]
    have h1 : (1 : EReal) = ((1 : ℝ) : EReal) := by simp
    rw [h1, div_pos _ one_pos, ← EReal.coe_mul, ← EReal.coe_mul, ← EReal.coe_add]
    norm_num
  | coe x =>
    rw [← EReal.coe_mul, ← EReal.coe_neg]
    simp only [tanh_bot, tanh_top, tanh_coe, exp_bot, exp_top, exp_coe]
    have h1 : (1 : EReal) = ((1 : ℝ) : EReal) := by simp
    have hp : 0 < 1 + Real.exp (-x) := by positivity
    rw [h1, ← EReal.coe_add, div_pos _ hp, ← EReal.coe_mul, ← EReal.coe_mul, ← EReal.coe_add, EReal.coe_eq_coe_iff]
    rw [Real.tanh_eq_sinh_div_cosh, Real.sinh_eq, Real.cosh_eq]
    have e1 : Real.exp (-x) = Real.exp (-(1 / 2 * x)) * Real.exp (-(1 / 2 * x)) := by
      rw [← Real.exp_add]; congr 1; ring
    have e2 : Real.exp (1 / 2 * x) * Real.exp (-(1 / 2 * x)) = 1 := by
      rw [← Real.exp_add]; simp
    rw [e1]
    generalize Real.exp (-(1 / 2 * x)) = b at *
    generalize ha : Real.exp (1 / 2 * x) = a at *
    have hap : 0 < a := ha ▸ Real.exp_pos _
    have hb : b = a⁻¹ := by
      field_simp; linarith
    subst hb
    field_simp
    ring

/-- The kernel's `-tanh l * (a * a + 1)` at `a = exp l` is one minus the exponential of `2 l`. -/
theorem decay_eq (l : EReal) :
    -Ideal.tanh l * (Ideal.exp l * Ideal.exp l + 1) = -(Ideal.exp (((2 : ℝ) : EReal) * l) - 1) := by
  have h1 : (1 : EReal) = ((1 : ℝ) : EReal) := by simp
  induction l with
  | bot =>
    rw [EReal.coe_mul_bot_of_pos (by norm_num)]
    simp [tanh_bot, exp_bot]
  | top =>
    rw [EReal.coe_mul_top_of_pos (by norm_num)]
    simp only [tanh_bot, tanh_top, tanh_coe, exp_bot, exp_top, exp_coe]
    have h2 : (⊤ : EReal) * ⊤ + 1 = ⊤ := by rw [EReal.top_mul_top]; rfl
    have h3 : (⊤ : EReal) - 1 = ⊤ := by rw [h1]; exact EReal.top_sub_coe 1
    rw [h2, h3, neg_mul, one_mul]
  | coe l =>
    rw [← EReal.coe_mul]
    simp only [tanh_bot, tanh_top, tanh_coe, exp_bot, exp_top, exp_coe]
    rw [h1, ← EReal.coe_mul, ← EReal.coe_add, ← EReal.coe_neg, ← EReal.coe_mul, ← EReal.coe_sub, ← EReal.coe_neg,
      EReal.coe_eq_coe_iff]
    rw [Real.tanh_eq_sinh_div_cosh, Real.sinh_eq, Real.cosh_eq]
    have e1 : Real.exp (2 * l) = Real.exp l * Real.exp l := by rw [← Real.exp_add]; congr 1; ring
    rw [e1, Real.exp_neg]
    have hp := Real.exp_pos l
    field_simp

/-- No extended real differs from itself, so the reference's softplus takes its second branch. -/
theorem une_self (x : EReal) : Ideal.cmp .une x x = 0#1 := by
  simp [Ideal.cmp]

end Cert.Scalars

end
-- ==== Proof.MixerSums.lean ====
/- Identities that carry the mixer's plain functions to the reference's form of them: the sums over a block-diagonal slab keep one group's
   terms only, and the logistic function, softplus, gelu and the recurrence's step have the reference's words. -/
module

public import proofs.«01_k».proof.Proof.MixerSpec
public import proofs.«01_k».proof.Proof.Scalars

@[expose] public section

noncomputable section

namespace Cert.MixerSums

open Idealize.ShloMosaic Cert.MixerSpec
open scoped BigOperators

/-- A sum of which only the terms of block `g` are kept is the sum over that block. -/
theorem sum_block {n b : ℕ} (g : ℕ) (hb : 0 < b) (h : b * g + b ≤ n) (f : ℕ → EReal) :
    (∑ k : Fin n, if k.val / b = g then f k.val else 0) = ∑ q : Fin b, f (b * g + q.val) := by
  symm
  refine Finset.sum_of_injOn (fun q : Fin b => (⟨b * g + q.val, by omega⟩ : Fin n)) ?_ ?_ ?_ ?_
  · intro q _ r _ e
    have := congrArg Fin.val e
    exact Fin.ext (by simpa using this)
  · intro q _
    exact Finset.mem_coe.2 (Finset.mem_univ _)
  · intro k _ hk
    refine if_neg fun e => hk ⟨⟨k.val % b, Nat.mod_lt _ hb⟩, Finset.mem_coe.2 (Finset.mem_univ _), Fin.ext ?_⟩
    show b * g + k.val % b = k.val
    rw [← e]
    exact Nat.div_add_mod _ _
  · intro q _
    have e : (b * g + q.val) / b = g := by
      rw [Nat.mul_add_div hb, Nat.div_eq_of_lt q.isLt, Nat.add_zero]
    exact (if_pos e).symm

variable {p : Arrays}

/-- The input product over a block-diagonal slab is the sum over the state's own group of sixteen columns. -/
theorem input_sum {o : ℕ} {B : ℕ → ℕ → EReal}
    (hB : ∀ s k j, s < 2 → k < 256 → j < 1024 → p.wb s k (o + j) = if k / 16 = j / 64 then B (k % 16) (1024 * s + j) else 0)
    (i j : ℕ) (hj : j < 2048) :
    (∑ k : Fin 256, us p i (256 * (j / 1024) + k.val) * p.wb (j / 1024) k.val (o + j % 1024))
      = ∑ q : Fin 16, us p i (16 * (j / 64) + q.val) * B q.val j := by
  have e : (∑ k : Fin 256, us p i (256 * (j / 1024) + k.val) * p.wb (j / 1024) k.val (o + j % 1024))
      = ∑ k : Fin 256, if k.val / 16 = j % 1024 / 64 then
          (fun n => us p i (256 * (j / 1024) + n) * B (n % 16) (1024 * (j / 1024) + j % 1024)) k.val else 0 := by
    refine Finset.sum_congr rfl fun k _ => ?_
    rw [hB _ _ _ (by omega) k.isLt (by omega), mul_ite, mul_zero]
  refine e.trans ((sum_block (n := 256) (b := 16) (j % 1024 / 64) (by omega) (by omega)
    fun n => us p i (256 * (j / 1024) + n) * B (n % 16) (1024 * (j / 1024) + j % 1024)).trans ?_)
  refine Finset.sum_congr rfl fun q _ => congrArg₂ (· * ·) (congrArg (us p i) ?_) (congrArg₂ B ?_ ?_)
  · have := q.isLt; omega
  · have := q.isLt; omega
  · omega

/-- The output product over a block-diagonal slab is the sum over the column's own group of 64 states. -/
theorem output_sum {w : ℕ → ℕ → ℕ → EReal} {C : ℕ → ℕ → ℕ → EReal}
    (hC : ∀ s k j, s < 2 → k < 1024 → j < 256 → w s k j = if k / 64 = j / 16 then C (16 * s + k / 64) (j % 16) (k % 64) else 0)
    (f : ℕ → EReal) (j : ℕ) (hj : j < 512) :
    (∑ k : Fin 1024, f (1024 * (j / 256) + k.val) * w (j / 256) k.val (j % 256))
      = ∑ q : Fin 64, f (64 * (j / 16) + q.val) * C (j / 16) (j % 16) q.val := by
  have e : (∑ k : Fin 1024, f (1024 * (j / 256) + k.val) * w (j / 256) k.val (j % 256))
      = ∑ k : Fin 1024, if k.val / 64 = j % 256 / 16 then
          (fun n => f (1024 * (j / 256) + n) * C (16 * (j / 256) + n / 64) (j % 256 % 16) (n % 64)) k.val else 0 := by
    refine Finset.sum_congr rfl fun k _ => ?_
    rw [hC _ _ _ (by omega) k.isLt (by omega), mul_ite, mul_zero]
  refine e.trans ((sum_block (n := 1024) (b := 64) (j % 256 / 16) (by omega) (by omega)
    fun n => f (1024 * (j / 256) + n) * C (16 * (j / 256) + n / 64) (j % 256 % 16) (n % 64)).trans ?_)
  refine Finset.sum_congr rfl fun q _ => ?_
  have hq := q.isLt
  have e1 : 1024 * (j / 256) + (64 * (j % 256 / 16) + q.val) = 64 * (j / 16) + q.val := by omega
  have e2 : 16 * (j / 256) + (64 * (j % 256 / 16) + q.val) / 64 = j / 16 := by omega
  have e3 : j % 256 % 16 = j % 16 := by omega
  have e4 : (64 * (j % 256 / 16) + q.val) % 64 = q.val := by omega
  show f _ * C _ _ _ = _
  rw [e1, e2, e3, e4]

/-- The logistic function as one over one plus the exponential of the negated argument. -/
theorem sig_eq (z : EReal) :
    Ideal.div (Ideal.ofBits .f32 0x3F800000#32) (Ideal.ofBits .f32 0x3F800000#32 + Ideal.exp (-z)) = sig z := by
  rw [sig, Scalars.half_word, Scalars.one_word]
  exact (Scalars.sigmoid_eq z).symm

/-- Softplus with the zero subtracted inside the absolute value. -/
theorem sp_eq (j : ℕ) :
    max (-p.lam j) (Ideal.ofBits .f32 0x00000000#32)
      + Ideal.log1p (Ideal.exp (-max (-p.lam j - Ideal.ofBits .f32 0x00000000#32) (-(-p.lam j - Ideal.ofBits .f32 0x00000000#32)))) = sp p j := by
  rw [sp, Ideal.ofBits_zero_f32, zero_sub, zero_sub, sub_zero]

/-- The recurrence's step with the root of one minus the exponential of twice the decay's logarithm. -/
theorem lru_eq (r i s h c : EReal) :
    Ideal.exp (Ideal.ofBits .f32 0xC1000000#32 * sig r * s) * h
      + Ideal.sqrt (-(Ideal.exp (Ideal.ofBits .f32 0x40000000#32 * (Ideal.ofBits .f32 0xC1000000#32 * sig r * s)) - 1)) * (sig i * c)
      = lru r i s h c := by
  rw [lru, Ideal.ofBits_zero_f32, zero_sub, Scalars.one_word, Scalars.decay_eq, Scalars.two_word]

/-- Gelu with the half inside. -/
theorem gelu_eq (z : EReal) :
    z * (Ideal.ofBits .f32 0x3F000000#32 * (Ideal.ofBits .f32 0x3F800000#32
      + Ideal.tanh (Ideal.ofBits .f32 0x3F4C422A#32 * (z + Ideal.ofBits .f32 0x3D372713#32 * (z * z * z))))) = FfnSpec.gelu z := by
  rw [FfnSpec.gelu, ← mul_assoc, mul_comm z]

end Cert.MixerSums
-- ==== Proof.MixerReference.lean ====
/- What the mixer's reference computes, one entry at a time, in terms of the plain functions of MixerSpec. -/
module

public import proofs.«01_k».proof.Proof.Gen.ReferenceIdeal.Read
public import proofs.«01_k».proof.Proof.Mat
public import proofs.«01_k».proof.Proof.MixerSums

@[expose] public section

noncomputable section

namespace Cert.MixerReference

open Cert.ReferenceIdeal Cert.ReferenceIdeal.Gen Cert.ReferenceIdeal.Read Cert.Mat Cert.MixerSpec Idealize.ShloMosaic

variable {x0 : (⟨S128x1x1024, .f32⟩ : BufTy).Contents (Elt Ideal)} {x1 : (⟨S1x128x3x1024, .f32⟩ : BufTy).Contents (Elt Ideal)}
  {x2 : (⟨S1x128x1024, .f32⟩ : BufTy).Contents (Elt Ideal)} {x3 x4 : (⟨S1x128x32x64, .f32⟩ : BufTy).Contents (Elt Ideal)}
  {x5 x6 : (⟨S1024, .f32⟩ : BufTy).Contents (Elt Ideal)} {x7 : (⟨S1x1024x3584, .f32⟩ : BufTy).Contents (Elt Ideal)}
  {x8 : (⟨S1x3584, .f32⟩ : BufTy).Contents (Elt Ideal)} {x9 : (⟨S1x4x1024, .f32⟩ : BufTy).Contents (Elt Ideal)}
  {x10 : (⟨S1x1024, .f32⟩ : BufTy).Contents (Elt Ideal)} {x11 : (⟨S1x8x128x128, .f32⟩ : BufTy).Contents (Elt Ideal)}
  {x12 : (⟨S1x1024, .f32⟩ : BufTy).Contents (Elt Ideal)} {x13 : (⟨S1x8x128x128, .f32⟩ : BufTy).Contents (Elt Ideal)}
  {x14 x15 : (⟨S1x1024, .f32⟩ : BufTy).Contents (Elt Ideal)} {x16 x17 : (⟨S1x2048, .f32⟩ : BufTy).Contents (Elt Ideal)}
  {x18 x19 : (⟨S16x2048, .f32⟩ : BufTy).Contents (Elt Ideal)} {x20 x21 : (⟨S1x32x16x64, .f32⟩ : BufTy).Contents (Elt Ideal)}
  {x22 : (⟨S1x512, .f32⟩ : BufTy).Contents (Elt Ideal)} {x23 : (⟨S1x512x2048, .f32⟩ : BufTy).Contents (Elt Ideal)}
  {x24 : (⟨S1x2048, .f32⟩ : BufTy).Contents (Elt Ideal)} {x25 : (⟨S1x1024x1024, .f32⟩ : BufTy).Contents (Elt Ideal)}
  {x26 x27 x28 : (⟨S1x1024, .f32⟩ : BufTy).Contents (Elt Ideal)}
  {p : Arrays} {bre bim : ℕ → ℕ → EReal} {cre cim : ℕ → ℕ → ℕ → EReal}

/-- The reference's arguments hold the arrays of the step: the cache time-major, the gates' weights side by side in the step's eight
    blocks, and the state-space weights on the block diagonal of the step's slabs. -/
structure Args (x0 : (⟨S128x1x1024, .f32⟩ : BufTy).Contents (Elt Ideal)) (x1 : (⟨S1x128x3x1024, .f32⟩ : BufTy).Contents (Elt Ideal))
    (x2 : (⟨S1x128x1024, .f32⟩ : BufTy).Contents (Elt Ideal)) (x3 x4 : (⟨S1x128x32x64, .f32⟩ : BufTy).Contents (Elt Ideal))
    (x5 x6 : (⟨S1024, .f32⟩ : BufTy).Contents (Elt Ideal)) (x7 : (⟨S1x1024x3584, .f32⟩ : BufTy).Contents (Elt Ideal))
    (x8 : (⟨S1x3584, .f32⟩ : BufTy).Contents (Elt Ideal)) (x9 : (⟨S1x4x1024, .f32⟩ : BufTy).Contents (Elt Ideal))
    (x10 : (⟨S1x1024, .f32⟩ : BufTy).Contents (Elt Ideal)) (x11 : (⟨S1x8x128x128, .f32⟩ : BufTy).Contents (Elt Ideal))
    (x12 : (⟨S1x1024, .f32⟩ : BufTy).Contents (Elt Ideal)) (x13 : (⟨S1x8x128x128, .f32⟩ : BufTy).Contents (Elt Ideal))
    (x14 x15 : (⟨S1x1024, .f32⟩ : BufTy).Contents (Elt Ideal)) (x16 x17 : (⟨S1x2048, .f32⟩ : BufTy).Contents (Elt Ideal))
    (x18 x19 : (⟨S16x2048, .f32⟩ : BufTy).Contents (Elt Ideal)) (x20 x21 : (⟨S1x32x16x64, .f32⟩ : BufTy).Contents (Elt Ideal))
    (x22 : (⟨S1x512, .f32⟩ : BufTy).Contents (Elt Ideal)) (x23 : (⟨S1x512x2048, .f32⟩ : BufTy).Contents (Elt Ideal))
    (x24 : (⟨S1x2048, .f32⟩ : BufTy).Contents (Elt Ideal)) (x25 : (⟨S1x1024x1024, .f32⟩ : BufTy).Contents (Elt Ideal))
    (x26 x27 x28 : (⟨S1x1024, .f32⟩ : BufTy).Contents (Elt Ideal))
    (p : Arrays) (bre bim : ℕ → ℕ → EReal) (cre cim : ℕ → ℕ → ℕ → EReal) : Prop where
  x : ∀ i, x0 i = p.x (i 0).val (i 2).val
  cache : ∀ i, x1 i = p.cache ((i 2).val * 128 + (i 1).val) (i 3).val
  h0 : ∀ i, x2 i = p.h0 (i 1).val (i 2).val
  sre : ∀ i, x3 i = p.sre (i 1).val (64 * (i 2).val + (i 3).val)
  sim : ∀ i, x4 i = p.sim (i 1).val (64 * (i 2).val + (i 3).val)
  embg : ∀ i, x5 i = p.embg (i 0).val
  embb : ∀ i, x6 i = p.embb (i 0).val
  win : ∀ i, x7 i = p.win (i 1).val (i 2).val
  bin : ∀ i, x8 i = p.bin (i 1).val
  cw : ∀ i, x9 i = p.cw (i 1).val (i 2).val
  cb : ∀ i, x10 i = p.cb (i 1).val
  wr : ∀ i, x11 i = p.wri (i 1).val (i 2).val (i 3).val
  br : ∀ i, x12 i = p.br (i 1).val
  wi : ∀ i, x13 i = p.wri (i 1).val (i 2).val (128 + (i 3).val)
  bi : ∀ i, x14 i = p.bi (i 1).val
  lam : ∀ i, x15 i = p.lam (i 1).val
  are : ∀ i, x16 i = p.are (i 1).val
  aim : ∀ i, x17 i = p.aim (i 1).val
  ebre : ∀ i, x18 i = bre (i 0).val (i 1).val
  ebim : ∀ i, x19 i = bim (i 0).val (i 1).val
  ecre : ∀ i, x20 i = cre (i 1).val (i 2).val (i 3).val
  ecim : ∀ i, x21 i = cim (i 1).val (i 2).val (i 3).val
  d : ∀ i, x22 i = p.d (i 1).val
  wglu : ∀ i, x23 i = p.wglu (i 1).val (i 2).val
  bglu : ∀ i, x24 i = p.bglu (i 1).val
  wout : ∀ i, x25 i = p.wout (i 1).val (i 2).val
  bout : ∀ i, x26 i = p.bout (i 1).val
  lng : ∀ i, x27 i = p.lng (i 1).val
  lnb : ∀ i, x28 i = p.lnb (i 1).val
  slab_bre : ∀ s k j, s < 2 → k < 256 → j < 1024 → p.wb s k (0 + j) = if k / 16 = j / 64 then bre (k % 16) (1024 * s + j) else 0
  slab_bim : ∀ s k j, s < 2 → k < 256 → j < 1024 → p.wb s k (1024 + j) = if k / 16 = j / 64 then bim (k % 16) (1024 * s + j) else 0
  slab_cre : ∀ s k j, s < 2 → k < 1024 → j < 256 →
    p.wcre s k j = if k / 64 = j / 16 then cre (16 * s + k / 64) (j % 16) (k % 64) else 0
  slab_cim : ∀ s k j, s < 2 → k < 1024 → j < 256 →
    p.wcim s k j = if k / 64 = j / 16 then cim (16 * s + k / 64) (j % 16) (k % 64) else 0

variable (h : Args x0 x1 x2 x3 x4 x5 x6 x7 x8 x9 x10 x11 x12 x13 x14 x15 x16 x17 x18 x19 x20 x21 x22 x23 x24 x25 x26 x27 x28
  p bre bim cre cim)

include h

/-- The rows with their means taken off. -/
theorem centred_eq (i : S128x1x1024.Idx) : val_main_v5 (F := Ideal) x0 i = FfnSpec.centred p.x (i 0).val (i 2).val := by
  rw [val_main_v5_apply, h.x, val_main_v4_apply, val_main_v3_apply, val_main_v2_apply, val_main_cst_0_apply, val_main_v1_apply,
      val_main_v0_apply, val_main_cst_apply]
  refine congrArg₂ (· - ·) rfl (congrArg₂ Ideal.div ?_ rfl)
  refine (congrArg (· + _) (Ideal.ofBits_zero .f32)).trans ((zero_add _).trans (Finset.sum_congr rfl fun k _ => ?_))
  exact h.x _

/-- The embedding's layer norm. -/
theorem z_eq (i : S128x1x1024.Idx) : val_main_v23 (F := Ideal) x0 x5 x6 i = z p (i 0).val (i 2).val := by
  have hc (j : S128x1x1024.Idx) : val_main_v12 (F := Ideal) x0 j = FfnSpec.centred p.x (j 0).val (j 2).val := centred_eq h j
  rw [val_main_v23_apply, val_main_v20_apply, val_main_v17_apply, hc, val_main_v16_apply, val_main_v15_apply, val_main_v14_apply,
      val_main_v13_apply, val_main_cst_3_apply, val_main_v10_apply, val_main_v9_apply, val_main_cst_2_apply, val_main_v8_apply,
          val_main_v7_apply, val_main_cst_1_apply, val_main_v19_apply, val_main_v18_apply, h.embg, val_main_v22_apply, val_main_v21_apply,
              h.embb]
  refine congrArg₂ (· + ·) (congrArg₂ (· * ·) (congrArg₂ (· * ·) rfl (congrArg Ideal.rsqrt
    (congrArg₂ (· + ·) (congrArg₂ Ideal.div ?_ rfl) rfl))) rfl) rfl
  refine (congrArg (· + _) (Ideal.ofBits_zero .f32)).trans ((zero_add _).trans (Finset.sum_congr rfl fun k _ => ?_))
  rw [val_main_v6_apply, centred_eq h]
  rfl

/-- The input projection. -/
theorem proj_eq (i : S128x1x3584.Idx) : val_main_v29 (F := Ideal) x0 x5 x6 x7 x8 i = proj p (i 0).val (i 2).val := by
  have e2 : (i 2).val < 3584 := (i 2).isLt
  rw [val_main_v29_apply, val_main_v25_apply, val_main_v28_apply, val_main_v27_apply, val_main_v26_apply, h.bin]
  refine congrArg₂ (· + ·) (Finset.sum_congr rfl fun k _ => ?_) (congrArg p.bin (Nat.mod_eq_of_lt e2))
  have ek : k.val < 1024 := k.isLt
  rw [z_eq h, val_main_v24_apply, h.win]
  exact congrArg₂ (· * ·) rfl (congrArg₂ p.win (show (k.val * 3584 + (i 2).val) / 3584 % 1024 = _ by omega)
    (show (k.val * 3584 + (i 2).val) % 3584 = _ by omega))

/-- The state-space branch's input. -/
theorem us_eq (i : S128x1x512.Idx) : val_main_v31 (F := Ideal) x0 x5 x6 x7 x8 i = us p (i 0).val (i 2).val := by
  rw [val_main_v31_apply, proj_eq h]
  rfl

/-- The convolution's window: three cached steps, then the step's own rows. -/
theorem window_eq (i : S128x4x1024.Idx) : val_main_v37 (F := Ideal) x0 x1 x5 x6 x7 x8 i = xa p ((i 1).val * 128 + (i 0).val) (i 2).val := by
  have e0 : (i 0).val < 128 := (i 0).isLt; have e1 : (i 1).val < 4 := (i 1).isLt; have e2 : (i 2).val < 1024 := (i 2).isLt
  unfold val_main_v37 xa
  by_cases hi : (i 1).val < 3
  · rw [if_pos (by omega)]
    refine (concatenate_pair_apply_left (s₁ := S128x3x1024) (s₂ := S128x1x1024) 1 _ _ _ i rfl
      (fun a => match a with | ⟨0, _⟩ => ⟨(i 0).val, e0⟩ | ⟨1, _⟩ => ⟨(i 1).val, hi⟩ | ⟨2, _⟩ => ⟨(i 2).val, e2⟩)
      (fun a => match a with | ⟨0, _⟩ => rfl | ⟨1, _⟩ => rfl | ⟨2, _⟩ => rfl)).trans ?_
    rw [val_main_v34_apply, h.cache]
    refine congrArg₂ p.cache ?_ ?_
    · show (((i 0).val * 3 + (i 1).val) * 1024 + (i 2).val) / 1024 % 3 * 128
        + (((i 0).val * 3 + (i 1).val) * 1024 + (i 2).val) / 3072 % 128 = _
      omega
    · show (((i 0).val * 3 + (i 1).val) * 1024 + (i 2).val) % 1024 = _
      omega
  · rw [if_neg (by omega)]
    refine (concatenate_pair_apply_right (s₁ := S128x3x1024) (s₂ := S128x1x1024) 1 _ _ _ i rfl rfl
      (fun a => match a with | ⟨0, _⟩ => ⟨(i 0).val, e0⟩ | ⟨1, _⟩ => ⟨0, Nat.one_pos⟩ | ⟨2, _⟩ => ⟨(i 2).val, e2⟩)
      (fun a => match a with | ⟨0, _⟩ => fun _ => rfl | ⟨1, _⟩ => fun h => absurd rfl h | ⟨2, _⟩ => fun _ => rfl)
      (show 0 + 3 = (i 1).val by omega)).trans ?_
    rw [val_main_v30_apply, proj_eq h]
    exact congrArg₂ (proj p) (show (i 0).val = _ by omega) rfl

/-- The taps. -/
theorem taps (i : S4x1024.Idx) : val_main_v35 (F := Ideal) x9 i = p.cw (i 0).val (i 1).val := by
  have e0 : (i 0).val < 4 := (i 0).isLt; have e1 : (i 1).val < 1024 := (i 1).isLt
  rw [val_main_v35_apply, h.cw]
  exact congrArg₂ p.cw (show ((i 0).val * 1024 + (i 1).val) / 1024 % 4 = _ by omega) (show ((i 0).val * 1024 + (i 1).val) % 1024 = _ by
      omega)

/-- The convolution. -/
theorem conv_eq (i : S128x1x1024.Idx) : val_main_v69 (F := Ideal) x0 x1 x5 x6 x7 x8 x9 x10 i = conv p (i 0).val (i 2).val := by
  have e1 : (i 1).val < 1 := (i 1).isLt; have e2 : (i 2).val < 1024 := (i 2).isLt
  have k0 : val_main_v43 (F := Ideal) x0 x1 x5 x6 x7 x8 x9 i = p.cw 0 (i 2).val * xa p (i 0).val (i 2).val := by
    rw [val_main_v43_apply, val_main_v38_apply, window_eq h, val_main_v42_apply, val_main_v41_apply, val_main_v40_apply,
        val_main_v39_apply, taps h]
    exact (mul_comm _ _).trans (congrArg₂ (· * ·) (congrArg (p.cw 0) (Nat.mod_eq_of_lt e2))
      (congrArg₂ (xa p) (show (i 1).val * 128 + (i 0).val = _ by omega) rfl))
  have k1 : val_main_v51 (F := Ideal) x0 x1 x5 x6 x7 x8 x9 i = p.cw 1 (i 2).val * xa p (128 + (i 0).val) (i 2).val := by
    rw [val_main_v51_apply, val_main_v46_apply, window_eq h, val_main_v50_apply, val_main_v49_apply, val_main_v48_apply,
        val_main_v47_apply, taps h]
    exact (mul_comm _ _).trans (congrArg₂ (· * ·) (congrArg (p.cw 1) (Nat.mod_eq_of_lt e2))
      (congrArg₂ (xa p) (show (1 + (i 1).val) * 128 + (i 0).val = _ by omega) rfl))
  have k2 : val_main_v58 (F := Ideal) x0 x1 x5 x6 x7 x8 x9 i = p.cw 2 (i 2).val * xa p (256 + (i 0).val) (i 2).val := by
    rw [val_main_v58_apply, val_main_v53_apply, window_eq h, val_main_v57_apply, val_main_v56_apply, val_main_v55_apply,
        val_main_v54_apply, taps h]
    exact (mul_comm _ _).trans (congrArg₂ (· * ·) (congrArg (p.cw 2) (Nat.mod_eq_of_lt e2))
      (congrArg₂ (xa p) (show (2 + (i 1).val) * 128 + (i 0).val = _ by omega) rfl))
  have k3 : val_main_v65 (F := Ideal) x0 x1 x5 x6 x7 x8 x9 i = p.cw 3 (i 2).val * xa p (384 + (i 0).val) (i 2).val := by
    rw [val_main_v65_apply, val_main_v60_apply, window_eq h, val_main_v64_apply, val_main_v63_apply, val_main_v62_apply,
        val_main_v61_apply, taps h]
    exact (mul_comm _ _).trans (congrArg₂ (· * ·) (congrArg (p.cw 3) (Nat.mod_eq_of_lt e2))
      (congrArg₂ (xa p) (show (3 + (i 1).val) * 128 + (i 0).val = _ by omega) rfl))
  have kb : val_main_v68 (F := Ideal) x10 i = p.cb (i 2).val := by
    rw [val_main_v68_apply, val_main_v67_apply, val_main_v36_apply, h.cb]
    exact congrArg p.cb (Nat.mod_eq_of_lt e2)
  have kz : val_main_v44 (F := Ideal) i = 0 := by
    rw [val_main_v44_apply, val_main_cst_4_apply]
    exact Ideal.ofBits_zero .f32
  rw [val_main_v69_apply, val_main_v66_apply, val_main_v59_apply, val_main_v52_apply, val_main_v45_apply, k0, k1, k2, k3, kb, kz]
  show _ + ((((0 + _) + _) + _) + _) = _
  rw [zero_add, ← add_assoc, ← add_assoc, ← add_assoc]
  rfl

/-- The decay gate's sums. -/
theorem gate_r_eq (i : S128x1x1024.Idx) : val_main_v80 (F := Ideal) x0 x1 x5 x6 x7 x8 x9 x10 x11 i = gates p (i 0).val (256 * ((i 2).val /
    128) + (i 2).val % 128) := by
  have e0 : (i 0).val < 128 := (i 0).isLt; have e1 : (i 1).val < 1 := (i 1).isLt; have e2 : (i 2).val < 1024 := (i 2).isLt
  rw [val_main_v80_apply, val_main_v79_apply, val_main_v78_apply]
  refine Finset.sum_congr rfl fun k _ => ?_
  have ek : k.val < 128 := k.isLt
  rw [val_main_v72_apply, h.wr, val_main_v77_apply, conv_eq h]
  refine (mul_comm _ _).trans (congrArg₂ (· * ·) (congrArg₂ (conv p) ?_ ?_) (congr (congrArg₂ p.wri ?_ ?_) ?_))
  · show ((((((i 0).val * 1 + (i 1).val) * 1024 + (i 2).val) / 1024 * 1 + 0) * 8
      + (((i 0).val * 1 + (i 1).val) * 1024 + (i 2).val) / 128 % 8) * 128 + k.val) / 1024 = _
    omega
  · show ((((((i 0).val * 1 + (i 1).val) * 1024 + (i 2).val) / 1024 * 1 + 0) * 8
      + (((i 0).val * 1 + (i 1).val) * 1024 + (i 2).val) / 128 % 8) * 128 + k.val) % 1024 = _
    omega
  · show (((((i 0).val * 1 + (i 1).val) * 1024 + (i 2).val) / 128 % 8 * 128 + k.val) * 128
      + (((i 0).val * 1 + (i 1).val) * 1024 + (i 2).val) % 128) / 16384 % 8 = _
    omega
  · show (((((i 0).val * 1 + (i 1).val) * 1024 + (i 2).val) / 128 % 8 * 128 + k.val) * 128
      + (((i 0).val * 1 + (i 1).val) * 1024 + (i 2).val) % 128) / 128 % 128 = _
    omega
  · show (((((i 0).val * 1 + (i 1).val) * 1024 + (i 2).val) / 128 % 8 * 128 + k.val) * 128
      + (((i 0).val * 1 + (i 1).val) * 1024 + (i 2).val) % 128) % 128 = _
    omega

/-- The input gate's sums. -/
theorem gate_i_eq (i : S128x1x1024.Idx) : val_main_v92 (F := Ideal) x0 x1 x5 x6 x7 x8 x9 x10 x13 i = gates p (i 0).val (256 * ((i 2).val /
    128) + 128 + (i 2).val % 128) := by
  have e0 : (i 0).val < 128 := (i 0).isLt; have e1 : (i 1).val < 1 := (i 1).isLt; have e2 : (i 2).val < 1024 := (i 2).isLt
  rw [val_main_v92_apply, val_main_v91_apply, val_main_v90_apply]
  refine Finset.sum_congr rfl fun k _ => ?_
  have ek : k.val < 128 := k.isLt
  rw [val_main_v74_apply, h.wi, val_main_v77_apply, conv_eq h]
  refine (mul_comm _ _).trans (congrArg₂ (· * ·) (congrArg₂ (conv p) ?_ ?_) (congr (congrArg₂ p.wri ?_ ?_) ?_))
  · show ((((((i 0).val * 1 + (i 1).val) * 1024 + (i 2).val) / 1024 * 1 + 0) * 8
      + (((i 0).val * 1 + (i 1).val) * 1024 + (i 2).val) / 128 % 8) * 128 + k.val) / 1024 = _
    omega
  · show ((((((i 0).val * 1 + (i 1).val) * 1024 + (i 2).val) / 1024 * 1 + 0) * 8
      + (((i 0).val * 1 + (i 1).val) * 1024 + (i 2).val) / 128 % 8) * 128 + k.val) % 1024 = _
    omega
  · show (((((i 0).val * 1 + (i 1).val) * 1024 + (i 2).val) / 128 % 8 * 128 + k.val) * 128
      + (((i 0).val * 1 + (i 1).val) * 1024 + (i 2).val) % 128) / 16384 % 8 = _
    omega
  · show (((((i 0).val * 1 + (i 1).val) * 1024 + (i 2).val) / 128 % 8 * 128 + k.val) * 128
      + (((i 0).val * 1 + (i 1).val) * 1024 + (i 2).val) % 128) / 128 % 128 = _
    omega
  · show 128 + (((((i 0).val * 1 + (i 1).val) * 1024 + (i 2).val) / 128 % 8 * 128 + k.val) * 128
      + (((i 0).val * 1 + (i 1).val) * 1024 + (i 2).val) % 128) % 128 = _
    omega

/-- The decay gate. -/
theorem sig_r_eq (i : S128x1x1024.Idx) :
    val_main_v89 (F := Ideal) x0 x1 x5 x6 x7 x8 x9 x10 x11 x12 i = sig (gates p (i 0).val (256 * ((i 2).val / 128) + (i 2).val % 128) +
        p.br (i 2).val) := by
  rw [val_main_v89_apply, val_main_v88_apply, val_main_cst_6_apply, val_main_v87_apply, val_main_v86_apply, val_main_cst_5_apply,
      val_main_v85_apply, val_main_v84_apply, val_main_v83_apply, gate_r_eq h, val_main_v82_apply, val_main_v81_apply, val_main_v73_apply,
          h.br]
  refine Eq.trans ?_ (MixerSums.sig_eq _)
  exact congrArg (fun n => Ideal.div _ (_ + Ideal.exp (-(_ + p.br n)))) (Nat.mod_eq_of_lt (i 2).isLt)

/-- The input gate. -/
theorem sig_i_eq (i : S128x1x1024.Idx) :
    val_main_v101 (F := Ideal) x0 x1 x5 x6 x7 x8 x9 x10 x13 x14 i = sig (gates p (i 0).val (256 * ((i 2).val / 128) + 128 + (i 2).val %
        128) + p.bi (i 2).val) := by
  rw [val_main_v101_apply, val_main_v100_apply, val_main_cst_8_apply, val_main_v99_apply, val_main_v98_apply, val_main_cst_7_apply,
      val_main_v97_apply, val_main_v96_apply, val_main_v95_apply, gate_i_eq h, val_main_v94_apply, val_main_v93_apply, val_main_v75_apply,
          h.bi]
  refine Eq.trans ?_ (MixerSums.sig_eq _)
  exact congrArg (fun n => Ideal.div _ (_ + Ideal.exp (-(_ + p.bi n)))) (Nat.mod_eq_of_lt (i 2).isLt)

/-- Softplus of the negated decay parameter. -/
theorem sp_eq (i : S1024.Idx) : val_main_v105 (F := Ideal) x15 i = sp p (i 0).val := by
  have e : val_main_v76 (F := Ideal) x15 i = p.lam (i 0).val := by
    rw [val_main_v76_apply, h.lam]
    exact congrArg p.lam (Nat.mod_eq_of_lt (i 0).isLt)
  have en : val_main_call0_v4 (F := Ideal) x15 i = 0#1 := by
    rw [val_main_call0_v4_apply]
    exact Scalars.une_self _
  rw [val_main_v105_apply, en]
  refine Eq.trans ?_ (MixerSums.sp_eq (p := p) _)
  show val_main_call0_v11 (F := Ideal) x15 i = _
  rw [val_main_call0_v11_apply, val_main_call0_v1_apply, val_main_call0_v0_apply, val_main_call0_v10_apply, val_main_call0_v9_apply,
    val_main_call0_v8_apply, val_main_call0_v7_apply, val_main_call0_v3_apply, val_main_call0_v2_apply, val_main_call0_cst_apply,
    val_main_v104_apply, e]
  rfl

/-- The decay's logarithm. -/
theorem log_eq (i : S128x1x1024.Idx) :
    val_main_v108 (F := Ideal) x0 x1 x5 x6 x7 x8 x9 x10 x11 x12 x15 i = Ideal.ofBits .f32 0xC1000000#32 * sig (gates p (i 0).val (256 * ((i
        2).val / 128) + (i 2).val % 128) + p.br (i 2).val)
      * sp p (i 2).val := by
  rw [val_main_v108_apply, val_main_v103_apply, val_main_v102_apply, val_main_cst_9_apply, sig_r_eq h, val_main_v107_apply,
      val_main_v106_apply, sp_eq h]
  rfl

/-- The recurrence's state after the step. -/
theorem hn_eq (i : S128x1024.Idx) : val_main_v120 (F := Ideal) x0 x1 x2 x5 x6 x7 x8 x9 x10 x11 x12 x13 x14 x15 i = hn p (i 0).val (i 1).val
    := by
  have e0 : (i 0).val < 128 := (i 0).isLt; have e1 : (i 1).val < 1024 := (i 1).isLt
  have d0 : ((i 0).val * 1024 + (i 1).val) / 1024 = (i 0).val := by omega
  have d1 : ((i 0).val * 1024 + (i 1).val) % 1024 = (i 1).val := by omega
  have eh : val_main_v71 (F := Ideal) x2 i = p.h0 (i 0).val (i 1).val := by
    rw [val_main_v71_apply, h.h0]
    exact congrArg₂ p.h0 (show ((i 0).val * 1024 + (i 1).val) / 1024 % 128 = _ by omega) d1
  rw [val_main_v120_apply, val_main_v118_apply, val_main_v117_apply, val_main_v109_apply, log_eq h, eh, val_main_v119_apply,
      val_main_v116_apply, val_main_v114_apply, val_main_v113_apply, val_main_v112_apply, val_main_v111_apply, val_main_v110_apply,
          val_main_cst_10_apply, log_eq h, val_main_v115_apply, sig_i_eq h,
    conv_eq h]
  let F (a b : ℕ) : EReal :=
    Ideal.exp (Ideal.ofBits .f32 0xC1000000#32 * sig (gates p a (256 * (b / 128) + b % 128) + p.br b) * sp p b) * p.h0 (i 0).val (i 1).val
      + Ideal.sqrt (-(Ideal.exp (Ideal.ofBits .f32 0x40000000#32 * (Ideal.ofBits .f32 0xC1000000#32
          * sig (gates p a (256 * (b / 128) + b % 128) + p.br b) * sp p b)) - 1))
        * (sig (gates p a (256 * (b / 128) + 128 + b % 128) + p.bi b) * conv p a b)
  exact (congrArg₂ F d0 d1).trans (MixerSums.lru_eq _ _ _ _ _)

/-- The state-space branch's input by its groups of sixteen columns. -/
theorem group_eq (i : S128x1x32x16.Idx) : val_main_v133 (F := Ideal) x0 x5 x6 x7 x8 i = us p (i 0).val (16 * (i 2).val + (i 3).val) := by
  have e0 : (i 0).val < 128 := (i 0).isLt; have e1 : (i 1).val < 1 := (i 1).isLt; have e2 : (i 2).val < 32 := (i 2).isLt
  have e3 : (i 3).val < 16 := (i 3).isLt
  rw [val_main_v133_apply, us_eq h]
  exact congrArg₂ (us p) (show ((((i 0).val * 1 + (i 1).val) * 32 + (i 2).val) * 16 + (i 3).val) / 512 = _ by omega)
    (show ((((i 0).val * 1 + (i 1).val) * 32 + (i 2).val) * 16 + (i 3).val) % 512 = _ by omega)

/-- The input product of the real states. -/
theorem ure_eq (i : S128x32x64.Idx) : val_main_v138 (F := Ideal) x0 x5 x6 x7 x8 x18 i = ure p (i 0).val (64 * (i 1).val + (i 2).val) := by
  have e0 : (i 0).val < 128 := (i 0).isLt; have e1 : (i 1).val < 32 := (i 1).isLt; have e2 : (i 2).val < 64 := (i 2).isLt
  have hu : ure p (i 0).val (64 * (i 1).val + (i 2).val) = _ :=
    (Finset.sum_congr rfl fun k _ => by rw [Nat.zero_add]).trans (MixerSums.input_sum h.slab_bre (i 0).val (64 * (i 1).val + (i 2).val) (by
        omega))
  rw [hu, val_main_v138_apply, val_main_v135_apply, val_main_v134_apply]
  refine Finset.sum_congr rfl fun k _ => ?_
  have ek : k.val < 16 := k.isLt
  rw [group_eq h, val_main_v125_apply, val_main_v124_apply, h.ebre]
  refine (mul_comm _ _).trans (congrArg₂ (· * ·) (congrArg₂ (us p) ?_ ?_) (congrArg₂ bre ?_ ?_))
  · show (((i 0).val * 32 + (i 1).val) * 64 + (i 2).val) / 2048 = _
    omega
  · show 16 * ((((i 0).val * 32 + (i 1).val) * 64 + (i 2).val) / 64 % 32) + k.val = _
    omega
  · show (((((i 0).val * 32 + (i 1).val) * 64 + (i 2).val) / 64 % 32 * 64 + (((i 0).val * 32 + (i 1).val) * 64 + (i 2).val) % 64) * 16
      + k.val) % 16 = _
    omega
  · show (((((i 0).val * 32 + (i 1).val) * 64 + (i 2).val) / 64 % 32 * 64 + (((i 0).val * 32 + (i 1).val) * 64 + (i 2).val) % 64) * 16
      + k.val) / 16 = _
    omega

/-- The input product of the imaginary states. -/
theorem uim_eq (i : S128x32x64.Idx) : val_main_v147 (F := Ideal) x0 x5 x6 x7 x8 x19 i = uim p (i 0).val (64 * (i 1).val + (i 2).val) := by
  have e0 : (i 0).val < 128 := (i 0).isLt; have e1 : (i 1).val < 32 := (i 1).isLt; have e2 : (i 2).val < 64 := (i 2).isLt
  have hu : uim p (i 0).val (64 * (i 1).val + (i 2).val) = _ :=
    MixerSums.input_sum h.slab_bim (i 0).val (64 * (i 1).val + (i 2).val) (by omega)
  rw [hu, val_main_v147_apply, val_main_v137_apply, val_main_v136_apply]
  refine Finset.sum_congr rfl fun k _ => ?_
  have ek : k.val < 16 := k.isLt
  rw [group_eq h, val_main_v127_apply, val_main_v126_apply, h.ebim]
  refine (mul_comm _ _).trans (congrArg₂ (· * ·) (congrArg₂ (us p) ?_ ?_) (congrArg₂ bim ?_ ?_))
  · show (((i 0).val * 32 + (i 1).val) * 64 + (i 2).val) / 2048 = _
    omega
  · show 16 * ((((i 0).val * 32 + (i 1).val) * 64 + (i 2).val) / 64 % 32) + k.val = _
    omega
  · show (((((i 0).val * 32 + (i 1).val) * 64 + (i 2).val) / 64 % 32 * 64 + (((i 0).val * 32 + (i 1).val) * 64 + (i 2).val) % 64) * 16
      + k.val) % 16 = _
    omega
  · show (((((i 0).val * 32 + (i 1).val) * 64 + (i 2).val) / 64 % 32 * 64 + (((i 0).val * 32 + (i 1).val) * 64 + (i 2).val) % 64) * 16
      + k.val) / 16 = _
    omega

/-- The transition's real part. -/
theorem are_eq (i : S32x64.Idx) : val_main_v122 (F := Ideal) x16 i = p.are (64 * (i 0).val + (i 1).val) := by
  have e0 : (i 0).val < 32 := (i 0).isLt; have e1 : (i 1).val < 64 := (i 1).isLt
  rw [val_main_v122_apply, h.are]
  exact congrArg p.are (show ((i 0).val * 64 + (i 1).val) % 2048 = _ by omega)

/-- The transition's imaginary part. -/
theorem aim_eq (i : S32x64.Idx) : val_main_v123 (F := Ideal) x17 i = p.aim (64 * (i 0).val + (i 1).val) := by
  have e0 : (i 0).val < 32 := (i 0).isLt; have e1 : (i 1).val < 64 := (i 1).isLt
  rw [val_main_v123_apply, h.aim]
  exact congrArg p.aim (show ((i 0).val * 64 + (i 1).val) % 2048 = _ by omega)

/-- The real states before the step. -/
theorem sre_eq (i : S128x32x64.Idx) : val_main_v128 (F := Ideal) x3 i = p.sre (i 0).val (64 * (i 1).val + (i 2).val) := by
  have e0 : (i 0).val < 128 := (i 0).isLt; have e1 : (i 1).val < 32 := (i 1).isLt; have e2 : (i 2).val < 64 := (i 2).isLt
  rw [val_main_v128_apply, h.sre]
  exact congrArg₂ p.sre (show (((i 0).val * 32 + (i 1).val) * 64 + (i 2).val) / 2048 % 128 = _ by omega)
    (show 64 * ((((i 0).val * 32 + (i 1).val) * 64 + (i 2).val) / 64 % 32) + (((i 0).val * 32 + (i 1).val) * 64 + (i 2).val) % 64 = _ by
        omega)

/-- The imaginary states before the step. -/
theorem sim_eq (i : S128x32x64.Idx) : val_main_v129 (F := Ideal) x4 i = p.sim (i 0).val (64 * (i 1).val + (i 2).val) := by
  have e0 : (i 0).val < 128 := (i 0).isLt; have e1 : (i 1).val < 32 := (i 1).isLt; have e2 : (i 2).val < 64 := (i 2).isLt
  rw [val_main_v129_apply, h.sim]
  exact congrArg₂ p.sim (show (((i 0).val * 32 + (i 1).val) * 64 + (i 2).val) / 2048 % 128 = _ by omega)
    (show 64 * ((((i 0).val * 32 + (i 1).val) * 64 + (i 2).val) / 64 % 32) + (((i 0).val * 32 + (i 1).val) * 64 + (i 2).val) % 64 = _ by
        omega)

/-- The real states after the step. -/
theorem nre_eq (i : S128x32x64.Idx) : val_main_v146 (F := Ideal) x0 x3 x4 x5 x6 x7 x8 x16 x17 x18 i = nre p (i 0).val (64 * (i 1).val + (i
    2).val) := by
  rw [val_main_v146_apply, val_main_v145_apply, val_main_v144_apply, val_main_v141_apply, ure_eq h, sre_eq h, sim_eq h,
      val_main_v140_apply, val_main_v139_apply, are_eq h, val_main_v143_apply, val_main_v142_apply, aim_eq h]
  exact add_comm _ _

/-- The imaginary states after the step. -/
theorem nim_eq (i : S128x32x64.Idx) : val_main_v155 (F := Ideal) x0 x3 x4 x5 x6 x7 x8 x16 x17 x19 i = nim p (i 0).val (64 * (i 1).val + (i
    2).val) := by
  rw [val_main_v155_apply, val_main_v154_apply, val_main_v153_apply, val_main_v150_apply, uim_eq h, sre_eq h, sim_eq h,
      val_main_v149_apply, val_main_v148_apply, are_eq h, val_main_v152_apply, val_main_v151_apply, aim_eq h]
  exact add_comm _ _

/-- The state-space branch's output product. -/
theorem y_eq (i : S128x1x512.Idx) : val_main_v163 (F := Ideal) x0 x3 x4 x5 x6 x7 x8 x16 x17 x18 x19 x20 x21 i = y p (i 0).val (i 2).val :=
    by
  have e0 : (i 0).val < 128 := (i 0).isLt; have e1 : (i 1).val < 1 := (i 1).isLt; have e2 : (i 2).val < 512 := (i 2).isLt
  have a0 : (((i 0).val * 1 + (i 1).val) * 512 + (i 2).val) / 512 = (i 0).val := by omega
  have a1 : (((i 0).val * 1 + (i 1).val) * 512 + (i 2).val) / 16 % 32 = (i 2).val / 16 := by omega
  have a2 : (((i 0).val * 1 + (i 1).val) * 512 + (i 2).val) % 16 = (i 2).val % 16 := by omega
  have hr := MixerSums.output_sum h.slab_cre (nre p (i 0).val) (i 2).val e2
  have hm := MixerSums.output_sum h.slab_cim (nim p (i 0).val) (i 2).val e2
  rw [y, hr, hm, val_main_v163_apply, val_main_v162_apply, val_main_v158_apply, val_main_v157_apply, val_main_v161_apply,
      val_main_v160_apply]
  refine congrArg₂ (· - ·) (Finset.sum_congr rfl fun k _ => ?_) (Finset.sum_congr rfl fun k _ => ?_)
  · have ek : k.val < 64 := k.isLt
    rw [val_main_v156_apply, nre_eq h, val_main_v130_apply, h.ecre]
    refine (mul_comm _ _).trans (congrArg₂ (· * ·) (congrArg₂ (nre p) a0 (congrArg (64 * · + k.val) a1)) (congr (congrArg₂ cre ?_ ?_) ?_))
    · show (((((i 0).val * 1 + (i 1).val) * 512 + (i 2).val) / 16 % 32 * 16 + (((i 0).val * 1 + (i 1).val) * 512 + (i 2).val) % 16) * 64
        + k.val) / 1024 % 32 = _
      omega
    · show (((((i 0).val * 1 + (i 1).val) * 512 + (i 2).val) / 16 % 32 * 16 + (((i 0).val * 1 + (i 1).val) * 512 + (i 2).val) % 16) * 64
        + k.val) / 64 % 16 = _
      omega
    · show (((((i 0).val * 1 + (i 1).val) * 512 + (i 2).val) / 16 % 32 * 16 + (((i 0).val * 1 + (i 1).val) * 512 + (i 2).val) % 16) * 64
        + k.val) % 64 = _
      omega
  · have ek : k.val < 64 := k.isLt
    rw [val_main_v159_apply, nim_eq h, val_main_v131_apply, h.ecim]
    refine (mul_comm _ _).trans (congrArg₂ (· * ·) (congrArg₂ (nim p) a0 (congrArg (64 * · + k.val) a1)) (congr (congrArg₂ cim ?_ ?_) ?_))
    · show (((((i 0).val * 1 + (i 1).val) * 512 + (i 2).val) / 16 % 32 * 16 + (((i 0).val * 1 + (i 1).val) * 512 + (i 2).val) % 16) * 64
        + k.val) / 1024 % 32 = _
      omega
    · show (((((i 0).val * 1 + (i 1).val) * 512 + (i 2).val) / 16 % 32 * 16 + (((i 0).val * 1 + (i 1).val) * 512 + (i 2).val) % 16) * 64
        + k.val) / 64 % 16 = _
      omega
    · show (((((i 0).val * 1 + (i 1).val) * 512 + (i 2).val) / 16 % 32 * 16 + (((i 0).val * 1 + (i 1).val) * 512 + (i 2).val) % 16) * 64
        + k.val) % 64 = _
      omega

/-- The state-space branch before its activation. -/
theorem yd_eq (i : S128x1x512.Idx) :
    val_main_v167 (F := Ideal) x0 x3 x4 x5 x6 x7 x8 x16 x17 x18 x19 x20 x21 x22 i = y p (i 0).val (i 2).val + p.d (i 2).val * us p (i
        0).val (i 2).val := by
  rw [val_main_v167_apply, y_eq h, val_main_v166_apply, us_eq h, val_main_v165_apply, val_main_v164_apply, val_main_v132_apply, h.d]
  exact congrArg (fun n => _ + p.d n * _) (Nat.mod_eq_of_lt (i 2).isLt)

/-- The state-space branch's activation. -/
theorem yg_eq (i : S128x1x512.Idx) : val_main_v180 (F := Ideal) x0 x3 x4 x5 x6 x7 x8 x16 x17 x18 x19 x20 x21 x22 i = yg p (i 0).val (i
    2).val := by
  rw [val_main_v180_apply, val_main_v179_apply, val_main_v178_apply, val_main_cst_14_apply, val_main_v177_apply, val_main_v176_apply,
      val_main_cst_13_apply, val_main_v175_apply, val_main_v174_apply, val_main_v173_apply, val_main_cst_12_apply, val_main_v172_apply,
          val_main_v171_apply, val_main_v170_apply, val_main_cst_11_apply, val_main_v169_apply, val_main_v168_apply, yd_eq h]
  exact MixerSums.gelu_eq _

/-- The gated product of the state-space branch. -/
theorem glu_eq (i : S128x1x2048.Idx) : val_main_v186 (F := Ideal) x0 x3 x4 x5 x6 x7 x8 x16 x17 x18 x19 x20 x21 x22 x23 x24 i = glu p (i
    0).val (i 2).val := by
  have e2 : (i 2).val < 2048 := (i 2).isLt
  rw [val_main_v186_apply, val_main_v182_apply, val_main_v185_apply, val_main_v184_apply, val_main_v183_apply, h.bglu]
  refine congrArg₂ (· + ·) (Finset.sum_congr rfl fun k _ => ?_) (congrArg p.bglu (Nat.mod_eq_of_lt e2))
  have ek : k.val < 512 := k.isLt
  rw [yg_eq h, val_main_v181_apply, h.wglu]
  exact congrArg₂ (· * ·) rfl (congrArg₂ p.wglu (show (k.val * 2048 + (i 2).val) / 2048 % 512 = _ by omega)
    (show (k.val * 2048 + (i 2).val) % 2048 = _ by omega))

/-- The two branches, gated and added. -/
theorem mix_eq (i : S128x1x1024.Idx) : val_main_v210 (F := Ideal) x0 x1 x2 x3 x4 x5 x6 x7 x8 x9 x10 x11 x12 x13 x14 x15 x16 x17 x18 x19 x20
    x21 x22 x23 x24 i = mix p (i 0).val (i 2).val := by
  have ea : val_main_v201 (F := Ideal) x0 x5 x6 x7 x8 i = sig (proj p (i 0).val (1536 + (i 2).val)) := by
    rw [val_main_v201_apply, val_main_v200_apply, val_main_cst_18_apply, val_main_v199_apply, val_main_v198_apply, val_main_cst_17_apply,
        val_main_v197_apply, val_main_v196_apply, val_main_v32_apply, proj_eq h]
    exact MixerSums.sig_eq _
  have eb : val_main_v208 (F := Ideal) x0 x5 x6 x7 x8 i = sig (proj p (i 0).val (2560 + (i 2).val)) := by
    rw [val_main_v208_apply, val_main_v207_apply, val_main_cst_20_apply, val_main_v206_apply, val_main_v205_apply, val_main_cst_19_apply,
        val_main_v204_apply, val_main_v203_apply, val_main_v33_apply, proj_eq h]
    exact MixerSums.sig_eq _
  have eg : val_main_v194 (F := Ideal) x0 x3 x4 x5 x6 x7 x8 x16 x17 x18 x19 x20 x21 x22 x23 x24 i = sig (glu p (i 0).val (1024 + (i
      2).val)) := by
    rw [val_main_v194_apply, val_main_v193_apply, val_main_cst_16_apply, val_main_v192_apply, val_main_v191_apply, val_main_cst_15_apply,
        val_main_v190_apply, val_main_v189_apply, val_main_v188_apply, glu_eq h]
    exact MixerSums.sig_eq _
  rw [val_main_v210_apply, val_main_v202_apply, ea, val_main_v121_apply, hn_eq h, val_main_v209_apply, eb, val_main_v195_apply, eg,
      val_main_v187_apply, glu_eq h]
  rfl

/-- The scaled residual sum. -/
theorem res_eq (i : S128x1x1024.Idx) : val_main_v219 (F := Ideal) x0 x1 x2 x3 x4 x5 x6 x7 x8 x9 x10 x11 x12 x13 x14 x15 x16 x17 x18 x19 x20
    x21 x22 x23 x24 x25 x26 i = FfnSpec.res (z p) (t p) (i 0).val (i 2).val := by
  have e2 : (i 2).val < 1024 := (i 2).isLt
  rw [val_main_v219_apply, val_main_v212_apply, val_main_v211_apply, val_main_cst_21_apply, z_eq h, val_main_v218_apply,
      val_main_v214_apply, val_main_v217_apply, val_main_v216_apply, val_main_v215_apply, h.bout]
  refine congrArg₂ (· + ·) rfl (congrArg₂ (· + ·) (Finset.sum_congr rfl fun k _ => ?_) (congrArg p.bout (Nat.mod_eq_of_lt e2)))
  have ek : k.val < 1024 := k.isLt
  rw [mix_eq h, val_main_v213_apply, h.wout]
  exact congrArg₂ (· * ·) rfl (congrArg₂ p.wout (show (k.val * 1024 + (i 2).val) / 1024 % 1024 = _ by omega)
    (show (k.val * 1024 + (i 2).val) % 1024 = _ by omega))

/-- The residual sum with its mean taken off. -/
theorem res_centred_eq (i : S128x1x1024.Idx) : val_main_v227 (F := Ideal) x0 x1 x2 x3 x4 x5 x6 x7 x8 x9 x10 x11 x12 x13 x14 x15 x16 x17 x18
    x19 x20 x21 x22 x23 x24 x25 x26 i = FfnSpec.centred (FfnSpec.res (z p) (t p)) (i 0).val (i 2).val := by
  rw [val_main_v227_apply, res_eq h, val_main_v226_apply, val_main_v225_apply, val_main_v224_apply, val_main_cst_23_apply,
      val_main_v223_apply, val_main_v222_apply, val_main_cst_22_apply]
  refine congrArg₂ (· - ·) rfl (congrArg₂ Ideal.div ?_ rfl)
  refine (congrArg (· + _) (Ideal.ofBits_zero .f32)).trans ((zero_add _).trans (Finset.sum_congr rfl fun k _ => ?_))
  exact res_eq h _

/-- The step's output rows. -/
theorem out_eq (i : S128x1024.Idx) : val_main_v246 (F := Ideal) x0 x1 x2 x3 x4 x5 x6 x7 x8 x9 x10 x11 x12 x13 x14 x15 x16 x17 x18 x19 x20
    x21 x22 x23 x24 x25 x26 x27 x28 i = out p (i 0).val (i 1).val := by
  have e0 : (i 0).val < 128 := (i 0).isLt; have e1 : (i 1).val < 1024 := (i 1).isLt
  have d0 : ((i 0).val * 1024 + (i 1).val) / 1024 = (i 0).val := by omega
  have d1 : ((i 0).val * 1024 + (i 1).val) % 1024 = (i 1).val := by omega
  have hc (j : S128x1x1024.Idx) : val_main_v234 (F := Ideal) x0 x1 x2 x3 x4 x5 x6 x7 x8 x9 x10 x11 x12 x13 x14 x15 x16 x17 x18 x19 x20 x21
      x22 x23 x24 x25 x26 j = FfnSpec.centred (FfnSpec.res (z p) (t p)) (j 0).val (j 2).val := res_centred_eq h j
  rw [val_main_v246_apply, val_main_v245_apply, val_main_v242_apply, val_main_v239_apply, hc, val_main_v238_apply, val_main_v237_apply,
      val_main_v236_apply, val_main_v235_apply, val_main_cst_26_apply, val_main_v232_apply, val_main_v231_apply, val_main_cst_25_apply,
          val_main_v230_apply, val_main_v229_apply, val_main_cst_24_apply, val_main_v241_apply, val_main_v240_apply, val_main_v220_apply,
              h.lng,
    val_main_v244_apply, val_main_v243_apply, val_main_v221_apply, h.lnb]
  refine congrArg₂ (· + ·) (congrArg₂ (· * ·) (congrArg₂ (· * ·) (congrArg₂ (FfnSpec.centred _) d0 d1) (congrArg Ideal.rsqrt
    (congrArg₂ (· + ·) (congrArg₂ Ideal.div ?_ rfl) rfl))) ?_) ?_
  · refine (congrArg (· + _) (Ideal.ofBits_zero .f32)).trans ((zero_add _).trans (Finset.sum_congr rfl fun k _ => ?_))
    rw [val_main_v228_apply, res_centred_eq h]
    exact congrArg (fun n => FfnSpec.centred _ n k.val * FfnSpec.centred _ n k.val) d0
  · exact congrArg p.lng (show ((i 0).val * 1024 + (i 1).val) % 1024 % 1024 = _ by omega)
  · exact congrArg p.lnb (show ((i 0).val * 1024 + (i 1).val) % 1024 % 1024 = _ by omega)

/-- The cache after the step. -/
theorem cache_eq (i : S384x1024.Idx) : val_main_v248 (F := Ideal) x0 x1 x5 x6 x7 x8 i = xa p (128 + (i 0).val) (i 1).val := by
  have e0 : (i 0).val < 384 := (i 0).isLt; have e1 : (i 1).val < 1024 := (i 1).isLt
  rw [val_main_v248_apply, val_main_v247_apply, val_main_v70_apply, window_eq h]
  exact congrArg₂ (xa p)
    (show (1 + ((i 0).val * 1024 + (i 1).val) / 131072) * 128 + ((i 0).val * 1024 + (i 1).val) / 1024 % 128 = _ by omega)
    (show ((i 0).val * 1024 + (i 1).val) % 1024 = _ by omega)

/-- The real states, one row of 2048 for each stream. -/
theorem nre_row_eq (i : S128x2048.Idx) : val_main_v249 (F := Ideal) x0 x3 x4 x5 x6 x7 x8 x16 x17 x18 i = nre p (i 0).val (i 1).val := by
  have e0 : (i 0).val < 128 := (i 0).isLt; have e1 : (i 1).val < 2048 := (i 1).isLt
  rw [val_main_v249_apply, nre_eq h]
  exact congrArg₂ (nre p) (show ((i 0).val * 2048 + (i 1).val) / 2048 = _ by omega)
    (show 64 * (((i 0).val * 2048 + (i 1).val) / 64 % 32) + ((i 0).val * 2048 + (i 1).val) % 64 = _ by omega)

/-- The imaginary states, one row of 2048 for each stream. -/
theorem nim_row_eq (i : S128x2048.Idx) : val_main_v250 (F := Ideal) x0 x3 x4 x5 x6 x7 x8 x16 x17 x19 i = nim p (i 0).val (i 1).val := by
  have e0 : (i 0).val < 128 := (i 0).isLt; have e1 : (i 1).val < 2048 := (i 1).isLt
  rw [val_main_v250_apply, nim_eq h]
  exact congrArg₂ (nim p) (show ((i 0).val * 2048 + (i 1).val) / 2048 = _ by omega)
    (show 64 * (((i 0).val * 2048 + (i 1).val) / 64 % 32) + ((i 0).val * 2048 + (i 1).val) % 64 = _ by omega)

end Cert.MixerReference
-- ==== Proof.MixerArgs.lean ====
/- What the mixing call's reference returns over the kernel's argument arrays: the argument arrays satisfy the hypotheses of
   Proof/MixerReference.lean, so its five results are the functions of Proof/MixerSpec.lean. -/
module

public import proofs.«01_k».proof.Proof.MixerEntry
public import proofs.«01_k».proof.Proof.MixerReference
public import proofs.«01_k».proof.Proof.FfnEq

@[expose] public section

set_option maxRecDepth 16384

noncomputable section

namespace Cert.MixerEq

open Cert.KernelIdeal Cert.KernelIdeal.Gen Cert.Mat Cert.HostRead Cert.MixerTiles
open Cert.FfnEq (row_read mat_read)
open Idealize.ShloMosaic hiding ix1 ix2 ix3 ix4 eq_ix2
open Idealize.ShloMosaic.ValueIdx (ix1 ix2 ix3 ix4)

variable (m : (ℓ : Loc nD τ sig) → Buf (Elt Ideal) ℓ) (c : Dev nD)

/-! ## The argument arrays at an index -/

/-- An array with a leading unit axis at an index. -/
theorem cube_read {a b d : ℕ} (x : (⟨4, ![1, a, b, d]⟩ : Shape).Idx → EReal) (i) : x i = at4 x 0 (i 1).val (i 2).val (i 3).val :=
  (at4_eq x i).trans (by rw [show (i 0).val = 0 from Nat.lt_one_iff.mp (i 0).isLt])

/-- The activations at an index. -/
theorem x_read (i : S128x1x1024.Idx) : (m (c.tc.loc main_arg0) : S128x1x1024.Idx → EReal) i = (p m c).x (i 0).val (i 2).val :=
  (at3_eq _ i).trans (by rw [show (i 1).val = 0 from Nat.lt_one_iff.mp (i 1).isLt]; rfl)

/-- The cached rows at an index. -/
theorem cache_read (i : S1x128x3x1024.Idx) :
    (m (c.tc.loc main_arg1) : S1x128x3x1024.Idx → EReal) i = (p m c).cache ((i 2).val * 128 + (i 1).val) (i 3).val := by
  have h1 : (i 1).val < 128 := (i 1).isLt
  refine (cube_read _ i).trans ?_
  unfold p
  dsimp only
  rw [show ((i 2).val * 128 + (i 1).val) % 128 = (i 1).val by omega, show ((i 2).val * 128 + (i 1).val) / 128 = (i 2).val by omega]

/-- The real states at an index. -/
theorem sre_read (i : S1x128x32x64.Idx) :
    (m (c.tc.loc main_arg3) : S1x128x32x64.Idx → EReal) i = (p m c).sre (i 1).val (64 * (i 2).val + (i 3).val) := by
  have h3 : (i 3).val < 64 := (i 3).isLt
  refine (cube_read _ i).trans ?_
  unfold p
  dsimp only
  rw [show (64 * (i 2).val + (i 3).val) / 64 = (i 2).val by omega, show (64 * (i 2).val + (i 3).val) % 64 = (i 3).val by omega]

/-- The imaginary states at an index. -/
theorem sim_read (i : S1x128x32x64.Idx) :
    (m (c.tc.loc main_arg4) : S1x128x32x64.Idx → EReal) i = (p m c).sim (i 1).val (64 * (i 2).val + (i 3).val) := by
  have h3 : (i 3).val < 64 := (i 3).isLt
  refine (cube_read _ i).trans ?_
  unfold p
  dsimp only
  rw [show (64 * (i 2).val + (i 3).val) / 64 = (i 2).val by omega, show (64 * (i 2).val + (i 3).val) % 64 = (i 3).val by omega]

/-- The recurrence gate's weights at an index. -/
theorem wr_read (i : S1x8x128x128.Idx) :
    (m (c.tc.loc main_arg11) : S1x8x128x128.Idx → EReal) i = (p m c).wri (i 1).val (i 2).val (i 3).val := by
  have h3 : (i 3).val < 128 := (i 3).isLt
  refine (cube_read _ i).trans ?_
  unfold p
  dsimp only
  rw [if_pos h3]

/-- The input gate's weights at an index. -/
theorem wi_read (i : S1x8x128x128.Idx) :
    (m (c.tc.loc main_arg13) : S1x8x128x128.Idx → EReal) i = (p m c).wri (i 1).val (i 2).val (128 + (i 3).val) := by
  refine (cube_read _ i).trans ?_
  unfold p
  dsimp only
  rw [if_neg (by omega), show 128 + (i 3).val - 128 = (i 3).val by omega]

/-! ## The block-diagonal weights -/

/-- One choice for another under equivalent conditions. -/
theorem if_same {P Q : Prop} [Decidable P] [Decidable Q] {a b : EReal} (h : P ↔ Q) (e : a = b) : (if P then a else 0) = if Q then b else 0 := by
  subst e
  by_cases q : Q
  · rw [if_pos q, if_pos (h.mpr q)]
  · rw [if_neg q, if_neg fun x => q (h.mp x)]

/-- The real half of the input weights. -/
theorem slab_bre (s k j : ℕ) (hs : s < 2) (hk : k < 256) (hj : j < 1024) :
    (p m c).wb s k (0 + j) = if k / 16 = j / 64 then bre m c (k % 16) (1024 * s + j) else 0 := by
  unfold p
  dsimp only
  rw [if_pos (by omega), Nat.zero_add, show (256 * s + k) % 16 = k % 16 by omega]
  exact if_same (by omega) rfl

/-- The imaginary half of the input weights. -/
theorem slab_bim (s k j : ℕ) (hs : s < 2) (hk : k < 256) (hj : j < 1024) :
    (p m c).wb s k (1024 + j) = if k / 16 = j / 64 then bim m c (k % 16) (1024 * s + j) else 0 := by
  unfold p
  dsimp only
  rw [if_neg (by omega), Nat.add_sub_cancel_left, show (256 * s + k) % 16 = k % 16 by omega]
  exact if_same (by omega) rfl

/-- The real output weights. -/
theorem slab_cre (s k j : ℕ) (hs : s < 2) (hk : k < 1024) (hj : j < 256) :
    (p m c).wcre s k j = if k / 64 = j / 16 then cre m c (16 * s + k / 64) (j % 16) (k % 64) else 0 := by
  unfold p
  dsimp only
  rw [show (1024 * s + k) / 64 = 16 * s + k / 64 by omega, show (256 * s + j) % 16 = j % 16 by omega,
    show (1024 * s + k) % 64 = k % 64 by omega]
  exact if_same (by omega) rfl

/-- The imaginary output weights. -/
theorem slab_cim (s k j : ℕ) (hs : s < 2) (hk : k < 1024) (hj : j < 256) :
    (p m c).wcim s k j = if k / 64 = j / 16 then cim m c (16 * s + k / 64) (j % 16) (k % 64) else 0 := by
  unfold p
  dsimp only
  rw [show (1024 * s + k) / 64 = 16 * s + k / 64 by omega, show (256 * s + j) % 16 = j % 16 by omega,
    show (1024 * s + k) % 64 = k % 64 by omega]
  exact if_same (by omega) rfl

/-! ## The hypotheses and the results -/

/-- The argument arrays are the ones the reference's functions are stated over. -/
theorem args : MixerReference.Args
    (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12)) (m (c.tc.loc main_arg13)) (m (c.tc.loc main_arg14))
    (m (c.tc.loc main_arg15)) (m (c.tc.loc main_arg16)) (m (c.tc.loc main_arg17)) (m (c.tc.loc main_arg18)) (m (c.tc.loc main_arg19))
    (m (c.tc.loc main_arg20)) (m (c.tc.loc main_arg21)) (m (c.tc.loc main_arg22)) (m (c.tc.loc main_arg23)) (m (c.tc.loc main_arg24))
    (m (c.tc.loc main_arg25)) (m (c.tc.loc main_arg26)) (m (c.tc.loc main_arg27)) (m (c.tc.loc main_arg28))
    (p m c) (bre m c) (bim m c) (cre m c) (cim m c) where
  x := x_read m c
  cache := cache_read m c
  h0 := mat_read _
  sre := sre_read m c
  sim := sim_read m c
  embg := at1_eq _
  embb := at1_eq _
  win := mat_read _
  bin := row_read _
  cw := mat_read _
  cb := row_read _
  wr := wr_read m c
  br := row_read _
  wi := wi_read m c
  bi := row_read _
  lam := row_read _
  are := row_read _
  aim := row_read _
  ebre := at2_eq _
  ebim := at2_eq _
  ecre := cube_read _
  ecim := cube_read _
  d := row_read _
  wglu := mat_read _
  bglu := row_read _
  wout := mat_read _
  bout := row_read _
  lng := row_read _
  lnb := row_read _
  slab_bre := slab_bre m c
  slab_bim := slab_bim m c
  slab_cre := slab_cre m c
  slab_cim := slab_cim m c

/-- The mixed rows. -/
def O0 (i : S128x1024.Idx) : EReal := MixerSpec.out (p m c) (i 0).val (i 1).val
/-- The convolution's new cache. -/
def O1 (i : S384x1024.Idx) : EReal := MixerSpec.xa (p m c) (128 + (i 0).val) (i 1).val
/-- The recurrence's new state. -/
def O2 (i : S128x1024.Idx) : EReal := MixerSpec.hn (p m c) (i 0).val (i 1).val
/-- The new real states. -/
def O3 (i : S128x2048.Idx) : EReal := MixerSpec.nre (p m c) (i 0).val (i 1).val
/-- The new imaginary states. -/
def O4 (i : S128x2048.Idx) : EReal := MixerSpec.nim (p m c) (i 0).val (i 1).val

/-- The reference's first result term over the argument arrays. -/
theorem ref_out : Cert.ReferenceIdeal.Read.val_main_v246 (F := Ideal)
    (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12)) (m (c.tc.loc main_arg13)) (m (c.tc.loc main_arg14))
    (m (c.tc.loc main_arg15)) (m (c.tc.loc main_arg16)) (m (c.tc.loc main_arg17)) (m (c.tc.loc main_arg18)) (m (c.tc.loc main_arg19))
    (m (c.tc.loc main_arg20)) (m (c.tc.loc main_arg21)) (m (c.tc.loc main_arg22)) (m (c.tc.loc main_arg23)) (m (c.tc.loc main_arg24))
    (m (c.tc.loc main_arg25)) (m (c.tc.loc main_arg26)) (m (c.tc.loc main_arg27)) (m (c.tc.loc main_arg28)) = O0 m c :=
  funext fun i => MixerReference.out_eq (args m c) i

/-- The reference's second result term over the argument arrays. -/
theorem ref_cache : Cert.ReferenceIdeal.Read.val_main_v248 (F := Ideal)
    (m (c.tc.loc main_arg0)) (m (c.tc.loc main_arg1)) (m (c.tc.loc main_arg5)) (m (c.tc.loc main_arg6)) (m (c.tc.loc main_arg7))
    (m (c.tc.loc main_arg8)) = O1 m c :=
  funext fun i => MixerReference.cache_eq (args m c) i

/-- The reference's third result term over the argument arrays. -/
theorem ref_hn : Cert.ReferenceIdeal.Read.val_main_v120 (F := Ideal)
    (m (c.tc.loc main_arg0)) (m (c.tc.loc main_arg1)) (m (c.tc.loc main_arg2)) (m (c.tc.loc main_arg5)) (m (c.tc.loc main_arg6))
    (m (c.tc.loc main_arg7)) (m (c.tc.loc main_arg8)) (m (c.tc.loc main_arg9)) (m (c.tc.loc main_arg10)) (m (c.tc.loc main_arg11))
    (m (c.tc.loc main_arg12)) (m (c.tc.loc main_arg13)) (m (c.tc.loc main_arg14)) (m (c.tc.loc main_arg15)) = O2 m c :=
  funext fun i => MixerReference.hn_eq (args m c) i

/-- The reference's fourth result term over the argument arrays. -/
theorem ref_nre : Cert.ReferenceIdeal.Read.val_main_v249 (F := Ideal)
    (m (c.tc.loc main_arg0)) (m (c.tc.loc main_arg3)) (m (c.tc.loc main_arg4)) (m (c.tc.loc main_arg5)) (m (c.tc.loc main_arg6))
    (m (c.tc.loc main_arg7)) (m (c.tc.loc main_arg8)) (m (c.tc.loc main_arg16)) (m (c.tc.loc main_arg17)) (m (c.tc.loc main_arg18)) = O3 m c :=
  funext fun i => MixerReference.nre_row_eq (args m c) i

/-- The reference's fifth result term over the argument arrays. -/
theorem ref_nim : Cert.ReferenceIdeal.Read.val_main_v250 (F := Ideal)
    (m (c.tc.loc main_arg0)) (m (c.tc.loc main_arg3)) (m (c.tc.loc main_arg4)) (m (c.tc.loc main_arg5)) (m (c.tc.loc main_arg6))
    (m (c.tc.loc main_arg7)) (m (c.tc.loc main_arg8)) (m (c.tc.loc main_arg16)) (m (c.tc.loc main_arg17)) (m (c.tc.loc main_arg19)) = O4 m c :=
  funext fun i => MixerReference.nim_row_eq (args m c) i

end Cert.MixerEq

end
-- ==== Proof.MixerEq.lean ====
/- The mixing call's algebraic claim: the arrays the kernel's run leaves and the arrays the reference's run leaves are the same functions
   (Proof/MixerSpec.lean) of the argument arrays. -/
module

public import proofs.«01_k».proof.Proof.MixerBlocks
public import proofs.«01_k».proof.Proof.MixerArgs
public import proofs.«01_k».proof.Proof.Gen.ReferenceIdeal.Run
public import proofs.«01_k».proof.Proof.Gen.ReferenceIdeal.Read
public import proofs.«01_k».proof.Defs

@[expose] public section

set_option maxRecDepth 16384

noncomputable section

namespace Cert.MixerEq

open Cert.KernelIdeal Cert.KernelIdeal.Gen Cert.Mat Cert.MixerFrame
open Idealize.ShloMosaic hiding ix1 ix2 ix3 ix4 eq_ix2
open Idealize.ShloMosaic.ValueIdx (ix1 ix2 ix3 ix4)

variable (m : (ℓ : Loc nD τ sig) → Buf (Elt Ideal) ℓ) (c : Dev nD)

/-! ## The arrays after the kernel's run -/

/-- The array of the mixed rows. -/
theorem arr_out : (dats m 0 c).arrAt 27 cfg0.N = O0 m c := by
  refine (dats m 0 c).arrAt_eq_of_after_last 27 t0_0 (by decide +kernel) _ fun j => ?_
  blk_simp
  rw [after0_27]
  unfold outsAt0
  dsimp only
  exact MixerKernel.out_block (blocks m c) j

/-- The array of the convolution's new cache. -/
theorem arr_cache : (dats m 0 c).arrAt 28 cfg0.N = O1 m c := by
  refine (dats m 0 c).arrAt_eq_of_after_last 28 t0_0 (by decide +kernel) _ fun j => ?_
  blk_simp
  rw [after0_28]
  unfold outsAt0
  dsimp only
  exact MixerKernel.cache_block (blocks m c) j

/-- The array of the recurrence's new state. -/
theorem arr_hn : (dats m 0 c).arrAt 29 cfg0.N = O2 m c := by
  refine (dats m 0 c).arrAt_eq_of_after_last 29 t0_0 (by decide +kernel) _ fun j => ?_
  blk_simp
  rw [after0_29]
  unfold outsAt0
  dsimp only
  exact MixerKernel.hn_block (blocks m c) j

/-- The array of the new real states. -/
theorem arr_nre : (dats m 0 c).arrAt 30 cfg0.N = O3 m c := by
  refine (dats m 0 c).arrAt_eq_of_after_last 30 t0_0 (by decide +kernel) _ fun j => ?_
  blk_simp
  rw [after0_30]
  unfold outsAt0
  dsimp only
  exact MixerKernel.nre_block (blocks m c) j

/-- The array of the new imaginary states. -/
theorem arr_nim : (dats m 0 c).arrAt 31 cfg0.N = O4 m c := by
  refine (dats m 0 c).arrAt_eq_of_after_last 31 t0_0 (by decide +kernel) _ fun j => ?_
  blk_simp
  rw [after0_31]
  unfold outsAt0
  dsimp only
  exact MixerKernel.nim_block (blocks m c) j

/-! ## The claim -/

/-- The mixing call and its reference leave the same arrays. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => O0 m c, fun c => O1 m c, fun c => O2 m c, fun c => O3 m c, fun c => O4 m c, ?_, ?_⟩
  · refine θ_run_mono (θ_run_and (outputs (F := Ideal) m g) (unchanged (F := Ideal) m g)) fun r h c => ?_
    exact ⟨(h.1 c).1.trans (arr_out m c), (h.1 c).2.1.trans (arr_cache m c), (h.1 c).2.2.1.trans (arr_hn m c),
      (h.1 c).2.2.2.1.trans (arr_nre m c), (h.1 c).2.2.2.2.trans (arr_nim m c), h.2 c⟩
  · refine θ_run_mono (Cert.ReferenceIdeal.Value.run (F := Ideal) m' g') fun r h c => ?_
    obtain ⟨e0, e1, e2, e3, e4, e5, e6, e7, e8, e9, e10, e11, e12, e13, e14, e15, e16, e17, e18, e19, e20, e21, e22, e23, e24, e25, e26, e27, e28⟩ := hag c
    refine ⟨(h c).1.trans ((Cert.ReferenceIdeal.Read.val_main_v246_eq _).trans ?_),
      (h c).2.1.trans ((Cert.ReferenceIdeal.Read.val_main_v248_eq _).trans ?_),
      (h c).2.2.1.trans ((Cert.ReferenceIdeal.Read.val_main_v120_eq _).trans ?_),
      (h c).2.2.2.1.trans ((Cert.ReferenceIdeal.Read.val_main_v249_eq _).trans ?_),
      (h c).2.2.2.2.1.trans ((Cert.ReferenceIdeal.Read.val_main_v250_eq _).trans ?_), (h c).2.2.2.2.2⟩
    · simp only [StableHlo.launchContents_devRef]
      refine Eq.trans ?_ (ref_out m c)
      congr 1
    · simp only [StableHlo.launchContents_devRef]
      refine Eq.trans ?_ (ref_cache m c)
      congr 1
    · simp only [StableHlo.launchContents_devRef]
      refine Eq.trans ?_ (ref_hn m c)
      congr 1
    · simp only [StableHlo.launchContents_devRef]
      refine Eq.trans ?_ (ref_nre m c)
      congr 1
    · simp only [StableHlo.launchContents_devRef]
      refine Eq.trans ?_ (ref_nim m c)
      congr 1

end Cert.MixerEq

end
-- ==== Proof.PrepSpec.lean ====
/- The discretised state-space matrices, one number at a time: the transition `exp(λ·dt)` of a channel and the factor `(exp(λ·dt) − 1)/λ`
   that scales its input weights, `dt = exp(log dt)`; and the layouts in which the call receives its arguments. -/
module

public import proofs.«01_k».proof.Proof.HostRead

@[expose] public section

noncomputable section

namespace Cert.PrepSpec

open Cert.Mat Cert.HostRead
open Idealize.ShloMosaic hiding ix1 ix2 ix3 ix4 eq_ix2
open Idealize.ShloMosaic.ValueIdx (ix1 ix2 ix3 ix4)

/-! ## The numbers -/

/-- The real transition of a channel. -/
def are (lre lim ld : EReal) : EReal := Ideal.exp (lre * Ideal.exp ld) * Ideal.cos (lim * Ideal.exp ld)
/-- The imaginary transition. -/
def aim (lre lim ld : EReal) : EReal := Ideal.exp (lre * Ideal.exp ld) * Ideal.sin (lim * Ideal.exp ld)
/-- The real input factor. -/
def fre (lre lim ld : EReal) : EReal :=
  Ideal.div ((are lre lim ld - Ideal.ofBits .f32 0x3F800000#32) * lre + aim lre lim ld * lim) (lre * lre + lim * lim)
/-- The imaginary input factor. -/
def fim (lre lim ld : EReal) : EReal :=
  Ideal.div (aim lre lim ld * lre - (are lre lim ld - Ideal.ofBits .f32 0x3F800000#32) * lim) (lre * lre + lim * lim)
/-- A scaled input weight, real part. -/
def bre (lre lim ld br bi : EReal) : EReal := fre lre lim ld * br - fim lre lim ld * bi
/-- Its imaginary part. -/
def bim (lre lim ld br bi : EReal) : EReal := fre lre lim ld * bi + fim lre lim ld * br

/-! ## The layouts -/

/-- A vector over groups and states laid out as one row. -/
theorem flat_row (x : (⟨3, ![1, 32, 64]⟩ : Shape).Idx → EReal) (h : (⟨3, ![1, 32, 64]⟩ : Shape).ShapeCasts ⟨2, ![32, 64]⟩)
    (h' : (⟨2, ![32, 64]⟩ : Shape).ShapeCasts ⟨2, ![1, 2048]⟩) :
    Mat (shapeCast ⟨2, ![1, 2048]⟩ (shapeCast ⟨2, ![32, 64]⟩ x h) h') (fun _ j => at3 x 0 (j / 64) (j % 64)) := by
  intro i
  have h0 : (i 0).val = 0 := Nat.lt_one_iff.mp (i 0).isLt
  have hk : (i 1).val < 2048 := (i 1).isLt
  have hq : (i 1).val / 64 < 32 := by omega
  have hr : (i 1).val % 64 < 64 := by omega
  refine (shapeCast_apply _ _ _ (ix2 (⟨(i 1).val / 64, hq⟩ : Fin 32) (⟨(i 1).val % 64, hr⟩ : Fin 64)) ?_).trans
    ((mat_drop x h _).trans rfl)
  refine (Shape.rowMajor_val_two _).trans (Eq.trans ?_ (Shape.rowMajor_val_two _).symm)
  show (i 1).val / 64 * 64 + (i 1).val % 64 = (i 0).val * 2048 + (i 1).val
  omega

/-- A number for each group repeated over the group's 64 states, laid out as one row. -/
theorem spread_row (x : (⟨2, ![1, 32]⟩ : Shape).Idx → EReal) (h : (⟨2, ![1, 32]⟩ : Shape).ShapeCasts ⟨1, ![32]⟩)
    (hb : (⟨1, ![32]⟩ : Shape).BroadcastsInDim ⟨2, ![32, 64]⟩ ![0]) (h' : (⟨2, ![32, 64]⟩ : Shape).ShapeCasts ⟨1, ![2048]⟩)
    (h'' : (⟨1, ![2048]⟩ : Shape).ShapeCasts ⟨2, ![1, 2048]⟩) :
    Mat (shapeCast ⟨2, ![1, 2048]⟩ (shapeCast ⟨1, ![2048]⟩ (broadcastInDim ⟨2, ![32, 64]⟩ ![0] hb (shapeCast ⟨1, ![32]⟩ x h)) h') h'')
      (fun _ j => at2 x 0 (j / 64)) := by
  intro i
  have h0 : (i 0).val = 0 := Nat.lt_one_iff.mp (i 0).isLt
  have hk : (i 1).val < 2048 := (i 1).isLt
  have hq : (i 1).val / 64 < 32 := by omega
  have hr : (i 1).val % 64 < 64 := by omega
  refine (shapeCast_apply _ _ _ (ix1 (i 1)) ?_).trans
    ((shapeCast_apply _ _ _ (ix2 (⟨(i 1).val / 64, hq⟩ : Fin 32) (⟨(i 1).val % 64, hr⟩ : Fin 64)) ?_).trans
      ((broadcastInDim_apply _ hb _ _ (ix1 (⟨(i 1).val / 64, hq⟩ : Fin 32)) fun a => ?_).trans
        ((shapeCast_apply _ _ _ (ix2 (⟨0, Nat.one_pos⟩ : Fin 1) (⟨(i 1).val / 64, hq⟩ : Fin 32)) ?_).trans (at2_eq _ _))))
  · refine (Shape.rowMajor_val_one _).trans (Eq.trans ?_ (Shape.rowMajor_val_two _).symm)
    show (i 1).val = (i 0).val * 2048 + (i 1).val
    omega
  · refine (Shape.rowMajor_val_two _).trans (Eq.trans ?_ (Shape.rowMajor_val_one _).symm)
    show (i 1).val / 64 * 64 + (i 1).val % 64 = (i 1).val
    omega
  · match a with
    | ⟨0, _⟩ => rfl
  · refine (Shape.rowMajor_val_two _).trans (Eq.trans ?_ (Shape.rowMajor_val_one _).symm)
    show 0 * 32 + (i 1).val / 64 = (i 1).val / 64
    omega

/-- The input weights with the input axis first, groups and states joined. -/
theorem inputs_first (x : (⟨4, ![1, 32, 64, 16]⟩ : Shape).Idx → EReal) (h : (⟨4, ![1, 32, 64, 16]⟩ : Shape).ShapeCasts ⟨3, ![32, 64, 16]⟩)
    (ht : (⟨3, ![32, 64, 16]⟩ : Shape).Transposes [2, 0, 1] ⟨3, ![16, 32, 64]⟩)
    (h' : (⟨3, ![16, 32, 64]⟩ : Shape).ShapeCasts ⟨2, ![16, 2048]⟩) :
    Mat (shapeCast ⟨2, ![16, 2048]⟩ (transpose ⟨3, ![16, 32, 64]⟩ [2, 0, 1] (shapeCast ⟨3, ![32, 64, 16]⟩ x h) ht) h')
      (fun k j => at4 x 0 (j / 64) (j % 64) k) := by
  intro i
  have hk : (i 1).val < 2048 := (i 1).isLt
  have hq : (i 1).val / 64 < 32 := by omega
  have hr : (i 1).val % 64 < 64 := by omega
  refine (shapeCast_apply _ _ _ (ix3 (i 0) (⟨(i 1).val / 64, hq⟩ : Fin 32) (⟨(i 1).val % 64, hr⟩ : Fin 64)) ?_).trans
    ((transpose_apply _ _ _ _ (ix3 (⟨(i 1).val / 64, hq⟩ : Fin 32) (⟨(i 1).val % 64, hr⟩ : Fin 64) (i 0)) ?_).trans
      ((shapeCast_apply _ _ _ (ix4 (⟨0, Nat.one_pos⟩ : Fin 1) (⟨(i 1).val / 64, hq⟩ : Fin 32) (⟨(i 1).val % 64, hr⟩ : Fin 64) (i 0)) ?_).trans
        (at4_eq _ _)))
  · refine (Shape.rowMajor_val_three _).trans (Eq.trans ?_ (Shape.rowMajor_val_two _).symm)
    show ((i 0).val * 32 + (i 1).val / 64) * 64 + (i 1).val % 64 = (i 0).val * 2048 + (i 1).val
    omega
  · intro a
    match a with
    | ⟨0, _⟩ => rfl
    | ⟨1, _⟩ => rfl
    | ⟨2, _⟩ => rfl
  · refine (Shape.rowMajor_val_four _).trans (Eq.trans ?_ (Shape.rowMajor_val_three _).symm)
    show ((0 * 32 + (i 1).val / 64) * 64 + (i 1).val % 64) * 16 + (i 0).val = ((i 1).val / 64 * 64 + (i 1).val % 64) * 16 + (i 0).val
    omega

end Cert.PrepSpec

end
-- ==== Proof.PrepReference.lean ====
/- What the discretisation's reference computes: its four results are the functions of Proof/PrepSpec.lean of the argument arrays. -/
module

public import proofs.«01_k».proof.Proof.Gen.PrepReferenceIdeal.Read
public import proofs.«01_k».proof.Proof.PrepSpec

@[expose] public section

set_option maxRecDepth 16384

noncomputable section

namespace Cert.PrepReference

open Cert.PrepReferenceIdeal Cert.PrepReferenceIdeal.Read Cert.Mat
open Idealize.ShloMosaic hiding ix1 ix2 ix3 ix4 eq_ix2
open Idealize.ShloMosaic.ValueIdx (ix1 ix2 ix3 ix4)

variable (x0 x1 : (⟨S1x32x64, .f32⟩ : BufTy).Contents (Elt Ideal)) (x2 : (⟨S1x32, .f32⟩ : BufTy).Contents (Elt Ideal))
  (x3 x4 : (⟨S1x32x64x16, .f32⟩ : BufTy).Contents (Elt Ideal))

/-- An entry over groups and states. -/
def at_state (x : (⟨S1x32x64, .f32⟩ : BufTy).Contents (Elt Ideal)) : ℕ → ℕ → EReal := at3 (a := 1) (b := 32) (c := 64) x 0
/-- An entry over groups. -/
def at_group (x : (⟨S1x32, .f32⟩ : BufTy).Contents (Elt Ideal)) : ℕ → EReal := at2 (a := 1) (b := 32) x 0
/-- An entry over groups, states and inputs. -/
def at_input (x : (⟨S1x32x64x16, .f32⟩ : BufTy).Contents (Elt Ideal)) : ℕ → ℕ → ℕ → EReal := at4 (a := 1) (b := 32) (c := 64) (d := 16) x 0

/-- The real part of `λ`. -/
theorem lre_eq (i : S32x64.Idx) : val_main_v0 (F := Ideal) x0 i = at_state x0 (i 0).val (i 1).val := by
  have e0 : (i 0).val < 32 := (i 0).isLt
  have e1 : (i 1).val < 64 := (i 1).isLt
  refine (val_main_v0_apply x0 i).trans ((at3_eq (a := 1) (b := 32) (c := 64) x0 _).trans ?_)
  exact congrArg₂ (at_state x0) (show ((i 0).val * 64 + (i 1).val) / 64 % 32 = _ by omega)
    (show ((i 0).val * 64 + (i 1).val) % 64 = _ by omega)

/-- Its imaginary part. -/
theorem lim_eq (i : S32x64.Idx) : val_main_v1 (F := Ideal) x1 i = at_state x1 (i 0).val (i 1).val := lre_eq x1 i

/-- The logarithm of a group's step. -/
theorem ld_eq (i : S32.Idx) : val_main_v4 (F := Ideal) x2 i = at_group x2 (i 0).val := by
  have e0 : (i 0).val < 32 := (i 0).isLt
  refine (val_main_v4_apply x2 i).trans ((at2_eq (a := 1) (b := 32) x2 _).trans ?_)
  exact congrArg (at_group x2) (show (i 0).val % 32 = _ by omega)

/-- A group's step. -/
theorem dt_eq (i : S32x1.Idx) : val_main_v6 (F := Ideal) x2 i = Ideal.exp (at_group x2 (i 0).val) := by
  rw [val_main_v6_apply, val_main_v5_apply, ld_eq]
  rfl

/-- The real transition. -/
theorem are_eq (i : S32x64.Idx) : val_main_v13 (F := Ideal) x0 x1 x2 i
    = PrepSpec.are (at_state x0 (i 0).val (i 1).val) (at_state x1 (i 0).val (i 1).val) (at_group x2 (i 0).val) := by
  rw [val_main_v13_apply, val_main_v9_apply, val_main_v8_apply, val_main_v7_apply, val_main_v12_apply, val_main_v11_apply,
    val_main_v10_apply, dt_eq, lre_eq, lim_eq]
  rfl

/-- The imaginary transition. -/
theorem aim_eq (i : S32x64.Idx) : val_main_v17 (F := Ideal) x0 x1 x2 i
    = PrepSpec.aim (at_state x0 (i 0).val (i 1).val) (at_state x1 (i 0).val (i 1).val) (at_group x2 (i 0).val) := by
  rw [val_main_v17_apply, val_main_v9_apply, val_main_v8_apply, val_main_v7_apply, val_main_v16_apply, val_main_v15_apply,
    val_main_v14_apply, dt_eq, lre_eq, lim_eq]
  rfl

/-- The real input factor. -/
theorem fre_eq (i : S32x64.Idx) : val_main_v26 (F := Ideal) x0 x1 x2 i
    = PrepSpec.fre (at_state x0 (i 0).val (i 1).val) (at_state x1 (i 0).val (i 1).val) (at_group x2 (i 0).val) := by
  rw [val_main_v26_apply, val_main_v25_apply, val_main_v23_apply, val_main_v22_apply, val_main_v21_apply, val_main_cst_apply,
    val_main_v24_apply, val_main_v20_apply, val_main_v18_apply, val_main_v19_apply, are_eq, aim_eq, lre_eq, lim_eq]
  rfl

/-- The imaginary input factor. -/
theorem fim_eq (i : S32x64.Idx) : val_main_v30 (F := Ideal) x0 x1 x2 i
    = PrepSpec.fim (at_state x0 (i 0).val (i 1).val) (at_state x1 (i 0).val (i 1).val) (at_group x2 (i 0).val) := by
  rw [val_main_v30_apply, val_main_v29_apply, val_main_v27_apply, val_main_v28_apply, val_main_v22_apply, val_main_v21_apply,
    val_main_cst_apply, val_main_v20_apply, val_main_v18_apply, val_main_v19_apply, are_eq, aim_eq, lre_eq, lim_eq]
  rfl

/-- The real input weights. -/
theorem br_eq (i : S32x64x16.Idx) : val_main_v2 (F := Ideal) x3 i = at_input x3 (i 0).val (i 1).val (i 2).val := by
  have e0 : (i 0).val < 32 := (i 0).isLt
  have e1 : (i 1).val < 64 := (i 1).isLt
  have e2 : (i 2).val < 16 := (i 2).isLt
  refine (val_main_v2_apply x3 i).trans ((at4_eq (a := 1) (b := 32) (c := 64) (d := 16) x3 _).trans ?_)
  show at_input x3 ((((i 0).val * 64 + (i 1).val) * 16 + (i 2).val) / 1024 % 32) ((((i 0).val * 64 + (i 1).val) * 16 + (i 2).val) / 16 % 64)
    ((((i 0).val * 64 + (i 1).val) * 16 + (i 2).val) % 16) = _
  rw [show (((i 0).val * 64 + (i 1).val) * 16 + (i 2).val) / 1024 % 32 = (i 0).val by omega,
    show (((i 0).val * 64 + (i 1).val) * 16 + (i 2).val) / 16 % 64 = (i 1).val by omega,
    show (((i 0).val * 64 + (i 1).val) * 16 + (i 2).val) % 16 = (i 2).val by omega]

/-- The imaginary input weights. -/
theorem bi_eq (i : S32x64x16.Idx) : val_main_v3 (F := Ideal) x4 i = at_input x4 (i 0).val (i 1).val (i 2).val := br_eq x4 i

/-- The scaled input weights, real part. -/
theorem bre_eq (i : S32x64x16.Idx) : val_main_v37 (F := Ideal) x0 x1 x2 x3 x4 i
    = PrepSpec.bre (at_state x0 (i 0).val (i 1).val) (at_state x1 (i 0).val (i 1).val) (at_group x2 (i 0).val)
      (at_input x3 (i 0).val (i 1).val (i 2).val) (at_input x4 (i 0).val (i 1).val (i 2).val) := by
  rw [val_main_v37_apply, val_main_v33_apply, val_main_v32_apply, val_main_v31_apply, val_main_v36_apply, val_main_v35_apply,
    val_main_v34_apply, fre_eq, fim_eq, br_eq, bi_eq]
  rfl

/-- The scaled input weights, imaginary part. -/
theorem bim_eq (i : S32x64x16.Idx) : val_main_v44 (F := Ideal) x0 x1 x2 x3 x4 i
    = PrepSpec.bim (at_state x0 (i 0).val (i 1).val) (at_state x1 (i 0).val (i 1).val) (at_group x2 (i 0).val)
      (at_input x3 (i 0).val (i 1).val (i 2).val) (at_input x4 (i 0).val (i 1).val (i 2).val) := by
  rw [val_main_v44_apply, val_main_v40_apply, val_main_v39_apply, val_main_v38_apply, val_main_v43_apply, val_main_v42_apply,
    val_main_v41_apply, fre_eq, fim_eq, br_eq, bi_eq]
  rfl

/-! ## The results -/

/-- The first result. -/
theorem are_row (i : S1x2048.Idx) : val_main_v45 (F := Ideal) x0 x1 x2 i
    = PrepSpec.are (at_state x0 ((i 1).val / 64) ((i 1).val % 64)) (at_state x1 ((i 1).val / 64) ((i 1).val % 64))
      (at_group x2 ((i 1).val / 64)) := by
  have h0 : (i 0).val < 1 := (i 0).isLt
  have e1 : (idx_main_v45 i 0).val = (i 1).val / 64 := show ((i 0).val * 2048 + (i 1).val) / 64 = _ by omega
  have e2 : (idx_main_v45 i 1).val = (i 1).val % 64 := show ((i 0).val * 2048 + (i 1).val) % 64 = _ by omega
  rw [val_main_v45_apply, are_eq, e1, e2]

/-- The second result. -/
theorem aim_row (i : S1x2048.Idx) : val_main_v46 (F := Ideal) x0 x1 x2 i
    = PrepSpec.aim (at_state x0 ((i 1).val / 64) ((i 1).val % 64)) (at_state x1 ((i 1).val / 64) ((i 1).val % 64))
      (at_group x2 ((i 1).val / 64)) := by
  have h0 : (i 0).val < 1 := (i 0).isLt
  have e1 : (idx_main_v46 i 0).val = (i 1).val / 64 := show ((i 0).val * 2048 + (i 1).val) / 64 = _ by omega
  have e2 : (idx_main_v46 i 1).val = (i 1).val % 64 := show ((i 0).val * 2048 + (i 1).val) % 64 = _ by omega
  rw [val_main_v46_apply, aim_eq, e1, e2]

/-- The third result. -/
theorem bre_rows (i : S16x2048.Idx) : val_main_v48 (F := Ideal) x0 x1 x2 x3 x4 i
    = PrepSpec.bre (at_state x0 ((i 1).val / 64) ((i 1).val % 64)) (at_state x1 ((i 1).val / 64) ((i 1).val % 64))
      (at_group x2 ((i 1).val / 64)) (at_input x3 ((i 1).val / 64) ((i 1).val % 64) (i 0).val)
      (at_input x4 ((i 1).val / 64) ((i 1).val % 64) (i 0).val) := by
  have h0 : (i 0).val < 16 := (i 0).isLt
  have e1 : (idx_main_v47 (idx_main_v48 i) 0).val = (i 1).val / 64 := show ((i 1).val * 16 + (i 0).val) / 1024 = _ by omega
  have e2 : (idx_main_v47 (idx_main_v48 i) 1).val = (i 1).val % 64 := show ((i 1).val * 16 + (i 0).val) / 16 % 64 = _ by omega
  have e3 : (idx_main_v47 (idx_main_v48 i) 2).val = (i 0).val := show ((i 1).val * 16 + (i 0).val) % 16 = _ by omega
  rw [val_main_v48_apply, val_main_v47_apply, bre_eq, e1, e2, e3]

/-- The fourth result. -/
theorem bim_rows (i : S16x2048.Idx) : val_main_v50 (F := Ideal) x0 x1 x2 x3 x4 i
    = PrepSpec.bim (at_state x0 ((i 1).val / 64) ((i 1).val % 64)) (at_state x1 ((i 1).val / 64) ((i 1).val % 64))
      (at_group x2 ((i 1).val / 64)) (at_input x3 ((i 1).val / 64) ((i 1).val % 64) (i 0).val)
      (at_input x4 ((i 1).val / 64) ((i 1).val % 64) (i 0).val) := by
  have h0 : (i 0).val < 16 := (i 0).isLt
  have e1 : (idx_main_v49 (idx_main_v50 i) 0).val = (i 1).val / 64 := show ((i 1).val * 16 + (i 0).val) / 1024 = _ by omega
  have e2 : (idx_main_v49 (idx_main_v50 i) 1).val = (i 1).val % 64 := show ((i 1).val * 16 + (i 0).val) / 16 % 64 = _ by omega
  have e3 : (idx_main_v49 (idx_main_v50 i) 2).val = (i 0).val := show ((i 1).val * 16 + (i 0).val) % 16 = _ by omega
  rw [val_main_v50_apply, val_main_v49_apply, bim_eq, e1, e2, e3]

end Cert.PrepReference

end
-- ==== Proof.PrepEq.lean ====
/- The discretisation's algebraic claim: the arrays the kernel's run leaves and the arrays the reference's run leaves are the same
   functions (Proof/PrepSpec.lean) of the argument arrays. -/
module

public import Idealize.ShloMosaic.Lib.StableHlo.RunRead
public import proofs.«01_k».proof.Proof.Gen.PrepIdeal.Value
public import proofs.«01_k».proof.Proof.Gen.PrepReferenceIdeal.Run
public import proofs.«01_k».proof.Proof.PrepReference
public import proofs.«01_k».proof.Defs

@[expose] public section

set_option maxRecDepth 16384

noncomputable section

namespace Cert.PrepEq

open Cert.PrepIdeal Cert.PrepIdeal.Gen Cert.PrepIdeal.Value Cert.Mat Cert.PrepSpec
open Cert.PrepReference (at_state at_group at_input)
open Idealize.ShloMosaic hiding ix1 ix2 ix3 ix4 eq_ix2
open Idealize.ShloMosaic.ValueIdx (ix1 ix2 ix3 ix4)

variable (m : (ℓ : Loc nD τ sig) → Buf (Elt Ideal) ℓ) (c : Dev nD)

/-! ## The arrays as functions of a channel -/

/-- The real part of `λ` at a channel. -/
def L (j : ℕ) : EReal := at_state (m (c.tc.loc main_arg0)) (j / 64) (j % 64)
/-- The imaginary part of `λ` at a channel. -/
def I (j : ℕ) : EReal := at_state (m (c.tc.loc main_arg1)) (j / 64) (j % 64)
/-- The logarithm of the step at a channel. -/
def D (j : ℕ) : EReal := at_group (m (c.tc.loc main_arg2)) (j / 64)
/-- The real weight of input `k` at a channel. -/
def P (k j : ℕ) : EReal := at_input (m (c.tc.loc main_arg3)) (j / 64) (j % 64) k
/-- The imaginary weight of input `k` at a channel. -/
def Q (k j : ℕ) : EReal := at_input (m (c.tc.loc main_arg4)) (j / 64) (j % 64) k

/-! ## The blocks the body reads -/

/-- Window 0 holds the real parts of `λ`. -/
theorem blk0 : Mat (iblk m c 0 t0_0) (fun _ j => L m c j) := by
  have e : iblk m c 0 t0_0 = V m c main_v8 := by
    blk_ext! [iblk, (show win0_0.index t0_0 0 = 0 by decide), (show win0_0.index t0_0 1 = 0 by decide)]
  rw [e]
  after_reads_simp
  exact flat_row _ _ _

/-- Window 1 holds the imaginary parts of `λ`. -/
theorem blk1 : Mat (iblk m c 1 t0_0) (fun _ j => I m c j) := by
  have e : iblk m c 1 t0_0 = V m c main_v9 := by
    blk_ext! [iblk, (show win0_1.index t0_0 0 = 0 by decide), (show win0_1.index t0_0 1 = 0 by decide)]
  rw [e]
  after_reads_simp
  exact flat_row _ _ _

/-- Window 2 holds the logarithms of the steps. -/
theorem blk2 : Mat (iblk m c 2 t0_0) (fun _ j => D m c j) := by
  have e : iblk m c 2 t0_0 = V m c main_v7 := by
    blk_ext! [iblk, (show win0_2.index t0_0 0 = 0 by decide), (show win0_2.index t0_0 1 = 0 by decide)]
  rw [e]
  after_reads_simp
  exact spread_row _ _ _ _ _

/-- Window 3 holds the real input weights. -/
theorem blk3 : Mat (iblk m c 3 t0_0) (P m c) := by
  have e : iblk m c 3 t0_0 = V m c main_v11 := by
    blk_ext! [iblk, (show win0_3.index t0_0 0 = 0 by decide), (show win0_3.index t0_0 1 = 0 by decide)]
  rw [e]
  after_reads_simp
  exact inputs_first _ _ _ _

/-- Window 4 holds the imaginary input weights. -/
theorem blk4 : Mat (iblk m c 4 t0_0) (Q m c) := by
  have e : iblk m c 4 t0_0 = V m c main_v13 := by
    blk_ext! [iblk, (show win0_4.index t0_0 0 = 0 by decide), (show win0_4.index t0_0 1 = 0 by decide)]
  rw [e]
  after_reads_simp
  exact inputs_first _ _ _ _

/-! ## The arrays after the run -/

/-- The real transitions. -/
def G0 (i : S1x2048.Idx) : EReal := are (L m c (i 1).val) (I m c (i 1).val) (D m c (i 1).val)
/-- The imaginary transitions. -/
def G1 (i : S1x2048.Idx) : EReal := aim (L m c (i 1).val) (I m c (i 1).val) (D m c (i 1).val)
/-- The scaled input weights, real part. -/
def G2 (i : S16x2048.Idx) : EReal :=
  bre (L m c (i 1).val) (I m c (i 1).val) (D m c (i 1).val) (P m c (i 0).val (i 1).val) (Q m c (i 0).val (i 1).val)
/-- The scaled input weights, imaginary part. -/
def G3 (i : S16x2048.Idx) : EReal :=
  bim (L m c (i 1).val) (I m c (i 1).val) (D m c (i 1).val) (P m c (i 0).val (i 1).val) (Q m c (i 0).val (i 1).val)

/-- A load of a whole row reads the row. -/
theorem row_ld {x : Vec Ideal S1x2048 .f32} {f : ℕ → EReal} (h : Mat x fun _ j => f j) : Mat (View.ld x r0_0) fun _ j => f j := fun i =>
  (h (r0_0.idx i)).trans (congrArg f (show 0 + 1 * (i 1).val = _ by omega))

/-- A load of a whole matrix reads the matrix. -/
theorem mat_ld {x : Vec Ideal S16x2048 .f32} {f : ℕ → ℕ → EReal} (h : Mat x f) : Mat (View.ld x r0_1) f := fun i =>
  (h (r0_1.idx i)).trans (congrArg₂ f (show 0 + 1 * (i 0).val = _ by omega) (show 0 + 1 * (i 1).val = _ by omega))

/-- The block of the real transitions. -/
theorem block0 {x0 x1 x2 : Vec Ideal S1x2048 .f32} {x3 x4 : Vec Ideal S16x2048 .f32} {l u d : ℕ → EReal}
    (h0 : Mat x0 fun _ j => l j) (h1 : Mat x1 fun _ j => u j) (h2 : Mat x2 fun _ j => d j) (y : S1x2048.Idx) :
    out0_5 x0 x1 x2 x3 x4 y = are (l (y 1).val) (u (y 1).val) (d (y 1).val) := by
  unfold out0_5
  rw [canon5_eq]
  unfold E5
  rw [row_ld h0, row_ld h1, row_ld h2]
  rfl

/-- The block of the imaginary transitions. -/
theorem block1 {x0 x1 x2 : Vec Ideal S1x2048 .f32} {x3 x4 : Vec Ideal S16x2048 .f32} {l u d : ℕ → EReal}
    (h0 : Mat x0 fun _ j => l j) (h1 : Mat x1 fun _ j => u j) (h2 : Mat x2 fun _ j => d j) (y : S1x2048.Idx) :
    out0_6 x0 x1 x2 x3 x4 y = aim (l (y 1).val) (u (y 1).val) (d (y 1).val) := by
  unfold out0_6
  rw [canon6_eq]
  unfold E6
  rw [row_ld h0, row_ld h1, row_ld h2]
  rfl

/-- The block of the scaled input weights, real part. -/
theorem block2 {x0 x1 x2 : Vec Ideal S1x2048 .f32} {x3 x4 : Vec Ideal S16x2048 .f32} {l u d : ℕ → EReal} {p q : ℕ → ℕ → EReal}
    (h0 : Mat x0 fun _ j => l j) (h1 : Mat x1 fun _ j => u j) (h2 : Mat x2 fun _ j => d j) (h3 : Mat x3 p) (h4 : Mat x4 q) (y : S16x2048.Idx) :
    out0_7 x0 x1 x2 x3 x4 y = bre (l (y 1).val) (u (y 1).val) (d (y 1).val) (p (y 0).val (y 1).val) (q (y 0).val (y 1).val) := by
  unfold out0_7
  rw [canon7_eq]
  unfold E7
  simp only [row_ld h0 _, row_ld h1 _, row_ld h2 _, mat_ld h3 _, mat_ld h4 _]
  rfl

/-- The block of the scaled input weights, imaginary part. -/
theorem block3 {x0 x1 x2 : Vec Ideal S1x2048 .f32} {x3 x4 : Vec Ideal S16x2048 .f32} {l u d : ℕ → EReal} {p q : ℕ → ℕ → EReal}
    (h0 : Mat x0 fun _ j => l j) (h1 : Mat x1 fun _ j => u j) (h2 : Mat x2 fun _ j => d j) (h3 : Mat x3 p) (h4 : Mat x4 q) (y : S16x2048.Idx) :
    out0_8 x0 x1 x2 x3 x4 y = bim (l (y 1).val) (u (y 1).val) (d (y 1).val) (p (y 0).val (y 1).val) (q (y 0).val (y 1).val) := by
  unfold out0_8
  rw [canon8_eq]
  unfold E8
  simp only [row_ld h0 _, row_ld h1 _, row_ld h2 _, mat_ld h3 _, mat_ld h4 _]
  rfl

theorem arr0 : (dats m 0 c).arrAt 5 cfg0.N = G0 m c := by
  refine (dats m 0 c).arrAt_eq_of_after_last 5 t0_0 (by decide +kernel) _ fun j => ?_
  blk_simp
  rw [after0_5]
  exact block0 (blk0 m c) (blk1 m c) (blk2 m c) j

theorem arr1 : (dats m 0 c).arrAt 6 cfg0.N = G1 m c := by
  refine (dats m 0 c).arrAt_eq_of_after_last 6 t0_0 (by decide +kernel) _ fun j => ?_
  blk_simp
  rw [after0_6]
  exact block1 (blk0 m c) (blk1 m c) (blk2 m c) j

theorem arr2 : (dats m 0 c).arrAt 7 cfg0.N = G2 m c := by
  refine (dats m 0 c).arrAt_eq_of_after_last 7 t0_0 (by decide +kernel) _ fun j => ?_
  blk_simp
  rw [after0_7]
  exact block2 (blk0 m c) (blk1 m c) (blk2 m c) (blk3 m c) (blk4 m c) j

theorem arr3 : (dats m 0 c).arrAt 8 cfg0.N = G3 m c := by
  refine (dats m 0 c).arrAt_eq_of_after_last 8 t0_0 (by decide +kernel) _ fun j => ?_
  blk_simp
  rw [after0_8]
  exact block3 (blk0 m c) (blk1 m c) (blk2 m c) (blk3 m c) (blk4 m c) j

/-! ## The claim -/

/-- The discretisation call and its reference leave the same arrays. -/
theorem algebraic : Cert.algebraic_PrepIdeal_PrepReferenceIdeal (hPrepIdeal := Cert.PrepIdeal.Gen.facts)
    (hPrepReferenceIdeal := Cert.PrepReferenceIdeal.Gen.facts) := by
  intro m g m' g' _ hag
  refine ⟨fun c => G0 m c, fun c => G1 m c, fun c => G2 m c, fun c => G3 m c, ?_, ?_⟩
  · exact θ_run_mono (run_blocks m g) fun r h c => ⟨(h c).1.trans (arr0 m c), (h c).2.1.trans (arr1 m c), (h c).2.2.1.trans (arr2 m c),
      (h c).2.2.2.1.trans (arr3 m c), (h c).2.2.2.2⟩
  · refine θ_run_mono (Cert.PrepReferenceIdeal.Value.run m' g') fun r h c => ?_
    obtain ⟨e0, e1, e2, e3, e4⟩ := hag c
    refine ⟨(h c).1.trans ((Cert.PrepReferenceIdeal.Read.val_main_v45_eq _ _ _).trans ?_),
      (h c).2.1.trans ((Cert.PrepReferenceIdeal.Read.val_main_v46_eq _ _ _).trans ?_),
      (h c).2.2.1.trans ((Cert.PrepReferenceIdeal.Read.val_main_v48_eq m' c).trans ?_),
      (h c).2.2.2.1.trans ((Cert.PrepReferenceIdeal.Read.val_main_v50_eq m' c).trans ?_), (h c).2.2.2.2⟩
    · rw [e0, e1, e2]
      exact funext fun i => PrepReference.are_row _ _ _ i
    · rw [e0, e1, e2]
      exact funext fun i => PrepReference.aim_row _ _ _ i
    · rw [e0, e1, e2, e3, e4]
      exact funext fun i => PrepReference.bre_rows _ _ _ _ _ i
    · rw [e0, e1, e2, e3, e4]
      exact funext fun i => PrepReference.bim_rows _ _ _ _ _ i

end Cert.PrepEq

end
-- ==== Proof.PromptKernel.lean ====
/- What the feed-forward kernel's body leaves at one grid point of the prompt call, as the functions of Proof/FfnSpec.lean over the 64
   time steps of that point: the output block, whose time axis is the middle one, and the 16 rows of the convolution's input that the
   next point reads. The first point reads the cached rows from an input block, every later one from the scratch buffer. -/
module

public import proofs.«01_k».proof.Proof.Gen.PromptIdeal.Frame
import all proofs.«01_k».proof.Proof.Gen.PromptIdeal.Frame
public import proofs.«01_k».proof.Proof.Mat
public import proofs.«01_k».proof.Proof.FfnSpec

@[expose] public section

set_option maxRecDepth 16384

noncomputable section

namespace Cert.PromptKernel

open Cert.PromptIdeal Cert.PromptIdeal.Gen Cert.Mat Idealize.ShloMosaic
open Idealize.ShloMosaic.ValueIdx (mulf_apply addf_apply subf_apply divf_apply constant_apply truncf_apply broadcast_apply)
open scoped BigOperators

/-! ## The payloads -/

/-- The up projection of a slab of columns. -/
theorem pay_up {a : Vec Ideal S512x1024 .bf16} {w : Vec Ideal S1024x1536 .bf16} {b : Vec Ideal S1x1536 .f32} {A W : ℕ → ℕ → EReal}
    {bb : ℕ → ℕ → EReal} (ha : Mat a A) (hw : Mat w W) (hb : Mat b bb) :
    Mat (k0_pay4 (F := Ideal) a w b) (fun i j => (∑ k : Fin 1024, A i k.val * W k.val j) + bb 0 j) := by
  intro i
  simp only [k0_pay4, shapeCast_self, addf_apply]
  refine congrArg₂ (· + ·) (Mat.matmul rfl ha hw i) ?_
  rw [row_at, hb]
  rfl

/-- The convolution, gelu and product with the value half, on a slab of columns. -/
theorem pay_hid {b t0 t1 t2 : Vec Ideal S1x1536 .f32} {g0 g1 g2 v : Vec Ideal S512x1536 .f32} {B T0 T1 T2 G0 G1 G2 V : ℕ → ℕ → EReal}
    (hb : Mat b B) (h0 : Mat t0 T0) (h1 : Mat t1 T1) (h2 : Mat t2 T2) (k0 : Mat g0 G0) (k1 : Mat g1 G1) (k2 : Mat g2 G2) (hv : Mat v V) :
    Mat (k0_pay6 (F := Ideal) b t0 g0 t1 g1 t2 g2 v)
      (fun i j => FfnSpec.gelu (B 0 j + T0 0 j * G0 i j + T1 0 j * G1 i j + T2 0 j * G2 i j) * V i j) := by
  intro i
  beta_reduce
  rw [← hv i, ← k0 i, ← k1 i, ← k2 i]
  simp only [k0_pay6, shapeCast_self, addf_apply, mulf_apply, truncf_apply, broadcast_apply, row_at, tanh_at, FfnSpec.gelu]
  rw [hb, h0, h1, h2]
  rfl

/-- The down projection of the first slab with the bias. -/
theorem pay_down {h : Vec Ideal S512x1536 .bf16} {w : Vec Ideal S1536x1024 .bf16} {b : Vec Ideal S1x1024 .f32} {H W : ℕ → ℕ → EReal}
    {bb : ℕ → ℕ → EReal} (hh : Mat h H) (hw : Mat w W) (hb : Mat b bb) :
    Mat (k0_pay8 (F := Ideal) h w b) (fun i j => (∑ k : Fin 1536, H i k.val * W k.val j) + bb 0 j) := by
  intro i
  simp only [k0_pay8, shapeCast_self, addf_apply]
  refine congrArg₂ (· + ·) (Mat.matmul rfl hh hw i) ?_
  rw [row_at, hb]
  rfl

/-- The down projection of the second slab added to what is there. -/
theorem pay_down_add {h : Vec Ideal S512x1536 .bf16} {w : Vec Ideal S1536x1024 .bf16} {t : Vec Ideal S512x1024 .f32} {H W T : ℕ → ℕ → EReal}
    (hh : Mat h H) (hw : Mat w W) (ht : Mat t T) :
    Mat (k0_pay14 (F := Ideal) h w t) (fun i j => T i j + ∑ k : Fin 1536, H i k.val * W k.val j) := by
  intro i
  simp only [k0_pay14, shapeCast_self, addf_apply]
  exact congrArg₂ (· + ·) (ht i) (Mat.matmul rfl hh hw i)

/-- The layer norm's gain row is read as it is. -/
theorem pay_keep_gain {a : Vec Ideal S1x1024 .f32} {A : ℕ → ℕ → EReal} (ha : Mat a A) : Mat (k0_pay15 (F := Ideal) a) A := by
  intro i; simp only [k0_pay15, shapeCast_self]; exact ha i

/-- The layer norm's shift row is read as it is. -/
theorem pay_keep_shift {a : Vec Ideal S1x1024 .f32} {A : ℕ → ℕ → EReal} (ha : Mat a A) : Mat (k0_pay16 (F := Ideal) a) A := by
  intro i; simp only [k0_pay16, shapeCast_self]; exact ha i

/-- The residual sum with its mean taken off. -/
theorem pay_centred {x t : Vec Ideal S512x1024 .f32} {X T : ℕ → ℕ → EReal} (hx : Mat x X) (ht : Mat t T) :
    Mat (k0_pay17 (F := Ideal) x t) (FfnSpec.centred (FfnSpec.res X T)) := by
  intro i
  simp only [k0_pay17, subf_apply, addf_apply, mulf_apply, divf_apply, broadcast_apply, col_at, column_at, FfnSpec.centred,
    FfnSpec.mean, FfnSpec.res]
  rw [hx i, ht i]
  refine congrArg (fun z => _ - Ideal.div z _) ((rowsum_at _ _ _ _ _ _).trans (Finset.sum_congr rfl fun k _ => ?_))
  simp only [addf_apply, mulf_apply, broadcast_apply]
  rw [hx, ht]
  rfl

/-- The mean of its square. -/
theorem pay_var {x t : Vec Ideal S512x1024 .f32} {X T : ℕ → ℕ → EReal} (hx : Mat x X) (ht : Mat t T) :
    Mat (k0_pay18 (F := Ideal) x t)
      (fun i _ => FfnSpec.mean (fun i j => FfnSpec.centred (FfnSpec.res X T) i j * FfnSpec.centred (FfnSpec.res X T) i j) i) := by
  intro i
  have h := pay_centred hx ht
  simp only [k0_pay18, divf_apply, broadcast_apply, column_at, FfnSpec.mean]
  refine congrArg (fun z => Ideal.div z _) ((rowsum_at _ _ _ _ _ _).trans (Finset.sum_congr rfl fun k _ => ?_))
  rw [mulf_apply, h]

/-- Payloads that only change the format keep the entries. -/
theorem pay_keep {a : Vec Ideal S512x1024 .f32} {A : ℕ → ℕ → EReal} (ha : Mat a A) : Mat (k0_pay3 (F := Ideal) a) A := by
  intro i; simp only [k0_pay3, shapeCast_self, truncf_apply]; exact ha i

/-- The cached rows are stored as they are. -/
theorem pay_cache {a : Vec Ideal S16x3072 .f32} {A : ℕ → ℕ → EReal} (ha : Mat a A) : Mat (k0_pay2 (F := Ideal) a) A := by
  intro i; simp only [k0_pay2, shapeCast_self]; exact ha i

/-- The up projection's block for the second slab of the value half. -/
theorem pay_up_high {a : Vec Ideal S512x1024 .bf16} {w : Vec Ideal S1024x1536 .bf16} {b : Vec Ideal S1x1536 .f32} {A W : ℕ → ℕ → EReal}
    {bb : ℕ → ℕ → EReal} (ha : Mat a A) (hw : Mat w W) (hb : Mat b bb) :
    Mat (k0_pay11 (k0_pay10 (F := Ideal) a w b)) (fun i j => (∑ k : Fin 1024, A i k.val * W k.val j) + bb 0 j) :=
  pay_up ha hw hb

/-- The hidden activation's second slab is computed as the first. -/
theorem pay_hid_eq {b t0 t1 t2 : Vec Ideal S1x1536 .f32} {g0 g1 g2 v : Vec Ideal S512x1536 .f32} :
    k0_pay13 (k0_pay12 (F := Ideal) b t0 g0 t1 g1 t2 g2) v = k0_pay6 b t0 g0 t1 g1 t2 g2 v := by
  simp only [k0_pay13, k0_pay12, k0_pay6, shapeCast_self]

/-- The first slab of the hidden activation is stored as it is. -/
theorem pay_keep_hid {a : Vec Ideal S512x1536 .bf16} {A : ℕ → ℕ → EReal} (ha : Mat a A) : Mat (k0_pay7 (F := Ideal) a) A := by
  intro i; simp only [k0_pay7, shapeCast_self]; exact ha i

/-- The layer norm's last part. -/
theorem pay_norm {g b : Vec Ideal S1x1024 .f32} {c : Vec Ideal S512x1024 .f32} {v : Vec Ideal S512x1 .f32} {G B C V : ℕ → ℕ → EReal}
    (hg : Mat g G) (hb : Mat b B) (hc : Mat c C) (hv : Mat v V) :
    Mat (k0_pay19 (F := Ideal) g b c v) (fun i j => C i j * Ideal.rsqrt (V i 0 + Ideal.ofBits .f32 0x3727C5AC#32) * G 0 j + B 0 j) := by
  intro i
  beta_reduce
  rw [← hc i]
  simp only [k0_pay19, mulf_apply, addf_apply, row_at, col_at]
  rw [hg, hb]
  rw [rsqrt_at, addf_apply, hv]
  rfl

/-- The rows kept for the next point are stored as they are. -/
theorem pay_rows {a : Vec Ideal S16x3072 .f32} {A : ℕ → ℕ → EReal} (ha : Mat a A) : Mat (k0_pay1 (F := Ideal) a) A := by
  intro i; simp only [k0_pay1, shapeCast_self]; exact ha i

/-- A sum over 3072 entries is the sum over its two halves. -/
theorem sum_slabs (F : ℕ → EReal) (b : EReal) :
    (∑ k : Fin 1536, F k.val) + b + ∑ k : Fin 1536, F (1536 + k.val) = (∑ k : Fin 3072, F k.val) + b := by
  rw [show (∑ k : Fin 3072, F k.val) = (∑ k : Fin 1536, F k.val) + ∑ k : Fin 1536, F (1536 + k.val) from
    (Fin.sum_univ_add (a := 1536) (b := 1536) fun k => F k.val)]
  exact add_right_comm _ _ _

/-! ## Stores over known contents -/

/-- A rectangle as large as the array lies in it. -/
theorem whole_inb (m n : ℕ) (x : Fin 2) : (![0, 0] : Fin 2 → ℕ) x + (![m, n] : Fin 2 → ℕ) x ≤ (⟨2, ![m, n]⟩ : Shape).size x := by
  match x with
  | ⟨0, _⟩ => exact (Nat.zero_add m).le
  | ⟨1, _⟩ => exact (Nat.zero_add n).le

section
variable {Val : EltTy → Type} {e : EltTy} [∀ e, Nonempty (Val e)] {sg : RefSig} {κ : Kind} {sp : Space} {m n : ℕ}
  {mr : Memref sg κ sp ⟨2, ![m, n]⟩ e} (hw : mr.IsWhole) (X : (⟨2, ![m, n]⟩ : Shape).Idx → Val e)

/-- Known contents are one more store, the earliest. -/
theorem read_over (y : (⟨2, ![m, n]⟩ : Shape).Idx) : ∀ L : List (View.Piece Val ⟨2, ![m, n]⟩ e),
    mr.view.read Val (mr.view.writes Val (hw.unread X) L) y = View.canon (L ++ [⟨Rect.unit ![0, 0] ![m, n] (whole_inb m n), X⟩]) y
  | [] => by
    have hy : (Rect.unit (s := ⟨2, ![m, n]⟩) ![0, 0] ![m, n] (whole_inb m n)).emb y = y := by
      funext x
      match x with
      | ⟨0, _⟩ => exact Fin.ext (show 0 + 1 * (y 0).val = (y 0).val by omega)
      | ⟨1, _⟩ => exact Fin.ext (show 0 + 1 * (y 1).val = (y 1).val by omega)
    rw [View.writes_nil, Memref.IsWhole.read_unread, List.nil_append]
    conv_rhs => rw [← hy]
    rw [View.canon_cons_emb]
  | p :: L => by
    by_cases hy : y ∈ p.1.set
    · obtain ⟨r, w⟩ := p
      obtain ⟨x, rfl⟩ : ∃ x, r.emb x = y := r.exists_idx_of_mem hy
      rw [View.read_writes_cons_emb, List.cons_append, View.canon_cons_emb]
    · rw [View.read_writes_cons_miss _ _ _ _ _ hy, List.cons_append, View.canon_cons_of_not_mem _ _ hy]
      exact read_over y L

/-- A load of a rectangle out of what a list of stores left over known contents. -/
theorem load_over {a b p q : ℕ} {L : List (View.Piece Val ⟨2, ![m, n]⟩ e)} {f : ℕ → ℕ → Val e} {P : ℕ → ℕ → Prop}
    (inb : ∀ x, (![a, b] : Fin 2 → ℕ) x + (![p, q] : Fin 2 → ℕ) x ≤ (⟨2, ![m, n]⟩ : Shape).size x)
    (hL : OnMat (L ++ [⟨Rect.unit ![0, 0] ![m, n] (whole_inb m n), X⟩]) f P) (hP : ∀ i j, i < p → j < q → P (a + i) (b + j)) :
    Mat (m := p) (n := q) (View.readAt Val mr.view (Rect.unit ![a, b] ![p, q] inb).toLoadRect (mr.view.writes Val (hw.unread X) L))
      (fun i j => f (a + i) (b + j)) := by
  intro x
  rw [View.readAt_apply, read_over]
  have e0 : (((Rect.unit (s := ⟨2, ![m, n]⟩) ![a, b] ![p, q] inb).toLoadRect.idx x) 0).val = a + (x 0).val := by
    show a + 1 * (x 0).val = _; omega
  have e1 : (((Rect.unit (s := ⟨2, ![m, n]⟩) ![a, b] ![p, q] inb).toLoadRect.idx x) 1).val = b + (x 1).val := by
    show b + 1 * (x 1).val = _; omega
  have := hL ((Rect.unit (s := ⟨2, ![m, n]⟩) ![a, b] ![p, q] inb).toLoadRect.idx x)
  rw [e0, e1] at this
  exact this (hP _ _ (x 0).isLt (x 1).isLt)

end

/-! ## The output block, one time step at a time -/

/-- Every store of the list writes the entries of `G`. -/
def Slabs (G : S8x64x1024.Idx → EReal) (L : List (View.Piece (Elt Ideal) S8x64x1024 .f32)) : Prop :=
  ∀ p ∈ L, ∀ x, p.2 x = G (p.1.emb x)

/-- No store at all. -/
theorem Slabs.nil {G : S8x64x1024.Idx → EReal} : Slabs G [] := fun _ h => absurd h List.not_mem_nil

/-- One more store: time step `k` of the output block holds the eight rows from `8 * k` on. -/
theorem Slabs.cons {r : Vec Ideal S512x1024 .f32} {R : ℕ → ℕ → EReal} (hr : Mat r R) {k : ℕ}
    {inb : ∀ x, (![0, k, 0] : Fin 3 → ℕ) x + S8x1x1024.size x ≤ S8x64x1024.size x} {w : Vec Ideal S8x1x1024 .f32}
    (hw : ∀ (h : S512x1024.Slices ![8 * k, 0] S8x1024) (h' : S8x1024.ShapeCasts S8x1x1024), w = shapeCast S8x1x1024 (extractStridedSlice S8x1024 ![8 * k, 0] r h) h')
    {L : List (View.Piece (Elt Ideal) S8x64x1024 .f32)} (hL : Slabs (fun y => R (8 * (y 1).val + (y 0).val) (y 2).val) L) :
    Slabs (fun y => R (8 * (y 1).val + (y 0).val) (y 2).val) (⟨Rect.unit ![0, k, 0] S8x1x1024.size inb, w⟩ :: L) := by
  intro p hp
  rcases List.mem_cons.mp hp with rfl | hp
  · intro x
    have hk : k < 64 := inb 1
    have h : S512x1024.Slices ![8 * k, 0] S8x1024 := ⟨rfl, fun a => by
      match a with
      | ⟨0, _⟩ => exact (show 8 * k + 8 ≤ 512 by omega)
      | ⟨1, _⟩ => exact (show 0 + 1024 ≤ 1024 by omega)⟩
    obtain rfl := hw h shapeCasts_S8x1024_S8x1x1024
    have e0 : (((Rect.unit (s := S8x64x1024) ![0, k, 0] S8x1x1024.size inb).emb x) 0).val = (x 0).val := by
      show 0 + 1 * (x 0).val = _; omega
    have e1 : (((Rect.unit (s := S8x64x1024) ![0, k, 0] S8x1x1024.size inb).emb x) 1).val = k := by
      have : (x 1).val < 1 := (x 1).isLt
      show k + 1 * (x 1).val = _; omega
    have e2 : (((Rect.unit (s := S8x64x1024) ![0, k, 0] S8x1x1024.size inb).emb x) 2).val = (x 2).val := by
      show 0 + 1 * (x 2).val = _; omega
    have h0 : (x 0).val < 8 := (x 0).isLt
    have h1 : (x 1).val < 1 := (x 1).isLt
    have h2 : (x 2).val < 1024 := (x 2).isLt
    beta_reduce
    rw [e0, e1, e2]
    show shapeCast S8x1x1024 (extractStridedSlice S8x1024 ![8 * k, 0] r h) shapeCasts_S8x1024_S8x1x1024 x = _
    refine (shapeCast_apply _ _ x (ValueIdx.ix2 (⟨(x 0).val, h0⟩ : Fin 8) (⟨(x 2).val, h2⟩ : Fin 1024)) ?_).trans ?_
    · rw [Shape.rowMajor_val_two, Shape.rowMajor_val_three]
      show (x 0).val * 1024 + (x 2).val = ((x 0).val * 1 + (x 1).val) * 1024 + (x 2).val
      omega
    · refine (extractStridedSlice_apply _ r h _ (ValueIdx.ix2 (⟨8 * k + (x 0).val, by omega⟩ : Fin 512) (⟨(x 2).val, h2⟩ : Fin 1024)) ?_).trans (hr _)
      intro a
      match a with
      | ⟨0, _⟩ => rfl
      | ⟨1, _⟩ => exact (Nat.zero_add _).symm
  · exact hL p hp

/-! ## The steps on whole slabs -/

section
variable {X C W CW WD H D : ℕ → ℕ → EReal} {b cb bd g be : ℕ → EReal}

/-- The up projection's slab from column `o` on. -/
theorem up_slab {a : Vec Ideal S512x1024 .bf16} {w : Vec Ideal S1024x1536 .bf16} {v : Vec Ideal S1x1536 .f32} {o : ℕ} (ha : Mat a X)
    (hw : Mat w fun i j => W (0 + i) (o + j)) (hv : Mat v fun _ j => b (o + j)) :
    Mat (k0_pay4 (F := Ideal) a w v) (fun i j => FfnSpec.up X W b i (o + j)) :=
  Mat.congr (pay_up ha hw hv) fun i j _ _ => by simp only [FfnSpec.up, Nat.zero_add]

/-- A row of the up projection is the convolution's input 16 rows on. -/
theorem gate_new (i j : ℕ) : FfnSpec.gate 8 C X W b (16 + i) j = FfnSpec.up X W b i j := by
  simp only [FfnSpec.gate, if_neg (show ¬16 + i < 2 * 8 by omega), show 16 + i - 2 * 8 = i by omega]

/-- The hidden activation's slab from column `o` on. -/
theorem hid_slab {v t0 t1 t2 : Vec Ideal S1x1536 .f32} {g0 g1 g2 u : Vec Ideal S512x1536 .f32} {o : ℕ}
    (hb : Mat v fun _ j => cb (o + j)) (h0 : Mat t0 fun i j => CW (0 + i) (o + j)) (h1 : Mat t1 fun i j => CW (1 + i) (o + j))
    (h2 : Mat t2 fun i j => CW (2 + i) (o + j)) (k0 : Mat g0 fun i j => FfnSpec.gate 8 C X W b (0 + i) (o + j))
    (k1 : Mat g1 fun i j => FfnSpec.gate 8 C X W b (8 + i) (o + j)) (k2 : Mat g2 fun i j => FfnSpec.gate 8 C X W b (16 + i) (o + j))
    (hu : Mat u fun i j => FfnSpec.up X W b (0 + i) (3072 + (o + j))) :
    Mat (k0_pay6 (F := Ideal) v t0 g0 t1 g1 t2 g2 u) (fun i j => FfnSpec.hid 8 C X W b CW cb i (o + j)) :=
  Mat.congr (pay_hid hb h0 h1 h2 k0 k1 k2 hu) fun i j _ _ => by
    simp only [FfnSpec.hid, FfnSpec.conv, Nat.zero_add, Nat.add_zero, Nat.add_comm 8 i, Nat.add_comm 16 i, Nat.reduceMul]

/-- The down projection from its two slabs. -/
theorem down_slab {h1 h2 : Vec Ideal S512x1536 .bf16} {w1 w2 : Vec Ideal S1536x1024 .bf16} {v : Vec Ideal S1x1024 .f32}
    {t : Vec Ideal S512x1024 .f32} (hl : Mat h1 fun i j => H (0 + i) (0 + j)) (hh : Mat h2 fun i j => H (0 + i) (1536 + j))
    (hw1 : Mat w1 fun i j => WD (0 + i) (0 + j)) (hw2 : Mat w2 fun i j => WD (1536 + i) (0 + j)) (hv : Mat v fun _ j => bd (0 + j))
    (ht : ∀ f, Mat (k0_pay8 (F := Ideal) h1 w1 v) f → Mat t fun i j => f (0 + i) (0 + j)) :
    Mat (k0_pay14 (F := Ideal) h2 w2 t) (FfnSpec.down H WD bd) :=
  Mat.congr (pay_down_add hh hw2 (ht _ (pay_down hl hw1 hv))) fun i j _ _ => by
    simp only [FfnSpec.down, Nat.zero_add]
    exact sum_slabs (fun k => H i k * WD k j) (bd j)

/-- The layer norm from the input block and the down projection. -/
theorem norm_all {u v : Vec Ideal S1x1024 .f32} {x d : Vec Ideal S512x1024 .f32} (hu : Mat u fun _ j => g (0 + j))
    (hv : Mat v fun _ j => be (0 + j)) (hx : Mat x fun i j => X (0 + i) (0 + j)) (hd : Mat d D) :
    Mat (k0_pay19 (F := Ideal) (k0_pay15 u) (k0_pay16 v) (k0_pay17 x d) (k0_pay18 x d)) (FfnSpec.norm (FfnSpec.res X D) g be) := by
  have hx' : Mat x X := Mat.congr hx fun i j _ _ => by simp only [Nat.zero_add]
  exact Mat.congr (pay_norm (pay_keep_gain hu) (pay_keep_shift hv) (pay_centred hx' hd) (pay_var hx' hd)) fun i j _ _ => by
    simp only [Nat.zero_add, FfnSpec.norm]

end

/-! ## The first point -/

section
variable {c : Dev nD} {i : grid0.Coords} {arg1 : Memref sig .tc .vmem S512x1024 .f32} {harg1 : arg1.IsWhole}
  {arg2 : Memref sig .tc .vmem S16x3072 .f32} {harg2 : arg2.IsWhole} {arg3 : Memref sig .tc .vmem S1024x6144 .bf16} {harg3 : arg3.IsWhole}
  {arg4 : Memref sig .tc .vmem S1x6144 .f32} {harg4 : arg4.IsWhole} {arg5 : Memref sig .tc .vmem S3x3072 .f32} {harg5 : arg5.IsWhole}
  {arg6 : Memref sig .tc .vmem S1x3072 .f32} {harg6 : arg6.IsWhole} {arg7 : Memref sig .tc .vmem S3072x1024 .bf16} {harg7 : arg7.IsWhole}
  {arg8 : Memref sig .tc .vmem S1x1024 .f32} {harg8 : arg8.IsWhole} {arg9 : Memref sig .tc .vmem S1x1024 .f32} {harg9 : arg9.IsWhole}
  {arg10 : Memref sig .tc .vmem S1x1024 .f32} {harg10 : arg10.IsWhole} {arg11 : Memref sig .tc .vmem S8x64x1024 .f32} {harg11 : arg11.IsWhole}
  {arg12 : Memref sig .tc .vmem S16x3072 .f32} {harg12 : arg12.IsWhole} {arg13 : Memref sig .tc .vmem S512x1024 .bf16} {harg13 : arg13.IsWhole}
  {arg14 : Memref sig .tc .vmem S528x3072 .f32} {harg14 : arg14.IsWhole} {arg15 : Memref sig .tc .vmem S512x3072 .f32} {harg15 : arg15.IsWhole}
  {arg16 : Memref sig .tc .vmem S512x3072 .bf16} {harg16 : arg16.IsWhole} {arg17 : Memref sig .tc .vmem S512x1024 .f32} {harg17 : arg17.IsWhole}
  {x0 : Vec Ideal S512x1024 .f32} {x1 : Vec Ideal S16x3072 .f32} {x2 : Vec Ideal S1024x6144 .bf16} {x3 : Vec Ideal S1x6144 .f32}
  {x4 : Vec Ideal S3x3072 .f32} {x5 : Vec Ideal S1x3072 .f32} {x6 : Vec Ideal S3072x1024 .bf16} {x7 x8 x9 : Vec Ideal S1x1024 .f32}
  {xs1 : Vec Ideal S528x3072 .f32} {X C W CW WD S : ℕ → ℕ → EReal} {b cb bd g be : ℕ → EReal}
/-- The narrowed input block, read back. -/
theorem xb (h0 : Mat x0 X) : Mat (kernelRun0_A.sl.v8 (F := Ideal) c arg1 harg1 arg13 x0) X := by
  refine Mat.congr (OnMat.load (P := fun i j => i < 512 ∧ j < 1024) (f := X) _ (OnMat.fill _ (pay_keep (Mat.load harg1 _ h0)) ?_ ?_) ?_) ?_
  all_goals grind

/-- The value half's first slab. -/
theorem value_low (h0 : Mat x0 X) (h2 : Mat x2 W) (h3 : Mat x3 fun _ j => b j) :
    OnMat (kernelRun0_A.sl.HS2_1 (F := Ideal) c arg1 harg1 arg3 harg3 arg4 harg4 arg13 x0 x2 x3)
      (fun i j => FfnSpec.up X W b i (3072 + j)) (fun i j => i < 512 ∧ j < 1536) := by
  refine OnMat.fill _ (up_slab (xb h0) (Mat.load harg3 _ h2) (Mat.load harg4 _ h3)) ?_ ?_
  · intro i j hi hj h
    simp only [Nat.zero_add]
  · intro i j h; omega

/-- The value half's second slab. -/
theorem value_high (h0 : Mat x0 X) (h2 : Mat x2 W) (h3 : Mat x3 fun _ j => b j) :
    OnMat (kernelRun0_A.sl.HS2_2 (F := Ideal) c arg1 harg1 arg3 harg3 arg4 harg4 arg13 x0 x2 x3)
      (fun i j => FfnSpec.up X W b i (3072 + j)) (fun i j => i < 512 ∧ 1536 ≤ j ∧ j < 3072) := by
  refine OnMat.fill _ (pay_up_high (xb h0) (Mat.load harg3 _ h2) (Mat.load harg4 _ h3)) ?_ ?_
  · intro i j hi hj h
    simp only [FfnSpec.up, Nat.zero_add, ← Nat.add_assoc]
  · intro i j h; omega

/-- The first slab of the convolution's input, under the cached rows. -/
theorem gate_low (h0 : Mat x0 X) (h1 : Mat x1 C) (h2 : Mat x2 W) (h3 : Mat x3 fun _ j => b j) :
    OnMat (kernelRun0_A.sl.HS1_2 (F := Ideal) c arg1 harg1 arg2 harg2 arg3 harg3 arg4 harg4 arg13 x0 x1 x2 x3)
      (FfnSpec.gate 8 C X W b) (fun i j => i < 528 ∧ j < 3072 ∧ (j < 1536 ∨ i < 16)) := by
  refine OnMat.cons (Q := fun i j => i < 16 ∧ j < 3072) _ (OnMat.fill _ (pay_cache (Mat.load harg2 _ h1)) ?_ ?_)
    (up_slab (xb h0) (Mat.load harg3 _ h2) (Mat.load harg4 _ h3)) ?_ ?_
  · intro i j hi hj h
    simp only [FfnSpec.gate, Nat.zero_add, if_pos (show i < 2 * 8 by omega)]
  · intro i j h; omega
  · intro i j hi hj h
    exact (gate_new i (0 + j)).symm
  · intro i j h h'; omega

/-- The whole of the convolution's input. -/
theorem gate_all (h0 : Mat x0 X) (h1 : Mat x1 C) (h2 : Mat x2 W) (h3 : Mat x3 fun _ j => b j) :
    OnMat (kernelRun0_A.sl.HS1_3 (F := Ideal) c arg1 harg1 arg2 harg2 arg3 harg3 arg4 harg4 arg13 x0 x1 x2 x3)
      (FfnSpec.gate 8 C X W b) (fun i j => i < 528 ∧ j < 3072) := by
  refine OnMat.cons _ (gate_low h0 h1 h2 h3) (up_slab (xb h0) (Mat.load harg3 _ h2) (Mat.load harg4 _ h3)) ?_ ?_
  · intro i j hi hj h
    exact (gate_new i (1536 + j)).symm
  · intro i j h h'; omega

/-- The rows the next point reads. -/
theorem next_rows (h0 : Mat x0 X) (h1 : Mat x1 C) (h2 : Mat x2 W) (h3 : Mat x3 fun _ j => b j) :
    Mat (kernelRun0_A.sl.v437 (F := Ideal) c arg1 harg1 arg2 harg2 arg3 harg3 arg4 harg4 arg13 arg14 x0 x1 x2 x3)
      (fun i j => FfnSpec.gate 8 C X W b (512 + i) (0 + j)) :=
  OnMat.load _ (gate_all h0 h1 h2 h3) fun i j _ _ => by omega

/-- The hidden activation's first slab. -/
theorem hid_low (h0 : Mat x0 X) (h1 : Mat x1 C) (h2 : Mat x2 W) (h3 : Mat x3 fun _ j => b j) (h4 : Mat x4 CW)
    (h5 : Mat x5 fun _ j => cb j) :
    OnMat (kernelRun0_A.sl.HS3_1 (F := Ideal) c arg1 harg1 arg2 harg2 arg3 harg3 arg4 harg4 arg5 harg5 arg6 harg6
      arg13 arg14 arg15 x0 x1 x2 x3 x4 x5) (FfnSpec.hid 8 C X W b CW cb) (fun i j => i < 512 ∧ j < 1536) := by
  have hg := gate_low (c := c) (harg1 := harg1) (harg2 := harg2) (harg3 := harg3) (harg4 := harg4) (arg13 := arg13) h0 h1 h2 h3
  refine OnMat.fill _ (pay_keep_hid (hid_slab (Mat.load harg6 _ h5) (Mat.load harg5 _ h4) (Mat.load harg5 _ h4) (Mat.load harg5 _ h4)
    (OnMat.load _ hg ?_) (OnMat.load _ hg ?_) (OnMat.load _ hg ?_) (OnMat.load _ (value_low h0 h2 h3) ?_))) ?_ ?_
  any_goals (intro i j; omega)
  · intro i j hi hj h
    simp only [Nat.zero_add]

/-- The hidden activation's second slab. -/
theorem hid_high (h0 : Mat x0 X) (h1 : Mat x1 C) (h2 : Mat x2 W) (h3 : Mat x3 fun _ j => b j) (h4 : Mat x4 CW)
    (h5 : Mat x5 fun _ j => cb j) :
    OnMat (kernelRun0_A.sl.HS3_2 (F := Ideal) c arg1 harg1 arg2 harg2 arg3 harg3 arg4 harg4 arg5 harg5 arg6 harg6
      arg13 arg14 arg15 x0 x1 x2 x3 x4 x5) (FfnSpec.hid 8 C X W b CW cb) (fun i j => i < 512 ∧ 1536 ≤ j ∧ j < 3072) := by
  have hg := gate_all (c := c) (harg1 := harg1) (harg2 := harg2) (harg3 := harg3) (harg4 := harg4) (arg13 := arg13) h0 h1 h2 h3
  unfold kernelRun0_A.sl.HS3_2 kernelRun0_A.sl.r_2
  rw [pay_hid_eq]
  refine OnMat.fill _ (hid_slab (Mat.load harg6 _ h5) (Mat.load harg5 _ h4) (Mat.load harg5 _ h4) (Mat.load harg5 _ h4)
    (OnMat.load _ hg ?_) (OnMat.load _ hg ?_) (OnMat.load _ hg ?_) (OnMat.load _ (value_high h0 h2 h3) ?_)) ?_ ?_
  any_goals (intro i j; omega)
  · intro i j hi hj h
    simp only [Nat.zero_add]

/-- The normed rows. -/
theorem norm_first (h0 : Mat x0 X) (h1 : Mat x1 C) (h2 : Mat x2 W) (h3 : Mat x3 fun _ j => b j) (h4 : Mat x4 CW)
    (h5 : Mat x5 fun _ j => cb j) (h6 : Mat x6 WD) (h7 : Mat x7 fun _ j => bd j) (h8 : Mat x8 fun _ j => g j) (h9 : Mat x9 fun _ j => be j) :
    Mat (kernelRun0_A.sl.r_7 (F := Ideal) c arg1 harg1 arg2 harg2 arg3 harg3 arg4 harg4 arg5 harg5 arg6 harg6
      arg7 harg7 arg8 harg8 arg9 harg9 arg10 harg10 arg13 arg14 arg15 arg16 arg17 x0 x1 x2 x3 x4 x5 x6 x7 x8 x9)
      (FfnSpec.out 8 X C W b CW cb WD bd g be) := by
  refine norm_all (Mat.load harg9 _ h8) (Mat.load harg10 _ h9) (Mat.load harg1 _ h0) (Mat.congr (OnMat.load
    (P := fun i j => i < 512 ∧ j < 1024) (f := FfnSpec.down (FfnSpec.hid 8 C X W b CW cb) WD bd) _
    (OnMat.fill _ (down_slab (OnMat.load _ (hid_low h0 h1 h2 h3 h4 h5) ?_) (OnMat.load _ (hid_high h0 h1 h2 h3 h4 h5) ?_)
      (Mat.load harg7 _ h6) (Mat.load harg7 _ h6) (Mat.load harg8 _ h7) fun f hf => OnMat.load (P := fun i j => i < 512 ∧ j < 1024) _
        (OnMat.fill _ hf (fun i j _ _ _ => by simp only [Nat.zero_add]) ?_) ?_) ?_ ?_) ?_) ?_)
  any_goals (intro i j; omega)
  all_goals (intros; simp only [Nat.zero_add])

/-- What the body leaves in the first result's block. -/
theorem out_first {hc0 : cond0_0 i} (h0 : Mat x0 X) (h1 : Mat x1 C) (h2 : Mat x2 W) (h3 : Mat x3 fun _ j => b j) (h4 : Mat x4 CW)
    (h5 : Mat x5 fun _ j => cb j) (h6 : Mat x6 WD) (h7 : Mat x7 fun _ j => bd j) (h8 : Mat x8 fun _ j => g j) (h9 : Mat x9 fun _ j => be j)
    (y : S8x64x1024.Idx) :
    out0_A_10 (F := Ideal) c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 hc0 x0 x1 x2 x3 x4 x5 x6 x7 x8 x9 y
      = FfnSpec.out 8 X C W b CW cb WD bd g be (8 * (y 1).val + (y 0).val) (y 2).val := by
  unfold out0_A_10
  rw [View.read_writes_junk_eq_canon]
  refine View.canon_apply_of_pieces (fun y : S8x64x1024.Idx => FfnSpec.out 8 X C W b CW cb WD bd g be (8 * (y 1).val + (y 0).val) (y 2).val) _
    (show Slabs _ _ from ?_) y (cover0_A_10 c i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17 hc0
      x0 x1 x2 x3 x4 x5 x6 x7 x8 x9 y)
  have hr := norm_first (c := c) (harg1 := harg1) (harg2 := harg2) (harg3 := harg3) (harg4 := harg4) (harg5 := harg5) (harg6 := harg6)
    (harg7 := harg7) (harg8 := harg8) (harg9 := harg9) (harg10 := harg10) (arg13 := arg13) (arg14 := arg14) (arg15 := arg15)
    (arg16 := arg16) (arg17 := arg17) h0 h1 h2 h3 h4 h5 h6 h7 h8 h9
  unfold kernelRun0_A
  dsimp only
  iterate 64 refine Slabs.cons hr (fun _ _ => by rfl) ?_
  exact Slabs.nil

/-- What the body leaves in the second result's block. -/
theorem cache_first {hc0 : cond0_0 i} (h0 : Mat x0 X) (h1 : Mat x1 C) (h2 : Mat x2 W) (h3 : Mat x3 fun _ j => b j) :
    Mat (out0_A_11 (F := Ideal) c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 hc0 x0 x1 x2 x3 x4 x5 x6 x7 x8 x9)
      (fun i j => FfnSpec.gate 8 C X W b (512 + i) j) := by
  unfold out0_A_11 kernelRun0_A
  rw [View.read_writes_junk_eq_canon]
  dsimp only
  refine fun y => OnMat.fill (P := fun i j => i < 16 ∧ j < 3072) (f := fun i j => FfnSpec.gate 8 C X W b (512 + i) j) _
    (next_rows h0 h1 h2 h3) ?_ ?_ y ⟨(y 0).isLt, (y 1).isLt⟩
  · intro i j hi hj h
    simp only [Nat.zero_add]
  · intro i j h; omega

/-- What the body leaves in the first 16 rows of the scratch buffer. -/
theorem carry_first {hc0 : cond0_0 i} (h0 : Mat x0 X) (h1 : Mat x1 C) (h2 : Mat x2 W) (h3 : Mat x3 fun _ j => b j) (y : S528x3072.Idx)
    (hy : (y 0).val < 16) :
    sout0_A_1 (F := Ideal) c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 hc0 x0 x1 x2 x3 x4 x5 x6 x7 x8 x9 y
      = FfnSpec.gate 8 C X W b (512 + (y 0).val) (y 1).val := by
  unfold sout0_A_1 kernelRun0_A
  rw [View.read_writes_junk_eq_canon]
  dsimp only
  refine OnMat.fill (P := fun i j => i < 16 ∧ j < 3072) (f := fun i j => FfnSpec.gate 8 C X W b (512 + i) j) _
    (pay_rows (next_rows h0 h1 h2 h3)) ?_ ?_ y ⟨hy, (y 1).isLt⟩
  · intro i j hi hj h
    simp only [Nat.zero_add]
  · intro i j h; omega

end

/-! ## A later point -/

section
variable {c : Dev nD} {i : grid0.Coords} {arg1 : Memref sig .tc .vmem S512x1024 .f32} {harg1 : arg1.IsWhole}
  {arg2 : Memref sig .tc .vmem S16x3072 .f32} {harg2 : arg2.IsWhole} {arg3 : Memref sig .tc .vmem S1024x6144 .bf16} {harg3 : arg3.IsWhole}
  {arg4 : Memref sig .tc .vmem S1x6144 .f32} {harg4 : arg4.IsWhole} {arg5 : Memref sig .tc .vmem S3x3072 .f32} {harg5 : arg5.IsWhole}
  {arg6 : Memref sig .tc .vmem S1x3072 .f32} {harg6 : arg6.IsWhole} {arg7 : Memref sig .tc .vmem S3072x1024 .bf16} {harg7 : arg7.IsWhole}
  {arg8 : Memref sig .tc .vmem S1x1024 .f32} {harg8 : arg8.IsWhole} {arg9 : Memref sig .tc .vmem S1x1024 .f32} {harg9 : arg9.IsWhole}
  {arg10 : Memref sig .tc .vmem S1x1024 .f32} {harg10 : arg10.IsWhole} {arg11 : Memref sig .tc .vmem S8x64x1024 .f32} {harg11 : arg11.IsWhole}
  {arg12 : Memref sig .tc .vmem S16x3072 .f32} {harg12 : arg12.IsWhole} {arg13 : Memref sig .tc .vmem S512x1024 .bf16} {harg13 : arg13.IsWhole}
  {arg14 : Memref sig .tc .vmem S528x3072 .f32} {harg14 : arg14.IsWhole} {arg15 : Memref sig .tc .vmem S512x3072 .f32} {harg15 : arg15.IsWhole}
  {arg16 : Memref sig .tc .vmem S512x3072 .bf16} {harg16 : arg16.IsWhole} {arg17 : Memref sig .tc .vmem S512x1024 .f32} {harg17 : arg17.IsWhole}
  {x0 : Vec Ideal S512x1024 .f32} {x1 : Vec Ideal S16x3072 .f32} {x2 : Vec Ideal S1024x6144 .bf16} {x3 : Vec Ideal S1x6144 .f32}
  {x4 : Vec Ideal S3x3072 .f32} {x5 : Vec Ideal S1x3072 .f32} {x6 : Vec Ideal S3072x1024 .bf16} {x7 x8 x9 : Vec Ideal S1x1024 .f32}
  {xs1 : Vec Ideal S528x3072 .f32} {X C W CW WD S : ℕ → ℕ → EReal} {b cb bd g be : ℕ → EReal}
/-- The convolution's input in the rows stored at this point, first slab. -/
theorem gate_low_new (h0 : Mat x0 X) (h2 : Mat x2 W) (h3 : Mat x3 fun _ j => b j) :
    OnMat (kernelRun0_B.sl.HS1_1 (F := Ideal) c arg1 harg1 arg3 harg3 arg4 harg4 arg13 x0 x2 x3)
      (FfnSpec.gate 8 C X W b) (fun i j => 16 ≤ i ∧ i < 528 ∧ j < 1536) := by
  refine OnMat.fill _ (up_slab (xb h0) (Mat.load harg3 _ h2) (Mat.load harg4 _ h3)) ?_ ?_
  · intro i j hi hj h
    exact (gate_new i (0 + j)).symm
  · intro i j h; omega

/-- The same in both slabs. -/
theorem gate_all_new (h0 : Mat x0 X) (h2 : Mat x2 W) (h3 : Mat x3 fun _ j => b j) :
    OnMat (kernelRun0_B.sl.HS1_2 (F := Ideal) c arg1 harg1 arg3 harg3 arg4 harg4 arg13 x0 x2 x3)
      (FfnSpec.gate 8 C X W b) (fun i j => 16 ≤ i ∧ i < 528 ∧ j < 3072) := by
  refine OnMat.cons _ (gate_low_new h0 h2 h3) (up_slab (xb h0) (Mat.load harg3 _ h2) (Mat.load harg4 _ h3)) ?_ ?_
  · intro i j hi hj h
    exact (gate_new i (1536 + j)).symm
  · intro i j h h'; omega

/-- The first slab over the rows the point before left. -/
theorem gate_low_over (h0 : Mat x0 X) (hs : Mat xs1 S) (hS : ∀ i j, i < 16 → j < 3072 → S i j = C i j) (h2 : Mat x2 W)
    (h3 : Mat x3 fun _ j => b j) :
    OnMat (kernelRun0_B.sl.HS1_1 (F := Ideal) c arg1 harg1 arg3 harg3 arg4 harg4 arg13 x0 x2 x3
        ++ [⟨Rect.unit ![0, 0] ![528, 3072] (whole_inb 528 3072), xs1⟩])
      (FfnSpec.gate 8 C X W b) (fun i j => i < 528 ∧ j < 3072 ∧ (j < 1536 ∨ i < 16)) := by
  refine OnMat.cons (Q := fun i j => i < 16 ∧ j < 3072) _ (OnMat.fill _ hs ?_ ?_)
    (up_slab (xb h0) (Mat.load harg3 _ h2) (Mat.load harg4 _ h3)) ?_ ?_
  · intro i j hi hj h
    simp only [FfnSpec.gate, Nat.zero_add] at h ⊢
    rw [if_pos (show i < 2 * 8 by omega), hS i j h.1 h.2]
  · intro i j h; omega
  · intro i j hi hj h
    exact (gate_new i (0 + j)).symm
  · intro i j h h'; omega

/-- Both slabs over the rows the point before left. -/
theorem gate_all_over (h0 : Mat x0 X) (hs : Mat xs1 S) (hS : ∀ i j, i < 16 → j < 3072 → S i j = C i j) (h2 : Mat x2 W)
    (h3 : Mat x3 fun _ j => b j) :
    OnMat (kernelRun0_B.sl.HS1_2 (F := Ideal) c arg1 harg1 arg3 harg3 arg4 harg4 arg13 x0 x2 x3
        ++ [⟨Rect.unit ![0, 0] ![528, 3072] (whole_inb 528 3072), xs1⟩])
      (FfnSpec.gate 8 C X W b) (fun i j => i < 528 ∧ j < 3072) := by
  refine OnMat.cons _ (gate_low_over (c := c) (harg1 := harg1) (harg3 := harg3) (harg4 := harg4) (arg13 := arg13) h0 hs hS h2 h3)
    (up_slab (xb h0) (Mat.load harg3 _ h2) (Mat.load harg4 _ h3)) ?_ ?_
  · intro i j hi hj h
    exact (gate_new i (1536 + j)).symm
  · intro i j h h'; omega

/-- The rows the next point reads. -/
theorem next_rows_later (h0 : Mat x0 X) (h2 : Mat x2 W) (h3 : Mat x3 fun _ j => b j) :
    Mat (kernelRun0_B.sl.v437 (F := Ideal) c arg1 harg1 arg3 harg3 arg4 harg4 arg13 arg14 x0 x2 x3)
      (fun i j => FfnSpec.gate 8 C X W b (512 + i) (0 + j)) :=
  OnMat.load _ (gate_all_new h0 h2 h3) fun i j _ _ => by omega

/-- The hidden activation's first slab. -/
theorem hid_low_later (h0 : Mat x0 X) (hs : Mat xs1 S) (hS : ∀ i j, i < 16 → j < 3072 → S i j = C i j) (h2 : Mat x2 W)
    (h3 : Mat x3 fun _ j => b j) (h4 : Mat x4 CW) (h5 : Mat x5 fun _ j => cb j) :
    OnMat (kernelRun0_B.sl.HS3_1 (F := Ideal) c arg1 harg1 arg3 harg3 arg4 harg4 arg5 harg5 arg6 harg6
      arg13 arg14 harg14 arg15 x0 x2 x3 x4 x5 xs1) (FfnSpec.hid 8 C X W b CW cb) (fun i j => i < 512 ∧ j < 1536) := by
  have hg := gate_low_over (c := c) (harg1 := harg1) (harg3 := harg3) (harg4 := harg4) (arg13 := arg13) h0 hs hS h2 h3
  refine OnMat.fill _ (pay_keep_hid (hid_slab (Mat.load harg6 _ h5) (Mat.load harg5 _ h4) (Mat.load harg5 _ h4) (Mat.load harg5 _ h4)
    (load_over harg14 _ _ hg ?_) (load_over harg14 _ _ hg ?_) (OnMat.load _ (gate_low_new h0 h2 h3) ?_)
    (OnMat.load _ (value_low h0 h2 h3) ?_))) ?_ ?_
  any_goals (intro i j; omega)
  · intro i j hi hj h
    simp only [Nat.zero_add]

/-- The hidden activation's second slab. -/
theorem hid_high_later (h0 : Mat x0 X) (hs : Mat xs1 S) (hS : ∀ i j, i < 16 → j < 3072 → S i j = C i j) (h2 : Mat x2 W)
    (h3 : Mat x3 fun _ j => b j) (h4 : Mat x4 CW) (h5 : Mat x5 fun _ j => cb j) :
    OnMat (kernelRun0_B.sl.HS3_2 (F := Ideal) c arg1 harg1 arg3 harg3 arg4 harg4 arg5 harg5 arg6 harg6
      arg13 arg14 harg14 arg15 x0 x2 x3 x4 x5 xs1) (FfnSpec.hid 8 C X W b CW cb) (fun i j => i < 512 ∧ 1536 ≤ j ∧ j < 3072) := by
  have hg := gate_all_over (c := c) (harg1 := harg1) (harg3 := harg3) (harg4 := harg4) (arg13 := arg13) h0 hs hS h2 h3
  unfold kernelRun0_B.sl.HS3_2 kernelRun0_B.sl.r_2
  rw [pay_hid_eq]
  refine OnMat.fill _ (hid_slab (Mat.load harg6 _ h5) (Mat.load harg5 _ h4) (Mat.load harg5 _ h4) (Mat.load harg5 _ h4)
    (load_over harg14 _ _ hg ?_) (load_over harg14 _ _ hg ?_) (OnMat.load _ (gate_all_new h0 h2 h3) ?_)
    (OnMat.load _ (value_high h0 h2 h3) ?_)) ?_ ?_
  any_goals (intro i j; omega)
  · intro i j hi hj h
    simp only [Nat.zero_add]

/-- The normed rows. -/
theorem norm_later (h0 : Mat x0 X) (hs : Mat xs1 S) (hS : ∀ i j, i < 16 → j < 3072 → S i j = C i j) (h2 : Mat x2 W)
    (h3 : Mat x3 fun _ j => b j) (h4 : Mat x4 CW) (h5 : Mat x5 fun _ j => cb j) (h6 : Mat x6 WD) (h7 : Mat x7 fun _ j => bd j)
    (h8 : Mat x8 fun _ j => g j) (h9 : Mat x9 fun _ j => be j) :
    Mat (kernelRun0_B.sl.r_7 (F := Ideal) c arg1 harg1 arg3 harg3 arg4 harg4 arg5 harg5 arg6 harg6
      arg7 harg7 arg8 harg8 arg9 harg9 arg10 harg10 arg13 arg14 harg14 arg15 arg16 arg17 x0 x2 x3 x4 x5 x6 x7 x8 x9 xs1)
      (FfnSpec.out 8 X C W b CW cb WD bd g be) := by
  refine norm_all (Mat.load harg9 _ h8) (Mat.load harg10 _ h9) (Mat.load harg1 _ h0) (Mat.congr (OnMat.load
    (P := fun i j => i < 512 ∧ j < 1024) (f := FfnSpec.down (FfnSpec.hid 8 C X W b CW cb) WD bd) _
    (OnMat.fill _ (down_slab (OnMat.load _ (hid_low_later h0 hs hS h2 h3 h4 h5) ?_) (OnMat.load _ (hid_high_later h0 hs hS h2 h3 h4 h5) ?_)
      (Mat.load harg7 _ h6) (Mat.load harg7 _ h6) (Mat.load harg8 _ h7) fun f hf => OnMat.load (P := fun i j => i < 512 ∧ j < 1024) _
        (OnMat.fill _ hf (fun i j _ _ _ => by simp only [Nat.zero_add]) ?_) ?_) ?_ ?_) ?_) ?_)
  any_goals (intro i j; omega)
  all_goals (intros; simp only [Nat.zero_add])

/-- What the body leaves in the first result's block. -/
theorem out_later {hc0 : ¬cond0_0 i} (h0 : Mat x0 X) (hs : Mat xs1 S) (hS : ∀ i j, i < 16 → j < 3072 → S i j = C i j) (h2 : Mat x2 W)
    (h3 : Mat x3 fun _ j => b j) (h4 : Mat x4 CW) (h5 : Mat x5 fun _ j => cb j) (h6 : Mat x6 WD) (h7 : Mat x7 fun _ j => bd j)
    (h8 : Mat x8 fun _ j => g j) (h9 : Mat x9 fun _ j => be j) (y : S8x64x1024.Idx) :
    out0_B_10 (F := Ideal) c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 hc0 x0 x1 x2 x3 x4 x5 x6 x7 x8 x9
      xs1 y = FfnSpec.out 8 X C W b CW cb WD bd g be (8 * (y 1).val + (y 0).val) (y 2).val := by
  unfold out0_B_10
  rw [View.read_writes_junk_eq_canon]
  refine View.canon_apply_of_pieces (fun y : S8x64x1024.Idx => FfnSpec.out 8 X C W b CW cb WD bd g be (8 * (y 1).val + (y 0).val) (y 2).val) _
    (show Slabs _ _ from ?_) y (cover0_B_10 c i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17 hc0
      x0 x1 x2 x3 x4 x5 x6 x7 x8 x9 xs1 y)
  have hr := norm_later (c := c) (harg1 := harg1) (harg3 := harg3) (harg4 := harg4) (harg5 := harg5) (harg6 := harg6)
    (harg7 := harg7) (harg8 := harg8) (harg9 := harg9) (harg10 := harg10) (arg13 := arg13) (harg14 := harg14) (arg15 := arg15)
    (arg16 := arg16) (arg17 := arg17) h0 hs hS h2 h3 h4 h5 h6 h7 h8 h9
  unfold kernelRun0_B
  dsimp only
  iterate 64 refine Slabs.cons hr (fun _ _ => by rfl) ?_
  exact Slabs.nil

/-- What the body leaves in the second result's block. -/
theorem cache_later {hc0 : ¬cond0_0 i} (h0 : Mat x0 X) (h2 : Mat x2 W) (h3 : Mat x3 fun _ j => b j) :
    Mat (out0_B_11 (F := Ideal) c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 hc0 x0 x1 x2 x3 x4 x5 x6 x7 x8 x9
      xs1) (fun i j => FfnSpec.gate 8 C X W b (512 + i) j) := by
  unfold out0_B_11 kernelRun0_B
  rw [View.read_writes_junk_eq_canon]
  dsimp only
  refine fun y => OnMat.fill (P := fun i j => i < 16 ∧ j < 3072) (f := fun i j => FfnSpec.gate 8 C X W b (512 + i) j) _
    (next_rows_later (C := C) h0 h2 h3) ?_ ?_ y ⟨(y 0).isLt, (y 1).isLt⟩
  · intro i j hi hj h
    simp only [Nat.zero_add]
  · intro i j h; omega

/-- What the body leaves in the first 16 rows of the scratch buffer. -/
theorem carry_later {hc0 : ¬cond0_0 i} (h0 : Mat x0 X) (h2 : Mat x2 W) (h3 : Mat x3 fun _ j => b j) (y : S528x3072.Idx)
    (hy : (y 0).val < 16) :
    sout0_B_1 (F := Ideal) c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 hc0 x0 x1 x2 x3 x4 x5 x6 x7 x8 x9
      xs1 y = FfnSpec.gate 8 C X W b (512 + (y 0).val) (y 1).val := by
  unfold sout0_B_1 kernelRun0_B
  rw [View.read_writes_junk_eq_canon]
  dsimp only
  refine OnMat.fill (P := fun i j => i < 16 ∧ j < 3072) (f := fun i j => FfnSpec.gate 8 C X W b (512 + i) j) _
    (pay_rows (next_rows_later (C := C) h0 h2 h3)) ?_ ?_ y ⟨hy, (y 1).isLt⟩
  · intro i j hi hj h
    simp only [Nat.zero_add]
  · intro i j h; omega

end

end Cert.PromptKernel
-- ==== Proof.PromptReference.lean ====
/- What the reference of the prompt's feed-forward block computes, one entry at a time, in terms of the plain functions of FfnSpec: the entry
   of stream `s` at time `t` is the row `8 * t + s` of those functions. -/
module

public import proofs.«01_k».proof.Proof.Gen.PromptReferenceIdeal.Read
public import proofs.«01_k».proof.Proof.Mat
public import proofs.«01_k».proof.Proof.FfnSpec

@[expose] public section

noncomputable section

namespace Cert.PromptReference

open Cert.PromptReferenceIdeal Cert.PromptReferenceIdeal.Gen Cert.PromptReferenceIdeal.Read Cert.Mat Idealize.ShloMosaic
open ValueIdx (mulf_apply addf_apply subf_apply divf_apply constant_apply truncf_apply broadcast_apply)

variable {x0 : (⟨S16384x1024, .f32⟩ : BufTy).Contents (Elt Ideal)} {x1 : (⟨S16x3072, .f32⟩ : BufTy).Contents (Elt Ideal)}
  {x2 : (⟨S1x1024x6144, .f32⟩ : BufTy).Contents (Elt Ideal)} {x3 : (⟨S1x6144, .f32⟩ : BufTy).Contents (Elt Ideal)}
  {x4 : (⟨S1x3x3072, .f32⟩ : BufTy).Contents (Elt Ideal)} {x5 : (⟨S1x3072, .f32⟩ : BufTy).Contents (Elt Ideal)}
  {x6 : (⟨S1x3072x1024, .f32⟩ : BufTy).Contents (Elt Ideal)} {x7 x8 x9 : (⟨S1x1024, .f32⟩ : BufTy).Contents (Elt Ideal)}
  {X C W CW WD : ℕ → ℕ → EReal} {b cb bd g be : ℕ → EReal}
  (h0 : ∀ i, x0 i = X (i 0).val (i 1).val) (h1 : ∀ i, x1 i = C (i 0).val (i 1).val)
  (h2 : ∀ i, x2 i = W (i 1).val (i 2).val) (h3 : ∀ i, x3 i = b (i 1).val) (h4 : ∀ i, x4 i = CW (i 1).val (i 2).val)
  (h5 : ∀ i, x5 i = cb (i 1).val) (h6 : ∀ i, x6 i = WD (i 1).val (i 2).val) (h7 : ∀ i, x7 i = bd (i 1).val)
  (h8 : ∀ i, x8 i = g (i 1).val) (h9 : ∀ i, x9 i = be (i 1).val)

include h0 in
/-- The input: the rows are sorted by time, then by stream. -/
theorem input (i : S8x2048x1024.Idx) : val_main_v1 (F := Ideal) x0 i = X (8 * (i 1).val + (i 0).val) (i 2).val := by
  have e0 : (i 0).val < 8 := (i 0).isLt; have e1 : (i 1).val < 2048 := (i 1).isLt; have e2 : (i 2).val < 1024 := (i 2).isLt
  rw [val_main_v1_apply, val_main_v0_apply, h0]
  exact congrArg₂ X (show (((i 1).val * 8 + (i 0).val) * 1024 + (i 2).val) / 1024 = _ by omega)
    (show (((i 1).val * 8 + (i 0).val) * 1024 + (i 2).val) % 1024 = _ by omega)

include h1 in
/-- The cached steps. -/
theorem cached (i : S8x2x3072.Idx) : val_main_v3 (F := Ideal) x1 i = C (8 * (i 1).val + (i 0).val) (i 2).val := by
  have e0 : (i 0).val < 8 := (i 0).isLt; have e1 : (i 1).val < 2 := (i 1).isLt; have e2 : (i 2).val < 3072 := (i 2).isLt
  rw [val_main_v3_apply, val_main_v2_apply, h1]
  exact congrArg₂ C (show (((i 1).val * 8 + (i 0).val) * 3072 + (i 2).val) / 3072 = _ by omega)
    (show (((i 1).val * 8 + (i 0).val) * 3072 + (i 2).val) % 3072 = _ by omega)

include h2 in
/-- The up projection's weight. -/
theorem up_weight (i : S1024x6144.Idx) : val_main_v4 (F := Ideal) x2 i = W (i 0).val (i 1).val := by
  have e0 : (i 0).val < 1024 := (i 0).isLt; have e1 : (i 1).val < 6144 := (i 1).isLt
  rw [val_main_v4_apply, h2]
  exact congrArg₂ W (show ((i 0).val * 6144 + (i 1).val) / 6144 % 1024 = _ by omega)
    (show ((i 0).val * 6144 + (i 1).val) % 6144 = _ by omega)

include h0 h2 h3 in
/-- The up projection with its bias. -/
theorem up_eq (i : S8x2048x6144.Idx) :
    val_main_v9 (F := Ideal) x0 x2 x3 i = FfnSpec.up X W b (8 * (i 1).val + (i 0).val) (i 2).val := by
  have e2 : (i 2).val < 6144 := (i 2).isLt
  rw [val_main_v9_apply, val_main_v5_apply]
  refine congrArg₂ (· + ·) (Finset.sum_congr rfl fun k _ => ?_) ?_
  · rw [input h0, up_weight h2]
  · rw [val_main_v8_apply, val_main_v7_apply, val_main_v6_apply, h3]
    exact congrArg b (Nat.mod_eq_of_lt e2)

include h0 h1 h2 h3 in
/-- The convolution's input: two cached steps, then the gate half. -/
theorem window_eq (i : S8x2050x3072.Idx) :
    val_main_v14 (F := Ideal) x0 x1 x2 x3 i = FfnSpec.gate 8 C X W b (8 * (i 1).val + (i 0).val) (i 2).val := by
  have e0 : (i 0).val < 8 := (i 0).isLt; have e1 : (i 1).val < 2050 := (i 1).isLt; have e2 : (i 2).val < 3072 := (i 2).isLt
  unfold val_main_v14 FfnSpec.gate
  by_cases hi : (i 1).val < 2
  · rw [if_pos (by omega)]
    refine (concatenate_pair_apply_left (s₁ := S8x2x3072) (s₂ := S8x2048x3072) 1 _ _ _ i rfl
      (fun a => match a with | ⟨0, _⟩ => ⟨(i 0).val, e0⟩ | ⟨1, _⟩ => ⟨(i 1).val, hi⟩ | ⟨2, _⟩ => ⟨(i 2).val, e2⟩)
      (fun a => match a with | ⟨0, _⟩ => rfl | ⟨1, _⟩ => rfl | ⟨2, _⟩ => rfl)).trans ?_
    rw [cached h1]
  · rw [if_neg (by omega)]
    refine (concatenate_pair_apply_right (s₁ := S8x2x3072) (s₂ := S8x2048x3072) 1 _ _ _ i rfl rfl
      (fun a => match a with
        | ⟨0, _⟩ => ⟨(i 0).val, e0⟩ | ⟨1, _⟩ => ⟨(i 1).val - 2, by show _ < 2048; omega⟩ | ⟨2, _⟩ => ⟨(i 2).val, e2⟩)
      (fun a => match a with | ⟨0, _⟩ => fun _ => rfl | ⟨1, _⟩ => fun h => absurd rfl h | ⟨2, _⟩ => fun _ => rfl)
      (show (i 1).val - 2 + 2 = (i 1).val by omega)).trans ?_
    rw [val_main_v10_apply, up_eq h0 h2 h3]
    exact congrArg₂ (FfnSpec.up X W b) (show 8 * ((i 1).val - 2) + (i 0).val = _ by omega) rfl

include h4 in
/-- The taps. -/
theorem taps (i : S3x3072.Idx) : val_main_v12 (F := Ideal) x4 i = CW (i 0).val (i 1).val := by
  have e0 : (i 0).val < 3 := (i 0).isLt; have e1 : (i 1).val < 3072 := (i 1).isLt
  rw [val_main_v12_apply, h4]
  exact congrArg₂ CW (show ((i 0).val * 3072 + (i 1).val) / 3072 % 3 = _ by omega) (show ((i 0).val * 3072 + (i 1).val) % 3072 = _ by omega)

include h0 h1 h2 h3 h4 h5 in
/-- The convolution. -/
theorem conv_eq (i : S8x2048x3072.Idx) : val_main_v39 (F := Ideal) x0 x1 x2 x3 x4 x5 i
    = FfnSpec.conv 8 (FfnSpec.gate 8 C X W b) CW cb (8 * (i 1).val + (i 0).val) (i 2).val := by
  have e0 : (i 0).val < 8 := (i 0).isLt; have e1 : (i 1).val < 2048 := (i 1).isLt; have e2 : (i 2).val < 3072 := (i 2).isLt
  have k0 : val_main_v20 (F := Ideal) x0 x1 x2 x3 x4 i
      = CW 0 (i 2).val * FfnSpec.gate 8 C X W b (8 * (i 1).val + (i 0).val) (i 2).val := by
    rw [val_main_v20_apply, val_main_v15_apply, window_eq h0 h1 h2 h3, val_main_v19_apply, val_main_v18_apply, val_main_v17_apply,
      val_main_v16_apply, taps h4]
    exact (mul_comm _ _).trans (congrArg₂ (· * ·) (congrArg (CW 0) (Nat.mod_eq_of_lt e2)) rfl)
  have k1 : val_main_v28 (F := Ideal) x0 x1 x2 x3 x4 i
      = CW 1 (i 2).val * FfnSpec.gate 8 C X W b (8 * (i 1).val + (i 0).val + 8) (i 2).val := by
    rw [val_main_v28_apply, val_main_v23_apply, window_eq h0 h1 h2 h3, val_main_v27_apply, val_main_v26_apply, val_main_v25_apply,
      val_main_v24_apply, taps h4]
    exact (mul_comm _ _).trans (congrArg₂ (· * ·) (congrArg (CW 1) (Nat.mod_eq_of_lt e2))
      (congrArg₂ (FfnSpec.gate 8 C X W b) (show 8 * (1 + (i 1).val) + (i 0).val = _ by omega) rfl))
  have k2 : val_main_v35 (F := Ideal) x0 x1 x2 x3 x4 i
      = CW 2 (i 2).val * FfnSpec.gate 8 C X W b (8 * (i 1).val + (i 0).val + 2 * 8) (i 2).val := by
    rw [val_main_v35_apply, val_main_v30_apply, window_eq h0 h1 h2 h3, val_main_v34_apply, val_main_v33_apply, val_main_v32_apply,
      val_main_v31_apply, taps h4]
    exact (mul_comm _ _).trans (congrArg₂ (· * ·) (congrArg (CW 2) (Nat.mod_eq_of_lt e2))
      (congrArg₂ (FfnSpec.gate 8 C X W b) (show 8 * (2 + (i 1).val) + (i 0).val = _ by omega) rfl))
  have kb : val_main_v38 (F := Ideal) x5 i = cb (i 2).val := by
    rw [val_main_v38_apply, val_main_v37_apply, val_main_v13_apply, h5]
    exact congrArg cb (Nat.mod_eq_of_lt e2)
  have kz : val_main_v21 (F := Ideal) i = 0 := by
    rw [val_main_v21_apply, val_main_cst_apply]
    exact Ideal.ofBits_zero .f32
  rw [val_main_v39_apply, val_main_v36_apply, val_main_v29_apply, val_main_v22_apply, k0, k1, k2, kb, kz]
  show _ + (((0 + _) + _) + _) = _
  rw [zero_add, ← add_assoc, ← add_assoc]
  rfl

include h0 h1 h2 h3 h4 h5 in
/-- The hidden activation. -/
theorem hid_eq (i : S8x2048x3072.Idx) : val_main_v54 (F := Ideal) x0 x1 x2 x3 x4 x5 i
    = FfnSpec.hid 8 C X W b CW cb (8 * (i 1).val + (i 0).val) (i 2).val := by
  rw [val_main_v54_apply, val_main_v53_apply, val_main_v52_apply, val_main_v51_apply, val_main_v50_apply, val_main_v49_apply,
    val_main_v48_apply, val_main_v47_apply, val_main_v46_apply, val_main_v45_apply, val_main_v44_apply, val_main_v43_apply,
    val_main_v42_apply, val_main_v41_apply, conv_eq h0 h1 h2 h3 h4 h5, val_main_v11_apply, up_eq h0 h2 h3,
    val_main_cst_0_apply, val_main_cst_1_apply, val_main_cst_2_apply, val_main_cst_3_apply]
  refine congrArg₂ (· * ·) ?_ rfl
  exact (mul_assoc _ _ _).symm.trans (congrArg (· * _) (mul_comm _ _))

include h0 h1 h2 h3 h4 h5 h6 h7 in
/-- The scaled residual sum. -/
theorem res_eq (i : S8x2048x1024.Idx) : val_main_v63 (F := Ideal) x0 x1 x2 x3 x4 x5 x6 x7 i
    = FfnSpec.res X (FfnSpec.down (FfnSpec.hid 8 C X W b CW cb) WD bd) (8 * (i 1).val + (i 0).val) (i 2).val := by
  have e2 : (i 2).val < 1024 := (i 2).isLt
  rw [val_main_v63_apply, val_main_v56_apply, val_main_v55_apply, val_main_cst_4_apply, input h0, val_main_v62_apply, val_main_v58_apply]
  refine congrArg₂ (· + ·) rfl (congrArg₂ (· + ·) (Finset.sum_congr rfl fun k _ => ?_) ?_)
  · have ek : k.val < 3072 := k.isLt
    rw [hid_eq h0 h1 h2 h3 h4 h5, val_main_v57_apply, h6]
    exact congrArg₂ (· * ·) rfl (congrArg₂ WD (show (k.val * 1024 + (i 2).val) / 1024 % 3072 = _ by omega)
      (show (k.val * 1024 + (i 2).val) % 1024 = _ by omega))
  · rw [val_main_v61_apply, val_main_v60_apply, val_main_v59_apply, h7]
    exact congrArg bd (Nat.mod_eq_of_lt e2)

include h0 h1 h2 h3 h4 h5 h6 h7 in
/-- The residual sum with its mean taken off. -/
theorem centred_eq (i : S8x2048x1024.Idx) : val_main_v71 (F := Ideal) x0 x1 x2 x3 x4 x5 x6 x7 i
    = FfnSpec.centred (FfnSpec.res X (FfnSpec.down (FfnSpec.hid 8 C X W b CW cb) WD bd)) (8 * (i 1).val + (i 0).val) (i 2).val := by
  rw [val_main_v71_apply, res_eq h0 h1 h2 h3 h4 h5 h6 h7, val_main_v70_apply, val_main_v69_apply, val_main_v68_apply, val_main_cst_6_apply,
    val_main_v67_apply, val_main_v66_apply, val_main_cst_5_apply]
  refine congrArg₂ (· - ·) rfl (congrArg₂ Ideal.div ?_ rfl)
  refine (congrArg (· + _) (Ideal.ofBits_zero .f32)).trans ((zero_add _).trans (Finset.sum_congr rfl fun k _ => ?_))
  exact res_eq h0 h1 h2 h3 h4 h5 h6 h7 _

include h0 h1 h2 h3 h4 h5 h6 h7 h8 h9 in
/-- The block's output. -/
theorem out_eq (i : S8x2048x1024.Idx) : val_main_v89 (F := Ideal) x0 x1 x2 x3 x4 x5 x6 x7 x8 x9 i
    = FfnSpec.out 8 X C W b CW cb WD bd g be (8 * (i 1).val + (i 0).val) (i 2).val := by
  have e2 : (i 2).val < 1024 := (i 2).isLt
  have hc (j : S8x2048x1024.Idx) : val_main_v78 (F := Ideal) x0 x1 x2 x3 x4 x5 x6 x7 j = _ := centred_eq h0 h1 h2 h3 h4 h5 h6 h7 j
  rw [val_main_v89_apply, val_main_v86_apply, val_main_v83_apply, hc, val_main_v82_apply, val_main_v81_apply,
    val_main_v80_apply, val_main_v79_apply, val_main_cst_9_apply, val_main_v76_apply, val_main_v75_apply, val_main_cst_8_apply,
    val_main_v74_apply, val_main_v73_apply, val_main_cst_7_apply, val_main_v85_apply, val_main_v84_apply, val_main_v64_apply, h8,
    val_main_v88_apply, val_main_v87_apply, val_main_v65_apply, h9]
  refine congrArg₂ (· + ·) (congrArg₂ (· * ·) (congrArg₂ (· * ·) rfl (congrArg Ideal.rsqrt
    (congrArg₂ (· + ·) (congrArg₂ Ideal.div ?_ rfl) rfl))) ?_) ?_
  · refine (congrArg (· + _) (Ideal.ofBits_zero .f32)).trans ((zero_add _).trans (Finset.sum_congr rfl fun k _ => ?_))
    rw [val_main_v72_apply, centred_eq h0 h1 h2 h3 h4 h5 h6 h7]
    rfl
  · exact congrArg g (Nat.mod_eq_of_lt e2)
  · exact congrArg be (Nat.mod_eq_of_lt e2)

include h0 h1 h2 h3 in
/-- The cache after the call: the last two time steps. -/
theorem cache_eq (i : S16x3072.Idx) :
    val_main_v91 (F := Ideal) x0 x1 x2 x3 i = FfnSpec.gate 8 C X W b (16384 + (i 0).val) (i 1).val := by
  have e0 : (i 0).val < 16 := (i 0).isLt; have e1 : (i 1).val < 3072 := (i 1).isLt
  rw [val_main_v91_apply, val_main_v90_apply, val_main_v40_apply, window_eq h0 h1 h2 h3]
  exact congrArg₂ (FfnSpec.gate 8 C X W b)
    (show 8 * (2048 + ((i 0).val * 3072 + (i 1).val) / 24576) + ((i 0).val * 3072 + (i 1).val) / 3072 % 8 = _ by omega)
    (show ((i 0).val * 3072 + (i 1).val) % 3072 = _ by omega)

end Cert.PromptReference
-- ==== Proof.PromptEq.lean ====
/- The prompt's feed-forward call's algebraic claim. The kernel walks the prompt 64 steps at a time and carries the last two steps' gate rows
   from one grid point to the next; a grid point's result is the same function (Proof/FfnSpec.lean) of the point's rows and the rows before
   them, so the results of all the points together are that function of the whole prompt, which is what the reference leaves. -/
module

public import proofs.«01_k».proof.Proof.Gen.PromptIdeal.Value
public import proofs.«01_k».proof.Proof.Gen.PromptReferenceIdeal.Run
public import proofs.«01_k».proof.Proof.Gen.PromptReferenceIdeal.Read
public import proofs.«01_k».proof.Proof.PromptKernel
public import proofs.«01_k».proof.Proof.PromptReference
public import proofs.«01_k».proof.Proof.FfnEq
public import proofs.«01_k».proof.Proof.HostRead
public import proofs.«01_k».proof.Defs

@[expose] public section

set_option maxRecDepth 16384

noncomputable section

namespace Cert.PromptEq

open Cert.PromptIdeal Cert.PromptIdeal.Gen Cert.PromptIdeal.Value Cert.Mat Cert.HostRead
open Cert.FfnEq (row_read mat_read)
open Idealize.ShloMosaic hiding ix1 ix2 ix3 ix4 eq_ix2
open Idealize.ShloMosaic.ValueIdx (ix1 ix2 ix3 ix4)

/-! ## Starting further down the prompt

A run over the rows from `s` on, whose cached rows are the 16 gate rows before row `s`, gives the rows from `s` on of the whole run. -/

section Shift

variable (C X W : ℕ → ℕ → EReal) (b : ℕ → EReal) (CW : ℕ → ℕ → EReal) (cb : ℕ → EReal) (WD : ℕ → ℕ → EReal) (bd g be : ℕ → EReal) (s : ℕ)

/-- The rows of `f` from `s` on. -/
def rowsFrom (f : ℕ → ℕ → EReal) (i j : ℕ) : EReal := f (s + i) j

theorem gate_from (i j : ℕ) :
    FfnSpec.gate 8 (rowsFrom s (FfnSpec.gate 8 C X W b)) (rowsFrom s X) W b i j = FfnSpec.gate 8 C X W b (s + i) j := by
  by_cases h : i < 2 * 8
  · exact if_pos h
  · refine (if_neg h).trans (Eq.trans ?_ (if_neg (by omega : ¬s + i < 2 * 8)).symm)
    rw [show s + i - 2 * 8 = s + (i - 2 * 8) by omega]
    rfl

theorem hid_from : FfnSpec.hid 8 (rowsFrom s (FfnSpec.gate 8 C X W b)) (rowsFrom s X) W b CW cb = rowsFrom s (FfnSpec.hid 8 C X W b CW cb) := by
  funext i j
  unfold rowsFrom FfnSpec.hid FfnSpec.conv
  have e := gate_from C X W b s
  unfold rowsFrom at e
  rw [e, e, e, ← Nat.add_assoc, ← Nat.add_assoc]
  rfl

theorem out_from (i j : ℕ) :
    FfnSpec.out 8 (rowsFrom s X) (rowsFrom s (FfnSpec.gate 8 C X W b)) W b CW cb WD bd g be i j
      = FfnSpec.out 8 X C W b CW cb WD bd g be (s + i) j := by
  unfold FfnSpec.out
  rw [hid_from]
  rfl

end Shift

variable (m : (ℓ : Loc nD τ sig) → Buf (Elt Ideal) ℓ) (c : Dev nD)

/-! ## The argument arrays as functions of natural coordinates -/

/-- The activations, time first: row `r` is time `r / 8` of batch row `r % 8`. -/
def X : ℕ → ℕ → EReal := at2 (a := 16384) (b := 1024) (m (c.tc.loc main_arg0))
/-- The cached gate rows, time first. -/
def C : ℕ → ℕ → EReal := at2 (a := 16) (b := 3072) (m (c.tc.loc main_arg1))
/-- The up projection's weights. -/
def W : ℕ → ℕ → EReal := at3 (a := 1) (b := 1024) (c := 6144) (m (c.tc.loc main_arg2)) 0
/-- Its bias. -/
def b : ℕ → EReal := at2 (a := 1) (b := 6144) (m (c.tc.loc main_arg3)) 0
/-- The convolution's taps. -/
def CW : ℕ → ℕ → EReal := at3 (a := 1) (b := 3) (c := 3072) (m (c.tc.loc main_arg4)) 0
/-- The convolution's bias. -/
def cb : ℕ → EReal := at2 (a := 1) (b := 3072) (m (c.tc.loc main_arg5)) 0
/-- The down projection's weights. -/
def WD : ℕ → ℕ → EReal := at3 (a := 1) (b := 3072) (c := 1024) (m (c.tc.loc main_arg6)) 0
/-- Its bias. -/
def bd : ℕ → EReal := at2 (a := 1) (b := 1024) (m (c.tc.loc main_arg7)) 0
/-- The norm's gain. -/
def g : ℕ → EReal := at2 (a := 1) (b := 1024) (m (c.tc.loc main_arg8)) 0
/-- The norm's shift. -/
def be : ℕ → EReal := at2 (a := 1) (b := 1024) (m (c.tc.loc main_arg9)) 0

/-- The whole prompt's gate rows, the cached ones first. -/
abbrev gates : ℕ → ℕ → EReal := FfnSpec.gate 8 (C m c) (X m c) (W m c) (b m c)
/-- The whole prompt's output rows. -/
abbrev outs : ℕ → ℕ → EReal :=
  FfnSpec.out 8 (X m c) (C m c) (W m c) (b m c) (CW m c) (cb m c) (WD m c) (bd m c) (g m c) (be m c)

/-! ## The blocks the body reads

Window 0 moves down the activations by 512 rows at a grid point; each other window's one block is its whole array. -/

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel

variable (t : Fin cfg0.N)

/-- Window 0 holds the point's 512 rows of the activations. -/
theorem blk0 : Mat (iblk m c 0 t) (rowsFrom (512 * t.val) (X m c)) := by
  intro y
  have ht : t.val < 32 := lt_of_lt_of_eq t.isLt N_0
  have hy0 : (y 0).val < 512 := (y 0).isLt
  have hy1 : (y 1).val < 1024 := (y 1).isLt
  have e : iblk m c 0 t y = V m c main_arg0 (ix2 (⟨512 * t.val + (y 0).val, by omega⟩ : Fin 16384) (⟨(y 1).val, hy1⟩ : Fin 1024)) := by
    blk_ext [iblk, (idx0 t).1, (idx0 t).2]
  rw [e, V_main_arg0]
  exact at2_eq _ _

/-- Window 1 holds the cached gate rows. -/
theorem blk1 : Mat (iblk m c 1 t) (C m c) := by
  have e : iblk m c 1 t = V m c main_arg1 := by
    blk_ext! [iblk, (idx1 t).1, (idx1 t).2]
  rw [e, V_main_arg1]
  exact mat_at2 _

/-- Window 2 holds the up projection's weights. -/
theorem blk2 : Mat (iblk m c 2 t) (W m c) := by
  have e : iblk m c 2 t = V m c main_v1 := by
    blk_ext! [iblk, (idx2 t).1, (idx2 t).2]
  rw [e]
  entry_read
  exact mat_drop _ _

/-- Window 3 holds the up projection's bias. -/
theorem blk3 : Mat (iblk m c 3 t) (fun _ j => b m c j) := by
  have e : iblk m c 3 t = V m c main_v3 := by
    blk_ext! [iblk, (idx3 t).1, (idx3 t).2]
  rw [e]
  entry_read
  exact mat_row _ _ _

/-- Window 4 holds the convolution's taps. -/
theorem blk4 : Mat (iblk m c 4 t) (CW m c) := by
  have e : iblk m c 4 t = V m c main_v4 := by
    blk_ext! [iblk, (idx4 t).1, (idx4 t).2]
  rw [e]
  entry_read
  exact mat_drop _ _

/-- Window 5 holds the convolution's bias. -/
theorem blk5 : Mat (iblk m c 5 t) (fun _ j => cb m c j) := by
  have e : iblk m c 5 t = V m c main_v6 := by
    blk_ext! [iblk, (idx5 t).1, (idx5 t).2]
  rw [e]
  entry_read
  exact mat_row _ _ _

/-- Window 6 holds the down projection's weights. -/
theorem blk6 : Mat (iblk m c 6 t) (WD m c) := by
  have e : iblk m c 6 t = V m c main_v8 := by
    blk_ext! [iblk, (idx6 t).1, (idx6 t).2]
  rw [e]
  entry_read
  exact mat_drop _ _

/-- Window 7 holds the down projection's bias. -/
theorem blk7 : Mat (iblk m c 7 t) (fun _ j => bd m c j) := by
  have e : iblk m c 7 t = V m c main_v10 := by
    blk_ext! [iblk, (idx7 t).1, (idx7 t).2]
  rw [e]
  entry_read
  exact mat_row _ _ _

/-- Window 8 holds the norm's gain. -/
theorem blk8 : Mat (iblk m c 8 t) (fun _ j => g m c j) := by
  have e : iblk m c 8 t = V m c main_v12 := by
    blk_ext! [iblk, (idx8 t).1, (idx8 t).2]
  rw [e]
  entry_read
  exact mat_row _ _ _

/-- Window 9 holds the norm's shift. -/
theorem blk9 : Mat (iblk m c 9 t) (fun _ j => be m c j) := by
  have e : iblk m c 9 t = V m c main_v14 := by
    blk_ext! [iblk, (idx9 t).1, (idx9 t).2]
  rw [e]
  entry_read
  exact mat_row _ _ _

/-! ## A grid point's results -/

theorem from_zero (f : ℕ → ℕ → EReal) : rowsFrom (512 * 0) f = f := by
  funext i j
  unfold rowsFrom
  rw [Nat.mul_zero, Nat.zero_add]

/-- Point `n` leaves the 16 gate rows before the next point's rows in the scratch buffer. -/
theorem carry_at : ∀ (n : ℕ) (hn : n < cfg0.N) (y : S528x3072.Idx), (y 0).val < 16 →
    (outsAt0 m c n hn).2.2 y = gates m c (512 * n + (512 + (y 0).val)) (y 1).val
  | 0, hn, y, hy => by
    have e := congrArg (fun p => p.2.2 y) (outsAt0_A m c ⟨0, hn⟩ (Nat.zero_mod _))
    refine e.trans ?_
    dsimp only
    rw [PromptKernel.carry_first (blk0 m c ⟨0, hn⟩) (blk1 m c _) (blk2 m c _) (blk3 m c _) y hy]
    dsimp only
    rw [from_zero, Nat.mul_zero, Nat.zero_add]
  | n + 1, hn, y, hy => by
    have h32 : n + 1 < 32 := lt_of_lt_of_eq hn N_0
    have e := congrArg (fun p => p.2.2 y) (outsAt0_B m c ⟨n + 1, hn⟩ (show ¬(n + 1) % 32 = 0 by omega))
    refine e.trans ?_
    dsimp only
    rw [PromptKernel.carry_later (C := rowsFrom (512 * (n + 1)) (gates m c)) (blk0 m c ⟨n + 1, hn⟩) (blk2 m c _) (blk3 m c _) y hy]
    exact gate_from _ _ _ _ _ _ _

/-- Point `n` leaves its 512 output rows, batch first. -/
theorem out_at : ∀ (n : ℕ) (hn : n < cfg0.N) (y : S8x64x1024.Idx),
    (outsAt0 m c n hn).1 y = outs m c (512 * n + (8 * (y 1).val + (y 0).val)) (y 2).val
  | 0, hn, y => by
    have e := congrArg (fun p => p.1 y) (outsAt0_A m c ⟨0, hn⟩ (Nat.zero_mod _))
    refine e.trans ?_
    dsimp only
    rw [PromptKernel.out_first (blk0 m c ⟨0, hn⟩) (blk1 m c _) (blk2 m c _) (blk3 m c _) (blk4 m c _) (blk5 m c _) (blk6 m c _)
      (blk7 m c _) (blk8 m c _) (blk9 m c _) y]
    dsimp only
    rw [from_zero, Nat.mul_zero, Nat.zero_add]
  | n + 1, hn, y => by
    have h32 : n + 1 < 32 := lt_of_lt_of_eq hn N_0
    have e := congrArg (fun p => p.1 y) (outsAt0_B m c ⟨n + 1, hn⟩ (show ¬(n + 1) % 32 = 0 by omega))
    refine e.trans ?_
    dsimp only
    have hS : ∀ i j, i < 16 → j < 3072 →
        at2 (a := 528) (b := 3072) (outsAt0 m c n (by omega)).2.2 i j = rowsFrom (512 * (n + 1)) (gates m c) i j := by
      intro i j hi hj
      have h := carry_at m c n (by omega) (ix2 (⟨i, by omega⟩ : Fin 528) (⟨j, hj⟩ : Fin 3072)) hi
      refine (at2_eq (a := 528) (b := 3072) (outsAt0 m c n (by omega)).2.2 _).symm.trans (h.trans ?_)
      show gates m c (512 * n + (512 + i)) j = gates m c (512 * (n + 1) + i) j
      rw [show 512 * n + (512 + i) = 512 * (n + 1) + i by omega]
    refine (PromptKernel.out_later (blk0 m c ⟨n + 1, hn⟩) (mat_at2 _) hS (blk2 m c _) (blk3 m c _) (blk4 m c _) (blk5 m c _) (blk6 m c _)
      (blk7 m c _) (blk8 m c _) (blk9 m c _) y).trans ?_
    exact out_from _ _ _ _ _ _ _ _ _ _ _ _ _

/-- A point after the first leaves the 16 gate rows before the next point's rows as the new cache. -/
theorem cache_at (n : ℕ) (hn : n + 1 < cfg0.N) (y : S16x3072.Idx) :
    (outsAt0 m c (n + 1) hn).2.1 y = gates m c (512 * (n + 1) + (512 + (y 0).val)) (y 1).val := by
  have h32 : n + 1 < 32 := lt_of_lt_of_eq hn N_0
  have e := congrArg (fun p => p.2.1 y) (outsAt0_B m c ⟨n + 1, hn⟩ (show ¬(n + 1) % 32 = 0 by omega))
  refine e.trans ?_
  dsimp only
  refine Eq.trans (PromptKernel.cache_later (C := rowsFrom (512 * (n + 1)) (gates m c)) (blk0 m c ⟨n + 1, hn⟩) (blk2 m c ⟨n + 1, hn⟩)
    (blk3 m c ⟨n + 1, hn⟩) y) ?_
  exact gate_from _ _ _ _ _ _ _

/-! ## The arrays after the run -/

/-- The kernel's first result array. -/
def G (i : S8x2048x1024.Idx) : EReal := outs m c (8 * (i 1).val + (i 0).val) (i 2).val

/-- The kernel's second result array. -/
def H (i : S16x3072.Idx) : EReal := gates m c (16384 + (i 0).val) (i 1).val

theorem arr_out : G10 m c = G m c := by
  funext i
  have h0 : (i 0).val < 8 := (i 0).isLt
  have h1 : (i 1).val < 2048 := (i 1).isLt
  have h2 : (i 2).val < 1024 := (i 2).isLt
  have hp : pt10Of i = (i 1).val / 64 := by
    show 32 * ((i 0).val / 8 - 0) + 1 * ((i 1).val / 64 - 0) + 1 * ((i 2).val / 1024 - 0) = _
    omega
  have hN : pt10Of i < cfg0.N := by rw [hp]; exact lt_of_lt_of_eq (by omega) N_0.symm
  unfold G10
  rw [dif_pos hN, ← outsAt0_sweep m c _ hN, out_at m c _ hN]
  unfold G
  rw [hp]
  show outs m c (512 * ((i 1).val / 64) + (8 * ((i 1).val % 64) + (i 0).val % 8)) ((i 2).val % 1024) = _
  rw [show 512 * ((i 1).val / 64) + (8 * ((i 1).val % 64) + (i 0).val % 8) = 8 * (i 1).val + (i 0).val by omega,
    Nat.mod_eq_of_lt h2]

theorem arr_cache : G11 m c = H m c := by
  have hN : 31 < cfg0.N := lt_of_lt_of_eq (by decide) N_0.symm
  rw [G11_last, ← outsAt0_sweep m c 31 hN]
  funext i
  refine (cache_at m c 30 hN i).trans ?_
  unfold H
  rw [← Nat.add_assoc]

/-! ## The claim -/

/-- The reference's first result term over the same argument arrays. -/
theorem ref_out : Cert.PromptReferenceIdeal.Read.val_main_v89 (F := Ideal) (m (c.tc.loc main_arg0)) (m (c.tc.loc main_arg1))
    (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)) = G m c :=
  funext fun i => PromptReference.out_eq (mat_at2 _) (mat_at2 _) (mat_read _) (row_read _) (mat_read _) (row_read _) (mat_read _)
    (row_read _) (row_read _) (row_read _) i

/-- The reference's second result term over the same argument arrays. -/
theorem ref_cache : Cert.PromptReferenceIdeal.Read.val_main_v91 (F := Ideal) (m (c.tc.loc main_arg0)) (m (c.tc.loc main_arg1))
    (m (c.tc.loc main_arg2)) (m (c.tc.loc main_arg3)) = H m c :=
  funext fun i => PromptReference.cache_eq (mat_at2 _) (mat_at2 _) (mat_read _) (row_read _) i

/-- The prompt's feed-forward call and its reference leave the same arrays. -/
theorem algebraic : Cert.algebraic_PromptIdeal_PromptReferenceIdeal (hPromptIdeal := Cert.PromptIdeal.Gen.facts)
    (hPromptReferenceIdeal := Cert.PromptReferenceIdeal.Gen.facts) := by
  intro m g m' g' _ hag
  refine ⟨fun c => G m c, fun c => H m c, ?_, ?_⟩
  · exact θ_run_mono (Cert.PromptIdeal.Value.run m g) fun r h c =>
      ⟨(h c).1.trans (arr_out m c), (h c).2.1.trans (arr_cache m c), (h c).2.2⟩
  · refine θ_run_mono (Cert.PromptReferenceIdeal.Value.run m' g') fun r h c => ?_
    obtain ⟨e0, e1, e2, e3, e4, e5, e6, e7, e8, e9⟩ := hag c
    refine ⟨(h c).1.trans ((Cert.PromptReferenceIdeal.Read.val_main_v89_eq _).trans ?_),
      (h c).2.1.trans ((Cert.PromptReferenceIdeal.Read.val_main_v91_eq _).trans ?_), (h c).2.2⟩
    · simp only [StableHlo.launchContents_devRef]
      refine Eq.trans ?_ (ref_out m c)
      congr 1
    · simp only [StableHlo.launchContents_devRef]
      refine Eq.trans ?_ (ref_cache m c)
      congr 1

end Cert.PromptEq

end
-- ==== Proof.lean ====
module

public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.Kernel.Frame.RunA
public import proofs.«01_k».proof.Proof.Gen.KernelIdeal.Frame.RunA
public import proofs.«01_k».proof.Proof.Gen.Prep.Frame
public import proofs.«01_k».proof.Proof.Gen.PrepIdeal.Frame
public import proofs.«01_k».proof.Proof.Gen.PrepIdeal.Value
public import proofs.«01_k».proof.Proof.Gen.ReferenceIdeal.Run
public import proofs.«01_k».proof.Proof.Gen.ReferenceIdeal.Read
public import proofs.«01_k».proof.Proof.Gen.PrepReferenceIdeal.Run
public import proofs.«01_k».proof.Proof.Gen.PrepReferenceIdeal.Read
public import proofs.«01_k».proof.Proof.Gen.Prompt.Frame
public import proofs.«01_k».proof.Proof.Gen.PromptIdeal.Frame
public import proofs.«01_k».proof.Proof.Gen.PromptIdeal.Value
public import proofs.«01_k».proof.Proof.Gen.PromptReferenceIdeal.Run
public import proofs.«01_k».proof.Proof.Gen.PromptReferenceIdeal.Read
public import proofs.«01_k».proof.Proof.FfnEq
public import proofs.«01_k».proof.Proof.MixerFrame
public import proofs.«01_k».proof.Proof.MixerFrameBits
public import proofs.«01_k».proof.Proof.MixerEq
public import proofs.«01_k».proof.Proof.PrepEq
public import proofs.«01_k».proof.Proof.PromptEq
public import Idealize.ShloMosaic.Adequacy
public import Idealize.ShloMosaic.Init

@[expose] public section

noncomputable section

namespace Cert.Proof

open Idealize.ShloMosaic Idealize.SL.Sem

/-- The feed-forward reference runs to the end and keeps its arguments. -/
theorem ffn_reference_frame : Cert.quiescent_FfnReferenceIdeal (hFfnReferenceIdeal := Cert.FfnReferenceIdeal.Gen.facts) := fun m ρ _ =>
  θ_run_mono (Cert.FfnReferenceIdeal.Value.run (F := Ideal) m ρ) fun r h =>
    ⟨fun c => (h c).2.2, sem_eq_zero_of_no_sems (by decide) r.2⟩

/-- The mixer's reference runs to the end and keeps its arguments. -/
theorem reference_frame : Cert.quiescent_ReferenceIdeal (hReferenceIdeal := Cert.ReferenceIdeal.Gen.facts) := fun m ρ _ =>
  θ_run_mono (Cert.ReferenceIdeal.Value.run (F := Ideal) m ρ) fun r h =>
    ⟨fun c => (h c).2.2.2.2.2, sem_eq_zero_of_no_sems (by decide) r.2⟩

/-- The discretisation's reference runs to the end and keeps its arguments. -/
theorem prep_reference_frame : Cert.quiescent_PrepReferenceIdeal (hPrepReferenceIdeal := Cert.PrepReferenceIdeal.Gen.facts) := fun m ρ _ =>
  θ_run_mono (Cert.PrepReferenceIdeal.Value.run (F := Ideal) m ρ) fun r h =>
    ⟨fun c => (h c).2.2.2.2, sem_eq_zero_of_no_sems (by decide) r.2⟩

/-- The reference of the prompt's feed-forward call runs to the end and keeps its arguments. -/
theorem prompt_reference_frame : Cert.quiescent_PromptReferenceIdeal (hPromptReferenceIdeal := Cert.PromptReferenceIdeal.Gen.facts) :=
  fun m ρ _ => θ_run_mono (Cert.PromptReferenceIdeal.Value.run (F := Ideal) m ρ) fun r h =>
    ⟨fun c => (h c).2.2, sem_eq_zero_of_no_sems (by decide) r.2⟩

/-- The twenty claims: of each of the four calls, the frames of the kernel, of the idealized kernel and of the reference, the preservation
    and the equality of the results with the reference's. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Prep.Gen.facts, Cert.PrepIdeal.Gen.facts, Cert.PrepReferenceIdeal.Gen.facts,
    Cert.Prompt.Gen.facts, Cert.PromptIdeal.Gen.facts, Cert.PromptReferenceIdeal.Gen.facts,
    fun m ρ _ => Cert.MixerFrameBits.frame (F := Bits) m ρ, fun m ρ _ => Cert.MixerFrame.frame (F := Ideal) m ρ, reference_frame,
    fun m ρ _ => Cert.Ffn.Gen.frame m ρ, fun m ρ _ => Cert.FfnIdeal.Gen.frame m ρ, ffn_reference_frame,
    fun m ρ _ => Cert.Prep.Gen.frame m ρ, fun m ρ _ => Cert.PrepIdeal.Gen.frame m ρ, prep_reference_frame,
    fun m ρ _ => Cert.Prompt.Gen.frame m ρ, fun m ρ _ => Cert.PromptIdeal.Gen.frame m ρ, prompt_reference_frame,
    trivial, Cert.MixerEq.algebraic, trivial, Cert.FfnEq.algebraic, trivial, Cert.PrepEq.algebraic,
    trivial, Cert.PromptEq.algebraic⟩

end Cert.Proof

end
